-- ==== Defs.lean ====
def Pre_Kernel [hPre_finite_c : Cert.Pre_finite_c.Facts] (m : (ℓ : Loc Cert.Kernel.nD Cert.Kernel.τ Cert.Kernel.sig) → Buf (Elt Bits) ℓ) : Prop :=
  ∀ c : Dev Cert.Kernel.nD,
    (Cert.Pre_finite_c.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_c : Cert.Pre_finite_c.Facts] (m : (ℓ : Loc Cert.KernelIdeal.nD Cert.KernelIdeal.τ Cert.KernelIdeal.sig) → Buf (Elt Ideal) ℓ) : Prop :=
  ∀ c : Dev Cert.KernelIdeal.nD,
    (Cert.Pre_finite_c.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_c : Cert.Pre_finite_c.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_c.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Ob (m : (ℓ : Loc Cert.Ob.nD Cert.Ob.τ Cert.Ob.sig) → Buf (Elt Bits) ℓ) : Prop :=
  True

def Pre_ObIdeal (m : (ℓ : Loc Cert.ObIdeal.nD Cert.ObIdeal.τ Cert.ObIdeal.sig) → Buf (Elt Ideal) ℓ) : Prop :=
  True

def Pre_ObRefIdeal (m : (ℓ : Loc Cert.ObRefIdeal.nD Cert.ObRefIdeal.τ Cert.ObRefIdeal.sig) → Buf (Elt Ideal) ℓ) : Prop :=
  True

def Pre_Mo (m : (ℓ : Loc Cert.Mo.nD Cert.Mo.τ Cert.Mo.sig) → Buf (Elt Bits) ℓ) : Prop :=
  True

def Pre_MoIdeal (m : (ℓ : Loc Cert.MoIdeal.nD Cert.MoIdeal.τ Cert.MoIdeal.sig) → Buf (Elt Ideal) ℓ) : Prop :=
  True

def Pre_MoRefIdeal (m : (ℓ : Loc Cert.MoRefIdeal.nD Cert.MoRefIdeal.τ Cert.MoRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Mb (m : (ℓ : Loc Cert.Mb.nD Cert.Mb.τ Cert.Mb.sig) → Buf (Elt Bits) ℓ) : Prop :=
  True

def Pre_MbIdeal (m : (ℓ : Loc Cert.MbIdeal.nD Cert.MbIdeal.τ Cert.MbIdeal.sig) → Buf (Elt Ideal) ℓ) : Prop :=
  True

def Pre_MbRefIdeal (m : (ℓ : Loc Cert.MbRefIdeal.nD Cert.MbRefIdeal.τ Cert.MbRefIdeal.sig) → Buf (Elt Ideal) ℓ) : Prop :=
  True

def Pre_Lh (m : (ℓ : Loc Cert.Lh.nD Cert.Lh.τ Cert.Lh.sig) → Buf (Elt Bits) ℓ) : Prop :=
  True

def Pre_LhIdeal (m : (ℓ : Loc Cert.LhIdeal.nD Cert.LhIdeal.τ Cert.LhIdeal.sig) → Buf (Elt Ideal) ℓ) : Prop :=
  True

def Pre_LhRefIdeal (m : (ℓ : Loc Cert.LhRefIdeal.nD Cert.LhRefIdeal.τ Cert.LhRefIdeal.sig) → Buf (Elt Ideal) ℓ) : Prop :=
  True

def Pre_Ba (m : (ℓ : Loc Cert.Ba.nD Cert.Ba.τ Cert.Ba.sig) → Buf (Elt Bits) ℓ) : Prop :=
  True

def Pre_BaIdeal (m : (ℓ : Loc Cert.BaIdeal.nD Cert.BaIdeal.τ Cert.BaIdeal.sig) → Buf (Elt Ideal) ℓ) : Prop :=
  True

def Pre_BaRefIdeal (m : (ℓ : Loc Cert.BaRefIdeal.nD Cert.BaRefIdeal.τ Cert.BaRefIdeal.sig) → Buf (Elt Ideal) ℓ) : Prop :=
  True

def Pre_Af (m : (ℓ : Loc Cert.Af.nD Cert.Af.τ Cert.Af.sig) → Buf (Elt Bits) ℓ) : Prop :=
  True

def Pre_AfIdeal (m : (ℓ : Loc Cert.AfIdeal.nD Cert.AfIdeal.τ Cert.AfIdeal.sig) → Buf (Elt Ideal) ℓ) : Prop :=
  True

def Pre_AfRefIdeal (m : (ℓ : Loc Cert.AfRefIdeal.nD Cert.AfRefIdeal.τ Cert.AfRefIdeal.sig) → Buf (Elt Ideal) ℓ) : Prop :=
  True

def quiescent_Kernel [hKernel : Cert.Kernel.Facts] [hPre_finite_c : Cert.Pre_finite_c.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite_c : Cert.Pre_finite_c.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_finite_c : Cert.Pre_finite_c.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Ob [hOb : Cert.Ob.Facts] : Prop :=
  ∀ (m : (ℓ : Loc Cert.Ob.nD Cert.Ob.τ Cert.Ob.sig) → Buf (Elt Bits) ℓ) (g : Dev Cert.Ob.nD → PrngReg), Pre_Ob m →
    θ_run (Cert.Ob.defs (F := Bits)) (onTc (τ := Cert.Ob.τ) (Cert.Ob.main (F := Bits))) ⟨m, fun _ => 0, g⟩ (fun r => (∀ c : Dev Cert.Ob.nD,
      r.2.mem ((c.tc : Thread Cert.Ob.nD Cert.Ob.τ).loc Cert.Ob.main_arg0) = m ((c.tc : Thread Cert.Ob.nD Cert.Ob.τ).loc Cert.Ob.main_arg0)
      ∧ r.2.mem ((c.tc : Thread Cert.Ob.nD Cert.Ob.τ).loc Cert.Ob.main_arg1) = m ((c.tc : Thread Cert.Ob.nD Cert.Ob.τ).loc Cert.Ob.main_arg1)
      ∧ r.2.mem ((c.tc : Thread Cert.Ob.nD Cert.Ob.τ).loc Cert.Ob.main_arg2) = m ((c.tc : Thread Cert.Ob.nD Cert.Ob.τ).loc Cert.Ob.main_arg2)
      ∧ r.2.mem ((c.tc : Thread Cert.Ob.nD Cert.Ob.τ).loc Cert.Ob.main_arg3) = m ((c.tc : Thread Cert.Ob.nD Cert.Ob.τ).loc Cert.Ob.main_arg3)
      ∧ r.2.mem ((c.tc : Thread Cert.Ob.nD Cert.Ob.τ).loc Cert.Ob.main_arg4) = m ((c.tc : Thread Cert.Ob.nD Cert.Ob.τ).loc Cert.Ob.main_arg4)
      ∧ r.2.mem ((c.tc : Thread Cert.Ob.nD Cert.Ob.τ).loc Cert.Ob.main_arg5) = m ((c.tc : Thread Cert.Ob.nD Cert.Ob.τ).loc Cert.Ob.main_arg5)
      ∧ r.2.mem ((c.tc : Thread Cert.Ob.nD Cert.Ob.τ).loc Cert.Ob.main_arg6) = m ((c.tc : Thread Cert.Ob.nD Cert.Ob.τ).loc Cert.Ob.main_arg6))
      ∧ r.2.sem = fun _ => 0)

def quiescent_ObIdeal [hObIdeal : Cert.ObIdeal.Facts] : Prop :=
  ∀ (m : (ℓ : Loc Cert.ObIdeal.nD Cert.ObIdeal.τ Cert.ObIdeal.sig) → Buf (Elt Ideal) ℓ) (g : Dev Cert.ObIdeal.nD → PrngReg), Pre_ObIdeal m →
    θ_run (Cert.ObIdeal.defs (F := Ideal)) (onTc (τ := Cert.ObIdeal.τ) (Cert.ObIdeal.main (F := Ideal))) ⟨m, fun _ => 0, g⟩ (fun r => (∀ c : Dev Cert.ObIdeal.nD,
      r.2.mem ((c.tc : Thread Cert.ObIdeal.nD Cert.ObIdeal.τ).loc Cert.ObIdeal.main_arg0) = m ((c.tc : Thread Cert.ObIdeal.nD Cert.ObIdeal.τ).loc Cert.ObIdeal.main_arg0)
      ∧ r.2.mem ((c.tc : Thread Cert.ObIdeal.nD Cert.ObIdeal.τ).loc Cert.ObIdeal.main_arg1) = m ((c.tc : Thread Cert.ObIdeal.nD Cert.ObIdeal.τ).loc Cert.ObIdeal.main_arg1)
      ∧ r.2.mem ((c.tc : Thread Cert.ObIdeal.nD Cert.ObIdeal.τ).loc Cert.ObIdeal.main_arg2) = m ((c.tc : Thread Cert.ObIdeal.nD Cert.ObIdeal.τ).loc Cert.ObIdeal.main_arg2)
      ∧ r.2.mem ((c.tc : Thread Cert.ObIdeal.nD Cert.ObIdeal.τ).loc Cert.ObIdeal.main_arg3) = m ((c.tc : Thread Cert.ObIdeal.nD Cert.ObIdeal.τ).loc Cert.ObIdeal.main_arg3)
      ∧ r.2.mem ((c.tc : Thread Cert.ObIdeal.nD Cert.ObIdeal.τ).loc Cert.ObIdeal.main_arg4) = m ((c.tc : Thread Cert.ObIdeal.nD Cert.ObIdeal.τ).loc Cert.ObIdeal.main_arg4)
      ∧ r.2.mem ((c.tc : Thread Cert.ObIdeal.nD Cert.ObIdeal.τ).loc Cert.ObIdeal.main_arg5) = m ((c.tc : Thread Cert.ObIdeal.nD Cert.ObIdeal.τ).loc Cert.ObIdeal.main_arg5)
      ∧ r.2.mem ((c.tc : Thread Cert.ObIdeal.nD Cert.ObIdeal.τ).loc Cert.ObIdeal.main_arg6) = m ((c.tc : Thread Cert.ObIdeal.nD Cert.ObIdeal.τ).loc Cert.ObIdeal.main_arg6))
      ∧ r.2.sem = fun _ => 0)

def quiescent_ObRefIdeal [hObRefIdeal : Cert.ObRefIdeal.Facts] : Prop :=
  ∀ (m : (ℓ : Loc Cert.ObRefIdeal.nD Cert.ObRefIdeal.τ Cert.ObRefIdeal.sig) → Buf (Elt Ideal) ℓ) (g : Dev Cert.ObRefIdeal.nD → PrngReg), Pre_ObRefIdeal m →
    θ_run (Cert.ObRefIdeal.defs (F := Ideal)) (onTc (τ := Cert.ObRefIdeal.τ) (Cert.ObRefIdeal.main (F := Ideal))) ⟨m, fun _ => 0, g⟩ (fun r => (∀ c : Dev Cert.ObRefIdeal.nD,
      r.2.mem ((c.tc : Thread Cert.ObRefIdeal.nD Cert.ObRefIdeal.τ).loc Cert.ObRefIdeal.main_arg0) = m ((c.tc : Thread Cert.ObRefIdeal.nD Cert.ObRefIdeal.τ).loc Cert.ObRefIdeal.main_arg0)
      ∧ r.2.mem ((c.tc : Thread Cert.ObRefIdeal.nD Cert.ObRefIdeal.τ).loc Cert.ObRefIdeal.main_arg1) = m ((c.tc : Thread Cert.ObRefIdeal.nD Cert.ObRefIdeal.τ).loc Cert.ObRefIdeal.main_arg1)
      ∧ r.2.mem ((c.tc : Thread Cert.ObRefIdeal.nD Cert.ObRefIdeal.τ).loc Cert.ObRefIdeal.main_arg2) = m ((c.tc : Thread Cert.ObRefIdeal.nD Cert.ObRefIdeal.τ).loc Cert.ObRefIdeal.main_arg2)
      ∧ r.2.mem ((c.tc : Thread Cert.ObRefIdeal.nD Cert.ObRefIdeal.τ).loc Cert.ObRefIdeal.main_arg3) = m ((c.tc : Thread Cert.ObRefIdeal.nD Cert.ObRefIdeal.τ).loc Cert.ObRefIdeal.main_arg3)
      ∧ r.2.mem ((c.tc : Thread Cert.ObRefIdeal.nD Cert.ObRefIdeal.τ).loc Cert.ObRefIdeal.main_arg4) = m ((c.tc : Thread Cert.ObRefIdeal.nD Cert.ObRefIdeal.τ).loc Cert.ObRefIdeal.main_arg4)
      ∧ r.2.mem ((c.tc : Thread Cert.ObRefIdeal.nD Cert.ObRefIdeal.τ).loc Cert.ObRefIdeal.main_arg5) = m ((c.tc : Thread Cert.ObRefIdeal.nD Cert.ObRefIdeal.τ).loc Cert.ObRefIdeal.main_arg5)
      ∧ r.2.mem ((c.tc : Thread Cert.ObRefIdeal.nD Cert.ObRefIdeal.τ).loc Cert.ObRefIdeal.main_arg6) = m ((c.tc : Thread Cert.ObRefIdeal.nD Cert.ObRefIdeal.τ).loc Cert.ObRefIdeal.main_arg6))
      ∧ r.2.sem = fun _ => 0)

def quiescent_Mo [hMo : Cert.Mo.Facts] : Prop :=
  ∀ (m : (ℓ : Loc Cert.Mo.nD Cert.Mo.τ Cert.Mo.sig) → Buf (Elt Bits) ℓ) (g : Dev Cert.Mo.nD → PrngReg), Pre_Mo m →
    θ_run (Cert.Mo.defs (F := Bits)) (onTc (τ := Cert.Mo.τ) (Cert.Mo.main (F := Bits))) ⟨m, fun _ => 0, g⟩ (fun r => (∀ c : Dev Cert.Mo.nD,
      r.2.mem ((c.tc : Thread Cert.Mo.nD Cert.Mo.τ).loc Cert.Mo.main_arg0) = m ((c.tc : Thread Cert.Mo.nD Cert.Mo.τ).loc Cert.Mo.main_arg0)
      ∧ r.2.mem ((c.tc : Thread Cert.Mo.nD Cert.Mo.τ).loc Cert.Mo.main_arg1) = m ((c.tc : Thread Cert.Mo.nD Cert.Mo.τ).loc Cert.Mo.main_arg1)
      ∧ r.2.mem ((c.tc : Thread Cert.Mo.nD Cert.Mo.τ).loc Cert.Mo.main_arg2) = m ((c.tc : Thread Cert.Mo.nD Cert.Mo.τ).loc Cert.Mo.main_arg2)
      ∧ r.2.mem ((c.tc : Thread Cert.Mo.nD Cert.Mo.τ).loc Cert.Mo.main_arg3) = m ((c.tc : Thread Cert.Mo.nD Cert.Mo.τ).loc Cert.Mo.main_arg3)
      ∧ r.2.mem ((c.tc : Thread Cert.Mo.nD Cert.Mo.τ).loc Cert.Mo.main_arg4) = m ((c.tc : Thread Cert.Mo.nD Cert.Mo.τ).loc Cert.Mo.main_arg4)
      ∧ r.2.mem ((c.tc : Thread Cert.Mo.nD Cert.Mo.τ).loc Cert.Mo.main_arg5) = m ((c.tc : Thread Cert.Mo.nD Cert.Mo.τ).loc Cert.Mo.main_arg5)
      ∧ r.2.mem ((c.tc : Thread Cert.Mo.nD Cert.Mo.τ).loc Cert.Mo.main_arg6) = m ((c.tc : Thread Cert.Mo.nD Cert.Mo.τ).loc Cert.Mo.main_arg6))
      ∧ r.2.sem = fun _ => 0)

def quiescent_MoIdeal [hMoIdeal : Cert.MoIdeal.Facts] : Prop :=
  ∀ (m : (ℓ : Loc Cert.MoIdeal.nD Cert.MoIdeal.τ Cert.MoIdeal.sig) → Buf (Elt Ideal) ℓ) (g : Dev Cert.MoIdeal.nD → PrngReg), Pre_MoIdeal m →
    θ_run (Cert.MoIdeal.defs (F := Ideal)) (onTc (τ := Cert.MoIdeal.τ) (Cert.MoIdeal.main (F := Ideal))) ⟨m, fun _ => 0, g⟩ (fun r => (∀ c : Dev Cert.MoIdeal.nD,
      r.2.mem ((c.tc : Thread Cert.MoIdeal.nD Cert.MoIdeal.τ).loc Cert.MoIdeal.main_arg0) = m ((c.tc : Thread Cert.MoIdeal.nD Cert.MoIdeal.τ).loc Cert.MoIdeal.main_arg0)
      ∧ r.2.mem ((c.tc : Thread Cert.MoIdeal.nD Cert.MoIdeal.τ).loc Cert.MoIdeal.main_arg1) = m ((c.tc : Thread Cert.MoIdeal.nD Cert.MoIdeal.τ).loc Cert.MoIdeal.main_arg1)
      ∧ r.2.mem ((c.tc : Thread Cert.MoIdeal.nD Cert.MoIdeal.τ).loc Cert.MoIdeal.main_arg2) = m ((c.tc : Thread Cert.MoIdeal.nD Cert.MoIdeal.τ).loc Cert.MoIdeal.main_arg2)
      ∧ r.2.mem ((c.tc : Thread Cert.MoIdeal.nD Cert.MoIdeal.τ).loc Cert.MoIdeal.main_arg3) = m ((c.tc : Thread Cert.MoIdeal.nD Cert.MoIdeal.τ).loc Cert.MoIdeal.main_arg3)
      ∧ r.2.mem ((c.tc : Thread Cert.MoIdeal.nD Cert.MoIdeal.τ).loc Cert.MoIdeal.main_arg4) = m ((c.tc : Thread Cert.MoIdeal.nD Cert.MoIdeal.τ).loc Cert.MoIdeal.main_arg4)
      ∧ r.2.mem ((c.tc : Thread Cert.MoIdeal.nD Cert.MoIdeal.τ).loc Cert.MoIdeal.main_arg5) = m ((c.tc : Thread Cert.MoIdeal.nD Cert.MoIdeal.τ).loc Cert.MoIdeal.main_arg5)
      ∧ r.2.mem ((c.tc : Thread Cert.MoIdeal.nD Cert.MoIdeal.τ).loc Cert.MoIdeal.main_arg6) = m ((c.tc : Thread Cert.MoIdeal.nD Cert.MoIdeal.τ).loc Cert.MoIdeal.main_arg6))
      ∧ r.2.sem = fun _ => 0)

def quiescent_MoRefIdeal [hMoRefIdeal : Cert.MoRefIdeal.Facts] : Prop :=
  ∀ (m : (ℓ : Loc Cert.MoRefIdeal.nD Cert.MoRefIdeal.τ Cert.MoRefIdeal.sig) → Buf (Elt Ideal) ℓ) (g : Dev Cert.MoRefIdeal.nD → PrngReg), Pre_MoRefIdeal m →
    θ_run (Cert.MoRefIdeal.defs (F := Ideal)) (onTc (τ := Cert.MoRefIdeal.τ) (Cert.MoRefIdeal.main (F := Ideal))) ⟨m, fun _ => 0, g⟩ (fun r => (∀ c : Dev Cert.MoRefIdeal.nD,
      r.2.mem ((c.tc : Thread Cert.MoRefIdeal.nD Cert.MoRefIdeal.τ).loc Cert.MoRefIdeal.main_arg0) = m ((c.tc : Thread Cert.MoRefIdeal.nD Cert.MoRefIdeal.τ).loc Cert.MoRefIdeal.main_arg0)
      ∧ r.2.mem ((c.tc : Thread Cert.MoRefIdeal.nD Cert.MoRefIdeal.τ).loc Cert.MoRefIdeal.main_arg1) = m ((c.tc : Thread Cert.MoRefIdeal.nD Cert.MoRefIdeal.τ).loc Cert.MoRefIdeal.main_arg1)
      ∧ r.2.mem ((c.tc : Thread Cert.MoRefIdeal.nD Cert.MoRefIdeal.τ).loc Cert.MoRefIdeal.main_arg2) = m ((c.tc : Thread Cert.MoRefIdeal.nD Cert.MoRefIdeal.τ).loc Cert.MoRefIdeal.main_arg2)
      ∧ r.2.mem ((c.tc : Thread Cert.MoRefIdeal.nD Cert.MoRefIdeal.τ).loc Cert.MoRefIdeal.main_arg3) = m ((c.tc : Thread Cert.MoRefIdeal.nD Cert.MoRefIdeal.τ).loc Cert.MoRefIdeal.main_arg3)
      ∧ r.2.mem ((c.tc : Thread Cert.MoRefIdeal.nD Cert.MoRefIdeal.τ).loc Cert.MoRefIdeal.main_arg4) = m ((c.tc : Thread Cert.MoRefIdeal.nD Cert.MoRefIdeal.τ).loc Cert.MoRefIdeal.main_arg4)
      ∧ r.2.mem ((c.tc : Thread Cert.MoRefIdeal.nD Cert.MoRefIdeal.τ).loc Cert.MoRefIdeal.main_arg5) = m ((c.tc : Thread Cert.MoRefIdeal.nD Cert.MoRefIdeal.τ).loc Cert.MoRefIdeal.main_arg5)
      ∧ r.2.mem ((c.tc : Thread Cert.MoRefIdeal.nD Cert.MoRefIdeal.τ).loc Cert.MoRefIdeal.main_arg6) = m ((c.tc : Thread Cert.MoRefIdeal.nD Cert.MoRefIdeal.τ).loc Cert.MoRefIdeal.main_arg6))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Mb [hMb : Cert.Mb.Facts] : Prop :=
  ∀ (m : (ℓ : Loc Cert.Mb.nD Cert.Mb.τ Cert.Mb.sig) → Buf (Elt Bits) ℓ) (g : Dev Cert.Mb.nD → PrngReg), Pre_Mb m →
    θ_run (Cert.Mb.defs (F := Bits)) (onTc (τ := Cert.Mb.τ) (Cert.Mb.main (F := Bits))) ⟨m, fun _ => 0, g⟩ (fun r => (∀ c : Dev Cert.Mb.nD,
      r.2.mem ((c.tc : Thread Cert.Mb.nD Cert.Mb.τ).loc Cert.Mb.main_arg0) = m ((c.tc : Thread Cert.Mb.nD Cert.Mb.τ).loc Cert.Mb.main_arg0)
      ∧ r.2.mem ((c.tc : Thread Cert.Mb.nD Cert.Mb.τ).loc Cert.Mb.main_arg1) = m ((c.tc : Thread Cert.Mb.nD Cert.Mb.τ).loc Cert.Mb.main_arg1)
      ∧ r.2.mem ((c.tc : Thread Cert.Mb.nD Cert.Mb.τ).loc Cert.Mb.main_arg2) = m ((c.tc : Thread Cert.Mb.nD Cert.Mb.τ).loc Cert.Mb.main_arg2)
      ∧ r.2.mem ((c.tc : Thread Cert.Mb.nD Cert.Mb.τ).loc Cert.Mb.main_arg3) = m ((c.tc : Thread Cert.Mb.nD Cert.Mb.τ).loc Cert.Mb.main_arg3)
      ∧ r.2.mem ((c.tc : Thread Cert.Mb.nD Cert.Mb.τ).loc Cert.Mb.main_arg4) = m ((c.tc : Thread Cert.Mb.nD Cert.Mb.τ).loc Cert.Mb.main_arg4))
      ∧ r.2.sem = fun _ => 0)

def quiescent_MbIdeal [hMbIdeal : Cert.MbIdeal.Facts] : Prop :=
  ∀ (m : (ℓ : Loc Cert.MbIdeal.nD Cert.MbIdeal.τ Cert.MbIdeal.sig) → Buf (Elt Ideal) ℓ) (g : Dev Cert.MbIdeal.nD → PrngReg), Pre_MbIdeal m →
    θ_run (Cert.MbIdeal.defs (F := Ideal)) (onTc (τ := Cert.MbIdeal.τ) (Cert.MbIdeal.main (F := Ideal))) ⟨m, fun _ => 0, g⟩ (fun r => (∀ c : Dev Cert.MbIdeal.nD,
      r.2.mem ((c.tc : Thread Cert.MbIdeal.nD Cert.MbIdeal.τ).loc Cert.MbIdeal.main_arg0) = m ((c.tc : Thread Cert.MbIdeal.nD Cert.MbIdeal.τ).loc Cert.MbIdeal.main_arg0)
      ∧ r.2.mem ((c.tc : Thread Cert.MbIdeal.nD Cert.MbIdeal.τ).loc Cert.MbIdeal.main_arg1) = m ((c.tc : Thread Cert.MbIdeal.nD Cert.MbIdeal.τ).loc Cert.MbIdeal.main_arg1)
      ∧ r.2.mem ((c.tc : Thread Cert.MbIdeal.nD Cert.MbIdeal.τ).loc Cert.MbIdeal.main_arg2) = m ((c.tc : Thread Cert.MbIdeal.nD Cert.MbIdeal.τ).loc Cert.MbIdeal.main_arg2)
      ∧ r.2.mem ((c.tc : Thread Cert.MbIdeal.nD Cert.MbIdeal.τ).loc Cert.MbIdeal.main_arg3) = m ((c.tc : Thread Cert.MbIdeal.nD Cert.MbIdeal.τ).loc Cert.MbIdeal.main_arg3)
      ∧ r.2.mem ((c.tc : Thread Cert.MbIdeal.nD Cert.MbIdeal.τ).loc Cert.MbIdeal.main_arg4) = m ((c.tc : Thread Cert.MbIdeal.nD Cert.MbIdeal.τ).loc Cert.MbIdeal.main_arg4))
      ∧ r.2.sem = fun _ => 0)

def quiescent_MbRefIdeal [hMbRefIdeal : Cert.MbRefIdeal.Facts] : Prop :=
  ∀ (m : (ℓ : Loc Cert.MbRefIdeal.nD Cert.MbRefIdeal.τ Cert.MbRefIdeal.sig) → Buf (Elt Ideal) ℓ) (g : Dev Cert.MbRefIdeal.nD → PrngReg), Pre_MbRefIdeal m →
    θ_run (Cert.MbRefIdeal.defs (F := Ideal)) (onTc (τ := Cert.MbRefIdeal.τ) (Cert.MbRefIdeal.main (F := Ideal))) ⟨m, fun _ => 0, g⟩ (fun r => (∀ c : Dev Cert.MbRefIdeal.nD,
      r.2.mem ((c.tc : Thread Cert.MbRefIdeal.nD Cert.MbRefIdeal.τ).loc Cert.MbRefIdeal.main_arg0) = m ((c.tc : Thread Cert.MbRefIdeal.nD Cert.MbRefIdeal.τ).loc Cert.MbRefIdeal.main_arg0)
      ∧ r.2.mem ((c.tc : Thread Cert.MbRefIdeal.nD Cert.MbRefIdeal.τ).loc Cert.MbRefIdeal.main_arg1) = m ((c.tc : Thread Cert.MbRefIdeal.nD Cert.MbRefIdeal.τ).loc Cert.MbRefIdeal.main_arg1)
      ∧ r.2.mem ((c.tc : Thread Cert.MbRefIdeal.nD Cert.MbRefIdeal.τ).loc Cert.MbRefIdeal.main_arg2) = m ((c.tc : Thread Cert.MbRefIdeal.nD Cert.MbRefIdeal.τ).loc Cert.MbRefIdeal.main_arg2)
      ∧ r.2.mem ((c.tc : Thread Cert.MbRefIdeal.nD Cert.MbRefIdeal.τ).loc Cert.MbRefIdeal.main_arg3) = m ((c.tc : Thread Cert.MbRefIdeal.nD Cert.MbRefIdeal.τ).loc Cert.MbRefIdeal.main_arg3)
      ∧ r.2.mem ((c.tc : Thread Cert.MbRefIdeal.nD Cert.MbRefIdeal.τ).loc Cert.MbRefIdeal.main_arg4) = m ((c.tc : Thread Cert.MbRefIdeal.nD Cert.MbRefIdeal.τ).loc Cert.MbRefIdeal.main_arg4))
      ∧ r.2.sem = fun _ => 0)

def quiescent_Lh [hLh : Cert.Lh.Facts] : Prop :=
  ∀ (m : (ℓ : Loc Cert.Lh.nD Cert.Lh.τ Cert.Lh.sig) → Buf (Elt Bits) ℓ) (g : Dev Cert.Lh.nD → PrngReg), Pre_Lh m →
    θ_run (Cert.Lh.defs (F := Bits)) (onTc (τ := Cert.Lh.τ) (Cert.Lh.main (F := Bits))) ⟨m, fun _ => 0, g⟩ (fun r => (∀ c : Dev Cert.Lh.nD,
      r.2.mem ((c.tc : Thread Cert.Lh.nD Cert.Lh.τ).loc Cert.Lh.main_arg0) = m ((c.tc : Thread Cert.Lh.nD Cert.Lh.τ).loc Cert.Lh.main_arg0)
      ∧ r.2.mem ((c.tc : Thread Cert.Lh.nD Cert.Lh.τ).loc Cert.Lh.main_arg1) = m ((c.tc : Thread Cert.Lh.nD Cert.Lh.τ).loc Cert.Lh.main_arg1))
      ∧ r.2.sem = fun _ => 0)

def quiescent_LhIdeal [hLhIdeal : Cert.LhIdeal.Facts] : Prop :=
  ∀ (m : (ℓ : Loc Cert.LhIdeal.nD Cert.LhIdeal.τ Cert.LhIdeal.sig) → Buf (Elt Ideal) ℓ) (g : Dev Cert.LhIdeal.nD → PrngReg), Pre_LhIdeal m →
    θ_run (Cert.LhIdeal.defs (F := Ideal)) (onTc (τ := Cert.LhIdeal.τ) (Cert.LhIdeal.main (F := Ideal))) ⟨m, fun _ => 0, g⟩ (fun r => (∀ c : Dev Cert.LhIdeal.nD,
      r.2.mem ((c.tc : Thread Cert.LhIdeal.nD Cert.LhIdeal.τ).loc Cert.LhIdeal.main_arg0) = m ((c.tc : Thread Cert.LhIdeal.nD Cert.LhIdeal.τ).loc Cert.LhIdeal.main_arg0)
      ∧ r.2.mem ((c.tc : Thread Cert.LhIdeal.nD Cert.LhIdeal.τ).loc Cert.LhIdeal.main_arg1) = m ((c.tc : Thread Cert.LhIdeal.nD Cert.LhIdeal.τ).loc Cert.LhIdeal.main_arg1))
      ∧ r.2.sem = fun _ => 0)

def quiescent_LhRefIdeal [hLhRefIdeal : Cert.LhRefIdeal.Facts] : Prop :=
  ∀ (m : (ℓ : Loc Cert.LhRefIdeal.nD Cert.LhRefIdeal.τ Cert.LhRefIdeal.sig) → Buf (Elt Ideal) ℓ) (g : Dev Cert.LhRefIdeal.nD → PrngReg), Pre_LhRefIdeal m →
    θ_run (Cert.LhRefIdeal.defs (F := Ideal)) (onTc (τ := Cert.LhRefIdeal.τ) (Cert.LhRefIdeal.main (F := Ideal))) ⟨m, fun _ => 0, g⟩ (fun r => (∀ c : Dev Cert.LhRefIdeal.nD,
      r.2.mem ((c.tc : Thread Cert.LhRefIdeal.nD Cert.LhRefIdeal.τ).loc Cert.LhRefIdeal.main_arg0) = m ((c.tc : Thread Cert.LhRefIdeal.nD Cert.LhRefIdeal.τ).loc Cert.LhRefIdeal.main_arg0)
      ∧ r.2.mem ((c.tc : Thread Cert.LhRefIdeal.nD Cert.LhRefIdeal.τ).loc Cert.LhRefIdeal.main_arg1) = m ((c.tc : Thread Cert.LhRefIdeal.nD Cert.LhRefIdeal.τ).loc Cert.LhRefIdeal.main_arg1))
      ∧ r.2.sem = fun _ => 0)

def quiescent_Ba [hBa : Cert.Ba.Facts] : Prop :=
  ∀ (m : (ℓ : Loc Cert.Ba.nD Cert.Ba.τ Cert.Ba.sig) → Buf (Elt Bits) ℓ) (g : Dev Cert.Ba.nD → PrngReg), Pre_Ba m →
    θ_run (Cert.Ba.defs (F := Bits)) (onTc (τ := Cert.Ba.τ) (Cert.Ba.main (F := Bits))) ⟨m, fun _ => 0, g⟩ (fun r => (∀ c : Dev Cert.Ba.nD,
      r.2.mem ((c.tc : Thread Cert.Ba.nD Cert.Ba.τ).loc Cert.Ba.main_arg0) = m ((c.tc : Thread Cert.Ba.nD Cert.Ba.τ).loc Cert.Ba.main_arg0)
      ∧ r.2.mem ((c.tc : Thread Cert.Ba.nD Cert.Ba.τ).loc Cert.Ba.main_arg1) = m ((c.tc : Thread Cert.Ba.nD Cert.Ba.τ).loc Cert.Ba.main_arg1)
      ∧ r.2.mem ((c.tc : Thread Cert.Ba.nD Cert.Ba.τ).loc Cert.Ba.main_arg2) = m ((c.tc : Thread Cert.Ba.nD Cert.Ba.τ).loc Cert.Ba.main_arg2)
      ∧ r.2.mem ((c.tc : Thread Cert.Ba.nD Cert.Ba.τ).loc Cert.Ba.main_arg3) = m ((c.tc : Thread Cert.Ba.nD Cert.Ba.τ).loc Cert.Ba.main_arg3)
      ∧ r.2.mem ((c.tc : Thread Cert.Ba.nD Cert.Ba.τ).loc Cert.Ba.main_arg4) = m ((c.tc : Thread Cert.Ba.nD Cert.Ba.τ).loc Cert.Ba.main_arg4))
      ∧ r.2.sem = fun _ => 0)

def quiescent_BaIdeal [hBaIdeal : Cert.BaIdeal.Facts] : Prop :=
  ∀ (m : (ℓ : Loc Cert.BaIdeal.nD Cert.BaIdeal.τ Cert.BaIdeal.sig) → Buf (Elt Ideal) ℓ) (g : Dev Cert.BaIdeal.nD → PrngReg), Pre_BaIdeal m →
    θ_run (Cert.BaIdeal.defs (F := Ideal)) (onTc (τ := Cert.BaIdeal.τ) (Cert.BaIdeal.main (F := Ideal))) ⟨m, fun _ => 0, g⟩ (fun r => (∀ c : Dev Cert.BaIdeal.nD,
      r.2.mem ((c.tc : Thread Cert.BaIdeal.nD Cert.BaIdeal.τ).loc Cert.BaIdeal.main_arg0) = m ((c.tc : Thread Cert.BaIdeal.nD Cert.BaIdeal.τ).loc Cert.BaIdeal.main_arg0)
      ∧ r.2.mem ((c.tc : Thread Cert.BaIdeal.nD Cert.BaIdeal.τ).loc Cert.BaIdeal.main_arg1) = m ((c.tc : Thread Cert.BaIdeal.nD Cert.BaIdeal.τ).loc Cert.BaIdeal.main_arg1)
      ∧ r.2.mem ((c.tc : Thread Cert.BaIdeal.nD Cert.BaIdeal.τ).loc Cert.BaIdeal.main_arg2) = m ((c.tc : Thread Cert.BaIdeal.nD Cert.BaIdeal.τ).loc Cert.BaIdeal.main_arg2)
      ∧ r.2.mem ((c.tc : Thread Cert.BaIdeal.nD Cert.BaIdeal.τ).loc Cert.BaIdeal.main_arg3) = m ((c.tc : Thread Cert.BaIdeal.nD Cert.BaIdeal.τ).loc Cert.BaIdeal.main_arg3)
      ∧ r.2.mem ((c.tc : Thread Cert.BaIdeal.nD Cert.BaIdeal.τ).loc Cert.BaIdeal.main_arg4) = m ((c.tc : Thread Cert.BaIdeal.nD Cert.BaIdeal.τ).loc Cert.BaIdeal.main_arg4))
      ∧ r.2.sem = fun _ => 0)

def quiescent_BaRefIdeal [hBaRefIdeal : Cert.BaRefIdeal.Facts] : Prop :=
  ∀ (m : (ℓ : Loc Cert.BaRefIdeal.nD Cert.BaRefIdeal.τ Cert.BaRefIdeal.sig) → Buf (Elt Ideal) ℓ) (g : Dev Cert.BaRefIdeal.nD → PrngReg), Pre_BaRefIdeal m →
    θ_run (Cert.BaRefIdeal.defs (F := Ideal)) (onTc (τ := Cert.BaRefIdeal.τ) (Cert.BaRefIdeal.main (F := Ideal))) ⟨m, fun _ => 0, g⟩ (fun r => (∀ c : Dev Cert.BaRefIdeal.nD,
      r.2.mem ((c.tc : Thread Cert.BaRefIdeal.nD Cert.BaRefIdeal.τ).loc Cert.BaRefIdeal.main_arg0) = m ((c.tc : Thread Cert.BaRefIdeal.nD Cert.BaRefIdeal.τ).loc Cert.BaRefIdeal.main_arg0)
      ∧ r.2.mem ((c.tc : Thread Cert.BaRefIdeal.nD Cert.BaRefIdeal.τ).loc Cert.BaRefIdeal.main_arg1) = m ((c.tc : Thread Cert.BaRefIdeal.nD Cert.BaRefIdeal.τ).loc Cert.BaRefIdeal.main_arg1)
      ∧ r.2.mem ((c.tc : Thread Cert.BaRefIdeal.nD Cert.BaRefIdeal.τ).loc Cert.BaRefIdeal.main_arg2) = m ((c.tc : Thread Cert.BaRefIdeal.nD Cert.BaRefIdeal.τ).loc Cert.BaRefIdeal.main_arg2)
      ∧ r.2.mem ((c.tc : Thread Cert.BaRefIdeal.nD Cert.BaRefIdeal.τ).loc Cert.BaRefIdeal.main_arg3) = m ((c.tc : Thread Cert.BaRefIdeal.nD Cert.BaRefIdeal.τ).loc Cert.BaRefIdeal.main_arg3)
      ∧ r.2.mem ((c.tc : Thread Cert.BaRefIdeal.nD Cert.BaRefIdeal.τ).loc Cert.BaRefIdeal.main_arg4) = m ((c.tc : Thread Cert.BaRefIdeal.nD Cert.BaRefIdeal.τ).loc Cert.BaRefIdeal.main_arg4))
      ∧ r.2.sem = fun _ => 0)

def quiescent_Af [hAf : Cert.Af.Facts] : Prop :=
  ∀ (m : (ℓ : Loc Cert.Af.nD Cert.Af.τ Cert.Af.sig) → Buf (Elt Bits) ℓ) (g : Dev Cert.Af.nD → PrngReg), Pre_Af m →
    θ_run (Cert.Af.defs (F := Bits)) (onTc (τ := Cert.Af.τ) (Cert.Af.main (F := Bits))) ⟨m, fun _ => 0, g⟩ (fun r => (∀ c : Dev Cert.Af.nD,
      r.2.mem ((c.tc : Thread Cert.Af.nD Cert.Af.τ).loc Cert.Af.main_arg0) = m ((c.tc : Thread Cert.Af.nD Cert.Af.τ).loc Cert.Af.main_arg0)
      ∧ r.2.mem ((c.tc : Thread Cert.Af.nD Cert.Af.τ).loc Cert.Af.main_arg1) = m ((c.tc : Thread Cert.Af.nD Cert.Af.τ).loc Cert.Af.main_arg1)
      ∧ r.2.mem ((c.tc : Thread Cert.Af.nD Cert.Af.τ).loc Cert.Af.main_arg2) = m ((c.tc : Thread Cert.Af.nD Cert.Af.τ).loc Cert.Af.main_arg2)
      ∧ r.2.mem ((c.tc : Thread Cert.Af.nD Cert.Af.τ).loc Cert.Af.main_arg3) = m ((c.tc : Thread Cert.Af.nD Cert.Af.τ).loc Cert.Af.main_arg3))
      ∧ r.2.sem = fun _ => 0)

def quiescent_AfIdeal [hAfIdeal : Cert.AfIdeal.Facts] : Prop :=
  ∀ (m : (ℓ : Loc Cert.AfIdeal.nD Cert.AfIdeal.τ Cert.AfIdeal.sig) → Buf (Elt Ideal) ℓ) (g : Dev Cert.AfIdeal.nD → PrngReg), Pre_AfIdeal m →
    θ_run (Cert.AfIdeal.defs (F := Ideal)) (onTc (τ := Cert.AfIdeal.τ) (Cert.AfIdeal.main (F := Ideal))) ⟨m, fun _ => 0, g⟩ (fun r => (∀ c : Dev Cert.AfIdeal.nD,
      r.2.mem ((c.tc : Thread Cert.AfIdeal.nD Cert.AfIdeal.τ).loc Cert.AfIdeal.main_arg0) = m ((c.tc : Thread Cert.AfIdeal.nD Cert.AfIdeal.τ).loc Cert.AfIdeal.main_arg0)
      ∧ r.2.mem ((c.tc : Thread Cert.AfIdeal.nD Cert.AfIdeal.τ).loc Cert.AfIdeal.main_arg1) = m ((c.tc : Thread Cert.AfIdeal.nD Cert.AfIdeal.τ).loc Cert.AfIdeal.main_arg1)
      ∧ r.2.mem ((c.tc : Thread Cert.AfIdeal.nD Cert.AfIdeal.τ).loc Cert.AfIdeal.main_arg2) = m ((c.tc : Thread Cert.AfIdeal.nD Cert.AfIdeal.τ).loc Cert.AfIdeal.main_arg2)
      ∧ r.2.mem ((c.tc : Thread Cert.AfIdeal.nD Cert.AfIdeal.τ).loc Cert.AfIdeal.main_arg3) = m ((c.tc : Thread Cert.AfIdeal.nD Cert.AfIdeal.τ).loc Cert.AfIdeal.main_arg3))
      ∧ r.2.sem = fun _ => 0)

def quiescent_AfRefIdeal [hAfRefIdeal : Cert.AfRefIdeal.Facts] : Prop :=
  ∀ (m : (ℓ : Loc Cert.AfRefIdeal.nD Cert.AfRefIdeal.τ Cert.AfRefIdeal.sig) → Buf (Elt Ideal) ℓ) (g : Dev Cert.AfRefIdeal.nD → PrngReg), Pre_AfRefIdeal m →
    θ_run (Cert.AfRefIdeal.defs (F := Ideal)) (onTc (τ := Cert.AfRefIdeal.τ) (Cert.AfRefIdeal.main (F := Ideal))) ⟨m, fun _ => 0, g⟩ (fun r => (∀ c : Dev Cert.AfRefIdeal.nD,
      r.2.mem ((c.tc : Thread Cert.AfRefIdeal.nD Cert.AfRefIdeal.τ).loc Cert.AfRefIdeal.main_arg0) = m ((c.tc : Thread Cert.AfRefIdeal.nD Cert.AfRefIdeal.τ).loc Cert.AfRefIdeal.main_arg0)
      ∧ r.2.mem ((c.tc : Thread Cert.AfRefIdeal.nD Cert.AfRefIdeal.τ).loc Cert.AfRefIdeal.main_arg1) = m ((c.tc : Thread Cert.AfRefIdeal.nD Cert.AfRefIdeal.τ).loc Cert.AfRefIdeal.main_arg1)
      ∧ r.2.mem ((c.tc : Thread Cert.AfRefIdeal.nD Cert.AfRefIdeal.τ).loc Cert.AfRefIdeal.main_arg2) = m ((c.tc : Thread Cert.AfRefIdeal.nD Cert.AfRefIdeal.τ).loc Cert.AfRefIdeal.main_arg2)
      ∧ r.2.mem ((c.tc : Thread Cert.AfRefIdeal.nD Cert.AfRefIdeal.τ).loc Cert.AfRefIdeal.main_arg3) = m ((c.tc : Thread Cert.AfRefIdeal.nD Cert.AfRefIdeal.τ).loc Cert.AfRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_c : Cert.Pre_finite_c.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v0_0)) (v1 : (c : Dev Cert.DhIdeal.nD) → Buf (Elt Ideal) ((c.tc : Thread Cert.DhIdeal.nD Cert.DhIdeal.τ).loc Cert.DhIdeal.main_v0_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0_0) = v0 c
          ∧ r.2.mem ((c.tc : Thread Cert.DhIdeal.nD Cert.DhIdeal.τ).loc Cert.DhIdeal.main_v0_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v59) = v0 c
          ∧ r.2.mem ((c.tc : Thread Cert.DhRefIdeal.nD Cert.DhRefIdeal.τ).loc Cert.DhRefIdeal.main_v42) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v13)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v13) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v38) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v14) = v0 c
          ∧ r.2.mem ((c.tc : Thread Cert.InRefIdeal.nD Cert.InRefIdeal.τ).loc Cert.InRefIdeal.main_v27) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Ob_ObIdeal : Prop :=
  True

def algebraic_ObIdeal_ObRefIdeal [hObIdeal : Cert.ObIdeal.Facts] [hObRefIdeal : Cert.ObRefIdeal.Facts] : Prop :=
  ∀ (m : (ℓ : Loc Cert.ObIdeal.nD Cert.ObIdeal.τ Cert.ObIdeal.sig) → Buf (Elt Ideal) ℓ) (g : Dev Cert.ObIdeal.nD → PrngReg)
    (m' : (ℓ : Loc Cert.ObRefIdeal.nD Cert.ObRefIdeal.τ Cert.ObRefIdeal.sig) → Buf (Elt Ideal) ℓ) (g' : Dev Cert.ObRefIdeal.nD → PrngReg), Pre_ObIdeal m →
    (∀ c : Dev Cert.ObIdeal.nD,
      m' ((c.tc : Thread Cert.ObRefIdeal.nD Cert.ObRefIdeal.τ).loc Cert.ObRefIdeal.main_arg0) = m ((c.tc : Thread Cert.ObIdeal.nD Cert.ObIdeal.τ).loc Cert.ObIdeal.main_arg0)
      ∧ m' ((c.tc : Thread Cert.ObRefIdeal.nD Cert.ObRefIdeal.τ).loc Cert.ObRefIdeal.main_arg1) = m ((c.tc : Thread Cert.ObIdeal.nD Cert.ObIdeal.τ).loc Cert.ObIdeal.main_arg1)
      ∧ m' ((c.tc : Thread Cert.ObRefIdeal.nD Cert.ObRefIdeal.τ).loc Cert.ObRefIdeal.main_arg2) = m ((c.tc : Thread Cert.ObIdeal.nD Cert.ObIdeal.τ).loc Cert.ObIdeal.main_arg2)
      ∧ m' ((c.tc : Thread Cert.ObRefIdeal.nD Cert.ObRefIdeal.τ).loc Cert.ObRefIdeal.main_arg3) = m ((c.tc : Thread Cert.ObIdeal.nD Cert.ObIdeal.τ).loc Cert.ObIdeal.main_arg3)
      ∧ m' ((c.tc : Thread Cert.ObRefIdeal.nD Cert.ObRefIdeal.τ).loc Cert.ObRefIdeal.main_arg4) = m ((c.tc : Thread Cert.ObIdeal.nD Cert.ObIdeal.τ).loc Cert.ObIdeal.main_arg4)
      ∧ m' ((c.tc : Thread Cert.ObRefIdeal.nD Cert.ObRefIdeal.τ).loc Cert.ObRefIdeal.main_arg5) = m ((c.tc : Thread Cert.ObIdeal.nD Cert.ObIdeal.τ).loc Cert.ObIdeal.main_arg5)
      ∧ m' ((c.tc : Thread Cert.ObRefIdeal.nD Cert.ObRefIdeal.τ).loc Cert.ObRefIdeal.main_arg6) = m ((c.tc : Thread Cert.ObIdeal.nD Cert.ObIdeal.τ).loc Cert.ObIdeal.main_arg6)) →
    ∃ (v0 : (c : Dev Cert.ObIdeal.nD) → Buf (Elt Ideal) ((c.tc : Thread Cert.ObIdeal.nD Cert.ObIdeal.τ).loc Cert.ObIdeal.main_v40_0)) (v1 : (c : Dev Cert.ObIdeal.nD) → Buf (Elt Ideal) ((c.tc : Thread Cert.ObIdeal.nD Cert.ObIdeal.τ).loc Cert.ObIdeal.main_v40_1)) (v2 : (c : Dev Cert.ObIdeal.nD) → Buf (Elt Ideal) ((c.tc : Thread Cert.ObIdeal.nD Cert.ObIdeal.τ).loc Cert.ObIdeal.main_v40_2)) (v3 : (c : Dev Cert.ObIdeal.nD) → Buf (Elt Ideal) ((c.tc : Thread Cert.ObIdeal.nD Cert.ObIdeal.τ).loc Cert.ObIdeal.main_v40_3)) (v4 : (c : Dev Cert.ObIdeal.nD) → Buf (Elt Ideal) ((c.tc : Thread Cert.ObIdeal.nD Cert.ObIdeal.τ).loc Cert.ObIdeal.main_v41)) (v5 : (c : Dev Cert.ObIdeal.nD) → Buf (Elt Ideal) ((c.tc : Thread Cert.ObIdeal.nD Cert.ObIdeal.τ).loc Cert.ObIdeal.main_v40_5)),
      θ_run (Cert.ObIdeal.defs (F := Ideal)) (onTc (τ := Cert.ObIdeal.τ) (Cert.ObIdeal.main (F := Ideal))) ⟨m, fun _ => 0, g⟩ (fun r => ∀ c : Dev Cert.ObIdeal.nD,
          r.2.mem ((c.tc : Thread Cert.ObIdeal.nD Cert.ObIdeal.τ).loc Cert.ObIdeal.main_v40_0) = v0 c
          ∧ r.2.mem ((c.tc : Thread Cert.ObIdeal.nD Cert.ObIdeal.τ).loc Cert.ObIdeal.main_v40_1) = v1 c
          ∧ r.2.mem ((c.tc : Thread Cert.ObIdeal.nD Cert.ObIdeal.τ).loc Cert.ObIdeal.main_v40_2) = v2 c
          ∧ r.2.mem ((c.tc : Thread Cert.ObIdeal.nD Cert.ObIdeal.τ).loc Cert.ObIdeal.main_v40_3) = v3 c
          ∧ r.2.mem ((c.tc : Thread Cert.ObIdeal.nD Cert.ObIdeal.τ).loc Cert.ObIdeal.main_v41) = v4 c
          ∧ r.2.mem ((c.tc : Thread Cert.ObIdeal.nD Cert.ObIdeal.τ).loc Cert.ObIdeal.main_v40_5) = v5 c
          ∧ r.2.mem ((c.tc : Thread Cert.ObIdeal.nD Cert.ObIdeal.τ).loc Cert.ObIdeal.main_arg0) = m ((c.tc : Thread Cert.ObIdeal.nD Cert.ObIdeal.τ).loc Cert.ObIdeal.main_arg0)
          ∧ r.2.mem ((c.tc : Thread Cert.ObIdeal.nD Cert.ObIdeal.τ).loc Cert.ObIdeal.main_arg1) = m ((c.tc : Thread Cert.ObIdeal.nD Cert.ObIdeal.τ).loc Cert.ObIdeal.main_arg1)
          ∧ r.2.mem ((c.tc : Thread Cert.ObIdeal.nD Cert.ObIdeal.τ).loc Cert.ObIdeal.main_arg2) = m ((c.tc : Thread Cert.ObIdeal.nD Cert.ObIdeal.τ).loc Cert.ObIdeal.main_arg2)
          ∧ r.2.mem ((c.tc : Thread Cert.ObIdeal.nD Cert.ObIdeal.τ).loc Cert.ObIdeal.main_arg3) = m ((c.tc : Thread Cert.ObIdeal.nD Cert.ObIdeal.τ).loc Cert.ObIdeal.main_arg3)
          ∧ r.2.mem ((c.tc : Thread Cert.ObIdeal.nD Cert.ObIdeal.τ).loc Cert.ObIdeal.main_arg4) = m ((c.tc : Thread Cert.ObIdeal.nD Cert.ObIdeal.τ).loc Cert.ObIdeal.main_arg4)
          ∧ r.2.mem ((c.tc : Thread Cert.ObIdeal.nD Cert.ObIdeal.τ).loc Cert.ObIdeal.main_arg5) = m ((c.tc : Thread Cert.ObIdeal.nD Cert.ObIdeal.τ).loc Cert.ObIdeal.main_arg5)
          ∧ r.2.mem ((c.tc : Thread Cert.ObIdeal.nD Cert.ObIdeal.τ).loc Cert.ObIdeal.main_arg6) = m ((c.tc : Thread Cert.ObIdeal.nD Cert.ObIdeal.τ).loc Cert.ObIdeal.main_arg6))
      ∧ θ_run (Cert.ObRefIdeal.defs (F := Ideal)) (onTc (τ := Cert.ObRefIdeal.τ) (Cert.ObRefIdeal.main (F := Ideal))) ⟨m', fun _ => 0, g'⟩ (fun r => ∀ c : Dev Cert.ObRefIdeal.nD,
          r.2.mem ((c.tc : Thread Cert.ObRefIdeal.nD Cert.ObRefIdeal.τ).loc Cert.ObRefIdeal.main_v102) = v0 c
          ∧ r.2.mem ((c.tc : Thread Cert.ObRefIdeal.nD Cert.ObRefIdeal.τ).loc Cert.ObRefIdeal.main_v104) = v1 c
          ∧ r.2.mem ((c.tc : Thread Cert.ObRefIdeal.nD Cert.ObRefIdeal.τ).loc Cert.ObRefIdeal.main_v106) = v2 c
          ∧ r.2.mem ((c.tc : Thread Cert.ObRefIdeal.nD Cert.ObRefIdeal.τ).loc Cert.ObRefIdeal.main_v108) = v3 c
          ∧ r.2.mem ((c.tc : Thread Cert.ObRefIdeal.nD Cert.ObRefIdeal.τ).loc Cert.ObRefIdeal.main_v109) = v4 c
          ∧ r.2.mem ((c.tc : Thread Cert.ObRefIdeal.nD Cert.ObRefIdeal.τ).loc Cert.ObRefIdeal.main_v56) = v5 c
          ∧ r.2.mem ((c.tc : Thread Cert.ObRefIdeal.nD Cert.ObRefIdeal.τ).loc Cert.ObRefIdeal.main_arg0) = m' ((c.tc : Thread Cert.ObRefIdeal.nD Cert.ObRefIdeal.τ).loc Cert.ObRefIdeal.main_arg0)
          ∧ r.2.mem ((c.tc : Thread Cert.ObRefIdeal.nD Cert.ObRefIdeal.τ).loc Cert.ObRefIdeal.main_arg1) = m' ((c.tc : Thread Cert.ObRefIdeal.nD Cert.ObRefIdeal.τ).loc Cert.ObRefIdeal.main_arg1)
          ∧ r.2.mem ((c.tc : Thread Cert.ObRefIdeal.nD Cert.ObRefIdeal.τ).loc Cert.ObRefIdeal.main_arg2) = m' ((c.tc : Thread Cert.ObRefIdeal.nD Cert.ObRefIdeal.τ).loc Cert.ObRefIdeal.main_arg2)
          ∧ r.2.mem ((c.tc : Thread Cert.ObRefIdeal.nD Cert.ObRefIdeal.τ).loc Cert.ObRefIdeal.main_arg3) = m' ((c.tc : Thread Cert.ObRefIdeal.nD Cert.ObRefIdeal.τ).loc Cert.ObRefIdeal.main_arg3)
          ∧ r.2.mem ((c.tc : Thread Cert.ObRefIdeal.nD Cert.ObRefIdeal.τ).loc Cert.ObRefIdeal.main_arg4) = m' ((c.tc : Thread Cert.ObRefIdeal.nD Cert.ObRefIdeal.τ).loc Cert.ObRefIdeal.main_arg4)
          ∧ r.2.mem ((c.tc : Thread Cert.ObRefIdeal.nD Cert.ObRefIdeal.τ).loc Cert.ObRefIdeal.main_arg5) = m' ((c.tc : Thread Cert.ObRefIdeal.nD Cert.ObRefIdeal.τ).loc Cert.ObRefIdeal.main_arg5)
          ∧ r.2.mem ((c.tc : Thread Cert.ObRefIdeal.nD Cert.ObRefIdeal.τ).loc Cert.ObRefIdeal.main_arg6) = m' ((c.tc : Thread Cert.ObRefIdeal.nD Cert.ObRefIdeal.τ).loc Cert.ObRefIdeal.main_arg6))

def preserves_Mo_MoIdeal : Prop :=
  True

def algebraic_MoIdeal_MoRefIdeal [hMoIdeal : Cert.MoIdeal.Facts] [hMoRefIdeal : Cert.MoRefIdeal.Facts] : Prop :=
  ∀ (m : (ℓ : Loc Cert.MoIdeal.nD Cert.MoIdeal.τ Cert.MoIdeal.sig) → Buf (Elt Ideal) ℓ) (g : Dev Cert.MoIdeal.nD → PrngReg)
    (m' : (ℓ : Loc Cert.MoRefIdeal.nD Cert.MoRefIdeal.τ Cert.MoRefIdeal.sig) → Buf (Elt Ideal) ℓ) (g' : Dev Cert.MoRefIdeal.nD → PrngReg), Pre_MoIdeal m →
    (∀ c : Dev Cert.MoIdeal.nD,
      m' ((c.tc : Thread Cert.MoRefIdeal.nD Cert.MoRefIdeal.τ).loc Cert.MoRefIdeal.main_arg0) = m ((c.tc : Thread Cert.MoIdeal.nD Cert.MoIdeal.τ).loc Cert.MoIdeal.main_arg0)
      ∧ m' ((c.tc : Thread Cert.MoRefIdeal.nD Cert.MoRefIdeal.τ).loc Cert.MoRefIdeal.main_arg1) = m ((c.tc : Thread Cert.MoIdeal.nD Cert.MoIdeal.τ).loc Cert.MoIdeal.main_arg1)
      ∧ m' ((c.tc : Thread Cert.MoRefIdeal.nD Cert.MoRefIdeal.τ).loc Cert.MoRefIdeal.main_arg2) = m ((c.tc : Thread Cert.MoIdeal.nD Cert.MoIdeal.τ).loc Cert.MoIdeal.main_arg2)
      ∧ m' ((c.tc : Thread Cert.MoRefIdeal.nD Cert.MoRefIdeal.τ).loc Cert.MoRefIdeal.main_arg3) = m ((c.tc : Thread Cert.MoIdeal.nD Cert.MoIdeal.τ).loc Cert.MoIdeal.main_arg3)
      ∧ m' ((c.tc : Thread Cert.MoRefIdeal.nD Cert.MoRefIdeal.τ).loc Cert.MoRefIdeal.main_arg4) = m ((c.tc : Thread Cert.MoIdeal.nD Cert.MoIdeal.τ).loc Cert.MoIdeal.main_arg4)
      ∧ m' ((c.tc : Thread Cert.MoRefIdeal.nD Cert.MoRefIdeal.τ).loc Cert.MoRefIdeal.main_arg5) = m ((c.tc : Thread Cert.MoIdeal.nD Cert.MoIdeal.τ).loc Cert.MoIdeal.main_arg5)
      ∧ m' ((c.tc : Thread Cert.MoRefIdeal.nD Cert.MoRefIdeal.τ).loc Cert.MoRefIdeal.main_arg6) = m ((c.tc : Thread Cert.MoIdeal.nD Cert.MoIdeal.τ).loc Cert.MoIdeal.main_arg6)) →
    ∃ (v0 : (c : Dev Cert.MoIdeal.nD) → Buf (Elt Ideal) ((c.tc : Thread Cert.MoIdeal.nD Cert.MoIdeal.τ).loc Cert.MoIdeal.main_v0_0)) (v1 : (c : Dev Cert.MoIdeal.nD) → Buf (Elt Ideal) ((c.tc : Thread Cert.MoIdeal.nD Cert.MoIdeal.τ).loc Cert.MoIdeal.main_v0_1)) (v2 : (c : Dev Cert.MoIdeal.nD) → Buf (Elt Ideal) ((c.tc : Thread Cert.MoIdeal.nD Cert.MoIdeal.τ).loc Cert.MoIdeal.main_v0_2)) (v3 : (c : Dev Cert.MoIdeal.nD) → Buf (Elt Ideal) ((c.tc : Thread Cert.MoIdeal.nD Cert.MoIdeal.τ).loc Cert.MoIdeal.main_v0_3)) (v4 : (c : Dev Cert.MoIdeal.nD) → Buf (Elt Ideal) ((c.tc : Thread Cert.MoIdeal.nD Cert.MoIdeal.τ).loc Cert.MoIdeal.main_v0_4)) (v5 : (c : Dev Cert.MoIdeal.nD) → Buf (Elt Ideal) ((c.tc : Thread Cert.MoIdeal.nD Cert.MoIdeal.τ).loc Cert.MoIdeal.main_v0_5)),
      θ_run (Cert.MoIdeal.defs (F := Ideal)) (onTc (τ := Cert.MoIdeal.τ) (Cert.MoIdeal.main (F := Ideal))) ⟨m, fun _ => 0, g⟩ (fun r => ∀ c : Dev Cert.MoIdeal.nD,
          r.2.mem ((c.tc : Thread Cert.MoIdeal.nD Cert.MoIdeal.τ).loc Cert.MoIdeal.main_v0_0) = v0 c
          ∧ r.2.mem ((c.tc : Thread Cert.MoIdeal.nD Cert.MoIdeal.τ).loc Cert.MoIdeal.main_v0_1) = v1 c
          ∧ r.2.mem ((c.tc : Thread Cert.MoIdeal.nD Cert.MoIdeal.τ).loc Cert.MoIdeal.main_v0_2) = v2 c
          ∧ r.2.mem ((c.tc : Thread Cert.MoIdeal.nD Cert.MoIdeal.τ).loc Cert.MoIdeal.main_v0_3) = v3 c
          ∧ r.2.mem ((c.tc : Thread Cert.MoIdeal.nD Cert.MoIdeal.τ).loc Cert.MoIdeal.main_v0_4) = v4 c
          ∧ r.2.mem ((c.tc : Thread Cert.MoIdeal.nD Cert.MoIdeal.τ).loc Cert.MoIdeal.main_v0_5) = v5 c
          ∧ r.2.mem ((c.tc : Thread Cert.MoIdeal.nD Cert.MoIdeal.τ).loc Cert.MoIdeal.main_arg0) = m ((c.tc : Thread Cert.MoIdeal.nD Cert.MoIdeal.τ).loc Cert.MoIdeal.main_arg0)
          ∧ r.2.mem ((c.tc : Thread Cert.MoIdeal.nD Cert.MoIdeal.τ).loc Cert.MoIdeal.main_arg1) = m ((c.tc : Thread Cert.MoIdeal.nD Cert.MoIdeal.τ).loc Cert.MoIdeal.main_arg1)
          ∧ r.2.mem ((c.tc : Thread Cert.MoIdeal.nD Cert.MoIdeal.τ).loc Cert.MoIdeal.main_arg2) = m ((c.tc : Thread Cert.MoIdeal.nD Cert.MoIdeal.τ).loc Cert.MoIdeal.main_arg2)
          ∧ r.2.mem ((c.tc : Thread Cert.MoIdeal.nD Cert.MoIdeal.τ).loc Cert.MoIdeal.main_arg3) = m ((c.tc : Thread Cert.MoIdeal.nD Cert.MoIdeal.τ).loc Cert.MoIdeal.main_arg3)
          ∧ r.2.mem ((c.tc : Thread Cert.MoIdeal.nD Cert.MoIdeal.τ).loc Cert.MoIdeal.main_arg4) = m ((c.tc : Thread Cert.MoIdeal.nD Cert.MoIdeal.τ).loc Cert.MoIdeal.main_arg4)
          ∧ r.2.mem ((c.tc : Thread Cert.MoIdeal.nD Cert.MoIdeal.τ).loc Cert.MoIdeal.main_arg5) = m ((c.tc : Thread Cert.MoIdeal.nD Cert.MoIdeal.τ).loc Cert.MoIdeal.main_arg5)
          ∧ r.2.mem ((c.tc : Thread Cert.MoIdeal.nD Cert.MoIdeal.τ).loc Cert.MoIdeal.main_arg6) = m ((c.tc : Thread Cert.MoIdeal.nD Cert.MoIdeal.τ).loc Cert.MoIdeal.main_arg6))
      ∧ θ_run (Cert.MoRefIdeal.defs (F := Ideal)) (onTc (τ := Cert.MoRefIdeal.τ) (Cert.MoRefIdeal.main (F := Ideal))) ⟨m', fun _ => 0, g'⟩ (fun r => ∀ c : Dev Cert.MoRefIdeal.nD,
          r.2.mem ((c.tc : Thread Cert.MoRefIdeal.nD Cert.MoRefIdeal.τ).loc Cert.MoRefIdeal.main_v36) = v0 c
          ∧ r.2.mem ((c.tc : Thread Cert.MoRefIdeal.nD Cert.MoRefIdeal.τ).loc Cert.MoRefIdeal.main_v37) = v1 c
          ∧ r.2.mem ((c.tc : Thread Cert.MoRefIdeal.nD Cert.MoRefIdeal.τ).loc Cert.MoRefIdeal.main_v38) = v2 c
          ∧ r.2.mem ((c.tc : Thread Cert.MoRefIdeal.nD Cert.MoRefIdeal.τ).loc Cert.MoRefIdeal.main_v44) = v3 c
          ∧ r.2.mem ((c.tc : Thread Cert.MoRefIdeal.nD Cert.MoRefIdeal.τ).loc Cert.MoRefIdeal.main_v45) = v4 c
          ∧ r.2.mem ((c.tc : Thread Cert.MoRefIdeal.nD Cert.MoRefIdeal.τ).loc Cert.MoRefIdeal.main_v58) = v5 c
          ∧ r.2.mem ((c.tc : Thread Cert.MoRefIdeal.nD Cert.MoRefIdeal.τ).loc Cert.MoRefIdeal.main_arg0) = m' ((c.tc : Thread Cert.MoRefIdeal.nD Cert.MoRefIdeal.τ).loc Cert.MoRefIdeal.main_arg0)
          ∧ r.2.mem ((c.tc : Thread Cert.MoRefIdeal.nD Cert.MoRefIdeal.τ).loc Cert.MoRefIdeal.main_arg1) = m' ((c.tc : Thread Cert.MoRefIdeal.nD Cert.MoRefIdeal.τ).loc Cert.MoRefIdeal.main_arg1)
          ∧ r.2.mem ((c.tc : Thread Cert.MoRefIdeal.nD Cert.MoRefIdeal.τ).loc Cert.MoRefIdeal.main_arg2) = m' ((c.tc : Thread Cert.MoRefIdeal.nD Cert.MoRefIdeal.τ).loc Cert.MoRefIdeal.main_arg2)
          ∧ r.2.mem ((c.tc : Thread Cert.MoRefIdeal.nD Cert.MoRefIdeal.τ).loc Cert.MoRefIdeal.main_arg3) = m' ((c.tc : Thread Cert.MoRefIdeal.nD Cert.MoRefIdeal.τ).loc Cert.MoRefIdeal.main_arg3)
          ∧ r.2.mem ((c.tc : Thread Cert.MoRefIdeal.nD Cert.MoRefIdeal.τ).loc Cert.MoRefIdeal.main_arg4) = m' ((c.tc : Thread Cert.MoRefIdeal.nD Cert.MoRefIdeal.τ).loc Cert.MoRefIdeal.main_arg4)
          ∧ r.2.mem ((c.tc : Thread Cert.MoRefIdeal.nD Cert.MoRefIdeal.τ).loc Cert.MoRefIdeal.main_arg5) = m' ((c.tc : Thread Cert.MoRefIdeal.nD Cert.MoRefIdeal.τ).loc Cert.MoRefIdeal.main_arg5)
          ∧ r.2.mem ((c.tc : Thread Cert.MoRefIdeal.nD Cert.MoRefIdeal.τ).loc Cert.MoRefIdeal.main_arg6) = m' ((c.tc : Thread Cert.MoRefIdeal.nD Cert.MoRefIdeal.τ).loc Cert.MoRefIdeal.main_arg6))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)) →
    ∃ (v0 : (c : Dev Cert.TnIdeal.nD) → Buf (Elt Ideal) ((c.tc : Thread Cert.TnIdeal.nD Cert.TnIdeal.τ).loc Cert.TnIdeal.main_v0)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v0) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v6) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v14) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Mb_MbIdeal : Prop :=
  True

def algebraic_MbIdeal_MbRefIdeal [hMbIdeal : Cert.MbIdeal.Facts] [hMbRefIdeal : Cert.MbRefIdeal.Facts] : Prop :=
  ∀ (m : (ℓ : Loc Cert.MbIdeal.nD Cert.MbIdeal.τ Cert.MbIdeal.sig) → Buf (Elt Ideal) ℓ) (g : Dev Cert.MbIdeal.nD → PrngReg)
    (m' : (ℓ : Loc Cert.MbRefIdeal.nD Cert.MbRefIdeal.τ Cert.MbRefIdeal.sig) → Buf (Elt Ideal) ℓ) (g' : Dev Cert.MbRefIdeal.nD → PrngReg), Pre_MbIdeal m →
    (∀ c : Dev Cert.MbIdeal.nD,
      m' ((c.tc : Thread Cert.MbRefIdeal.nD Cert.MbRefIdeal.τ).loc Cert.MbRefIdeal.main_arg0) = m ((c.tc : Thread Cert.MbIdeal.nD Cert.MbIdeal.τ).loc Cert.MbIdeal.main_arg0)
      ∧ m' ((c.tc : Thread Cert.MbRefIdeal.nD Cert.MbRefIdeal.τ).loc Cert.MbRefIdeal.main_arg1) = m ((c.tc : Thread Cert.MbIdeal.nD Cert.MbIdeal.τ).loc Cert.MbIdeal.main_arg1)
      ∧ m' ((c.tc : Thread Cert.MbRefIdeal.nD Cert.MbRefIdeal.τ).loc Cert.MbRefIdeal.main_arg2) = m ((c.tc : Thread Cert.MbIdeal.nD Cert.MbIdeal.τ).loc Cert.MbIdeal.main_arg2)
      ∧ m' ((c.tc : Thread Cert.MbRefIdeal.nD Cert.MbRefIdeal.τ).loc Cert.MbRefIdeal.main_arg3) = m ((c.tc : Thread Cert.MbIdeal.nD Cert.MbIdeal.τ).loc Cert.MbIdeal.main_arg3)
      ∧ m' ((c.tc : Thread Cert.MbRefIdeal.nD Cert.MbRefIdeal.τ).loc Cert.MbRefIdeal.main_arg4) = m ((c.tc : Thread Cert.MbIdeal.nD Cert.MbIdeal.τ).loc Cert.MbIdeal.main_arg4)) →
    ∃ (v0 : (c : Dev Cert.MbIdeal.nD) → Buf (Elt Ideal) ((c.tc : Thread Cert.MbIdeal.nD Cert.MbIdeal.τ).loc Cert.MbIdeal.main_v0_0)) (v1 : (c : Dev Cert.MbIdeal.nD) → Buf (Elt Ideal) ((c.tc : Thread Cert.MbIdeal.nD Cert.MbIdeal.τ).loc Cert.MbIdeal.main_v0_1)),
      θ_run (Cert.MbIdeal.defs (F := Ideal)) (onTc (τ := Cert.MbIdeal.τ) (Cert.MbIdeal.main (F := Ideal))) ⟨m, fun _ => 0, g⟩ (fun r => ∀ c : Dev Cert.MbIdeal.nD,
          r.2.mem ((c.tc : Thread Cert.MbIdeal.nD Cert.MbIdeal.τ).loc Cert.MbIdeal.main_v0_0) = v0 c
          ∧ r.2.mem ((c.tc : Thread Cert.MbIdeal.nD Cert.MbIdeal.τ).loc Cert.MbIdeal.main_v0_1) = v1 c
          ∧ r.2.mem ((c.tc : Thread Cert.MbIdeal.nD Cert.MbIdeal.τ).loc Cert.MbIdeal.main_arg0) = m ((c.tc : Thread Cert.MbIdeal.nD Cert.MbIdeal.τ).loc Cert.MbIdeal.main_arg0)
          ∧ r.2.mem ((c.tc : Thread Cert.MbIdeal.nD Cert.MbIdeal.τ).loc Cert.MbIdeal.main_arg1) = m ((c.tc : Thread Cert.MbIdeal.nD Cert.MbIdeal.τ).loc Cert.MbIdeal.main_arg1)
          ∧ r.2.mem ((c.tc : Thread Cert.MbIdeal.nD Cert.MbIdeal.τ).loc Cert.MbIdeal.main_arg2) = m ((c.tc : Thread Cert.MbIdeal.nD Cert.MbIdeal.τ).loc Cert.MbIdeal.main_arg2)
          ∧ r.2.mem ((c.tc : Thread Cert.MbIdeal.nD Cert.MbIdeal.τ).loc Cert.MbIdeal.main_arg3) = m ((c.tc : Thread Cert.MbIdeal.nD Cert.MbIdeal.τ).loc Cert.MbIdeal.main_arg3)
          ∧ r.2.mem ((c.tc : Thread Cert.MbIdeal.nD Cert.MbIdeal.τ).loc Cert.MbIdeal.main_arg4) = m ((c.tc : Thread Cert.MbIdeal.nD Cert.MbIdeal.τ).loc Cert.MbIdeal.main_arg4))
      ∧ θ_run (Cert.MbRefIdeal.defs (F := Ideal)) (onTc (τ := Cert.MbRefIdeal.τ) (Cert.MbRefIdeal.main (F := Ideal))) ⟨m', fun _ => 0, g'⟩ (fun r => ∀ c : Dev Cert.MbRefIdeal.nD,
          r.2.mem ((c.tc : Thread Cert.MbRefIdeal.nD Cert.MbRefIdeal.τ).loc Cert.MbRefIdeal.main_v20) = v0 c
          ∧ r.2.mem ((c.tc : Thread Cert.MbRefIdeal.nD Cert.MbRefIdeal.τ).loc Cert.MbRefIdeal.main_v21) = v1 c
          ∧ r.2.mem ((c.tc : Thread Cert.MbRefIdeal.nD Cert.MbRefIdeal.τ).loc Cert.MbRefIdeal.main_arg0) = m' ((c.tc : Thread Cert.MbRefIdeal.nD Cert.MbRefIdeal.τ).loc Cert.MbRefIdeal.main_arg0)
          ∧ r.2.mem ((c.tc : Thread Cert.MbRefIdeal.nD Cert.MbRefIdeal.τ).loc Cert.MbRefIdeal.main_arg1) = m' ((c.tc : Thread Cert.MbRefIdeal.nD Cert.MbRefIdeal.τ).loc Cert.MbRefIdeal.main_arg1)
          ∧ r.2.mem ((c.tc : Thread Cert.MbRefIdeal.nD Cert.MbRefIdeal.τ).loc Cert.MbRefIdeal.main_arg2) = m' ((c.tc : Thread Cert.MbRefIdeal.nD Cert.MbRefIdeal.τ).loc Cert.MbRefIdeal.main_arg2)
          ∧ r.2.mem ((c.tc : Thread Cert.MbRefIdeal.nD Cert.MbRefIdeal.τ).loc Cert.MbRefIdeal.main_arg3) = m' ((c.tc : Thread Cert.MbRefIdeal.nD Cert.MbRefIdeal.τ).loc Cert.MbRefIdeal.main_arg3)
          ∧ r.2.mem ((c.tc : Thread Cert.MbRefIdeal.nD Cert.MbRefIdeal.τ).loc Cert.MbRefIdeal.main_arg4) = m' ((c.tc : Thread Cert.MbRefIdeal.nD Cert.MbRefIdeal.τ).loc Cert.MbRefIdeal.main_arg4))

def preserves_Lh_LhIdeal : Prop :=
  True

def algebraic_LhIdeal_LhRefIdeal [hLhIdeal : Cert.LhIdeal.Facts] [hLhRefIdeal : Cert.LhRefIdeal.Facts] : Prop :=
  ∀ (m : (ℓ : Loc Cert.LhIdeal.nD Cert.LhIdeal.τ Cert.LhIdeal.sig) → Buf (Elt Ideal) ℓ) (g : Dev Cert.LhIdeal.nD → PrngReg)
    (m' : (ℓ : Loc Cert.LhRefIdeal.nD Cert.LhRefIdeal.τ Cert.LhRefIdeal.sig) → Buf (Elt Ideal) ℓ) (g' : Dev Cert.LhRefIdeal.nD → PrngReg), Pre_LhIdeal m →
    (∀ c : Dev Cert.LhIdeal.nD,
      m' ((c.tc : Thread Cert.LhRefIdeal.nD Cert.LhRefIdeal.τ).loc Cert.LhRefIdeal.main_arg0) = m ((c.tc : Thread Cert.LhIdeal.nD Cert.LhIdeal.τ).loc Cert.LhIdeal.main_arg0)
      ∧ m' ((c.tc : Thread Cert.LhRefIdeal.nD Cert.LhRefIdeal.τ).loc Cert.LhRefIdeal.main_arg1) = m ((c.tc : Thread Cert.LhIdeal.nD Cert.LhIdeal.τ).loc Cert.LhIdeal.main_arg1)) →
    ∃ (v0 : (c : Dev Cert.LhIdeal.nD) → Buf (Elt Ideal) ((c.tc : Thread Cert.LhIdeal.nD Cert.LhIdeal.τ).loc Cert.LhIdeal.main_v0_0)) (v1 : (c : Dev Cert.LhIdeal.nD) → Buf (Elt Ideal) ((c.tc : Thread Cert.LhIdeal.nD Cert.LhIdeal.τ).loc Cert.LhIdeal.main_v0_1)),
      θ_run (Cert.LhIdeal.defs (F := Ideal)) (onTc (τ := Cert.LhIdeal.τ) (Cert.LhIdeal.main (F := Ideal))) ⟨m, fun _ => 0, g⟩ (fun r => ∀ c : Dev Cert.LhIdeal.nD,
          r.2.mem ((c.tc : Thread Cert.LhIdeal.nD Cert.LhIdeal.τ).loc Cert.LhIdeal.main_v0_0) = v0 c
          ∧ r.2.mem ((c.tc : Thread Cert.LhIdeal.nD Cert.LhIdeal.τ).loc Cert.LhIdeal.main_v0_1) = v1 c
          ∧ r.2.mem ((c.tc : Thread Cert.LhIdeal.nD Cert.LhIdeal.τ).loc Cert.LhIdeal.main_arg0) = m ((c.tc : Thread Cert.LhIdeal.nD Cert.LhIdeal.τ).loc Cert.LhIdeal.main_arg0)
          ∧ r.2.mem ((c.tc : Thread Cert.LhIdeal.nD Cert.LhIdeal.τ).loc Cert.LhIdeal.main_arg1) = m ((c.tc : Thread Cert.LhIdeal.nD Cert.LhIdeal.τ).loc Cert.LhIdeal.main_arg1))
      ∧ θ_run (Cert.LhRefIdeal.defs (F := Ideal)) (onTc (τ := Cert.LhRefIdeal.τ) (Cert.LhRefIdeal.main (F := Ideal))) ⟨m', fun _ => 0, g'⟩ (fun r => ∀ c : Dev Cert.LhRefIdeal.nD,
          r.2.mem ((c.tc : Thread Cert.LhRefIdeal.nD Cert.LhRefIdeal.τ).loc Cert.LhRefIdeal.main_v9) = v0 c
          ∧ r.2.mem ((c.tc : Thread Cert.LhRefIdeal.nD Cert.LhRefIdeal.τ).loc Cert.LhRefIdeal.main_v15) = v1 c
          ∧ r.2.mem ((c.tc : Thread Cert.LhRefIdeal.nD Cert.LhRefIdeal.τ).loc Cert.LhRefIdeal.main_arg0) = m' ((c.tc : Thread Cert.LhRefIdeal.nD Cert.LhRefIdeal.τ).loc Cert.LhRefIdeal.main_arg0)
          ∧ r.2.mem ((c.tc : Thread Cert.LhRefIdeal.nD Cert.LhRefIdeal.τ).loc Cert.LhRefIdeal.main_arg1) = m' ((c.tc : Thread Cert.LhRefIdeal.nD Cert.LhRefIdeal.τ).loc Cert.LhRefIdeal.main_arg1))

def preserves_Ba_BaIdeal : Prop :=
  True

def algebraic_BaIdeal_BaRefIdeal [hBaIdeal : Cert.BaIdeal.Facts] [hBaRefIdeal : Cert.BaRefIdeal.Facts] : Prop :=
  ∀ (m : (ℓ : Loc Cert.BaIdeal.nD Cert.BaIdeal.τ Cert.BaIdeal.sig) → Buf (Elt Ideal) ℓ) (g : Dev Cert.BaIdeal.nD → PrngReg)
    (m' : (ℓ : Loc Cert.BaRefIdeal.nD Cert.BaRefIdeal.τ Cert.BaRefIdeal.sig) → Buf (Elt Ideal) ℓ) (g' : Dev Cert.BaRefIdeal.nD → PrngReg), Pre_BaIdeal m →
    (∀ c : Dev Cert.BaIdeal.nD,
      m' ((c.tc : Thread Cert.BaRefIdeal.nD Cert.BaRefIdeal.τ).loc Cert.BaRefIdeal.main_arg0) = m ((c.tc : Thread Cert.BaIdeal.nD Cert.BaIdeal.τ).loc Cert.BaIdeal.main_arg0)
      ∧ m' ((c.tc : Thread Cert.BaRefIdeal.nD Cert.BaRefIdeal.τ).loc Cert.BaRefIdeal.main_arg1) = m ((c.tc : Thread Cert.BaIdeal.nD Cert.BaIdeal.τ).loc Cert.BaIdeal.main_arg1)
      ∧ m' ((c.tc : Thread Cert.BaRefIdeal.nD Cert.BaRefIdeal.τ).loc Cert.BaRefIdeal.main_arg2) = m ((c.tc : Thread Cert.BaIdeal.nD Cert.BaIdeal.τ).loc Cert.BaIdeal.main_arg2)
      ∧ m' ((c.tc : Thread Cert.BaRefIdeal.nD Cert.BaRefIdeal.τ).loc Cert.BaRefIdeal.main_arg3) = m ((c.tc : Thread Cert.BaIdeal.nD Cert.BaIdeal.τ).loc Cert.BaIdeal.main_arg3)
      ∧ m' ((c.tc : Thread Cert.BaRefIdeal.nD Cert.BaRefIdeal.τ).loc Cert.BaRefIdeal.main_arg4) = m ((c.tc : Thread Cert.BaIdeal.nD Cert.BaIdeal.τ).loc Cert.BaIdeal.main_arg4)) →
    ∃ (v0 : (c : Dev Cert.BaIdeal.nD) → Buf (Elt Ideal) ((c.tc : Thread Cert.BaIdeal.nD Cert.BaIdeal.τ).loc Cert.BaIdeal.main_v2)),
      θ_run (Cert.BaIdeal.defs (F := Ideal)) (onTc (τ := Cert.BaIdeal.τ) (Cert.BaIdeal.main (F := Ideal))) ⟨m, fun _ => 0, g⟩ (fun r => ∀ c : Dev Cert.BaIdeal.nD,
          r.2.mem ((c.tc : Thread Cert.BaIdeal.nD Cert.BaIdeal.τ).loc Cert.BaIdeal.main_v2) = v0 c
          ∧ r.2.mem ((c.tc : Thread Cert.BaIdeal.nD Cert.BaIdeal.τ).loc Cert.BaIdeal.main_arg0) = m ((c.tc : Thread Cert.BaIdeal.nD Cert.BaIdeal.τ).loc Cert.BaIdeal.main_arg0)
          ∧ r.2.mem ((c.tc : Thread Cert.BaIdeal.nD Cert.BaIdeal.τ).loc Cert.BaIdeal.main_arg1) = m ((c.tc : Thread Cert.BaIdeal.nD Cert.BaIdeal.τ).loc Cert.BaIdeal.main_arg1)
          ∧ r.2.mem ((c.tc : Thread Cert.BaIdeal.nD Cert.BaIdeal.τ).loc Cert.BaIdeal.main_arg2) = m ((c.tc : Thread Cert.BaIdeal.nD Cert.BaIdeal.τ).loc Cert.BaIdeal.main_arg2)
          ∧ r.2.mem ((c.tc : Thread Cert.BaIdeal.nD Cert.BaIdeal.τ).loc Cert.BaIdeal.main_arg3) = m ((c.tc : Thread Cert.BaIdeal.nD Cert.BaIdeal.τ).loc Cert.BaIdeal.main_arg3)
          ∧ r.2.mem ((c.tc : Thread Cert.BaIdeal.nD Cert.BaIdeal.τ).loc Cert.BaIdeal.main_arg4) = m ((c.tc : Thread Cert.BaIdeal.nD Cert.BaIdeal.τ).loc Cert.BaIdeal.main_arg4))
      ∧ θ_run (Cert.BaRefIdeal.defs (F := Ideal)) (onTc (τ := Cert.BaRefIdeal.τ) (Cert.BaRefIdeal.main (F := Ideal))) ⟨m', fun _ => 0, g'⟩ (fun r => ∀ c : Dev Cert.BaRefIdeal.nD,
          r.2.mem ((c.tc : Thread Cert.BaRefIdeal.nD Cert.BaRefIdeal.τ).loc Cert.BaRefIdeal.main_v47) = v0 c
          ∧ r.2.mem ((c.tc : Thread Cert.BaRefIdeal.nD Cert.BaRefIdeal.τ).loc Cert.BaRefIdeal.main_arg0) = m' ((c.tc : Thread Cert.BaRefIdeal.nD Cert.BaRefIdeal.τ).loc Cert.BaRefIdeal.main_arg0)
          ∧ r.2.mem ((c.tc : Thread Cert.BaRefIdeal.nD Cert.BaRefIdeal.τ).loc Cert.BaRefIdeal.main_arg1) = m' ((c.tc : Thread Cert.BaRefIdeal.nD Cert.BaRefIdeal.τ).loc Cert.BaRefIdeal.main_arg1)
          ∧ r.2.mem ((c.tc : Thread Cert.BaRefIdeal.nD Cert.BaRefIdeal.τ).loc Cert.BaRefIdeal.main_arg2) = m' ((c.tc : Thread Cert.BaRefIdeal.nD Cert.BaRefIdeal.τ).loc Cert.BaRefIdeal.main_arg2)
          ∧ r.2.mem ((c.tc : Thread Cert.BaRefIdeal.nD Cert.BaRefIdeal.τ).loc Cert.BaRefIdeal.main_arg3) = m' ((c.tc : Thread Cert.BaRefIdeal.nD Cert.BaRefIdeal.τ).loc Cert.BaRefIdeal.main_arg3)
          ∧ r.2.mem ((c.tc : Thread Cert.BaRefIdeal.nD Cert.BaRefIdeal.τ).loc Cert.BaRefIdeal.main_arg4) = m' ((c.tc : Thread Cert.BaRefIdeal.nD Cert.BaRefIdeal.τ).loc Cert.BaRefIdeal.main_arg4))

def preserves_Af_AfIdeal : Prop :=
  True

def algebraic_AfIdeal_AfRefIdeal [hAfIdeal : Cert.AfIdeal.Facts] [hAfRefIdeal : Cert.AfRefIdeal.Facts] : Prop :=
  ∀ (m : (ℓ : Loc Cert.AfIdeal.nD Cert.AfIdeal.τ Cert.AfIdeal.sig) → Buf (Elt Ideal) ℓ) (g : Dev Cert.AfIdeal.nD → PrngReg)
    (m' : (ℓ : Loc Cert.AfRefIdeal.nD Cert.AfRefIdeal.τ Cert.AfRefIdeal.sig) → Buf (Elt Ideal) ℓ) (g' : Dev Cert.AfRefIdeal.nD → PrngReg), Pre_AfIdeal m →
    (∀ c : Dev Cert.AfIdeal.nD,
      m' ((c.tc : Thread Cert.AfRefIdeal.nD Cert.AfRefIdeal.τ).loc Cert.AfRefIdeal.main_arg0) = m ((c.tc : Thread Cert.AfIdeal.nD Cert.AfIdeal.τ).loc Cert.AfIdeal.main_arg0)
      ∧ m' ((c.tc : Thread Cert.AfRefIdeal.nD Cert.AfRefIdeal.τ).loc Cert.AfRefIdeal.main_arg1) = m ((c.tc : Thread Cert.AfIdeal.nD Cert.AfIdeal.τ).loc Cert.AfIdeal.main_arg1)
      ∧ m' ((c.tc : Thread Cert.AfRefIdeal.nD Cert.AfRefIdeal.τ).loc Cert.AfRefIdeal.main_arg2) = m ((c.tc : Thread Cert.AfIdeal.nD Cert.AfIdeal.τ).loc Cert.AfIdeal.main_arg2)
      ∧ m' ((c.tc : Thread Cert.AfRefIdeal.nD Cert.AfRefIdeal.τ).loc Cert.AfRefIdeal.main_arg3) = m ((c.tc : Thread Cert.AfIdeal.nD Cert.AfIdeal.τ).loc Cert.AfIdeal.main_arg3)) →
    ∃ (v0 : (c : Dev Cert.AfIdeal.nD) → Buf (Elt Ideal) ((c.tc : Thread Cert.AfIdeal.nD Cert.AfIdeal.τ).loc Cert.AfIdeal.main_v0_0)) (v1 : (c : Dev Cert.AfIdeal.nD) → Buf (Elt Ideal) ((c.tc : Thread Cert.AfIdeal.nD Cert.AfIdeal.τ).loc Cert.AfIdeal.main_v0_1)) (v2 : (c : Dev Cert.AfIdeal.nD) → Buf (Elt Ideal) ((c.tc : Thread Cert.AfIdeal.nD Cert.AfIdeal.τ).loc Cert.AfIdeal.main_v0_2)),
      θ_run (Cert.AfIdeal.defs (F := Ideal)) (onTc (τ := Cert.AfIdeal.τ) (Cert.AfIdeal.main (F := Ideal))) ⟨m, fun _ => 0, g⟩ (fun r => ∀ c : Dev Cert.AfIdeal.nD,
          r.2.mem ((c.tc : Thread Cert.AfIdeal.nD Cert.AfIdeal.τ).loc Cert.AfIdeal.main_v0_0) = v0 c
          ∧ r.2.mem ((c.tc : Thread Cert.AfIdeal.nD Cert.AfIdeal.τ).loc Cert.AfIdeal.main_v0_1) = v1 c
          ∧ r.2.mem ((c.tc : Thread Cert.AfIdeal.nD Cert.AfIdeal.τ).loc Cert.AfIdeal.main_v0_2) = v2 c
          ∧ r.2.mem ((c.tc : Thread Cert.AfIdeal.nD Cert.AfIdeal.τ).loc Cert.AfIdeal.main_arg0) = m ((c.tc : Thread Cert.AfIdeal.nD Cert.AfIdeal.τ).loc Cert.AfIdeal.main_arg0)
          ∧ r.2.mem ((c.tc : Thread Cert.AfIdeal.nD Cert.AfIdeal.τ).loc Cert.AfIdeal.main_arg1) = m ((c.tc : Thread Cert.AfIdeal.nD Cert.AfIdeal.τ).loc Cert.AfIdeal.main_arg1)
          ∧ r.2.mem ((c.tc : Thread Cert.AfIdeal.nD Cert.AfIdeal.τ).loc Cert.AfIdeal.main_arg2) = m ((c.tc : Thread Cert.AfIdeal.nD Cert.AfIdeal.τ).loc Cert.AfIdeal.main_arg2)
          ∧ r.2.mem ((c.tc : Thread Cert.AfIdeal.nD Cert.AfIdeal.τ).loc Cert.AfIdeal.main_arg3) = m ((c.tc : Thread Cert.AfIdeal.nD Cert.AfIdeal.τ).loc Cert.AfIdeal.main_arg3))
      ∧ θ_run (Cert.AfRefIdeal.defs (F := Ideal)) (onTc (τ := Cert.AfRefIdeal.τ) (Cert.AfRefIdeal.main (F := Ideal))) ⟨m', fun _ => 0, g'⟩ (fun r => ∀ c : Dev Cert.AfRefIdeal.nD,
          r.2.mem ((c.tc : Thread Cert.AfRefIdeal.nD Cert.AfRefIdeal.τ).loc Cert.AfRefIdeal.main_v23) = v0 c
          ∧ r.2.mem ((c.tc : Thread Cert.AfRefIdeal.nD Cert.AfRefIdeal.τ).loc Cert.AfRefIdeal.main_v4) = v1 c
          ∧ r.2.mem ((c.tc : Thread Cert.AfRefIdeal.nD Cert.AfRefIdeal.τ).loc Cert.AfRefIdeal.main_v10) = v2 c
          ∧ r.2.mem ((c.tc : Thread Cert.AfRefIdeal.nD Cert.AfRefIdeal.τ).loc Cert.AfRefIdeal.main_arg0) = m' ((c.tc : Thread Cert.AfRefIdeal.nD Cert.AfRefIdeal.τ).loc Cert.AfRefIdeal.main_arg0)
          ∧ r.2.mem ((c.tc : Thread Cert.AfRefIdeal.nD Cert.AfRefIdeal.τ).loc Cert.AfRefIdeal.main_arg1) = m' ((c.tc : Thread Cert.AfRefIdeal.nD Cert.AfRefIdeal.τ).loc Cert.AfRefIdeal.main_arg1)
          ∧ r.2.mem ((c.tc : Thread Cert.AfRefIdeal.nD Cert.AfRefIdeal.τ).loc Cert.AfRefIdeal.main_arg2) = m' ((c.tc : Thread Cert.AfRefIdeal.nD Cert.AfRefIdeal.τ).loc Cert.AfRefIdeal.main_arg2)
          ∧ r.2.mem ((c.tc : Thread Cert.AfRefIdeal.nD Cert.AfRefIdeal.τ).loc Cert.AfRefIdeal.main_arg3) = m' ((c.tc : Thread Cert.AfRefIdeal.nD Cert.AfRefIdeal.τ).loc Cert.AfRefIdeal.main_arg3))

def Claim : Prop :=
  ∃ (hKernel : Cert.Kernel.Facts) (hKernelIdeal : Cert.KernelIdeal.Facts) (hReferenceIdeal : Cert.ReferenceIdeal.Facts) (hDh : Cert.Dh.Facts) (hDhIdeal : Cert.DhIdeal.Facts) (hDhRefIdeal : Cert.DhRefIdeal.Facts) (hDw : Cert.Dw.Facts) (hDwIdeal : Cert.DwIdeal.Facts) (hDwRefIdeal : Cert.DwRefIdeal.Facts) (hIn : Cert.In.Facts) (hInIdeal : Cert.InIdeal.Facts) (hInRefIdeal : Cert.InRefIdeal.Facts) (hOb : Cert.Ob.Facts) (hObIdeal : Cert.ObIdeal.Facts) (hObRefIdeal : Cert.ObRefIdeal.Facts) (hMo : Cert.Mo.Facts) (hMoIdeal : Cert.MoIdeal.Facts) (hMoRefIdeal : Cert.MoRefIdeal.Facts) (hTn : Cert.Tn.Facts) (hTnIdeal : Cert.TnIdeal.Facts) (hTnRefIdeal : Cert.TnRefIdeal.Facts) (hKv : Cert.Kv.Facts) (hKvIdeal : Cert.KvIdeal.Facts) (hKvRefIdeal : Cert.KvRefIdeal.Facts) (hMb : Cert.Mb.Facts) (hMbIdeal : Cert.MbIdeal.Facts) (hMbRefIdeal : Cert.MbRefIdeal.Facts) (hLh : Cert.Lh.Facts) (hLhIdeal : Cert.LhIdeal.Facts) (hLhRefIdeal : Cert.LhRefIdeal.Facts) (hBa : Cert.Ba.Facts) (hBaIdeal : Cert.BaIdeal.Facts) (hBaRefIdeal : Cert.BaRefIdeal.Facts) (hAf : Cert.Af.Facts) (hAfIdeal : Cert.AfIdeal.Facts) (hAfRefIdeal : Cert.AfRefIdeal.Facts) (hPre_finite_c : Cert.Pre_finite_c.Facts),
    quiescent_Kernel (hKernel := hKernel) (hPre_finite_c := hPre_finite_c)
    ∧ quiescent_KernelIdeal (hKernelIdeal := hKernelIdeal) (hPre_finite_c := hPre_finite_c)
    ∧ quiescent_ReferenceIdeal (hReferenceIdeal := hReferenceIdeal) (hPre_finite_c := hPre_finite_c)
    ∧ quiescent_Dh (hDh := hDh)
    ∧ quiescent_DhIdeal (hDhIdeal := hDhIdeal)
    ∧ quiescent_DhRefIdeal (hDhRefIdeal := hDhRefIdeal)
    ∧ quiescent_Dw (hDw := hDw)
    ∧ quiescent_DwIdeal (hDwIdeal := hDwIdeal)
    ∧ quiescent_DwRefIdeal (hDwRefIdeal := hDwRefIdeal)
    ∧ quiescent_In (hIn := hIn)
    ∧ quiescent_InIdeal (hInIdeal := hInIdeal)
    ∧ quiescent_InRefIdeal (hInRefIdeal := hInRefIdeal)
    ∧ quiescent_Ob (hOb := hOb)
    ∧ quiescent_ObIdeal (hObIdeal := hObIdeal)
    ∧ quiescent_ObRefIdeal (hObRefIdeal := hObRefIdeal)
    ∧ quiescent_Mo (hMo := hMo)
    ∧ quiescent_MoIdeal (hMoIdeal := hMoIdeal)
    ∧ quiescent_MoRefIdeal (hMoRefIdeal := hMoRefIdeal)
    ∧ quiescent_Tn (hTn := hTn)
    ∧ quiescent_TnIdeal (hTnIdeal := hTnIdeal)
    ∧ quiescent_TnRefIdeal (hTnRefIdeal := hTnRefIdeal)
    ∧ quiescent_Kv (hKv := hKv)
    ∧ quiescent_KvIdeal (hKvIdeal := hKvIdeal)
    ∧ quiescent_KvRefIdeal (hKvRefIdeal := hKvRefIdeal)
    ∧ quiescent_Mb (hMb := hMb)
    ∧ quiescent_MbIdeal (hMbIdeal := hMbIdeal)
    ∧ quiescent_MbRefIdeal (hMbRefIdeal := hMbRefIdeal)
    ∧ quiescent_Lh (hLh := hLh)
    ∧ quiescent_LhIdeal (hLhIdeal := hLhIdeal)
    ∧ quiescent_LhRefIdeal (hLhRefIdeal := hLhRefIdeal)
    ∧ quiescent_Ba (hBa := hBa)
    ∧ quiescent_BaIdeal (hBaIdeal := hBaIdeal)
    ∧ quiescent_BaRefIdeal (hBaRefIdeal := hBaRefIdeal)
    ∧ quiescent_Af (hAf := hAf)
    ∧ quiescent_AfIdeal (hAfIdeal := hAfIdeal)
    ∧ quiescent_AfRefIdeal (hAfRefIdeal := hAfRefIdeal)
    ∧ preserves_Kernel_KernelIdeal
    ∧ algebraic_KernelIdeal_ReferenceIdeal (hKernelIdeal := hKernelIdeal) (hReferenceIdeal := hReferenceIdeal) (hPre_finite_c := hPre_finite_c)
    ∧ preserves_Dh_DhIdeal
    ∧ algebraic_DhIdeal_DhRefIdeal (hDhIdeal := hDhIdeal) (hDhRefIdeal := hDhRefIdeal)
    ∧ preserves_Dw_DwIdeal
    ∧ algebraic_DwIdeal_DwRefIdeal (hDwIdeal := hDwIdeal) (hDwRefIdeal := hDwRefIdeal)
    ∧ preserves_In_InIdeal
    ∧ algebraic_InIdeal_InRefIdeal (hInIdeal := hInIdeal) (hInRefIdeal := hInRefIdeal)
    ∧ preserves_Ob_ObIdeal
    ∧ algebraic_ObIdeal_ObRefIdeal (hObIdeal := hObIdeal) (hObRefIdeal := hObRefIdeal)
    ∧ preserves_Mo_MoIdeal
    ∧ algebraic_MoIdeal_MoRefIdeal (hMoIdeal := hMoIdeal) (hMoRefIdeal := hMoRefIdeal)
    ∧ preserves_Tn_TnIdeal
    ∧ algebraic_TnIdeal_TnRefIdeal (hTnIdeal := hTnIdeal) (hTnRefIdeal := hTnRefIdeal)
    ∧ preserves_Kv_KvIdeal
    ∧ algebraic_KvIdeal_KvRefIdeal (hKvIdeal := hKvIdeal) (hKvRefIdeal := hKvRefIdeal)
    ∧ preserves_Mb_MbIdeal
    ∧ algebraic_MbIdeal_MbRefIdeal (hMbIdeal := hMbIdeal) (hMbRefIdeal := hMbRefIdeal)
    ∧ preserves_Lh_LhIdeal
    ∧ algebraic_LhIdeal_LhRefIdeal (hLhIdeal := hLhIdeal) (hLhRefIdeal := hLhRefIdeal)
    ∧ preserves_Ba_BaIdeal
    ∧ algebraic_BaIdeal_BaRefIdeal (hBaIdeal := hBaIdeal) (hBaRefIdeal := hBaRefIdeal)
    ∧ preserves_Af_AfIdeal
    ∧ algebraic_AfIdeal_AfRefIdeal (hAfIdeal := hAfIdeal) (hAfRefIdeal := hAfRefIdeal)
-- ==== Pre_finite_c.lean ====
abbrev S4096x10240 : Shape := ⟨2, ![4096, 10240]⟩
abbrev S256x2048 : Shape := ⟨2, ![256, 2048]⟩
abbrev S4096x1024 : Shape := ⟨2, ![4096, 1024]⟩
abbrev S10x4096x1024 : Shape := ⟨3, ![10, 4096, 1024]⟩
abbrev S_ : Shape := ⟨0, ![]⟩

class Facts : Prop where
  bitsLt_bf16_f32 : FTy.bits .bf16 < FTy.bits .f32
  bcast_S_S4096x10240 : S_.BroadcastsInDim S4096x10240 (![] : Fin 0 → Fin S4096x10240.rank)
  reducesTo_S4096x10240_S_d0_1 : S4096x10240.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x10240 .bf16) (main_arg1 : FVec F S256x2048 .bf16) (main_arg2 : FVec F S4096x1024 .bf16) (main_arg3 : FVec F S10x4096x1024 .bf16) : IVec S_ 1 :=
  let main_v0 : FVec F S4096x10240 .f32 := (extf .f32 · bitsLt_bf16_f32) main_arg0
  let main_v1 : FVec F S4096x10240 .f32 := Host.absf main_v0
  let main_cst : FVec F S_ .f32 := constant S_ .f32 0x7F800000#32
  let main_v2 : FVec F S4096x10240 .f32 := broadcastInDim S4096x10240 ![] bcast_S_S4096x10240 main_cst
  let main_v3 : IVec S4096x10240 1 := cmpf .olt main_v1 main_v2
  let main_c : IVec S_ 1 := constantI S_ 1 1#1
  let main_v4 : IVec S_ 1 := (fun x v => Host.reduce IntOp.andi x v reducesTo_S4096x10240_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Kernel.lean ====
abbrev S4096x10240 : Shape := ⟨2, ![4096, 10240]⟩
abbrev S256x2048 : Shape := ⟨2, ![256, 2048]⟩
abbrev S4096x1024 : Shape := ⟨2, ![4096, 1024]⟩
abbrev S10x4096x1024 : Shape := ⟨3, ![10, 4096, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S2x512x1024 : Shape := ⟨3, ![2, 512, 1024]⟩
abbrev S1x512x256 : Shape := ⟨3, ![1, 512, 256]⟩

abbrev nBuf : Space → Nat
  | .hbm => 8
  | .vmem => 21
  | .smem => 0
  | _ => 0

abbrev bufTy : (tb : Table) → Fin (tcTables nBuf tb) → BufTy
  | .hbm, ⟨0, _⟩ => ⟨S4096x10240, .bf16⟩
  | .hbm, ⟨1, _⟩ => ⟨S256x2048, .bf16⟩
  | .hbm, ⟨2, _⟩ => ⟨S4096x1024, .bf16⟩
  | .hbm, ⟨3, _⟩ => ⟨S10x4096x1024, .bf16⟩
  | .hbm, ⟨4, _⟩ => ⟨S4096x1024, .bf16⟩
  | .hbm, ⟨5, _⟩ => ⟨S4096x1024, .bf16⟩
  | .hbm, ⟨6, _⟩ => ⟨S10x4096x1024, .bf16⟩
  | .hbm, ⟨7, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S256x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S2x512x1024, .bf16⟩
  | .local _ .vmem, ⟨19, _⟩ => ⟨S2x512x1024, .bf16⟩
  | .local _ .vmem, ⟨20, _⟩ => ⟨S256x2048, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_1 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S4096x10240 : Shape := ⟨2, ![4096, 10240]⟩
abbrev S256x2048 : Shape := ⟨2, ![256, 2048]⟩
abbrev S4096x1024 : Shape := ⟨2, ![4096, 1024]⟩
abbrev S10x4096x1024 : Shape := ⟨3, ![10, 4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S8x4096x1024 : Shape := ⟨3, ![8, 4096, 1024]⟩
abbrev S1x4096x1024 : Shape := ⟨3, ![1, 4096, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S256x2048, .bf16⟩
  | .hbm, ⟨2, _⟩ => ⟨S4096x1024, .bf16⟩
  | .hbm, ⟨3, _⟩ => ⟨S10x4096x1024, .bf16⟩
  | .hbm, ⟨4, _⟩ => ⟨S4096x10240, .f32⟩
  | .hbm, ⟨5, _⟩ => ⟨S4096x1024, .f32⟩
  | .hbm, ⟨6, _⟩ => ⟨S4096x1024, .f32⟩
  | .hbm, ⟨7, _⟩ => ⟨S256x2048, .f32⟩
  | .hbm, ⟨8, _⟩ => ⟨S256x1024, .f32⟩
  | .hbm, ⟨9, _⟩ => ⟨S256x1024, .f32⟩
  | .hbm, ⟨10, _⟩ => ⟨S4096x4x256, .f32⟩
  | .hbm, ⟨11, _⟩ => ⟨S256x4x256, .f32⟩
  | .hbm, ⟨12, _⟩ => ⟨S256x4x256, .f32⟩
  | .hbm, ⟨13, _⟩ => ⟨S4x4096x256, .f32⟩
  | .hbm, ⟨14, _⟩ => ⟨S_, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .i1⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S4x4096, .i1⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S4x4096, .f32⟩
  | .hbm, ⟨42, _⟩ => ⟨S4x4096x1, .f32⟩
  | .hbm, ⟨43, _⟩ => ⟨S4x4096x256, .f32⟩
  | .hbm, ⟨44, _⟩ => ⟨S4x4096x256, .f32⟩
  | .hbm, ⟨45, _⟩ => ⟨S4x4096x256, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x256, .f32⟩
  | .hbm, ⟨50, _⟩ => ⟨S4x4096x256, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x256x4096, .f32⟩
  | .hbm, ⟨56, _⟩ => ⟨S4096x4x256, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x4x256, .f32⟩
  | .hbm, ⟨80, _⟩ => ⟨S4x256x4096, .f32⟩
  | .hbm, ⟨81, _⟩ => ⟨S4x4096x256, .f32⟩
  | .hbm, ⟨82, _⟩ => ⟨S4x256x256, .f32⟩
  | .hbm, ⟨83, _⟩ => ⟨S256x4x256, .f32⟩
  | .hbm, ⟨84, _⟩ => ⟨S4x4096x256, .f32⟩
  | .hbm, ⟨85, _⟩ => ⟨S4x4096x256, .f32⟩
  | .hbm, ⟨86, _⟩ => ⟨S4x4096x256, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S4x4096x1, .f32⟩
  | .hbm, ⟨91, _⟩ => ⟨S4x4096x256, .f32⟩
  | .hbm, ⟨92, _⟩ => ⟨S4x4096x256, .f32⟩
  | .hbm, ⟨93, _⟩ => ⟨S_, .f32⟩
  | .hbm, ⟨94, _⟩ => ⟨S4x4096, .f32⟩
  | .hbm, ⟨95, _⟩ => ⟨S4x4096x256, .f32⟩
  | .hbm, ⟨96, _⟩ => ⟨S4x4096x256, .f32⟩
  | .hbm, ⟨97, _⟩ => ⟨S4x4096x256, .f32⟩
  | .hbm, ⟨98, _⟩ => ⟨S_, .f32⟩
  | .hbm, ⟨99, _⟩ => ⟨S4x4096x256, .f32⟩
  | .hbm, ⟨100, _⟩ => ⟨S4x4096x256, .f32⟩
  | .hbm, ⟨101, _⟩ => ⟨S4x256x256, .f32⟩
  | .hbm, ⟨102, _⟩ => ⟨S256x4x256, .f32⟩
  | .hbm, ⟨103, _⟩ => ⟨S4x4096x256, .f32⟩
  | .hbm, ⟨104, _⟩ => ⟨S4096x4x256, .f32⟩
  | .hbm, ⟨105, _⟩ => ⟨S256x1024, .f32⟩
  | .hbm, ⟨106, _⟩ => ⟨S256x1024, .f32⟩
  | .hbm, ⟨107, _⟩ => ⟨S4096x1024, .f32⟩
  | .hbm, ⟨108, _⟩ => ⟨S256x2048, .f32⟩
  | .hbm, ⟨109, _⟩ => ⟨S10x4096x1024, .f32⟩
  | .hbm, ⟨110, _⟩ => ⟨S8x4096x1024, .f32⟩
  | .hbm, ⟨111, _⟩ => ⟨S1x4096x1024, .f32⟩
  | .hbm, ⟨112, _⟩ => ⟨S1x4096x1024, .f32⟩
  | .hbm, ⟨113, _⟩ => ⟨S10x4096x1024, .f32⟩
  | .hbm, ⟨114, _⟩ => ⟨S4096x1024, .bf16⟩
  | .hbm, ⟨115, _⟩ => ⟨S10x4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v43_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v43_1 : Ref sig .tc := ⟨.hbm, 69, rfl⟩
abbrev main_v43_0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Dh.lean ====
abbrev S10x4096x1024 : Shape := ⟨3, ![10, 4096, 1024]⟩
abbrev S1024x10240 : Shape := ⟨2, ![1024, 10240]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S10x4096x1024, .bf16⟩
  | .hbm, ⟨1, _⟩ => ⟨S1024x10240, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S10x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 10], ![false, false]⟩

def k0_cond3 (i : grid0.Coords) : BitVec 1 :=
  let arg1 : BitVec 32 := BitVec.ofNat 32 (i 1).val
  let c9_i32 : BitVec 32 := 9#32
  let v10 : BitVec 1 := Scalar.cmpi .eq arg1 c9_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg0 : BitVec 32 := BitVec.ofNat 32 (i 0).val
  let c0_i32_22 : BitVec 32 := 0#32
  let v43 : BitVec 1 := Scalar.cmpi .eq arg0 c0_i32_22
  let v49 : BitVec 32 := Scalar.extui v43
  let c0_i32_24 : BitVec 32 := 0#32
  let v50 : BitVec 1 := Scalar.cmpi .ne v49 c0_i32_24
  v50

def k0_cond5 (i : grid0.Coords) : BitVec 1 :=
  let arg0 : BitVec 32 := BitVec.ofNat 32 (i 0).val
  let c0_i32_22 : BitVec 32 := 0#32
  let v43 : BitVec 1 := Scalar.cmpi .eq arg0 c0_i32_22
  let true_25 : BitVec 1 := 1#1
  let v51 : BitVec 1 := Scalar.xori v43 true_25
  let v52 : BitVec 32 := Scalar.extui v51
  let c0_i32_26 : BitVec 32 := 0#32
  let v53 : BitVec 1 := Scalar.cmpi .ne v52 c0_i32_26
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c6_i32 : BitVec 32 := 6#32
  let v1 : BitVec 1 := Scalar.cmpi .slt arg1 c6_i32
  let c4_i32 : BitVec 32 := 4#32
  let v2 : BitVec 32 := Scalar.addi arg1 c4_i32
  let c3_i32_0 : BitVec 32 := 3#32
  let v3 : BitVec 32 := Scalar.subi arg1 c3_i32_0
  let v4 : BitVec 32 := Scalar.select v1 v2 v3
  let v5 : BitVec 32 := Scalar.select v0 arg1 v4
  let c0_i32 : BitVec 32 := 0#32
  let c0_i32_1 : BitVec 32 := 0#32
  ![c0_i32.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DhRefIdeal.lean ====
abbrev S10x4096x1024 : Shape := ⟨3, ![10, 4096, 1024]⟩
abbrev S1024x10240 : Shape := ⟨2, ![1024, 10240]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x10240 : Shape := ⟨2, ![4096, 10240]⟩
abbrev S1x4096x1024 : Shape := ⟨3, ![1, 4096, 1024]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S10x4096x1024, .bf16⟩
  | .hbm, ⟨1, _⟩ => ⟨S1024x10240, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x10240, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x10240, .f32⟩
  | .hbm, ⟨26, _⟩ => ⟨S10x4096x1024, .f32⟩
  | .hbm, ⟨27, _⟩ => ⟨S1x4096x1024, .f32⟩
  | .hbm, ⟨28, _⟩ => ⟨S4096x1024, .f32⟩
  | .hbm, ⟨29, _⟩ => ⟨S1x4096x1024, .f32⟩
  | .hbm, ⟨30, _⟩ => ⟨S4096x1024, .f32⟩
  | .hbm, ⟨31, _⟩ => ⟨S1x4096x1024, .f32⟩
  | .hbm, ⟨32, _⟩ => ⟨S4096x1024, .f32⟩
  | .hbm, ⟨33, _⟩ => ⟨S1x4096x1024, .f32⟩
  | .hbm, ⟨34, _⟩ => ⟨S4096x1024, .f32⟩
  | .hbm, ⟨35, _⟩ => ⟨S1x4096x1024, .f32⟩
  | .hbm, ⟨36, _⟩ => ⟨S4096x1024, .f32⟩
  | .hbm, ⟨37, _⟩ => ⟨S1x4096x1024, .f32⟩
  | .hbm, ⟨38, _⟩ => ⟨S4096x1024, .f32⟩
  | .hbm, ⟨39, _⟩ => ⟨S1x4096x1024, .f32⟩
  | .hbm, ⟨40, _⟩ => ⟨S4096x1024, .f32⟩
  | .hbm, ⟨41, _⟩ => ⟨S1x4096x1024, .f32⟩
  | .hbm, ⟨42, _⟩ => ⟨S4096x1024, .f32⟩
  | .hbm, ⟨43, _⟩ => ⟨S1x4096x1024, .f32⟩
  | .hbm, ⟨44, _⟩ => ⟨S4096x1024, .f32⟩
  | .hbm, ⟨45, _⟩ => ⟨S1x4096x1024, .f32⟩
  | .hbm, ⟨46, _⟩ => ⟨S4096x1024, .f32⟩
  | .hbm, ⟨47, _⟩ => ⟨S4096x10240, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | _, _ => ⟨S10x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Dw.lean ====
abbrev S4096x1024 : Shape := ⟨2, ![4096, 1024]⟩
abbrev S1x1024 : Shape := ⟨2, ![1, 1024]⟩
abbrev S10x4096x1024 : Shape := ⟨3, ![10, 4096, 1024]⟩
abbrev S_ : Shape := ⟨0, ![]⟩
abbrev S4096 : Shape := ⟨1, ![4096]⟩
abbrev S4096x1 : Shape := ⟨2, ![4096, 1]⟩
abbrev S1024x10240 : Shape := ⟨2, ![1024, 10240]⟩
abbrev S1x4096x1024 : Shape := ⟨3, ![1, 4096, 1024]⟩
abbrev S1024x1024 : Shape := ⟨2, ![1024, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S10x4096x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x10240, .bf16⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 1 := Scalar.cmpi .slt arg0 c3_i32
  let c6_i32 : BitVec 32 := 6#32
  let v1 : BitVec 1 := Scalar.cmpi .slt arg0 c6_i32
  let c4_i32 : BitVec 32 := 4#32
  let v2 : BitVec 32 := Scalar.addi arg0 c4_i32
  let c3_i32_0 : BitVec 32 := 3#32
  let v3 : BitVec 32 := Scalar.subi arg0 c3_i32_0
  let v4 : BitVec 32 := Scalar.select v1 v2 v3
  let v5 : BitVec 32 := Scalar.select v0 arg0 v4
  let c0_i32 : BitVec 32 := 0#32
  let c0_i32_1 : BitVec 32 := 0#32
  ![c0_i32.toNat, v5.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwRefIdeal.lean ====
abbrev S4096x1024 : Shape := ⟨2, ![4096, 1024]⟩
abbrev S1x1024 : Shape := ⟨2, ![1, 1024]⟩
abbrev S10x4096x1024 : Shape := ⟨3, ![10, 4096, 1024]⟩
abbrev S_ : Shape := ⟨0, ![]⟩
abbrev S4096 : Shape := ⟨1, ![4096]⟩
abbrev S4096x1 : Shape := ⟨2, ![4096, 1]⟩
abbrev S1024x10240 : Shape := ⟨2, ![1024, 10240]⟩
abbrev S4096x10240 : Shape := ⟨2, ![4096, 10240]⟩
abbrev S1x4096x1024 : Shape := ⟨3, ![1, 4096, 1024]⟩
abbrev S10240x1024 : Shape := ⟨2, ![10240, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S10x4096x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x10240, .f32⟩
  | .hbm, ⟨20, _⟩ => ⟨S4096x10240, .f32⟩
  | .hbm, ⟨21, _⟩ => ⟨S10x4096x1024, .f32⟩
  | .hbm, ⟨22, _⟩ => ⟨S1x4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S1x4096x1024, .f32⟩
  | .hbm, ⟨27, _⟩ => ⟨S4096x1024, .f32⟩
  | .hbm, ⟨28, _⟩ => ⟨S1x4096x1024, .f32⟩
  | .hbm, ⟨29, _⟩ => ⟨S4096x1024, .f32⟩
  | .hbm, ⟨30, _⟩ => ⟨S1x4096x1024, .f32⟩
  | .hbm, ⟨31, _⟩ => ⟨S4096x1024, .f32⟩
  | .hbm, ⟨32, _⟩ => ⟨S1x4096x1024, .f32⟩
  | .hbm, ⟨33, _⟩ => ⟨S4096x1024, .f32⟩
  | .hbm, ⟨34, _⟩ => ⟨S1x4096x1024, .f32⟩
  | .hbm, ⟨35, _⟩ => ⟨S4096x1024, .f32⟩
  | .hbm, ⟨36, _⟩ => ⟨S1x4096x1024, .f32⟩
  | .hbm, ⟨37, _⟩ => ⟨S4096x1024, .f32⟩
  | .hbm, ⟨38, _⟩ => ⟨S1x4096x1024, .f32⟩
  | .hbm, ⟨39, _⟩ => ⟨S4096x1024, .f32⟩
  | .hbm, ⟨40, _⟩ => ⟨S1x4096x1024, .f32⟩
  | .hbm, ⟨41, _⟩ => ⟨S4096x1024, .f32⟩
  | .hbm, ⟨42, _⟩ => ⟨S4096x10240, .f32⟩
  | .hbm, ⟨43, _⟩ => ⟨S10240x1024, .f32⟩
  | .hbm, ⟨44, _⟩ => ⟨S1024x10240, .f32⟩
  | .hbm, ⟨45, _⟩ => ⟨S1024x10240, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== In.lean ====
abbrev S4096x1024 : Shape := ⟨2, ![4096, 1024]⟩
abbrev S1x1024 : Shape := ⟨2, ![1, 1024]⟩
abbrev S1024x10240 : Shape := ⟨2, ![1024, 10240]⟩
abbrev S4096x10240 : Shape := ⟨2, ![4096, 10240]⟩
abbrev S1024x1024 : Shape := ⟨2, ![1024, 1024]⟩
abbrev S1024x2560 : Shape := ⟨2, ![1024, 2560]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x10240, .bf16⟩
  | .hbm, ⟨3, _⟩ => ⟨S4096x10240, .bf16⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .bf16⟩
  | .local _ .vmem, ⟨5, _⟩ => ⟨S1024x2560, .bf16⟩
  | .local _ .vmem, ⟨6, _⟩ => ⟨S1024x2560, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InRefIdeal.lean ====
abbrev S4096x1024 : Shape := ⟨2, ![4096, 1024]⟩
abbrev S1x1024 : Shape := ⟨2, ![1, 1024]⟩
abbrev S1024x10240 : Shape := ⟨2, ![1024, 10240]⟩
abbrev S_ : Shape := ⟨0, ![]⟩
abbrev S4096 : Shape := ⟨1, ![4096]⟩
abbrev S4096x1 : Shape := ⟨2, ![4096, 1]⟩
abbrev S4096x10240 : Shape := ⟨2, ![4096, 10240]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x10240, .bf16⟩
  | .hbm, ⟨3, _⟩ => ⟨S1024x10240, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x10240, .f32⟩
  | .hbm, ⟨20, _⟩ => ⟨S4096x10240, .bf16⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Ob.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S4x4096x1024 : Shape := ⟨3, ![4, 4096, 1024]⟩
abbrev S10x4096x1024 : Shape := ⟨3, ![10, 4096, 1024]⟩
abbrev S256x1024 : Shape := ⟨2, ![256, 1024]⟩
abbrev S4x256x1024 : Shape := ⟨3, ![4, 256, 1024]⟩
abbrev S3x256x1024 : Shape := ⟨3, ![3, 256, 1024]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩
abbrev S3x4096x1024 : Shape := ⟨3, ![3, 4096, 1024]⟩

abbrev nBuf : Space → Nat
  | .hbm => 56
  | .vmem => 29
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x10240, .bf16⟩
  | .hbm, ⟨4, _⟩ => ⟨S4x1024x1024, .bf16⟩
  | .hbm, ⟨5, _⟩ => ⟨S1x1024, .f32⟩
  | .hbm, ⟨6, _⟩ => ⟨S4096x1024, .f32⟩
  | .hbm, ⟨7, _⟩ => ⟨S4x1024x1024, .f32⟩
  | .hbm, ⟨8, _⟩ => ⟨S4096x1024, .f32⟩
  | .hbm, ⟨9, _⟩ => ⟨S1x1024x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S1x1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S1x1024x1024, .f32⟩
  | .hbm, ⟨18, _⟩ => ⟨S1024x1024, .f32⟩
  | .hbm, ⟨19, _⟩ => ⟨S4096x1024, .f32⟩
  | .hbm, ⟨20, _⟩ => ⟨S4096x10240, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S_, .f32⟩
  | .hbm, ⟨28, _⟩ => ⟨S4096x3072, .f32⟩
  | .hbm, ⟨29, _⟩ => ⟨S4096x3072, .f32⟩
  | .hbm, ⟨30, _⟩ => ⟨S4096x3x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024x1024, .f32⟩
  | .hbm, ⟨43, _⟩ => ⟨S1024x1024, .f32⟩
  | .hbm, ⟨44, _⟩ => ⟨S4096x1024, .f32⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4x4096x1024, .bf16⟩
  | .hbm, ⟨50, _⟩ => ⟨S4096x1024, .bf16⟩
  | .hbm, ⟨51, _⟩ => ⟨S4096x1024, .bf16⟩
  | .hbm, ⟨52, _⟩ => ⟨S4096x1024, .bf16⟩
  | .hbm, ⟨53, _⟩ => ⟨S10x4096x1024, .bf16⟩
  | .hbm, ⟨54, _⟩ => ⟨S1x1024, .f32⟩
  | .hbm, ⟨55, _⟩ => ⟨S3x4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S4x1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S4x256x1024, .bf16⟩
  | .local _ .vmem, ⟨19, _⟩ => ⟨S4x256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S3x256x1024, .bf16⟩
  | .local _ .vmem, ⟨27, _⟩ => ⟨S3x256x1024, .bf16⟩
  | .local _ .vmem, ⟨28, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40_0 : Ref sig .tc := ⟨.hbm, 49, rfl⟩
abbrev main_v40_1 : Ref sig .tc := ⟨.hbm, 50, rfl⟩
abbrev main_v40_2 : Ref sig .tc := ⟨.hbm, 51, rfl⟩
abbrev main_v40_3 : Ref sig .tc := ⟨.hbm, 52, rfl⟩
abbrev main_v40_4 : Ref sig .tc := ⟨.hbm, 53, rfl⟩
abbrev main_v40_5 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v35 : BitVec 32 := Scalar.extui v29
  let c0_i32_10 : BitVec 32 := 0#32
  let v36 : BitVec 1 := Scalar.cmpi .ne v35 c0_i32_10
  v36

def k0_cond2 (i : grid0.Coords) : BitVec 1 :=
  let arg0 : BitVec 32 := BitVec.ofNat 32 (i 0).val
  let c0_i32 : BitVec 32 := 0#32
  let v29 : BitVec 1 := Scalar.cmpi .eq arg0 c0_i32
  let v_true : BitVec 1 := 1#1
  let v37 : BitVec 1 := Scalar.xori v29 v_true
  let v38 : BitVec 32 := Scalar.extui v37
  let c0_i32_11 : BitVec 32 := 0#32
  let v39 : BitVec 1 := Scalar.cmpi .ne v38 c0_i32_11
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ObRefIdeal.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S4096 : Shape := ⟨1, ![4096]⟩
abbrev S4096x1 : Shape := ⟨2, ![4096, 1]⟩
abbrev S1024 : Shape := ⟨1, ![1024]⟩
abbrev S1x4096x1024 : Shape := ⟨3, ![1, 4096, 1024]⟩
abbrev S4x4096x1024 : Shape := ⟨3, ![4, 4096, 1024]⟩
abbrev S3x4096x1024 : Shape := ⟨3, ![3, 4096, 1024]⟩

abbrev nBuf : Space → Nat
  | .hbm => 131
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x10240, .bf16⟩
  | 4 => ⟨S4x1024x1024, .bf16⟩
  | 5 => ⟨S1x1024, .f32⟩
  | 6 => ⟨S4096x1024, .f32⟩
  | 7 => ⟨S4x1024x1024, .f32⟩
  | 8 => ⟨S4096x1024, .f32⟩
  | 9 => ⟨S1x1024x1024, .f32⟩
  | 10 => ⟨S1024x1024, .f32⟩
  | 11 => ⟨S4096x1024, .f32⟩
  | 12 => ⟨S4096x1024, .f32⟩
  | 13 => ⟨S1x1024x1024, .f32⟩
  | 14 => ⟨S1024x1024, .f32⟩
  | 15 => ⟨S4096x1024, .f32⟩
  | 16 => ⟨S4096x1024, .f32⟩
  | 17 => ⟨S1x1024x1024, .f32⟩
  | 18 => ⟨S1024x1024, .f32⟩
  | 19 => ⟨S4096x1024, .f32⟩
  | 20 => ⟨S4096x10240, .f32⟩
  | 21 => ⟨S4096x3072, .f32⟩
  | 22 => ⟨S4096x3072, .f32⟩
  | 23 => ⟨S4096x3072, .f32⟩
  | 24 => ⟨S_, .f32⟩
  | 25 => ⟨S4096x3072, .f32⟩
  | 26 => ⟨S4096x3072, .f32⟩
  | 27 => ⟨S_, .f32⟩
  | 28 => ⟨S4096x3072, .f32⟩
  | 29 => ⟨S4096x3072, .f32⟩
  | 30 => ⟨S_, .f32⟩
  | 31 => ⟨S4096x3072, .f32⟩
  | 32 => ⟨S4096x3072, .f32⟩
  | 33 => ⟨S4096x3072, .f32⟩
  | 34 => ⟨S4096x3x1024, .f32⟩
  | 35 => ⟨S4096x1x1024, .f32⟩
  | 36 => ⟨S4096x1024, .f32⟩
  | 37 => ⟨S4096x1024, .f32⟩
  | 38 => ⟨S4096x1x1024, .f32⟩
  | 39 => ⟨S4096x1024, .f32⟩
  | 40 => ⟨S4096x1024, .f32⟩
  | 41 => ⟨S4096x1024, .f32⟩
  | 42 => ⟨S4096x1x1024, .f32⟩
  | 43 => ⟨S4096x1024, .f32⟩
  | 44 => ⟨S4096x1024, .f32⟩
  | 45 => ⟨S4096x1024, .f32⟩
  | 46 => ⟨S1x1024x1024, .f32⟩
  | 47 => ⟨S1024x1024, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S1024, .f32⟩
  | 71 => ⟨S1x1024, .f32⟩
  | 72 => ⟨S4096x1024, .f32⟩
  | 73 => ⟨S4096x1024, .f32⟩
  | 74 => ⟨S4096x1024, .f32⟩
  | 75 => ⟨S_, .f32⟩
  | 76 => ⟨S4096, .f32⟩
  | 77 => ⟨S4096x1, .f32⟩
  | 78 => ⟨S4096x1024, .f32⟩
  | 79 => ⟨S4096x1024, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1x1024, .f32⟩
  | 95 => ⟨S_, .f32⟩
  | 96 => ⟨S4096x3x1024, .f32⟩
  | 97 => ⟨S4096x1024, .f32⟩
  | 98 => ⟨S4096x1024, .f32⟩
  | 99 => ⟨S4096x1x1024, .f32⟩
  | 100 => ⟨S_, .f32⟩
  | 101 => ⟨S4096x3x1024, .f32⟩
  | 102 => ⟨S4096x3x1024, .f32⟩
  | 103 => ⟨S4096x1024, .f32⟩
  | 104 => ⟨S4096x1024, .f32⟩
  | 105 => ⟨S4096x1x1024, .f32⟩
  | 106 => ⟨S_, .f32⟩
  | 107 => ⟨S4096x3x1024, .f32⟩
  | 108 => ⟨S4096x3x1024, .f32⟩
  | 109 => ⟨S4096x3072, .f32⟩
  | 110 => ⟨S4096x3072, .f32⟩
  | 111 => ⟨S1x4096x1024, .f32⟩
  | 112 => ⟨S1x4096x1024, .f32⟩
  | 113 => ⟨S1x4096x1024, .f32⟩
  | 114 => ⟨S1x4096x1024, .f32⟩
  | 115 => ⟨S4x4096x1024, .f32⟩
  | 116 => ⟨S4096x1024, .f32⟩
  | 117 => ⟨S4096x1024, .f32⟩
  | 118 => ⟨S4096x1024, .f32⟩
  | 119 => ⟨S1x4096x1024, .f32⟩
  | 120 => ⟨S1x4096x1024, .f32⟩
  | 121 => ⟨S1x4096x1024, .f32⟩
  | 122 => ⟨S3x4096x1024, .f32⟩
  | 123 => ⟨S4x4096x1024, .bf16⟩
  | 124 => ⟨S4096x1024, .f32⟩
  | 125 => ⟨S4096x1024, .bf16⟩
  | 126 => ⟨S4096x1024, .f32⟩
  | 127 => ⟨S4096x1024, .bf16⟩
  | _ => ⟨S4096x1024, .bf16⟩

abbrev hbmTy0_1 (i : Nat) : BufTy := match i % 128 with
  | 0 => ⟨S4096x1024, .f32⟩
  | 1 => ⟨S4096x1024, .bf16⟩
  | 2 => ⟨S3x4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_10 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩

abbrev nD : Nat := 1
abbrev τ : Topo := Topo.v7x

variable {F : FTy → Type} [FloatOps F]
-- ==== Mo.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S4x4096x1024 : Shape := ⟨3, ![4, 4096, 1024]⟩
abbrev S256x1024 : Shape := ⟨2, ![256, 1024]⟩
abbrev S4x256x1024 : Shape := ⟨3, ![4, 256, 1024]⟩
abbrev S1x256x1024 : Shape := ⟨3, ![1, 256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 13
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x10240, .bf16⟩
  | .hbm, ⟨4, _⟩ => ⟨S4x1024x1024, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4x4096x1024, .bf16⟩
  | .hbm, ⟨11, _⟩ => ⟨S4096x1024, .bf16⟩
  | .hbm, ⟨12, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S4x1024x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S4x256x1024, .bf16⟩
  | .local _ .vmem, ⟨23, _⟩ => ⟨S4x256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .f32⟩
  | .local _ .vmem, ⟨27, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MoRefIdeal.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S1x4096x1024 : Shape := ⟨3, ![1, 4096, 1024]⟩
abbrev S4x4096x1024 : Shape := ⟨3, ![4, 4096, 1024]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x10240, .bf16⟩
  | .hbm, ⟨4, _⟩ => ⟨S4x1024x1024, .bf16⟩
  | .hbm, ⟨5, _⟩ => ⟨S4096x1024, .f32⟩
  | .hbm, ⟨6, _⟩ => ⟨S1x1024, .f32⟩
  | .hbm, ⟨7, _⟩ => ⟨S4x1024x1024, .f32⟩
  | .hbm, ⟨8, _⟩ => ⟨S4096x1024, .f32⟩
  | .hbm, ⟨9, _⟩ => ⟨S1x1024x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S1x1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S1x1024x1024, .f32⟩
  | .hbm, ⟨18, _⟩ => ⟨S1024x1024, .f32⟩
  | .hbm, ⟨19, _⟩ => ⟨S4096x1024, .f32⟩
  | .hbm, ⟨20, _⟩ => ⟨S4096x10240, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S_, .f32⟩
  | .hbm, ⟨28, _⟩ => ⟨S4096x3072, .f32⟩
  | .hbm, ⟨29, _⟩ => ⟨S4096x3072, .f32⟩
  | .hbm, ⟨30, _⟩ => ⟨S4096x3x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024x1024, .f32⟩
  | .hbm, ⟨43, _⟩ => ⟨S1024x1024, .f32⟩
  | .hbm, ⟨44, _⟩ => ⟨S4096x1024, .f32⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S1x4096x1024, .bf16⟩
  | .hbm, ⟨50, _⟩ => ⟨S1x4096x1024, .bf16⟩
  | .hbm, ⟨51, _⟩ => ⟨S1x4096x1024, .bf16⟩
  | .hbm, ⟨52, _⟩ => ⟨S1x4096x1024, .bf16⟩
  | .hbm, ⟨53, _⟩ => ⟨S4x4096x1024, .bf16⟩
  | .hbm, ⟨54, _⟩ => ⟨S4096x1024, .bf16⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_1 : Ref sig .tc := ⟨.hbm, 56, rfl⟩
abbrev main_v47 : Ref sig .tc := ⟨.hbm, 57, rfl⟩
abbrev main_v48 : Ref sig .tc := ⟨.hbm, 58, rfl⟩
abbrev main_cst_2 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Tn.lean ====
abbrev S4x4096x1024 : Shape := ⟨3, ![4, 4096, 1024]⟩
abbrev S4x1024x1024 : Shape := ⟨3, ![4, 1024, 1024]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x1024x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TnRefIdeal.lean ====
abbrev S4x4096x1024 : Shape := ⟨3, ![4, 4096, 1024]⟩
abbrev S_ : Shape := ⟨0, ![]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S_, .f32⟩
  | .hbm, ⟨3, _⟩ => ⟨S4x1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x1024x1024, .f32⟩
  | .hbm, ⟨8, _⟩ => ⟨S4x1024x1024, .f32⟩
  | .hbm, ⟨9, _⟩ => ⟨S4x1024x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kv.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x2048, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KvRefIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mb.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S1x1024, .f32⟩
  | .hbm, ⟨5, _⟩ => ⟨S1024x2048, .bf16⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x2048, .f32⟩
  | .local _ .vmem, ⟨4, _⟩ => ⟨S1x1024, .f32⟩
  | .local _ .vmem, ⟨5, _⟩ => ⟨S1024x2048, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MbRefIdeal.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S1x1024, .f32⟩
  | .hbm, ⟨5, _⟩ => ⟨S1024x2048, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S2048x1024, .f32⟩
  | .hbm, ⟨23, _⟩ => ⟨S1024x2048, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S1024x2048, .bf16⟩
  | .hbm, ⟨30, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Lh.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LhRefIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Ba.lean ====
abbrev S4096x10240 : Shape := ⟨2, ![4096, 10240]⟩
abbrev S1x1024 : Shape := ⟨2, ![1, 1024]⟩
abbrev S8x128x128 : Shape := ⟨3, ![8, 128, 128]⟩
abbrev S8x128 : Shape := ⟨2, ![8, 128]⟩
abbrev S8x128x1 : Shape := ⟨3, ![8, 128, 1]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 8
  | .vmem => 12
  | .smem => 0
  | _ => 0

abbrev bufTy : (tb : Table) → Fin (tcTables nBuf tb) → BufTy
  | .hbm, ⟨0, _⟩ => ⟨S4096x10240, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S8x128x1, .f32⟩
  | .hbm, ⟨6, _⟩ => ⟨S8x128x128, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S512x1024, .bf16⟩
  | .local _ .vmem, ⟨11, _⟩ => ⟨S512x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BaRefIdeal.lean ====
abbrev S4096x10240 : Shape := ⟨2, ![4096, 10240]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S4096x10240, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S32x128x8x128, .f32⟩
  | .hbm, ⟨36, _⟩ => ⟨S128, .i32⟩
  | .hbm, ⟨37, _⟩ => ⟨S_, .i32⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S128x1, .i32⟩
  | .hbm, ⟨56, _⟩ => ⟨S1x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S1x128x128, .i1⟩
  | .hbm, ⟨61, _⟩ => ⟨S_, .f32⟩
  | .hbm, ⟨62, _⟩ => ⟨S8x128x128, .f32⟩
  | .hbm, ⟨63, _⟩ => ⟨S8x128x128, .i1⟩
  | .hbm, ⟨64, _⟩ => ⟨S8x128x128, .f32⟩
  | .hbm, ⟨65, _⟩ => ⟨S8x32x128x128, .f32⟩
  | .hbm, ⟨66, _⟩ => ⟨S32x128x8x128, .f32⟩
  | .hbm, ⟨67, _⟩ => ⟨S128x8, .f32⟩
  | .hbm, ⟨68, _⟩ => ⟨S1x128x8x1, .f32⟩
  | .hbm, ⟨69, _⟩ => ⟨S32x128x8x128, .f32⟩
  | .hbm, ⟨70, _⟩ => ⟨S32x128x8x128, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_call1_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩

abbrev nD : Nat := 1
abbrev τ : Topo := Topo.v7x

variable {F : FTy → Type} [FloatOps F]
-- ==== Af.lean ====
abbrev S12800x128 : Shape := ⟨2, ![12800, 128]⟩
abbrev S2560x128 : Shape := ⟨2, ![2560, 128]⟩

abbrev nBuf : Space → Nat
  | .hbm => 7
  | .vmem => 14
  | .smem => 0
  | _ => 0

abbrev bufTy : (tb : Table) → Fin (tcTables nBuf tb) → BufTy
  | .hbm, ⟨0, _⟩ => ⟨S12800x128, .f32⟩
  | .hbm, ⟨1, _⟩ => ⟨S12800x128, .f32⟩
  | .hbm, ⟨2, _⟩ => ⟨S12800x128, .f32⟩
  | .hbm, ⟨3, _⟩ => ⟨S12800x128, .f32⟩
  | .hbm, ⟨4, _⟩ => ⟨S12800x128, .f32⟩
  | .hbm, ⟨5, _⟩ => ⟨S12800x128, .f32⟩
  | .hbm, ⟨6, _⟩ => ⟨S12800x128, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S2560x128, .f32⟩
  | .local _ .vmem, ⟨7, _⟩ => ⟨S2560x128, .f32⟩
  | .local _ .vmem, ⟨8, _⟩ => ⟨S2560x128, .f32⟩
  | .local _ .vmem, ⟨9, _⟩ => ⟨S2560x128, .f32⟩
  | .local _ .vmem, ⟨10, _⟩ => ⟨S2560x128, .f32⟩
  | .local _ .vmem, ⟨11, _⟩ => ⟨S2560x128, .f32⟩
  | .local _ .vmem, ⟨12, _⟩ => ⟨S2560x128, .f32⟩
  | .local _ .vmem, ⟨13, _⟩ => ⟨S2560x128, .f32⟩
  | _, _ => ⟨S12800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2560x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AfRefIdeal.lean ====
abbrev S12800x128 : Shape := ⟨2, ![12800, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12800x128, .f32⟩
  | .hbm, ⟨1, _⟩ => ⟨S12800x128, .f32⟩
  | .hbm, ⟨2, _⟩ => ⟨S12800x128, .f32⟩
  | .hbm, ⟨3, _⟩ => ⟨S12800x128, .f32⟩
  | .hbm, ⟨4, _⟩ => ⟨S_, .f32⟩
  | .hbm, ⟨5, _⟩ => ⟨S12800x128, .f32⟩
  | .hbm, ⟨6, _⟩ => ⟨S12800x128, .f32⟩
  | .hbm, ⟨7, _⟩ => ⟨S_, .f32⟩
  | .hbm, ⟨8, _⟩ => ⟨S12800x128, .f32⟩
  | .hbm, ⟨9, _⟩ => ⟨S12800x128, .f32⟩
  | .hbm, ⟨10, _⟩ => ⟨S12800x128, .f32⟩
  | .hbm, ⟨11, _⟩ => ⟨S_, .f32⟩
  | .hbm, ⟨12, _⟩ => ⟨S12800x128, .f32⟩
  | .hbm, ⟨13, _⟩ => ⟨S12800x128, .f32⟩
  | .hbm, ⟨14, _⟩ => ⟨S12800x128, .f32⟩
  | .hbm, ⟨15, _⟩ => ⟨S_, .f32⟩
  | .hbm, ⟨16, _⟩ => ⟨S12800x128, .f32⟩
  | .hbm, ⟨17, _⟩ => ⟨S12800x128, .f32⟩
  | .hbm, ⟨18, _⟩ => ⟨S12800x128, .f32⟩
  | .hbm, ⟨19, _⟩ => ⟨S_, .f32⟩
  | .hbm, ⟨20, _⟩ => ⟨S12800x128, .f32⟩
  | .hbm, ⟨21, _⟩ => ⟨S12800x128, .f32⟩
  | .hbm, ⟨22, _⟩ => ⟨S_, .f32⟩
  | .hbm, ⟨23, _⟩ => ⟨S12800x128, .f32⟩
  | .hbm, ⟨24, _⟩ => ⟨S12800x128, .f32⟩
  | .hbm, ⟨25, _⟩ => ⟨S12800x128, .f32⟩
  | .hbm, ⟨26, _⟩ => ⟨S_, .f32⟩
  | .hbm, ⟨27, _⟩ => ⟨S12800x128, .f32⟩
  | .hbm, ⟨28, _⟩ => ⟨S12800x128, .f32⟩
  | .hbm, ⟨29, _⟩ => ⟨S12800x128, .f32⟩
  | .hbm, ⟨30, _⟩ => ⟨S_, .f32⟩
  | .hbm, ⟨31, _⟩ => ⟨S12800x128, .f32⟩
  | .hbm, ⟨32, _⟩ => ⟨S12800x128, .f32⟩
  | .hbm, ⟨33, _⟩ => ⟨S12800x128, .f32⟩
  | .hbm, ⟨34, _⟩ => ⟨S_, .f32⟩
  | .hbm, ⟨35, _⟩ => ⟨S12800x128, .f32⟩
  | .hbm, ⟨36, _⟩ => ⟨S12800x128, .f32⟩
  | _, _ => ⟨S12800x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.C.Spec.lean ====
/- The memory attention's formulas, row by row and head by head, over the extended reals: what one query row of one head
   gets from 256 memory slots, and the pieces of its gradient. Nothing here mentions a program; the kernel's blocks and the
   reference's arrays are both read as these functions. -/
module

public import Idealize.ShloMosaic.PureOps.Ideal.Laws
public import Idealize.ShloMosaic.Lib.Pointwise

@[expose] public section

noncomputable section

namespace Cert.AttnC

open Idealize.ShloMosaic

/-- An index of a matrix is a row and a column. -/
theorem two {n m : Nat} (i : (⟨2, ![n, m]⟩ : Shape).Idx) : ∃ (a : Fin n) (b : Fin m), i = ix2 a b :=
  ⟨i 0, i 1, funext fun a => by fin_cases a <;> rfl⟩

/-- An index of a stack of matrices is a place, a row and a column. -/
theorem three {p n m : Nat} (i : (⟨3, ![p, n, m]⟩ : Shape).Idx) : ∃ (s : Fin p) (a : Fin n) (b : Fin m), i = ix3 s a b :=
  ⟨i 0, i 1, i 2, funext fun a => by fin_cases a <;> rfl⟩
/-- Two indices of a matrix with the same coordinates are the same. -/
theorem same2 {n m : Nat} {i j : (⟨2, ![n, m]⟩ : Shape).Idx} (h0 : (i 0).val = (j 0).val) (h1 : (i 1).val = (j 1).val) : i = j :=
  funext fun a => match a with | ⟨0, _⟩ => Fin.ext h0 | ⟨1, _⟩ => Fin.ext h1
/-- Two indices of a three-axis array with the same coordinates are the same. -/
theorem same3 {n m k : Nat} {i j : (⟨3, ![n, m, k]⟩ : Shape).Idx} (h0 : (i 0).val = (j 0).val) (h1 : (i 1).val = (j 1).val)
    (h2 : (i 2).val = (j 2).val) : i = j :=
  funext fun a => match a with | ⟨0, _⟩ => Fin.ext h0 | ⟨1, _⟩ => Fin.ext h1 | ⟨2, _⟩ => Fin.ext h2
/-- A place in a block of a matrix, as a place in the matrix. -/
theorem at2 {n m : Nat} {a b e f : Nat} (i : (⟨2, ![n, m]⟩ : Shape).Idx) (x : Fin n) (y : Fin m) (h0 : (i 0).val = a + e) (h1 : (i 1).val = b + f)
    (hx : x.val = a + e) (hy : y.val = b + f) : i = ix2 x y :=
  funext fun k => by match k with | ⟨0, _⟩ => exact Fin.ext (h0.trans hx.symm) | ⟨1, _⟩ => exact Fin.ext (h1.trans hy.symm)
/-- A place in a block of a stack of matrices, as a place in the stack. -/
theorem at3 {p n m : Nat} {a b c e f g : Nat} (i : (⟨3, ![p, n, m]⟩ : Shape).Idx) (w : Fin p) (x : Fin n) (y : Fin m)
    (h0 : (i 0).val = a + e) (h1 : (i 1).val = b + f) (h2 : (i 2).val = c + g)
    (hw : w.val = a + e) (hx : x.val = b + f) (hy : y.val = c + g) : i = ix3 w x y :=
  funext fun k => by
    match k with
    | ⟨0, _⟩ => exact Fin.ext (h0.trans hw.symm)
    | ⟨1, _⟩ => exact Fin.ext (h1.trans hx.symm)
    | ⟨2, _⟩ => exact Fin.ext (h2.trans hy.symm)

theorem zero2 : (![0, 0] : Fin 2 → Nat) = fun _ => 0 := by funext a; match a with | ⟨0, _⟩ => rfl | ⟨1, _⟩ => rfl
theorem zero3 : (![0, 0, 0] : Fin 3 → Nat) = fun _ => 0 := by funext a; match a with | ⟨0, _⟩ => rfl | ⟨1, _⟩ => rfl | ⟨2, _⟩ => rfl

/-- A matrix of extended reals. -/
abbrev Arr (n m : Nat) : Type := (⟨2, ![n, m]⟩ : Shape).Idx → EReal

/-- The scale of the scores, 1/16. -/
def scale : EReal := Ideal.ofBits .f32 0x3D800000#32
/-- One half. -/
def half : EReal := Ideal.ofBits .f32 0x3F000000#32
/-- The maximum's starting value. -/
def ninf : EReal := Ideal.ofBits .f32 0xFF800000#32

/-- Column `d` of head `h` among 1024. -/
def col (h : Fin 4) (d : Fin 256) : Fin 1024 := ⟨256 * h.val + d.val, by omega⟩
/-- The same column among the keys of 2048 columns of keys and values. -/
def colK (h : Fin 4) (d : Fin 256) : Fin 2048 := ⟨256 * h.val + d.val, by omega⟩
/-- The same column among the values of 2048 columns of keys and values. -/
def colV (h : Fin 4) (d : Fin 256) : Fin 2048 := ⟨1024 + (256 * h.val + d.val), by omega⟩
/-- The head of a column. -/
def hd (c : Fin 1024) : Fin 4 := ⟨c.val / 256, by omega⟩
/-- The place of a column in its head. -/
def lo (c : Fin 1024) : Fin 256 := ⟨c.val % 256, by omega⟩

theorem hd_col (h : Fin 4) (d : Fin 256) : hd (col h d) = h := Fin.ext (by simp only [hd, col]; omega)
theorem lo_col (h : Fin 4) (d : Fin 256) : lo (col h d) = d := Fin.ext (by simp only [lo, col]; omega)
theorem col_hd_lo (c : Fin 1024) : col (hd c) (lo c) = c := Fin.ext (by simp only [hd, lo, col]; omega)

/-- Row `r` of head `h`. -/
def head {n : Nat} (x : Arr n 1024) (r : Fin n) (h : Fin 4) (d : Fin 256) : EReal := x (ix2 r (col h d))
/-- The keys of head `h`. -/
def keys (kv : Arr 256 2048) (h : Fin 4) (m d : Fin 256) : EReal := kv (ix2 m (colK h d))
/-- The values of head `h`. -/
def vals (kv : Arr 256 2048) (h : Fin 4) (m d : Fin 256) : EReal := kv (ix2 m (colV h d))

/-- The scores of one query row against the memory slots. -/
def score (q : Fin 256 → EReal) (k : Fin 256 → Fin 256 → EReal) (m : Fin 256) : EReal := (∑ d, q d * k m d) * scale
/-- A row less its maximum, exponentiated. -/
def expo (s : Fin 256 → EReal) (m : Fin 256) : EReal := Ideal.exp (s m - Finset.univ.fold max ninf s)
/-- The softmax of a row. -/
def soft (s : Fin 256 → EReal) (m : Fin 256) : EReal := Ideal.div (expo s m) (∑ x, expo s x)
/-- The average of the values under a row of weights. -/
def avg (p : Fin 256 → EReal) (v : Fin 256 → Fin 256 → EReal) (d : Fin 256) : EReal := ∑ m, p m * v m d
/-- The logistic function as the kernel computes it. -/
def sg (g : EReal) : EReal := half * Ideal.tanh (half * g) + half
/-- The gate. -/
def sil (g : EReal) : EReal := g * sg g
/-- The gate's derivative. -/
def dsil (g : EReal) : EReal := sg g * (1 + g * (1 - sg g))
/-- The cotangent of a row of weights. -/
def dwt (da : Fin 256 → EReal) (v : Fin 256 → Fin 256 → EReal) (m : Fin 256) : EReal := ∑ d, da d * v m d
/-- The cotangent of a row of scores (before the scale), and the scale. -/
def dsc (p dp : Fin 256 → EReal) (m : Fin 256) : EReal := p m * (dp m - ∑ x, p x * dp x) * scale

/-- The queries among the projections. -/
def zq (z : Arr 4096 10240) : Arr 4096 1024 := fun i => z (ix2 (i 0) ⟨5120 + (i 1).val, by have : (i 1).val < 1024 := (i 1).isLt; omega⟩)
/-- The gate's argument among the projections. -/
def zg (z : Arr 4096 10240) : Arr 4096 1024 := fun i => z (ix2 (i 0) ⟨6144 + (i 1).val, by have : (i 1).val < 1024 := (i 1).isLt; omega⟩)

variable {n : Nat}

/-- The weights of row `r`, head `h`. -/
def prob (q : Arr n 1024) (kv : Arr 256 2048) (r : Fin n) (h : Fin 4) : Fin 256 → EReal := soft (score (head q r h) (keys kv h))
/-- The gated output. -/
def yv (q g : Arr n 1024) (kv : Arr 256 2048) (r : Fin n) (h : Fin 4) (d : Fin 256) : EReal :=
  avg (prob q kv r h) (vals kv h) d * sil (head g r h d)
/-- The cotangent of the ungated output. -/
def dav (g dy : Arr n 1024) (r : Fin n) (h : Fin 4) (d : Fin 256) : EReal := head dy r h d * sil (head g r h d)
/-- The cotangent of the scores, from saved weights `p`. -/
def dsv (p g : Arr n 1024) (kv : Arr 256 2048) (dy : Arr n 1024) (r : Fin n) (h : Fin 4) : Fin 256 → EReal :=
  dsc (head p r h) (dwt (dav g dy r h) (vals kv h))
/-- The cotangent of the queries. -/
def dqv (p g : Arr n 1024) (kv : Arr 256 2048) (dy : Arr n 1024) (r : Fin n) (h : Fin 4) (d : Fin 256) : EReal :=
  ∑ m, dsv p g kv dy r h m * keys kv h m d
/-- The cotangent of the gate's argument. -/
def dgv (p g : Arr n 1024) (kv : Arr 256 2048) (dy : Arr n 1024) (r : Fin n) (h : Fin 4) (d : Fin 256) : EReal :=
  head dy r h d * dsil (head g r h d) * avg (head p r h) (vals kv h) d
/-- The cotangent of the keys: a sum over the rows. -/
def dkv (p q g : Arr n 1024) (kv : Arr 256 2048) (dy : Arr n 1024) (m : Fin 256) (h : Fin 4) (d : Fin 256) : EReal :=
  ∑ r, dsv p g kv dy r h m * head q r h d
/-- The cotangent of the values: a sum over the rows. -/
def dvv (p g dy : Arr n 1024) (m : Fin 256) (h : Fin 4) (d : Fin 256) : EReal := ∑ r, head p r h m * dav g dy r h d

/-- An array given head by head. -/
def byHead (f : Fin n → Fin 4 → Fin 256 → EReal) : Arr n 1024 := fun i => f (i 0) (hd (i 1)) (lo (i 1))
theorem byHead_col (f : Fin n → Fin 4 → Fin 256 → EReal) (r : Fin n) (h : Fin 4) (d : Fin 256) :
    byHead f (ix2 r (col h d)) = f r h d := by
  show f r (hd (col h d)) (lo (col h d)) = _
  rw [hd_col, lo_col]
theorem head_byHead (f : Fin n → Fin 4 → Fin 256 → EReal) (r : Fin n) (h : Fin 4) : head (byHead f) r h = f r h :=
  funext fun d => byHead_col f r h d
/-- Two arrays with the same heads are the same. -/
theorem eq_byHead (x : Arr n 1024) (f : Fin n → Fin 4 → Fin 256 → EReal) (hx : ∀ r h d, x (ix2 r (col h d)) = f r h d) :
    x = byHead f := by
  funext i
  obtain ⟨a, b, rfl⟩ := two i
  rw [← col_hd_lo b, hx, byHead_col]

/-- The keys' and the values' halves of an array of 2048 columns, given head by head. -/
def byHalf (f g : Fin 256 → Fin 4 → Fin 256 → EReal) : Arr 256 2048 := fun i =>
  if h : (i 1).val < 1024 then f (i 0) (hd ⟨(i 1).val, h⟩) (lo ⟨(i 1).val, h⟩)
  else g (i 0) (hd ⟨(i 1).val - 1024, by have : (i 1).val < 2048 := (i 1).isLt; omega⟩)
    (lo ⟨(i 1).val - 1024, by have : (i 1).val < 2048 := (i 1).isLt; omega⟩)
theorem byHalf_colK (f g : Fin 256 → Fin 4 → Fin 256 → EReal) (m : Fin 256) (h : Fin 4) (d : Fin 256) :
    byHalf f g (ix2 m (colK h d)) = f m h d := by
  have e : ((ix2 m (colK h d) : (⟨2, ![256, 2048]⟩ : Shape).Idx) 1).val = (col h d).val := rfl
  unfold byHalf
  rw [dif_pos (by rw [e]; exact (col h d).isLt)]
  exact (congrArg₂ (f m) (hd_col h d) (lo_col h d))
theorem byHalf_colV (f g : Fin 256 → Fin 4 → Fin 256 → EReal) (m : Fin 256) (h : Fin 4) (d : Fin 256) :
    byHalf f g (ix2 m (colV h d)) = g m h d := by
  have e : ((ix2 m (colV h d) : (⟨2, ![256, 2048]⟩ : Shape).Idx) 1).val = 1024 + (col h d).val := rfl
  unfold byHalf
  rw [dif_neg (by rw [e]; omega)]
  have e' : ∀ hh, (⟨((ix2 m (colV h d) : (⟨2, ![256, 2048]⟩ : Shape).Idx) 1).val - 1024, hh⟩ : Fin 1024) = col h d :=
    fun hh => Fin.ext (by show 1024 + (256 * h.val + d.val) - 1024 = 256 * h.val + d.val; omega)
  rw [e' _]
  exact (congrArg₂ (g m) (hd_col h d) (lo_col h d))
/-- Two arrays with the same keys' and values' heads are the same. -/
theorem eq_byHalf (x : Arr 256 2048) (f g : Fin 256 → Fin 4 → Fin 256 → EReal) (hk : ∀ m h d, x (ix2 m (colK h d)) = f m h d)
    (hv : ∀ m h d, x (ix2 m (colV h d)) = g m h d) : x = byHalf f g := by
  funext i
  obtain ⟨a, b, rfl⟩ := two i
  by_cases hlt : b.val < 1024
  · have : b = colK (hd ⟨b.val, hlt⟩) (lo ⟨b.val, hlt⟩) := Fin.ext (congrArg Fin.val (col_hd_lo ⟨b.val, hlt⟩)).symm
    rw [this, hk, byHalf_colK]
  · have hb2 : b.val < 2048 := b.isLt
    have hr : b.val - 1024 < 1024 := by omega
    have : b = colV (hd ⟨b.val - 1024, hr⟩) (lo ⟨b.val - 1024, hr⟩) :=
      Fin.ext (by
        have := congrArg Fin.val (col_hd_lo ⟨b.val - 1024, hr⟩)
        simp only [col] at this
        simp only [colV]; omega)
    rw [this, hv, byHalf_colV]

end Cert.AttnC

end
-- ==== Proof.C.Loads.lean ====
/- Loads and stores of one head's 256 columns, read at a row and a place in the head. -/
module

public import Idealize.ShloMosaic.Lib.Pipeline.ValueKit.Tiles
public import proofs.«01_k».proof.Proof.C.Spec

@[expose] public section

noncomputable section

namespace Cert.AttnC

open Idealize.ShloMosaic Idealize.ShloMosaic.TcCoe Idealize.SL.Sem

/-- Where a store of columns from `o` on puts the element of row `r`, place `d`. -/
theorem emb_cols {n m w : Nat} (o : Nat) (inb : ∀ a, (![0, o] : Fin 2 → Nat) a + (![n, w] : Fin 2 → Nat) a ≤ (![n, m] : Fin 2 → Nat) a)
    (r : Fin n) (d : Fin w) (c : Fin m) (hc : c.val = o + d.val) :
    (Rect.unit (s := ⟨2, ![n, m]⟩) ![0, o] ![n, w] inb).emb (ix2 r d) = ix2 r c := by
  funext a
  have e := Rect.idx_unit_val (s := ⟨2, ![n, m]⟩) ![0, o] ![n, w] inb (ix2 r d) a
  refine Fin.ext (Eq.trans (show _ = _ from e) ?_)
  fin_cases a
  · exact Nat.zero_add _
  · exact hc.symm

/-- What a load of columns from `o` on reads at row `r`, place `d`. -/
theorem ld_cols {n m w : Nat} {e : EltTy} (X : (⟨2, ![n, m]⟩ : Shape).Idx → Elt Ideal e) (o : Nat)
    (inb : ∀ a, (![0, o] : Fin 2 → Nat) a + (![n, w] : Fin 2 → Nat) a ≤ (![n, m] : Fin 2 → Nat) a)
    (r : Fin n) (d : Fin w) (c : Fin m) (hc : c.val = o + d.val) :
    View.ld (Val := Elt Ideal) X (Rect.unit (s := ⟨2, ![n, m]⟩) ![0, o] ![n, w] inb) (ix2 r d) = X (ix2 r c) :=
  congrArg X (emb_cols o inb r d c hc)

end Cert.AttnC

end
-- ==== Proof.C.Block0.lean ====
/- One block of the forward call (512 query rows): the weights and the gated output it leaves, head by head. -/
module

public import proofs.«01_k».proof.Proof.Gen.KernelIdeal.Frame
public import proofs.«01_k».proof.Proof.C.Loads

@[expose] public section

set_option maxRecDepth 16384

noncomputable section

namespace Cert.AttnC

open Idealize.ShloMosaic Idealize.ShloMosaic.TcCoe Idealize.SL.Sem
open Cert.KernelIdeal Cert.KernelIdeal.Gen

variable (x0 x1 : Arr 512 1024) (x2 : Arr 256 2048)

theorem weights0 (q : Vec Ideal S512x256 .bf16) (k : Vec Ideal S256x256 .bf16) (j : S512x256.Idx) :
    k0_pay2 (F := Ideal) q k j = soft (score (fun d => q (ix2 (j 0) d)) (fun m d => k (ix2 m d))) (j 1) := by
  pointwise [k0_pay2]
  rfl

theorem gate0 (g : Vec Ideal S512x1024 .bf16) (j : S512x1024.Idx) : k0_pay4 (F := Ideal) g j = sil (g j) := by
  pointwise [k0_pay4]
  rfl

/-- The weights one head's stores leave. -/
theorem piece0_4 (h : Fin 4) (q : Vec Ideal S512x256 .bf16) (k : Vec Ideal S256x256 .bf16)
    (hq : ∀ r d, q (ix2 r d) = head x0 r h d) (hk : ∀ m d, k (ix2 m d) = keys x2 h m d) (r : Fin 512) (d : Fin 256) :
    k0_pay2 (F := Ideal) q k (ix2 r d) = prob x0 x2 r h d := by
  rw [weights0]
  show soft (score (fun d => q (ix2 r d)) (fun m d => k (ix2 m d))) d = _
  simp only [hq, hk]
  rfl

/-- The gated output of one head, from its weights. -/
theorem gated0 (h : Fin 4) (w : Vec Ideal S512x256 .bf16) (v : Vec Ideal S256x256 .bf16) (g : Vec Ideal S512x1024 .f32)
    (hw : ∀ r m, w (ix2 r m) = prob x0 x2 r h m) (hv : ∀ m d, v (ix2 m d) = vals x2 h m d) (hg : ∀ i, g i = sil (x1 i))
    (r : Fin 512) (d : Fin 256) : (∑ m, w (ix2 r m) * v (ix2 m d)) * g (ix2 r (col h d)) = yv x0 x1 x2 r h d := by
  simp only [hw, hv, hg]
  rfl

variable (g : Vec Ideal S512x1024 .f32) (q : Vec Ideal S512x256 .bf16) (k v w : Vec Ideal S256x256 .bf16) (r : Fin 512) (d : Fin 256)

theorem pay0_3 : k0_pay3 (F := Ideal) g q k v (ix2 r d) = (∑ m, k0_pay2 (F := Ideal) q k (ix2 r m) * v (ix2 m d)) * g (ix2 r (col 3 d)) := by
  pointwise [k0_pay3]; rfl
theorem pay0_1 (w : FVec Ideal S512x256 .bf16) : k0_pay1 (F := Ideal) g w v (ix2 r d) = (∑ m, w (ix2 r m) * v (ix2 m d)) * g (ix2 r (col 2 d)) := by
  pointwise [k0_pay1]; rfl
theorem pay0_8 : k0_pay8 (F := Ideal) g q k v (ix2 r d) = (∑ m, k0_pay2 (F := Ideal) q k (ix2 r m) * v (ix2 m d)) * g (ix2 r (col 1 d)) := by
  pointwise [k0_pay8]; rfl
theorem pay0_6 (x : Vec Ideal S512x1024 .bf16) : k0_pay6 (F := Ideal) x q k v (ix2 r d)
    = (∑ m, k0_pay2 (F := Ideal) q k (ix2 r m) * v (ix2 m d)) * k0_pay4 (F := Ideal) x (ix2 r (col 0 d)) := by
  pointwise [k0_pay6]
  have e : (⟨d.val, by omega⟩ : Fin 1024) = col 0 d := Fin.ext (Nat.zero_add _).symm
  rw [e]; rfl

theorem out0_4_eq : out0_4 (F := Ideal) x0 x1 x2 = byHead (prob x0 x2) := by
  funext y
  unfold_out out0_4
  refine View.canon_apply_of_pieces (Val := Elt Ideal) (byHead (prob x0 x2)) _ ?_ y (cover0_4 _ _ _ _ y)
  intro p hp
  simp only [List.mem_cons, List.not_mem_nil, or_false] at hp
  rcases hp with rfl | rfl | rfl | rfl <;> intro x <;> obtain ⟨r, d, rfl⟩ := two x
  · rw [emb_cols 768 _ r d (col 3 d) rfl, byHead_col]
    exact piece0_4 x0 x2 3 _ _ (fun r d => ld_cols _ 768 _ r d _ rfl) (fun r d => ld_cols _ 768 _ r d _ rfl) r d
  · rw [emb_cols 512 _ r d (col 2 d) rfl, byHead_col]
    exact piece0_4 x0 x2 2 _ _ (fun r d => ld_cols _ 512 _ r d _ rfl) (fun r d => ld_cols _ 512 _ r d _ rfl) r d
  · rw [emb_cols 256 _ r d (col 1 d) rfl, byHead_col]
    exact piece0_4 x0 x2 1 _ _ (fun r d => ld_cols _ 256 _ r d _ rfl) (fun r d => ld_cols _ 256 _ r d _ rfl) r d
  · rw [emb_cols 0 _ r d (col 0 d) rfl, byHead_col]
    exact piece0_4 x0 x2 0 _ _ (fun r d => ld_cols _ 0 _ r d _ rfl) (fun r d => ld_cols _ 0 _ r d _ rfl) r d

theorem ld_whole (x : Vec Ideal S512x1024 .bf16) : View.ld (Val := Elt Ideal) x r0_0 = x :=
  View.ld_unit_zero (S := S512x1024) (off := ![0, 0]) (by funext a; match a with | ⟨0, _⟩ => rfl | ⟨1, _⟩ => rfl) _ x

theorem out0_3_eq : out0_3 (F := Ideal) x0 x1 x2 = byHead (yv x0 x1 x2) := by
  funext y
  unfold_out out0_3
  refine View.canon_apply_of_pieces (Val := Elt Ideal) (byHead (yv x0 x1 x2)) _ ?_ y (cover0_3 _ _ _ _ y)
  simp only [ld_whole]
  intro p hp
  simp only [List.mem_cons, List.not_mem_nil, or_false] at hp
  rcases hp with rfl | rfl | rfl | rfl <;> intro x <;> obtain ⟨r, d, rfl⟩ := two x
  · rw [emb_cols 768 _ r d (col 3 d) rfl, byHead_col]
    refine (pay0_3 _ _ _ _ r d).trans (gated0 x0 x1 x2 3 _ _ _ ?_ ?_ (fun i => gate0 x1 i) r d)
    · exact piece0_4 x0 x2 3 _ _ (fun r d => ld_cols _ 768 _ r d _ rfl) (fun r d => ld_cols _ 768 _ r d _ rfl)
    · exact fun m d => ld_cols _ 1792 _ m d _ (Nat.add_assoc 1024 768 d.val).symm
  · rw [emb_cols 512 _ r d (col 2 d) rfl, byHead_col]
    refine (pay0_1 _ _ r d _).trans (gated0 x0 x1 x2 2 _ _ _ ?_ ?_ (fun i => gate0 x1 i) r d)
    · exact piece0_4 x0 x2 2 _ _ (fun r d => ld_cols _ 512 _ r d _ rfl) (fun r d => ld_cols _ 512 _ r d _ rfl)
    · exact fun m d => ld_cols _ 1536 _ m d _ (Nat.add_assoc 1024 512 d.val).symm
  · rw [emb_cols 256 _ r d (col 1 d) rfl, byHead_col]
    refine (pay0_8 _ _ _ _ r d).trans (gated0 x0 x1 x2 1 _ _ _ ?_ ?_ (fun i => gate0 x1 i) r d)
    · exact piece0_4 x0 x2 1 _ _ (fun r d => ld_cols _ 256 _ r d _ rfl) (fun r d => ld_cols _ 256 _ r d _ rfl)
    · exact fun m d => ld_cols _ 1280 _ m d _ (Nat.add_assoc 1024 256 d.val).symm
  · rw [emb_cols 0 _ r d (col 0 d) rfl, byHead_col]
    refine (pay0_6 _ _ _ r d _).trans (gated0 x0 x1 x2 0 _ _ _ ?_ ?_ (fun i => gate0 x1 i) r d)
    · exact piece0_4 x0 x2 0 _ _ (fun r d => ld_cols _ 0 _ r d _ rfl) (fun r d => ld_cols _ 0 _ r d _ rfl)
    · exact fun m d => ld_cols _ 1024 _ m d _ (Nat.add_assoc 1024 0 d.val).symm

end Cert.AttnC

end
-- ==== Proof.C.Pay1.lean ====
/- The backward call's arithmetic on one block, each stored value at an index. -/
module

public import proofs.«01_k».proof.Proof.Gen.KernelIdeal.Frame
public import proofs.«01_k».proof.Proof.C.Loads

@[expose] public section

set_option maxRecDepth 16384

noncomputable section

namespace Cert.AttnC

open Idealize.ShloMosaic Idealize.ShloMosaic.TcCoe Idealize.SL.Sem
open Cert.KernelIdeal Cert.KernelIdeal.Gen

variable (g dy : Vec Ideal S512x1024 .bf16) (G : FVec Ideal S512x1024 .f32) (P A : FVec Ideal S512x256 .f32)
  (q pb : Vec Ideal S512x256 .bf16) (k v : Vec Ideal S256x256 .bf16) (a : Vec Ideal S256x256 .f32)
  (r : Fin 512) (m d : Fin 256) (i : S512x1024.Idx)

/-- The cotangent of a row of scores, from a row of weights, a row of the output's cotangent and the values. -/
def dsr (P A : Arr 512 256) (v : Arr 256 256) (r : Fin 512) : Fin 256 → EReal :=
  dsc (fun x => P (ix2 r x)) (dwt (fun d => A (ix2 r d)) fun m d => v (ix2 m d))

/-- Columns of one head. -/
def cut (G : Arr 512 1024) (h : Fin 4) : Arr 512 256 := fun j => G (ix2 (j 0) (col h (j 1)))

theorem col0 : (⟨d.val, by omega⟩ : Fin 1024) = col 0 d := Fin.ext (Nat.zero_add _).symm

/-- The saved weights of a head reach the products as they were loaded. -/
theorem same1 : k1_pay11 (F := Ideal) pb = pb ∧ k1_pay12 (F := Ideal) pb = pb ∧ k1_pay20 (F := Ideal) pb = pb ∧ k1_pay21 (F := Ideal) pb = pb
    ∧ k1_pay28 (F := Ideal) pb = pb ∧ k1_pay36 (F := Ideal) pb = pb ∧ k1_pay37 (F := Ideal) pb = pb := by
  refine ⟨?_, ?_, ?_, ?_, ?_, ?_, ?_⟩ <;> funext j <;> pointwise [k1_pay11, k1_pay12, k1_pay20, k1_pay21, k1_pay28, k1_pay36, k1_pay37]

theorem pay1_9 : k1_pay9 (F := Ideal) g dy i = dy i * sil (g i) := by pointwise [k1_pay9]; rfl
theorem pay1_10 : k1_pay10 (F := Ideal) g dy i = dy i * dsil (g i) := by pointwise [k1_pay10]; rfl
theorem pay1_14 : k1_pay14 (F := Ideal) g dy (ix2 r d) = dy (ix2 r (col 0 d)) * sil (g (ix2 r (col 0 d))) := by
  pointwise [k1_pay14]; rw [col0]; rfl

theorem pay1_16 : k1_pay16 (F := Ideal) P A v (ix2 r m) = dsr P A v r m := by
  pointwise [k1_pay16]; rfl
theorem pay1_24 : k1_pay24 (F := Ideal) G P v (ix2 r m) = dsr P (cut G 1) v r m := by
  pointwise [k1_pay24, k1_pay23]; rfl
theorem pay1_31 : k1_pay31 (F := Ideal) G pb v (ix2 r m) = dsr pb (cut G 2) v r m := by
  pointwise [k1_pay31, k1_pay30, k1_pay28]; rfl
theorem pay1_40 : k1_pay1 (F := Ideal) (k1_pay37 pb) (k1_pay40 G pb v) (ix2 r m) = dsr pb (cut G 3) v r m := by
  pointwise [k1_pay1, k1_pay40, k1_pay39, k1_pay37, k1_pay36]; rfl

theorem pay1_13 : k1_pay13 (F := Ideal) g dy pb v (ix3 0 r d) = k1_pay10 (F := Ideal) g dy (ix2 r (col 0 d)) * ∑ m, pb (ix2 r m) * v (ix2 m d) := by
  pointwise [k1_pay13, k1_pay11]; rw [col0]
theorem pay1_22 : k1_pay22 (F := Ideal) G pb v (ix3 0 r d) = G (ix2 r (col 1 d)) * ∑ m, pb (ix2 r m) * v (ix2 m d) := by
  pointwise [k1_pay22]; rfl
theorem pay1_29 : k1_pay29 (F := Ideal) G pb v (ix3 0 r d) = G (ix2 r (col 2 d)) * ∑ m, pb (ix2 r m) * v (ix2 m d) := by
  pointwise [k1_pay29, k1_pay28]; rfl
theorem pay1_38 : k1_pay38 (F := Ideal) G pb v (ix3 0 r d) = G (ix2 r (col 3 d)) * ∑ m, pb (ix2 r m) * v (ix2 m d) := by
  pointwise [k1_pay38, k1_pay36]; rfl

theorem pay1_17 : k1_pay17 (F := Ideal) P A v k (ix3 0 r d) = ∑ m, k1_pay16 (F := Ideal) P A v (ix2 r m) * k (ix2 m d) := by
  pointwise [k1_pay17]
theorem pay1_25 : k1_pay25 (F := Ideal) G P v k (ix3 0 r d) = ∑ m, k1_pay24 (F := Ideal) G P v (ix2 r m) * k (ix2 m d) := by
  pointwise [k1_pay25]
theorem pay1_33 : k1_pay33 (F := Ideal) (k1_pay32 G pb v k) (ix3 0 r d) = ∑ m, k1_pay31 (F := Ideal) G pb v (ix2 r m) * k (ix2 m d) := by
  pointwise [k1_pay33, k1_pay32]
theorem pay1_2 : k1_pay2 (F := Ideal) P A k (ix3 0 r d) = ∑ m, k1_pay1 (F := Ideal) P A (ix2 r m) * k (ix2 m d) := by
  pointwise [k1_pay2]

theorem pay1_18 : k1_pay18 (F := Ideal) q P A v a (ix2 m d) = a (ix2 m d) + ∑ r, k1_pay16 (F := Ideal) P A v (ix2 r m) * q (ix2 r d) := by
  pointwise [k1_pay18]
theorem pay1_26 : k1_pay26 (F := Ideal) G q P v a (ix2 m d) = a (ix2 m d) + ∑ r, k1_pay24 (F := Ideal) G P v (ix2 r m) * q (ix2 r d) := by
  pointwise [k1_pay26]
theorem pay1_34 : k1_pay34 (F := Ideal) q pb a (ix2 m d) = a (ix2 m d) + ∑ r, pb (ix2 r m) * q (ix2 r d) := by
  pointwise [k1_pay34]
theorem pay1_3 : k1_pay3 (F := Ideal) q P A a (ix2 m d) = a (ix2 m d) + ∑ r, k1_pay1 (F := Ideal) P A (ix2 r m) * q (ix2 r d) := by
  pointwise [k1_pay3]

theorem pay1_19 (w : FVec Ideal S512x256 .bf16) : k1_pay19 (F := Ideal) w A a (ix2 m d) = a (ix2 m d) + ∑ r, w (ix2 r m) * A (ix2 r d) := by
  pointwise [k1_pay19]; rfl
theorem pay1_27 (w : FVec Ideal S512x256 .bf16) : k1_pay27 (F := Ideal) w (k1_pay23 G) a (ix2 m d) = a (ix2 m d) + ∑ r, w (ix2 r m) * G (ix2 r (col 1 d)) := by
  pointwise [k1_pay27, k1_pay23]; rfl
theorem pay1_35 (w : FVec Ideal S512x256 .bf16) : k1_pay35 (F := Ideal) w (k1_pay30 G) a (ix2 m d) = a (ix2 m d) + ∑ r, w (ix2 r m) * G (ix2 r (col 2 d)) := by
  pointwise [k1_pay35, k1_pay30]; rfl
theorem pay1_4 (w : FVec Ideal S512x256 .bf16) : k1_pay4 (F := Ideal) w (k1_pay39 G) a (ix2 m d) = a (ix2 m d) + ∑ r, w (ix2 r m) * G (ix2 r (col 3 d)) := by
  pointwise [k1_pay4, k1_pay39]; rfl

end Cert.AttnC

end
-- ==== Proof.C.Block1.lean ====
/- One block of the backward call (512 query rows): the cotangents of the queries and of the gate it stores, and what it adds
   to the cotangent of the keys and values. -/
module

public import proofs.«01_k».proof.Proof.C.Pay1

@[expose] public section

set_option maxRecDepth 16384

noncomputable section

namespace Cert.AttnC

open Idealize.ShloMosaic Idealize.ShloMosaic.TcCoe Idealize.SL.Sem
open Cert.KernelIdeal Cert.KernelIdeal.Gen

variable (x0 x1 : Arr 512 1024) (x2 : Arr 256 2048) (x3 x4 : Arr 512 1024)

/-- Two matrices stacked. -/
def pair {n m : Nat} (f g : Arr n m) : (⟨3, ![2, n, m]⟩ : Shape).Idx → EReal :=
  fun i => if (i 0).val = 0 then f (ix2 (i 1) (i 2)) else g (ix2 (i 1) (i 2))

theorem ld_all (x : Vec Ideal S512x1024 .bf16) (inb) : View.ld (Val := Elt Ideal) x (Rect.unit (s := S512x1024) ![0, 0] ![512, 1024] inb) = x :=
  View.ld_unit_zero (S := S512x1024) (off := ![0, 0]) (by funext a; match a with | ⟨0, _⟩ => rfl | ⟨1, _⟩ => rfl) _ x

/-- Where a store into one of the two stacked matrices, at columns from `o` on, puts its element. -/
theorem emb_row (s : Fin 2) (b o : Nat) (hs : s.val = b)
    (inb : ∀ a, (![b, 0, o] : Fin 3 → Nat) a + (![1, 512, 256] : Fin 3 → Nat) a ≤ (![2, 512, 1024] : Fin 3 → Nat) a)
    (r : Fin 512) (d : Fin 256) (c : Fin 1024) (hc : c.val = o + d.val) :
    (Rect.unit (s := ⟨3, ![2, 512, 1024]⟩) ![b, 0, o] ![1, 512, 256] inb).emb (ix3 0 r d) = ix3 s r c := by
  funext a
  have e := Rect.idx_unit_val (s := ⟨3, ![2, 512, 1024]⟩) ![b, 0, o] ![1, 512, 256] inb (ix3 0 r d) a
  refine Fin.ext (Eq.trans (show _ = _ from e) ?_)
  fin_cases a
  · exact hs.symm
  · exact Nat.zero_add _
  · exact hc.symm

theorem cut_dav (h : Fin 4) (r : Fin 512) (d : Fin 256) : cut (k1_pay9 (F := Ideal) x1 x4) h (ix2 r d) = dav x1 x4 r h d :=
  pay1_9 x1 x4 (ix2 r (col h d))

/-- The cotangent of the scores from what one head loads. -/
theorem dsr_eq (h : Fin 4) (P A : Arr 512 256) (v : Arr 256 256) (hp : ∀ r m, P (ix2 r m) = head x3 r h m)
    (ha : ∀ r d, A (ix2 r d) = dav x1 x4 r h d) (hv : ∀ m d, v (ix2 m d) = vals x2 h m d) (r : Fin 512) :
    dsr P A v r = dsv x3 x1 x2 x4 r h := by
  unfold dsr dsv
  simp only [hp, ha, hv]

/-- A product of the scores' cotangent with the keys. -/
theorem dq_eq (h : Fin 4) (w : Arr 512 256) (k : Arr 256 256) (hw : ∀ r m, w (ix2 r m) = dsv x3 x1 x2 x4 r h m)
    (hk : ∀ m d, k (ix2 m d) = keys x2 h m d) (r : Fin 512) (d : Fin 256) :
    ∑ m, w (ix2 r m) * k (ix2 m d) = byHead (dqv x3 x1 x2 x4) (ix2 r (col h d)) := by
  rw [byHead_col]
  simp only [hw, hk]
  rfl

/-- A product of the output's cotangent with the averaged values. -/
theorem dg_eq (h : Fin 4) (p : Arr 512 256) (v : Arr 256 256) (hp : ∀ r m, p (ix2 r m) = head x3 r h m)
    (hv : ∀ m d, v (ix2 m d) = vals x2 h m d) (r : Fin 512) (d : Fin 256) :
    k1_pay10 (F := Ideal) x1 x4 (ix2 r (col h d)) * ∑ m, p (ix2 r m) * v (ix2 m d) = byHead (dgv x3 x1 x2 x4) (ix2 r (col h d)) := by
  rw [byHead_col, pay1_10]
  simp only [hp, hv]
  rfl

/-- The loads of one head: 256 columns of a block of queries or weights. -/
abbrev lq (x : Vec Ideal S512x1024 .bf16) (o : Nat) (inb : ∀ a, (![0, o] : Fin 2 → Nat) a + (![512, 256] : Fin 2 → Nat) a ≤ S512x1024.size a) : Vec Ideal S512x256 .bf16 :=
  View.ld (Val := Elt Ideal) x (Rect.unit (s := S512x1024) ![0, o] ![512, 256] inb)
/-- The loads of one head: 256 columns of the keys and values. -/
abbrev lk (x : Vec Ideal S256x2048 .bf16) (o : Nat) (inb : ∀ a, (![0, o] : Fin 2 → Nat) a + (![256, 256] : Fin 2 → Nat) a ≤ S256x2048.size a) : Vec Ideal S256x256 .bf16 :=
  View.ld (Val := Elt Ideal) x (Rect.unit (s := S256x2048) ![0, o] ![256, 256] inb)

/-- The block's stores into the cotangent of the queries and of the gate, last first. -/
abbrev pieces5 : List (View.Piece (Elt Ideal) S2x512x1024 .bf16) :=
  [⟨Rect.unit ![0, 0, 768] ![1, 512, 256] inb_S2x512x1024_S1x512x256_0_0_768,
      k1_pay2 (k1_pay37 (lq x3 768 inb_S512x1024_S512x256_0_768)) (k1_pay40 (k1_pay9 x1 x4) (lq x3 768 inb_S512x1024_S512x256_0_768) (lk x2 1792 inb_S256x2048_S256x256_0_1792))
        (lk x2 768 inb_S256x2048_S256x256_0_768)⟩,
    ⟨Rect.unit ![1, 0, 768] ![1, 512, 256] inb_S2x512x1024_S1x512x256_1_0_768,
      k1_pay38 (k1_pay10 x1 x4) (lq x3 768 inb_S512x1024_S512x256_0_768) (lk x2 1792 inb_S256x2048_S256x256_0_1792)⟩,
    ⟨Rect.unit ![0, 0, 512] ![1, 512, 256] inb_S2x512x1024_S1x512x256_0_0_512,
      k1_pay33 (k1_pay32 (k1_pay9 x1 x4) (lq x3 512 inb_S512x1024_S512x256_0_512) (lk x2 1536 inb_S256x2048_S256x256_0_1536) (lk x2 512 inb_S256x2048_S256x256_0_512))⟩,
    ⟨Rect.unit ![1, 0, 512] ![1, 512, 256] inb_S2x512x1024_S1x512x256_1_0_512,
      k1_pay29 (k1_pay10 x1 x4) (lq x3 512 inb_S512x1024_S512x256_0_512) (lk x2 1536 inb_S256x2048_S256x256_0_1536)⟩,
    ⟨Rect.unit ![0, 0, 256] ![1, 512, 256] inb_S2x512x1024_S1x512x256_0_0_256,
      k1_pay25 (k1_pay9 x1 x4) (k1_pay21 (lq x3 256 inb_S512x1024_S512x256_0_256)) (lk x2 1280 inb_S256x2048_S256x256_0_1280) (lk x2 256 inb_S256x2048_S256x256_0_256)⟩,
    ⟨Rect.unit ![1, 0, 256] ![1, 512, 256] inb_S2x512x1024_S1x512x256_1_0_256,
      k1_pay22 (k1_pay10 x1 x4) (k1_pay20 (lq x3 256 inb_S512x1024_S512x256_0_256)) (lk x2 1280 inb_S256x2048_S256x256_0_1280)⟩,
    ⟨Rect.unit ![0, 0, 0] ![1, 512, 256] inb_S2x512x1024_S1x512x256_0_0_0,
      k1_pay17 (k1_pay12 (lq x3 0 inb_S512x1024_S512x256_0_0)) (k1_pay14 x1 x4) (lk x2 1024 inb_S256x2048_S256x256_0_1024) (lk x2 0 inb_S256x2048_S256x256_0_0)⟩,
    ⟨Rect.unit ![1, 0, 0] ![1, 512, 256] inb_S2x512x1024_S1x512x256_1_0_0,
      k1_pay13 x1 x4 (lq x3 0 inb_S512x1024_S512x256_0_0) (lk x2 1024 inb_S256x2048_S256x256_0_1024)⟩]

theorem lq_head (x : Arr 512 1024) (h : Fin 4) (o : Nat) (ho : 256 * h.val = o) (inb) (r : Fin 512) (d : Fin 256) : lq x o inb (ix2 r d) = head x r h d :=
  ld_cols _ o _ r d _ (by subst ho; rfl)
theorem lk_keys (x : Arr 256 2048) (h : Fin 4) (o : Nat) (ho : 256 * h.val = o) (inb) (m d : Fin 256) : lk x o inb (ix2 m d) = keys x h m d :=
  ld_cols _ o _ m d _ (by subst ho; rfl)
theorem lk_vals (x : Arr 256 2048) (h : Fin 4) (o : Nat) (ho : 1024 + 256 * h.val = o) (inb) (m d : Fin 256) : lk x o inb (ix2 m d) = vals x h m d :=
  ld_cols _ o _ m d _ (by subst ho; exact (Nat.add_assoc _ _ _).symm)

theorem ds0 (r : Fin 512) (m : Fin 256) : k1_pay16 (F := Ideal) (k1_pay12 (lq x3 0 inb_S512x1024_S512x256_0_0)) (k1_pay14 x1 x4)
    (lk x2 1024 inb_S256x2048_S256x256_0_1024) (ix2 r m) = dsv x3 x1 x2 x4 r 0 m := by
  rw [pay1_16, (same1 _).2.1]
  exact congrFun (dsr_eq x1 x2 x3 x4 0 _ _ _ (lq_head x3 0 _ rfl _) (fun r d => pay1_14 x1 x4 r d) (lk_vals x2 0 _ rfl _) r) m
theorem ds1 (r : Fin 512) (m : Fin 256) : k1_pay24 (F := Ideal) (k1_pay9 x1 x4) (k1_pay21 (lq x3 256 inb_S512x1024_S512x256_0_256))
    (lk x2 1280 inb_S256x2048_S256x256_0_1280) (ix2 r m) = dsv x3 x1 x2 x4 r 1 m := by
  rw [pay1_24, (same1 _).2.2.2.1]
  exact congrFun (dsr_eq x1 x2 x3 x4 1 _ _ _ (lq_head x3 1 _ rfl _) (cut_dav x1 x4 1) (lk_vals x2 1 _ rfl _) r) m
theorem ds2 (r : Fin 512) (m : Fin 256) : k1_pay31 (F := Ideal) (k1_pay9 x1 x4) (lq x3 512 inb_S512x1024_S512x256_0_512)
    (lk x2 1536 inb_S256x2048_S256x256_0_1536) (ix2 r m) = dsv x3 x1 x2 x4 r 2 m := by
  rw [pay1_31]
  exact congrFun (dsr_eq x1 x2 x3 x4 2 _ _ _ (lq_head x3 2 _ rfl _) (cut_dav x1 x4 2) (lk_vals x2 2 _ rfl _) r) m
theorem ds3 (r : Fin 512) (m : Fin 256) : k1_pay1 (F := Ideal) (k1_pay37 (lq x3 768 inb_S512x1024_S512x256_0_768))
    (k1_pay40 (k1_pay9 x1 x4) (lq x3 768 inb_S512x1024_S512x256_0_768) (lk x2 1792 inb_S256x2048_S256x256_0_1792)) (ix2 r m) = dsv x3 x1 x2 x4 r 3 m := by
  rw [pay1_40]
  exact congrFun (dsr_eq x1 x2 x3 x4 3 _ _ _ (lq_head x3 3 _ rfl _) (cut_dav x1 x4 3) (lk_vals x2 3 _ rfl _) r) m

theorem pieces5_apply : ∀ p ∈ pieces5 x1 x2 x3 x4, ∀ x : p.1.shape.Idx,
    p.2 x = pair (byHead (dqv x3 x1 x2 x4)) (byHead (dgv x3 x1 x2 x4)) (p.1.emb x) := by
  intro p hp
  simp only [pieces5, List.mem_cons, List.not_mem_nil, or_false] at hp
  rcases hp with rfl | rfl | rfl | rfl | rfl | rfl | rfl | rfl <;> intro x <;> obtain ⟨s, r, d, rfl⟩ := three x <;>
    (obtain rfl : s = 0 := Subsingleton.elim _ _)
  · rw [emb_row 0 0 768 rfl _ r d (col 3 d) rfl]
    exact (pay1_2 _ _ _ r d).trans (dq_eq x1 x2 x3 x4 3 _ _ (ds3 x1 x2 x3 x4) (lk_keys x2 3 _ rfl _) r d)
  · rw [emb_row 1 1 768 rfl _ r d (col 3 d) rfl]
    exact (pay1_38 _ _ _ r d).trans (dg_eq x1 x2 x3 x4 3 _ _ (lq_head x3 3 _ rfl _) (lk_vals x2 3 _ rfl _) r d)
  · rw [emb_row 0 0 512 rfl _ r d (col 2 d) rfl]
    exact (pay1_33 _ _ _ _ r d).trans (dq_eq x1 x2 x3 x4 2 _ _ (ds2 x1 x2 x3 x4) (lk_keys x2 2 _ rfl _) r d)
  · rw [emb_row 1 1 512 rfl _ r d (col 2 d) rfl]
    exact (pay1_29 _ _ _ r d).trans (dg_eq x1 x2 x3 x4 2 _ _ (lq_head x3 2 _ rfl _) (lk_vals x2 2 _ rfl _) r d)
  · rw [emb_row 0 0 256 rfl _ r d (col 1 d) rfl]
    exact (pay1_25 _ _ _ _ r d).trans (dq_eq x1 x2 x3 x4 1 _ _ (ds1 x1 x2 x3 x4) (lk_keys x2 1 _ rfl _) r d)
  · rw [emb_row 1 1 256 rfl _ r d (col 1 d) rfl, (same1 _).2.2.1]
    exact (pay1_22 _ _ _ r d).trans (dg_eq x1 x2 x3 x4 1 _ _ (lq_head x3 1 _ rfl _) (lk_vals x2 1 _ rfl _) r d)
  · rw [emb_row 0 0 0 rfl _ r d (col 0 d) rfl]
    exact (pay1_17 _ _ _ _ r d).trans (dq_eq x1 x2 x3 x4 0 _ _ (ds0 x1 x2 x3 x4) (lk_keys x2 0 _ rfl _) r d)
  · rw [emb_row 1 1 0 rfl _ r d (col 0 d) rfl]
    exact (pay1_13 _ _ _ _ r d).trans (dg_eq x1 x2 x3 x4 0 _ _ (lq_head x3 0 _ rfl _) (lk_vals x2 0 _ rfl _) r d)

/-- The block's stores into the cotangent of the keys and values, last first, over what they add to. -/
abbrev pieces6 (a0 a1 a2 a3 b0 b1 b2 b3 : Vec Ideal S256x256 .f32) : List (View.Piece (Elt Ideal) S256x2048 .f32) :=
  [⟨Rect.unit ![0, 1792] ![256, 256] inb_S256x2048_S256x256_0_1792, k1_pay4 (k1_pay36 (lq x3 768 inb_S512x1024_S512x256_0_768)) (k1_pay39 (k1_pay9 x1 x4)) b3⟩,
    ⟨Rect.unit ![0, 768] ![256, 256] inb_S256x2048_S256x256_0_768, k1_pay3 (lq x0 768 inb_S512x1024_S512x256_0_768) (k1_pay37 (lq x3 768 inb_S512x1024_S512x256_0_768))
      (k1_pay40 (k1_pay9 x1 x4) (lq x3 768 inb_S512x1024_S512x256_0_768) (lk x2 1792 inb_S256x2048_S256x256_0_1792)) a3⟩,
    ⟨Rect.unit ![0, 1536] ![256, 256] inb_S256x2048_S256x256_0_1536, k1_pay35 (k1_pay28 (lq x3 512 inb_S512x1024_S512x256_0_512)) (k1_pay30 (k1_pay9 x1 x4)) b2⟩,
    ⟨Rect.unit ![0, 512] ![256, 256] inb_S256x2048_S256x256_0_512, k1_pay34 (lq x0 512 inb_S512x1024_S512x256_0_512)
      (k1_pay31 (k1_pay9 x1 x4) (lq x3 512 inb_S512x1024_S512x256_0_512) (lk x2 1536 inb_S256x2048_S256x256_0_1536)) a2⟩,
    ⟨Rect.unit ![0, 1280] ![256, 256] inb_S256x2048_S256x256_0_1280, k1_pay27 (k1_pay20 (lq x3 256 inb_S512x1024_S512x256_0_256)) (k1_pay23 (k1_pay9 x1 x4)) b1⟩,
    ⟨Rect.unit ![0, 256] ![256, 256] inb_S256x2048_S256x256_0_256, k1_pay26 (k1_pay9 x1 x4) (lq x0 256 inb_S512x1024_S512x256_0_256)
      (k1_pay21 (lq x3 256 inb_S512x1024_S512x256_0_256)) (lk x2 1280 inb_S256x2048_S256x256_0_1280) a1⟩,
    ⟨Rect.unit ![0, 1024] ![256, 256] inb_S256x2048_S256x256_0_1024, k1_pay19 (k1_pay11 (lq x3 0 inb_S512x1024_S512x256_0_0)) (k1_pay14 x1 x4) b0⟩,
    ⟨Rect.unit ![0, 0] ![256, 256] inb_S256x2048_S256x256_0_0, k1_pay18 (lq x0 0 inb_S512x1024_S512x256_0_0) (k1_pay12 (lq x3 0 inb_S512x1024_S512x256_0_0))
      (k1_pay14 x1 x4) (lk x2 1024 inb_S256x2048_S256x256_0_1024) a0⟩]

/-- What the block leaves of the keys' and values' cotangent, over what was there. -/
def step (prev : Arr 256 2048) : Arr 256 2048 :=
  byHalf (fun m h d => prev (ix2 m (colK h d)) + dkv x3 x0 x1 x2 x4 m h d) (fun m h d => prev (ix2 m (colV h d)) + dvv x3 x1 x4 m h d)

theorem dk_eq (h : Fin 4) (prev : Arr 256 2048) (w q : Arr 512 256) (a : Arr 256 256) (hw : ∀ r m, w (ix2 r m) = dsv x3 x1 x2 x4 r h m)
    (hq : ∀ r d, q (ix2 r d) = head x0 r h d) (ha : ∀ m d, a (ix2 m d) = prev (ix2 m (colK h d))) (m d : Fin 256) :
    a (ix2 m d) + ∑ r, w (ix2 r m) * q (ix2 r d) = step x0 x1 x2 x3 x4 prev (ix2 m (colK h d)) := by
  unfold step
  rw [byHalf_colK]
  simp only [hw, hq, ha]
  rfl
theorem dv_eq (h : Fin 4) (prev : Arr 256 2048) (w q : Arr 512 256) (a : Arr 256 256) (hw : ∀ r m, w (ix2 r m) = head x3 r h m)
    (hq : ∀ r d, q (ix2 r d) = dav x1 x4 r h d) (ha : ∀ m d, a (ix2 m d) = prev (ix2 m (colV h d))) (m d : Fin 256) :
    a (ix2 m d) + ∑ r, w (ix2 r m) * q (ix2 r d) = step x0 x1 x2 x3 x4 prev (ix2 m (colV h d)) := by
  unfold step
  rw [byHalf_colV]
  simp only [hw, hq, ha]
  rfl

theorem pieces6_apply (prev : Arr 256 2048) (a0 a1 a2 a3 b0 b1 b2 b3 : Vec Ideal S256x256 .f32)
    (h0 : ∀ m d, a0 (ix2 m d) = prev (ix2 m (colK 0 d))) (h1 : ∀ m d, a1 (ix2 m d) = prev (ix2 m (colK 1 d)))
    (h2 : ∀ m d, a2 (ix2 m d) = prev (ix2 m (colK 2 d))) (h3 : ∀ m d, a3 (ix2 m d) = prev (ix2 m (colK 3 d)))
    (g0 : ∀ m d, b0 (ix2 m d) = prev (ix2 m (colV 0 d))) (g1 : ∀ m d, b1 (ix2 m d) = prev (ix2 m (colV 1 d)))
    (g2 : ∀ m d, b2 (ix2 m d) = prev (ix2 m (colV 2 d))) (g3 : ∀ m d, b3 (ix2 m d) = prev (ix2 m (colV 3 d))) :
    ∀ p ∈ pieces6 x0 x1 x2 x3 x4 a0 a1 a2 a3 b0 b1 b2 b3, ∀ x : p.1.shape.Idx, p.2 x = step x0 x1 x2 x3 x4 prev (p.1.emb x) := by
  intro p hp
  simp only [pieces6, List.mem_cons, List.not_mem_nil, or_false] at hp
  rcases hp with rfl | rfl | rfl | rfl | rfl | rfl | rfl | rfl <;> intro x <;> obtain ⟨m, d, rfl⟩ := two x
  · rw [emb_cols 1792 _ m d (colV 3 d) (Nat.add_assoc 1024 768 d.val).symm, (same1 _).2.2.2.2.2.1]
    exact (pay1_4 _ _ m d _).trans (dv_eq x0 x1 x2 x3 x4 3 prev _ (cut (k1_pay9 (F := Ideal) x1 x4) 3) _ (lq_head x3 3 _ rfl _) (cut_dav x1 x4 3) g3 m d)
  · rw [emb_cols 768 _ m d (colK 3 d) rfl]
    exact (pay1_3 _ _ _ _ m d).trans (dk_eq x0 x1 x2 x3 x4 3 prev _ _ _ (ds3 x1 x2 x3 x4) (lq_head x0 3 _ rfl _) h3 m d)
  · rw [emb_cols 1536 _ m d (colV 2 d) (Nat.add_assoc 1024 512 d.val).symm, (same1 _).2.2.2.2.1]
    exact (pay1_35 _ _ m d _).trans (dv_eq x0 x1 x2 x3 x4 2 prev _ (cut (k1_pay9 (F := Ideal) x1 x4) 2) _ (lq_head x3 2 _ rfl _) (cut_dav x1 x4 2) g2 m d)
  · rw [emb_cols 512 _ m d (colK 2 d) rfl]
    exact (pay1_34 _ _ _ m d).trans (dk_eq x0 x1 x2 x3 x4 2 prev _ _ _ (ds2 x1 x2 x3 x4) (lq_head x0 2 _ rfl _) h2 m d)
  · rw [emb_cols 1280 _ m d (colV 1 d) (Nat.add_assoc 1024 256 d.val).symm, (same1 _).2.2.1]
    exact (pay1_27 _ _ m d _).trans (dv_eq x0 x1 x2 x3 x4 1 prev _ (cut (k1_pay9 (F := Ideal) x1 x4) 1) _ (lq_head x3 1 _ rfl _) (cut_dav x1 x4 1) g1 m d)
  · rw [emb_cols 256 _ m d (colK 1 d) rfl]
    exact (pay1_26 _ _ _ _ _ m d).trans (dk_eq x0 x1 x2 x3 x4 1 prev _ _ _ (ds1 x1 x2 x3 x4) (lq_head x0 1 _ rfl _) h1 m d)
  · rw [emb_cols 1024 _ m d (colV 0 d) (Nat.add_assoc 1024 0 d.val).symm, (same1 _).1]
    exact (pay1_19 _ _ m d _).trans (dv_eq x0 x1 x2 x3 x4 0 prev _ _ _ (lq_head x3 0 _ rfl _) (fun r d => pay1_14 x1 x4 r d) g0 m d)
  · rw [emb_cols 0 _ m d (colK 0 d) rfl]
    exact (pay1_18 _ _ _ _ _ m d).trans (dk_eq x0 x1 x2 x3 x4 0 prev _ _ _ (ds0 x1 x2 x3 x4) (lq_head x0 0 _ rfl _) h0 m d)

end Cert.AttnC

end
-- ==== Proof.C.Point1.lean ====
/- What the backward call leaves after each point of its grid. -/
module

public import proofs.«01_k».proof.Proof.C.Block1

@[expose] public section

set_option maxRecDepth 16384

noncomputable section

namespace Cert.AttnC

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD) (t : Fin cfg1.N)

/-- An array under stores that agree with it, whatever an earlier store left. -/
theorem canon_over {S : Shape} {e : EltTy} (G : S.Idx → Elt Ideal e) (z : View.Piece (Elt Ideal) S e) :
    ∀ L : List (View.Piece (Elt Ideal) S e), (∀ p ∈ L, ∀ x : p.1.shape.Idx, p.2 x = G (p.1.emb x)) →
      ∀ y : S.Idx, (∃ p ∈ L, y ∈ p.1.set) → View.canon (L ++ [z]) y = G y
  | [], _, _, h => by obtain ⟨_, hm, _⟩ := h; exact absurd hm List.not_mem_nil
  | p :: L, hG, y, h => by
    by_cases hy : y ∈ p.1.set
    · obtain ⟨x, rfl⟩ : ∃ x, p.1.emb x = y := p.1.exists_idx_of_mem hy
      obtain ⟨r, w⟩ := p
      rw [List.cons_append, View.canon_cons_emb]
      exact hG ⟨r, w⟩ List.mem_cons_self x
    · rw [List.cons_append, View.canon_cons_of_not_mem _ _ hy]
      refine canon_over G z L (fun p' hp' => hG p' (List.mem_cons_of_mem _ hp')) y ?_
      obtain ⟨q, hq, hyq⟩ := h
      rcases List.mem_cons.mp hq with rfl | hq
      · exact absurd hyq hy
      · exact ⟨q, hq, hyq⟩

/-- A column outside a store's columns reads what was there before it. -/
theorem canon_skip (o : Nat) (inb) (w) (L : List (View.Piece (Elt Ideal) S256x2048 .f32)) (m : Fin 256) (x : Fin 2048)
    (hx : x.val < o ∨ o + 256 ≤ x.val) :
    View.canon ((⟨Rect.unit (s := S256x2048) ![0, o] ![256, 256] inb, w⟩ : View.Piece (Elt Ideal) S256x2048 .f32) :: L) (ix2 m x) = View.canon L (ix2 m x) := by
  refine View.canon_cons_of_not_mem _ _ fun h => ?_
  have h1 := (Rect.mem_set_unit (s := S256x2048) (off := ![0, o]) (size := ![256, 256]) (inb := inb)).mp h 1
  have ha : o ≤ x.val := h1.1
  have hb : x.val < o + 256 := h1.2
  omega

/-- Where only the zeroing store wrote, zero is read. -/
theorem canon_zero (inb) (y : S256x2048.Idx) :
    View.canon [(⟨Rect.unit (s := S256x2048) ![0, 0] ![256, 2048] inb, k1_pay5 (F := Ideal)⟩ : View.Piece (Elt Ideal) S256x2048 .f32)] y = (0 : EReal) := by
  rw [View.canon_unit_zero (S := S256x2048) (off := ![0, 0]) (by funext a; match a with | ⟨0, _⟩ => rfl | ⟨1, _⟩ => rfl)]
  pointwise [k1_pay5]

/-- A load of one head's columns from an array written so far. -/
theorem cov_cols (v : View sig .tc .vmem S256x2048 .f32) (L : List (View.Piece (Elt Ideal) S256x2048 .f32)) (o : Nat) (inb) (m d : Fin 256) (x : Fin 2048)
    (hx : x.val = o + d.val) :
    v.readCov L (Rect.unit (s := S256x2048) ![0, o] ![256, 256] inb).toLoadRect (ix2 m d) = View.canon L (ix2 m x) := by
  rw [View.readCov_eq_canon']
  exact congrArg (View.canon L) (emb_cols o inb m d x hx)

theorem out5_B (h0 : ¬t.val % 8 = 0) : (outsAt1 (F := Ideal) V c t.val t.isLt).1
    = pair (byHead (dqv (iblk1 V c 3 t) (iblk1 V c 1 t) (iblk1 V c 2 t) (iblk1 V c 4 t)))
      (byHead (dgv (iblk1 V c 3 t) (iblk1 V c 1 t) (iblk1 V c 2 t) (iblk1 V c 4 t))) := by
  rw [outsAt1_B V c t h0]
  unfold out1_B_5
  dsimp only
  have hcov := cover1_B_5 (F := Ideal) c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (fun h => h0 ((hcond1_0 t).mp h)) (iblk1 V c 0 t) (iblk1 V c 1 t)
    (iblk1 V c 2 t) (iblk1 V c 3 t) (iblk1 V c 4 t) (outsAt1 V c (t.val - 1) (Nat.lt_of_le_of_lt (Nat.sub_le _ _) t.isLt)).2
  rw [View.read_writes_eq_canon _ _ _ hcov]
  funext y
  refine View.canon_apply_of_pieces (Val := Elt Ideal) (e := .bf16) (pair _ _) _ ?_ y (hcov y)
  unfold kernelRun1_B
  dsimp only
  sl_unfold_words
  simp only [View.readAt_eq_ld, (hs1_0 t).read_unread, (hs1_1 t).read_unread, (hs1_2 t).read_unread, (hs1_3 t).read_unread, (hs1_4 t).read_unread, ld_all]
  exact pieces5_apply _ _ _ _

theorem out5_A (h0 : t.val % 8 = 0) : (outsAt1 (F := Ideal) V c t.val t.isLt).1
    = pair (byHead (dqv (iblk1 V c 3 t) (iblk1 V c 1 t) (iblk1 V c 2 t) (iblk1 V c 4 t)))
      (byHead (dgv (iblk1 V c 3 t) (iblk1 V c 1 t) (iblk1 V c 2 t) (iblk1 V c 4 t))) := by
  rw [outsAt1_A V c t h0]
  unfold out1_A_5
  dsimp only
  have hcov := cover1_A_5 (F := Ideal) c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) ((hcond1_0 t).mpr h0) (iblk1 V c 0 t) (iblk1 V c 1 t)
    (iblk1 V c 2 t) (iblk1 V c 3 t) (iblk1 V c 4 t)
  rw [View.read_writes_eq_canon _ _ _ hcov]
  funext y
  refine View.canon_apply_of_pieces (Val := Elt Ideal) (e := .bf16) (pair _ _) _ ?_ y (hcov y)
  unfold kernelRun1_A
  dsimp only
  sl_unfold_words
  simp only [View.readAt_eq_ld, (hs1_0 t).read_unread, (hs1_1 t).read_unread, (hs1_2 t).read_unread, (hs1_3 t).read_unread, (hs1_4 t).read_unread, ld_all]
  exact pieces5_apply _ _ _ _

theorem out6_B (h0 : ¬t.val % 8 = 0) : (outsAt1 (F := Ideal) V c t.val t.isLt).2
    = step (iblk1 V c 0 t) (iblk1 V c 1 t) (iblk1 V c 2 t) (iblk1 V c 3 t) (iblk1 V c 4 t)
      (outsAt1 V c (t.val - 1) (Nat.lt_of_le_of_lt (Nat.sub_le _ _) t.isLt)).2 := by
  rw [outsAt1_B V c t h0]
  unfold out1_B_6
  dsimp only
  have hcov := cover1_B_6 (F := Ideal) c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (fun h => h0 ((hcond1_0 t).mp h)) (iblk1 V c 0 t) (iblk1 V c 1 t)
    (iblk1 V c 2 t) (iblk1 V c 3 t) (iblk1 V c 4 t) (outsAt1 V c (t.val - 1) (Nat.lt_of_le_of_lt (Nat.sub_le _ _) t.isLt)).2
  rw [View.read_writes_eq_canon _ _ _ hcov]
  funext y
  refine View.canon_apply_of_pieces (Val := Elt Ideal) (e := .f32) (step _ _ _ _ _ _) _ ?_ y (hcov y)
  unfold kernelRun1_B
  dsimp only
  sl_unfold_words
  simp only [View.readAt_eq_ld, (hs1_0 t).read_unread, (hs1_1 t).read_unread, (hs1_2 t).read_unread, (hs1_3 t).read_unread, (hs1_4 t).read_unread,
    (hs1_6 t).read_unread, ld_all]
  refine pieces6_apply _ _ _ _ _ _ _ _ _ _ _ _ _ _ ?_ ?_ ?_ ?_ ?_ ?_ ?_ ?_ <;> intro m d
  · exact ld_cols _ 0 _ m d _ rfl
  · exact ld_cols _ 256 _ m d _ rfl
  · exact ld_cols _ 512 _ m d _ rfl
  · exact ld_cols _ 768 _ m d _ rfl
  · exact ld_cols _ 1024 _ m d _ (Nat.add_assoc 1024 0 d.val).symm
  · exact ld_cols _ 1280 _ m d _ (Nat.add_assoc 1024 256 d.val).symm
  · exact ld_cols _ 1536 _ m d _ (Nat.add_assoc 1024 512 d.val).symm
  · exact ld_cols _ 1792 _ m d _ (Nat.add_assoc 1024 768 d.val).symm

theorem out6_A (h0 : t.val % 8 = 0) : (outsAt1 (F := Ideal) V c t.val t.isLt).2
    = step (iblk1 V c 0 t) (iblk1 V c 1 t) (iblk1 V c 2 t) (iblk1 V c 3 t) (iblk1 V c 4 t) (fun _ => 0) := by
  rw [outsAt1_A V c t h0]
  unfold out1_A_6
  dsimp only
  have hcov := cover1_A_6 (F := Ideal) c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) ((hcond1_0 t).mpr h0) (iblk1 V c 0 t) (iblk1 V c 1 t)
    (iblk1 V c 2 t) (iblk1 V c 3 t) (iblk1 V c 4 t)
  rw [View.read_writes_eq_canon _ _ _ hcov]
  funext y
  unfold kernelRun1_A
  dsimp only
  sl_unfold_words
  simp only [View.readAt_eq_ld, (hs1_0 t).read_unread, (hs1_1 t).read_unread, (hs1_2 t).read_unread, (hs1_3 t).read_unread, (hs1_4 t).read_unread, ld_all]
  refine canon_over (e := .f32) (step _ _ _ _ _ _) _ (pieces6 _ _ _ _ _ _ _ _ _ _ _ _ _) ?_ y ?_
  · refine pieces6_apply _ _ _ _ _ _ _ _ _ _ _ _ _ _ ?_ ?_ ?_ ?_ ?_ ?_ ?_ ?_ <;> intro m d
    · exact (cov_cols _ _ 0 _ m d (colK 0 d) rfl).trans (canon_zero _ _)
    · rw [cov_cols _ _ 256 _ m d (colK 1 d) rfl]
      repeat rw [canon_skip _ _ _ _ _ _ (by simp only [colK, colV]; omega)]
      exact canon_zero _ _
    · rw [cov_cols _ _ 512 _ m d (colK 2 d) rfl]
      repeat rw [canon_skip _ _ _ _ _ _ (by simp only [colK, colV]; omega)]
      exact canon_zero _ _
    · rw [cov_cols _ _ 768 _ m d (colK 3 d) rfl]
      repeat rw [canon_skip _ _ _ _ _ _ (by simp only [colK, colV]; omega)]
      exact canon_zero _ _
    · rw [cov_cols _ _ 1024 _ m d (colV 0 d) (Nat.add_assoc 1024 0 d.val).symm]
      repeat rw [canon_skip _ _ _ _ _ _ (by simp only [colK, colV]; omega)]
      exact canon_zero _ _
    · rw [cov_cols _ _ 1280 _ m d (colV 1 d) (Nat.add_assoc 1024 256 d.val).symm]
      repeat rw [canon_skip _ _ _ _ _ _ (by simp only [colK, colV]; omega)]
      exact canon_zero _ _
    · rw [cov_cols _ _ 1536 _ m d (colV 2 d) (Nat.add_assoc 1024 512 d.val).symm]
      repeat rw [canon_skip _ _ _ _ _ _ (by simp only [colK, colV]; omega)]
      exact canon_zero _ _
    · rw [cov_cols _ _ 1792 _ m d (colV 3 d) (Nat.add_assoc 1024 768 d.val).symm]
      repeat rw [canon_skip _ _ _ _ _ _ (by simp only [colK, colV]; omega)]
      exact canon_zero _ _
  · exact View.cover_of_tiledL (pieces6 _ _ _ _ _ _ _ _ _ _ _ _ _) S256x256.size (by sl_kernel_rfl) y

end Cert.AttnC

end
-- ==== Proof.C.Arrays.lean ====
/- The arrays the two calls leave, from the arrays they find: the blocks put together, and the sum over the blocks. -/
module

public import proofs.«01_k».proof.Proof.C.Block0
public import proofs.«01_k».proof.Proof.C.Point1
public import Idealize.ShloMosaic.Lib.Pipeline.ValueKit

@[expose] public section

set_option maxRecDepth 16384

noncomputable section

namespace Cert.AttnC

open Idealize.ShloMosaic Idealize.ShloMosaic.TcCoe Idealize.SL.Sem Idealize.ShloMosaic.Pipeline
open Cert.KernelIdeal Cert.KernelIdeal.Gen

/-- Row `r` of block `t`. -/
def row (t : Nat) (r : Fin 512) : Fin 4096 := ⟨(512 * t + r.val) % 4096, Nat.mod_lt _ (by decide)⟩
theorem row_val (t : Nat) (ht : t < 8) (r : Fin 512) : (row t r).val = 512 * t + r.val := Nat.mod_eq_of_lt (by omega)
/-- Block `t` of 512 rows. -/
def blk (t : Nat) (X : Arr 4096 1024) : Arr 512 1024 := fun i => X (ix2 (row t (i 0)) (i 1))

/-- A sum over the rows, block by block. -/
theorem sum_rows (f : Fin 4096 → EReal) : ∑ r, f r = ∑ t ∈ Finset.range 8, ∑ r : Fin 512, f (row t r) := by
  rw [← Fin.sum_univ_eq_sum_range (fun t => ∑ r : Fin 512, f (row t r)), ← Fintype.sum_prod_type', ← Equiv.sum_comp (finProdFinEquiv (m := 8) (n := 512))]
  refine Finset.sum_congr rfl fun x _ => congrArg f (Fin.ext ?_)
  rw [row_val _ x.1.isLt]
  exact Nat.add_comm _ _

theorem dkv_blocks (p q g : Arr 4096 1024) (kv : Arr 256 2048) (dy : Arr 4096 1024) (m : Fin 256) (h : Fin 4) (d : Fin 256) :
    ∑ t ∈ Finset.range 8, dkv (blk t p) (blk t q) (blk t g) kv (blk t dy) m h d = dkv p q g kv dy m h d :=
  (sum_rows fun r => dsv p g kv dy r h m * head q r h d).symm
theorem dvv_blocks (p g dy : Arr 4096 1024) (m : Fin 256) (h : Fin 4) (d : Fin 256) :
    ∑ t ∈ Finset.range 8, dvv (blk t p) (blk t g) (blk t dy) m h d = dvv p g dy m h d :=
  (sum_rows fun r => head p r h m * dav g dy r h d).symm

theorem lt0 (t : Fin cfg0.N) : t.val < 8 := N_0 ▸ t.isLt
theorem lt1 (t : Fin cfg1.N) : t.val < 8 := N_1 ▸ t.isLt

theorem idx0_0 : ∀ t, win0_0.index t 0 = t.val ∧ win0_0.index t 1 = 5 := by decide +kernel
theorem idx0_1 : ∀ t, win0_1.index t 0 = t.val ∧ win0_1.index t 1 = 6 := by decide +kernel
theorem idx0_2 : ∀ t, win0_2.index t 0 = 0 ∧ win0_2.index t 1 = 0 := by decide +kernel
theorem idx0_3 : ∀ t, win0_3.index t 0 = t.val ∧ win0_3.index t 1 = 0 := by decide +kernel
theorem idx0_4 : ∀ t, win0_4.index t 0 = t.val ∧ win0_4.index t 1 = 0 := by decide +kernel
theorem idx1_0 : ∀ t, win1_0.index t 0 = t.val ∧ win1_0.index t 1 = 5 := by decide +kernel
theorem idx1_1 : ∀ t, win1_1.index t 0 = t.val ∧ win1_1.index t 1 = 6 := by decide +kernel
theorem idx1_2 : ∀ t, win1_2.index t 0 = 0 ∧ win1_2.index t 1 = 0 := by decide +kernel
theorem idx1_3 : ∀ t, win1_3.index t 0 = t.val ∧ win1_3.index t 1 = 0 := by decide +kernel
theorem idx1_4 : ∀ t, win1_4.index t 0 = t.val ∧ win1_4.index t 1 = 0 := by decide +kernel
theorem idx1_5 : ∀ t, win1_5.index t 0 = 4 ∧ win1_5.index t 1 = t.val ∧ win1_5.index t 2 = 0 := by decide +kernel

theorem emb0_3 (t : Fin cfg0.N) (r : Fin 512) (d : Fin 1024) : (win0_3.blk t).view.emb (ix2 r d) = ix2 (row t.val r) d := by
  refine at2 (a := win0_3.index t 0 * 512) (e := r.val) (b := win0_3.index t 1 * 1024) (f := d.val) _ _ _ (by blk_simp) (by blk_simp) ?_ ?_
  · rw [(idx0_3 t).1, row_val _ (lt0 t)]; omega
  · rw [(idx0_3 t).2]; omega
theorem emb0_4 (t : Fin cfg0.N) (r : Fin 512) (d : Fin 1024) : (win0_4.blk t).view.emb (ix2 r d) = ix2 (row t.val r) d := by
  refine at2 (a := win0_4.index t 0 * 512) (e := r.val) (b := win0_4.index t 1 * 1024) (f := d.val) _ _ _ (by blk_simp) (by blk_simp) ?_ ?_
  · rw [(idx0_4 t).1, row_val _ (lt0 t)]; omega
  · rw [(idx0_4 t).2]; omega
theorem emb1_5 (t : Fin cfg1.N) (s : Fin 2) (r : Fin 512) (d : Fin 1024) :
    (win1_5.blk t).view.emb (ix3 s r d) = ix3 ⟨8 + s.val, by omega⟩ (row t.val r) d := by
  funext k
  match k with
  | ⟨0, _⟩ =>
    refine Fin.ext (Eq.trans (b := win1_5.index t 0 * 2 + s.val) (by blk_simp) ?_)
    rw [(idx1_5 t).1]; rfl
  | ⟨1, _⟩ =>
    refine Fin.ext (Eq.trans (b := win1_5.index t 1 * 512 + r.val) (by blk_simp) ?_)
    rw [(idx1_5 t).2.1]; exact (by omega : t.val * 512 + r.val = 512 * t.val + r.val).trans (row_val _ (lt1 t) r).symm
  | ⟨2, _⟩ =>
    refine Fin.ext (Eq.trans (b := win1_5.index t 2 * 1024 + d.val) (by blk_simp) ?_)
    rw [(idx1_5 t).2.2]; exact Nat.zero_add _

variable (V : (c : Dev nD) → (b : Ref sig .tc) → Buf (Elt Ideal) ((c : Thread nD τ).loc b)) (c : Dev nD)

theorem in0_0 (t : Fin cfg0.N) : iblk0 (F := Ideal) V c 0 t = blk t.val (zq (V c main_arg0)) := by
  funext i
  obtain ⟨r, d, rfl⟩ := two i
  unfold iblk0
  blk_simp
  refine congrArg (V c main_arg0) (at2 (a := win0_0.index t 0 * 512) (e := r.val) (b := win0_0.index t 1 * 1024) (f := d.val) _ _ _ (by blk_simp) (by blk_simp) ?_ ?_)
  · rw [(idx0_0 t).1]; exact (row_val _ (lt0 t) r).trans (by omega)
  · rw [(idx0_0 t).2]; rfl
theorem in0_1 (t : Fin cfg0.N) : iblk0 (F := Ideal) V c 1 t = blk t.val (zg (V c main_arg0)) := by
  funext i
  obtain ⟨r, d, rfl⟩ := two i
  unfold iblk0
  blk_simp
  refine congrArg (V c main_arg0) (at2 (a := win0_1.index t 0 * 512) (e := r.val) (b := win0_1.index t 1 * 1024) (f := d.val) _ _ _ (by blk_simp) (by blk_simp) ?_ ?_)
  · rw [(idx0_1 t).1]; exact (row_val _ (lt0 t) r).trans (by omega)
  · rw [(idx0_1 t).2]; rfl
theorem in0_2 (t : Fin cfg0.N) : iblk0 (F := Ideal) V c 2 t = (V c main_arg1) := by
  funext i
  obtain ⟨r, d, rfl⟩ := two i
  unfold iblk0
  blk_simp
  refine congrArg (V c main_arg1) (at2 (a := win0_2.index t 0 * 256) (e := r.val) (b := win0_2.index t 1 * 2048) (f := d.val) _ _ _ (by blk_simp) (by blk_simp) ?_ ?_)
  · rw [(idx0_2 t).1]; omega
  · rw [(idx0_2 t).2]; omega
theorem in1_0 (t : Fin cfg1.N) : iblk1 (F := Ideal) V c 0 t = blk t.val (zq (V c main_arg0)) := by
  funext i
  obtain ⟨r, d, rfl⟩ := two i
  unfold iblk1
  blk_simp
  refine congrArg (V c main_arg0) (at2 (a := win1_0.index t 0 * 512) (e := r.val) (b := win1_0.index t 1 * 1024) (f := d.val) _ _ _ (by blk_simp) (by blk_simp) ?_ ?_)
  · rw [(idx1_0 t).1]; exact (row_val _ (lt1 t) r).trans (by omega)
  · rw [(idx1_0 t).2]; rfl
theorem in1_1 (t : Fin cfg1.N) : iblk1 (F := Ideal) V c 1 t = blk t.val (zg (V c main_arg0)) := by
  funext i
  obtain ⟨r, d, rfl⟩ := two i
  unfold iblk1
  blk_simp
  refine congrArg (V c main_arg0) (at2 (a := win1_1.index t 0 * 512) (e := r.val) (b := win1_1.index t 1 * 1024) (f := d.val) _ _ _ (by blk_simp) (by blk_simp) ?_ ?_)
  · rw [(idx1_1 t).1]; exact (row_val _ (lt1 t) r).trans (by omega)
  · rw [(idx1_1 t).2]; rfl
theorem in1_2 (t : Fin cfg1.N) : iblk1 (F := Ideal) V c 2 t = (V c main_arg1) := by
  funext i
  obtain ⟨r, d, rfl⟩ := two i
  unfold iblk1
  blk_simp
  refine congrArg (V c main_arg1) (at2 (a := win1_2.index t 0 * 256) (e := r.val) (b := win1_2.index t 1 * 2048) (f := d.val) _ _ _ (by blk_simp) (by blk_simp) ?_ ?_)
  · rw [(idx1_2 t).1]; omega
  · rw [(idx1_2 t).2]; omega
theorem in1_3 (t : Fin cfg1.N) : iblk1 (F := Ideal) V c 3 t = blk t.val (V c main_v0_1) := by
  funext i
  obtain ⟨r, d, rfl⟩ := two i
  unfold iblk1
  blk_simp
  refine congrArg (V c main_v0_1) (at2 (a := win1_3.index t 0 * 512) (e := r.val) (b := win1_3.index t 1 * 1024) (f := d.val) _ _ _ (by blk_simp) (by blk_simp) ?_ ?_)
  · rw [(idx1_3 t).1]; exact (row_val _ (lt1 t) r).trans (by omega)
  · rw [(idx1_3 t).2]; exact (Nat.zero_add _).symm.trans (by rw [Nat.zero_mul]; rfl)
theorem in1_4 (t : Fin cfg1.N) : iblk1 (F := Ideal) V c 4 t = blk t.val (V c main_arg2) := by
  funext i
  obtain ⟨r, d, rfl⟩ := two i
  unfold iblk1
  blk_simp
  refine congrArg (V c main_arg2) (at2 (a := win1_4.index t 0 * 512) (e := r.val) (b := win1_4.index t 1 * 1024) (f := d.val) _ _ _ (by blk_simp) (by blk_simp) ?_ ?_)
  · rw [(idx1_4 t).1]; exact (row_val _ (lt1 t) r).trans (by omega)
  · rw [(idx1_4 t).2]; exact (Nat.zero_add _).symm.trans (by rw [Nat.zero_mul]; rfl)

/-- The gated output the forward call leaves. -/
theorem arr0_3 : (dat0 (F := Ideal) V c).arrAt 3 cfg0.N = byHead (yv (zq (V c main_arg0)) (zg (V c main_arg0)) (V c main_arg1)) := by
  refine (dat0 V c).arrAt_eq_of_covers 3 _ (by decide +kernel) fun t hf y => ?_
  obtain ⟨r, d, rfl⟩ := two y
  blk_simp
  rw [after0_3, out0_3_eq, emb0_3, in0_0, in0_1, in0_2]
  rfl
/-- The weights the forward call leaves. -/
theorem arr0_4 : (dat0 (F := Ideal) V c).arrAt 4 cfg0.N = byHead (prob (zq (V c main_arg0)) (V c main_arg1)) := by
  refine (dat0 V c).arrAt_eq_of_covers 4 _ (by decide +kernel) fun t hf y => ?_
  obtain ⟨r, d, rfl⟩ := two y
  blk_simp
  rw [after0_4, out0_4_eq, emb0_4, in0_0, in0_2]
  rfl

theorem out5 (t : Fin cfg1.N) : (outsAt1 (F := Ideal) V c t.val t.isLt).1
    = pair (byHead (dqv (iblk1 V c 3 t) (iblk1 V c 1 t) (iblk1 V c 2 t) (iblk1 V c 4 t)))
      (byHead (dgv (iblk1 V c 3 t) (iblk1 V c 1 t) (iblk1 V c 2 t) (iblk1 V c 4 t))) := by
  by_cases h : t.val % 8 = 0
  · exact out5_A V c t h
  · exact out5_B V c t h

/-- The last two matrices of the stack. -/
def lastTwo (f g : Arr 4096 1024) : S10x4096x1024.Idx → EReal := fun i => if (i 0).val = 8 then f (ix2 (i 1) (i 2)) else g (ix2 (i 1) (i 2))

/-- The cotangents of the queries and of the gate the backward call leaves, the rest of the stack untouched. -/
theorem arr1_5 : (dat1 (F := Ideal) V c).arrAt 5 cfg1.N = fun i => if 8 ≤ (i 0).val
    then lastTwo (byHead (dqv (V c main_v0_1) (zg (V c main_arg0)) (V c main_arg1) (V c main_arg2)))
      (byHead (dgv (V c main_v0_1) (zg (V c main_arg0)) (V c main_arg1) (V c main_arg2))) i
    else (V c main_v1_0) i := by
  refine (dat1 V c).arrAt_eq_of_coversWhere 5 _ (fun β => 4 ≤ β (0 : Fin _)) (by decide +kernel) (fun t hf y => ?_)
    (fun j => by blk_simp [Pipeline.Window.cell_apply]; omega)
  obtain ⟨s, r, d, rfl⟩ := three y
  blk_simp
  rw [after1_5, out5, emb1_5, in1_1, in1_2, in1_3, in1_4]
  match s with
  | ⟨0, _⟩ => rfl
  | ⟨1, _⟩ => rfl

/-- The cotangent of the keys and values, point by point. -/
theorem acc6 : ∀ (n : Nat) (hn : n < cfg1.N), (outsAt1 (F := Ideal) V c n hn).2
    = byHalf (fun m h d => ∑ t ∈ Finset.range (n + 1), dkv (blk t (V c main_v0_1)) (blk t (zq (V c main_arg0))) (blk t (zg (V c main_arg0)))
        (V c main_arg1) (blk t (V c main_arg2)) m h d)
      (fun m h d => ∑ t ∈ Finset.range (n + 1), dvv (blk t (V c main_v0_1)) (blk t (zg (V c main_arg0))) (blk t (V c main_arg2)) m h d)
  | 0, hn => by
    have e := out6_A V c ⟨0, hn⟩ rfl
    refine e.trans ?_
    rw [in1_0, in1_1, in1_2, in1_3, in1_4]
    unfold step
    simp only [Finset.sum_range_one, zero_add]
  | n + 1, hn => by
    have e := out6_B V c ⟨n + 1, hn⟩ (by have := lt1 ⟨n + 1, hn⟩; dsimp only at this ⊢; omega)
    refine e.trans ?_
    rw [in1_0, in1_1, in1_2, in1_3, in1_4]
    refine (congrArg (step _ _ _ _ _) (acc6 n (by omega))).trans ?_
    unfold step
    simp only [byHalf_colK, byHalf_colV, Finset.sum_range_succ _ (n + 1)]

/-- The cotangent of the keys and values the backward call leaves. -/
theorem arr1_6 : (dat1 (F := Ideal) V c).arrAt 6 cfg1.N
    = byHalf (dkv (V c main_v0_1) (zq (V c main_arg0)) (zg (V c main_arg0)) (V c main_arg1) (V c main_arg2))
      (dvv (V c main_v0_1) (zg (V c main_arg0)) (V c main_arg2)) := by
  refine (dat1 V c).arrAt_eq_of_after_last 6 t1_7 (by decide +kernel) _ fun j => ?_
  blk_simp
  rw [after1_6, acc6]
  simp only [show t1_7.val + 1 = 8 from rfl]
  simp only [dkv_blocks, dvv_blocks]

end Cert.AttnC

end
-- ==== Proof.C.Run.lean ====
/- The run of the two calls, and what it leaves in each result. -/
module

public import proofs.«01_k».proof.Proof.C.Arrays
public import Idealize.ShloMosaic.Lib.Pointwise

@[expose] public section

set_option maxRecDepth 16384

noncomputable section

namespace Cert.AttnC

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every run ends, with every buffer at the contents the last segment's boundary names. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The projections of device `c`. -/
abbrev aZ (c : Dev nD) : Arr 4096 10240 := m ((c : Thread nD τ).loc main_arg0)
/-- The keys and values. -/
abbrev aKV (c : Dev nD) : Arr 256 2048 := m ((c : Thread nD τ).loc main_arg1)
/-- The output's cotangent. -/
abbrev aDY (c : Dev nD) : Arr 4096 1024 := m ((c : Thread nD τ).loc main_arg2)
/-- The stack of the projections' cotangents as given. -/
abbrev aDZ (c : Dev nD) : S10x4096x1024.Idx → EReal := m ((c : Thread nD τ).loc main_arg3)

/-- The gated output. -/
def vY (z : Arr 4096 10240) (kv : Arr 256 2048) : Arr 4096 1024 := byHead (yv (zq z) (zg z) kv)
/-- The softmax weights. -/
def vP (z : Arr 4096 10240) (kv : Arr 256 2048) : Arr 4096 1024 := byHead (prob (zq z) kv)
/-- The stack of the projections' cotangents. -/
def vDZ (z : Arr 4096 10240) (kv : Arr 256 2048) (dy : Arr 4096 1024) (dz : S10x4096x1024.Idx → EReal) : S10x4096x1024.Idx → EReal := fun i =>
  if 8 ≤ (i 0).val then lastTwo (byHead (dqv (vP z kv) (zg z) kv dy)) (byHead (dgv (vP z kv) (zg z) kv dy)) i else dz i
/-- The cotangent of the keys and values. -/
def vDKV (z : Arr 4096 10240) (kv : Arr 256 2048) (dy : Arr 4096 1024) : Arr 256 2048 :=
  byHalf (dkv (vP z kv) (zq z) (zg z) kv dy) (dvv (vP z kv) (zg z) dy)

theorem V2_z (c : Dev nD) : V2 m ρ c main_arg0 = aZ m c := W2_args m ρ c main_arg0 (by decide)
theorem V2_kv (c : Dev nD) : V2 m ρ c main_arg1 = aKV m c := W2_args m ρ c main_arg1 (by decide)
theorem V2_dy (c : Dev nD) : V2 m ρ c main_arg2 = aDY m c := W2_args m ρ c main_arg2 (by decide)
theorem V2_p (c : Dev nD) : V2 m ρ c main_v0_1 = vP (aZ m c) (aKV m c) :=
  (W2_of m ρ c main_v0_1 (by decide)).trans ((W1_arr m ρ c 4).trans (arr0_4 (V0 m ρ) c))
theorem V2_dz (c : Dev nD) : V2 m ρ c main_v1_0 = aDZ m c := W1_args m ρ c main_arg3 (by decide)

theorem res_y (c : Dev nD) : W3 m ρ c (Proc.devRef .tc main_v0_0) = vY (aZ m c) (aKV m c) :=
  (W3_of_ne m ρ c main_v0_0 (by decide)).trans ((W2_of m ρ c main_v0_0 (by decide)).trans ((W1_arr m ρ c 3).trans (arr0_3 (V0 m ρ) c)))
theorem res_dz (c : Dev nD) : W3 m ρ c (Proc.devRef .tc main_v1_0) = vDZ (aZ m c) (aKV m c) (aDY m c) (aDZ m c) := by
  refine (W3_arr m ρ c 5).trans ((arr1_5 (V2 m ρ) c).trans ?_)
  rw [V2_z, V2_kv, V2_dy, V2_p, V2_dz]
  rfl
theorem res_dkv (c : Dev nD) : W3 m ρ c (Proc.devRef .tc main_v1_1) = vDKV (aZ m c) (aKV m c) (aDY m c) := by
  refine (W3_arr m ρ c 6).trans ((arr1_6 (V2 m ρ) c).trans ?_)
  rw [V2_z, V2_kv, V2_dy, V2_p]
  rfl

/-- Every run of the program ends, its three results at the arrays named above and its arguments as they were. -/
theorem run : θ_run defs (onTc (τ := τ) (main (F := Ideal))) ⟨m, fun _ => 0, ρ⟩ fun r => ∀ c : Dev nD,
    r.2.mem ((c.tc : Thread nD τ).loc main_v0_0) = vY (aZ m c) (aKV m c)
    ∧ r.2.mem ((c.tc : Thread nD τ).loc main_v1_0) = vDZ (aZ m c) (aKV m c) (aDY m c) (aDZ m c)
    ∧ r.2.mem ((c.tc : Thread nD τ).loc main_v1_1) = vDKV (aZ m c) (aKV m c) (aDY m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run Cert.KernelIdeal.defs _ _).mono (fun _ h c =>
    ⟨(h c _ (mem_uc main_v0_0 (by decide))).trans (res_y m ρ c), (h c _ (mem_uc main_v1_0 (by decide))).trans (res_dz m ρ c),
      (h c _ (mem_uc main_v1_1 (by decide))).trans (res_dkv m ρ c), (h c _ (mem_uc main_arg0 (by decide))).trans (W3_main_arg0 m ρ c),
      (h c _ (mem_uc main_arg1 (by decide))).trans (W3_main_arg1 m ρ c), (h c _ (mem_uc main_arg2 (by decide))).trans (W3_main_arg2 m ρ c),
      (h c _ (mem_uc main_arg3 (by decide))).trans (W3_main_arg3 m ρ c)⟩) (run_all m ρ)

end Cert.AttnC

end
-- ==== Proof.C.Ref.lean ====
/- The reference's forward stages, read head by head as the formulas of one row. -/
module

public import proofs.«01_k».proof.Proof.C.Spec
public import proofs.«01_k».proof.Proof.Gen.ReferenceIdeal.Read
public import Idealize.ShloMosaic.Lib.IdealHost

@[expose] public section

set_option maxRecDepth 16384

noncomputable section

namespace Cert.AttnC

open Idealize.ShloMosaic Idealize.ShloMosaic.TcCoe
open Cert.ReferenceIdeal Cert.ReferenceIdeal.Gen Cert.ReferenceIdeal.Read

variable (z : Arr 4096 10240) (kv : Arr 256 2048) (dy : Arr 4096 1024)

theorem ref_q (s : Fin 4096) (h : Fin 4) (d : Fin 256) : val_main_v6 (F := Ideal) z (ix3 s h d) = head (zq z) s h d := by
  rw [val_main_v6_apply, val_main_v1_apply, val_main_v0_apply]
  refine congrArg z (same2 ?_ ?_)
  · show ((s.val * 4 + h.val) * 256 + d.val) / 1024 = s.val
    omega
  · show 5120 + ((s.val * 4 + h.val) * 256 + d.val) % 1024 = 5120 + (256 * h.val + d.val)
    omega

theorem ref_k (m : Fin 256) (h : Fin 4) (d : Fin 256) : val_main_v7 (F := Ideal) kv (ix3 m h d) = keys kv h m d := by
  rw [val_main_v7_apply, val_main_v4_apply, val_main_v3_apply]
  refine congrArg kv (same2 ?_ ?_)
  · show ((m.val * 4 + h.val) * 256 + d.val) / 1024 = m.val
    omega
  · show ((m.val * 4 + h.val) * 256 + d.val) % 1024 = 256 * h.val + d.val
    omega

theorem ref_v (m : Fin 256) (h : Fin 4) (d : Fin 256) : val_main_v8 (F := Ideal) kv (ix3 m h d) = vals kv h m d := by
  rw [val_main_v8_apply, val_main_v5_apply, val_main_v3_apply]
  refine congrArg kv (same2 ?_ ?_)
  · show ((m.val * 4 + h.val) * 256 + d.val) / 1024 = m.val
    omega
  · show 1024 + ((m.val * 4 + h.val) * 256 + d.val) % 1024 = 1024 + (256 * h.val + d.val)
    omega

theorem ref_score (s : Fin 4096) (h : Fin 4) (m : Fin 256) :
    val_main_v11 (F := Ideal) z kv (ix3 h s m) = score (head (zq z) s h) (keys kv h) m := by
  rw [val_main_v11_apply, val_main_v9_apply, val_main_v10_apply]
  refine congrArg (· * scale) (Finset.sum_congr rfl fun k _ => ?_)
  rw [← ref_q, ← ref_k]
  exact congrArg₂ _ (congrArg _ (same3 rfl rfl rfl)) (congrArg _ (same3 rfl rfl rfl))

theorem ref_max (s : Fin 4096) (h : Fin 4) :
    val_main_v12 (F := Ideal) z kv (ix2 h s) = Finset.univ.fold max ninf (score (head (zq z) s h) (keys kv h)) := by
  unfold val_main_v12
  generalize hx : val_main_v11 (F := Ideal) z kv = x
  refine (Host.reduce_eq_fold_single (max : EReal → EReal → EReal) x _ reducesTo_S4x4096x256_S4x4096_d2 (by decide) h_S_ (ix2 h s)).trans ?_
  refine congrArg (fun f => Finset.univ.fold max ninf f) (funext fun m : Fin 256 => ?_)
  rw [← ref_score, hx]
  exact congrArg x (same3 rfl rfl rfl)

theorem ref_top (s : Fin 4096) (h : Fin 4) :
    val_main_v19 (F := Ideal) z kv (ix2 h s) = Finset.univ.fold max ninf (score (head (zq z) s h) (keys kv h)) := by
  rw [val_main_v19_apply, ref_max]
  exact max_eq_right ((Finset.le_fold_max (b := ninf) (f := score (head (zq z) s h) (keys kv h)) ninf).mpr (Or.inl le_rfl))

theorem ref_exp (s : Fin 4096) (h : Fin 4) (m : Fin 256) :
    val_main_v32 (F := Ideal) z kv (ix3 h s m) = expo (score (head (zq z) s h) (keys kv h)) m := by
  rw [val_main_v32_apply, val_main_v31_apply, ref_score, val_main_v30_apply, val_main_v29_apply]
  exact congrArg (fun t : EReal => Ideal.exp (score (head (zq z) s h) (keys kv h) m - t))
    ((congrArg (val_main_v19 (F := Ideal) z kv)
      (same2 rfl rfl : idx_main_v29 (idx_main_v30 (ix3 h s m)) = ix2 h s)).trans (ref_top z kv s h))

theorem ref_sum (s : Fin 4096) (h : Fin 4) :
    val_main_v34 (F := Ideal) z kv (ix3 h s 0) = ∑ x, expo (score (head (zq z) s h) (keys kv h)) x := by
  rw [val_main_v34_apply, val_main_v33_apply]
  refine (congrArg₂ (· + ·) (Ideal.ofBits_zero_f32) (Finset.sum_congr rfl fun k _ => ?_)).trans (zero_add _)
  rw [← ref_exp]
  exact congrArg _ (same3 rfl rfl rfl)

theorem ref_soft (s : Fin 4096) (h : Fin 4) (m : Fin 256) :
    val_main_v36 (F := Ideal) z kv (ix3 h s m) = prob (zq z) kv s h m := by
  rw [val_main_v36_apply, ref_exp, val_main_v35_apply, show idx_main_v35 (ix3 h s m) = ix3 h s 0 from same3 rfl rfl rfl, ref_sum]
  rfl

theorem ref_att (s : Fin 4096) (h : Fin 4) (d : Fin 256) :
    val_main_v42 (F := Ideal) z kv (ix2 s (col h d)) = ∑ m, vals kv h m d * prob (zq z) kv s h m := by
  rw [val_main_v42_apply, val_main_v41_apply, val_main_v40_apply]
  refine Finset.sum_congr rfl fun k _ => ?_
  rw [← ref_soft, ← ref_v]
  refine congrArg₂ _ (congrArg _ (same3 rfl ?_ ?_)) (congrArg _ (same3 ?_ ?_ rfl))
  · show (s.val * 1024 + (256 * h.val + d.val)) / 256 % 4 = h.val
    omega
  · show (s.val * 1024 + (256 * h.val + d.val)) % 256 = d.val
    omega
  · show (s.val * 1024 + (256 * h.val + d.val)) / 256 % 4 = h.val
    omega
  · show (s.val * 1024 + (256 * h.val + d.val)) / 1024 = s.val
    omega

/-- The logistic function as the reference computes it. -/
def lg (g : EReal) : EReal := Ideal.div 1 (1 + Ideal.exp (-g))

theorem ref_g (s : Fin 4096) (h : Fin 4) (d : Fin 256) : val_main_v2 (F := Ideal) z (ix2 s (col h d)) = head (zg z) s h d := by
  rw [val_main_v2_apply, val_main_v0_apply]
  exact congrArg z (same2 rfl rfl)

theorem ref_lg (s : Fin 4096) (h : Fin 4) (d : Fin 256) :
    val_main_v43_2 (F := Ideal) z (ix2 s (col h d)) = lg (head (zg z) s h d) := by
  rw [val_main_v43_2_apply, val_main_call0_v3_apply, val_main_call0_v1_apply, val_main_call0_v0_apply, ref_g]
  rw [val_main_call0_v2_apply, val_main_call0_v4_apply]
  refine (congrArg₂ (fun a b : EReal => Ideal.div a (b + Ideal.exp (-head (zg z) s h d))) (Ideal.ofBits_one_f32) (Ideal.ofBits_one_f32))

theorem ref_dlg (s : Fin 4096) (h : Fin 4) (d : Fin 256) :
    val_main_v43_1 (F := Ideal) z (ix2 s (col h d)) = lg (head (zg z) s h d) * (1 - lg (head (zg z) s h d)) := by
  rw [val_main_v43_1_apply, val_main_call0_v7_apply, ref_lg, val_main_call0_v6_apply]
  exact congrArg (fun a : EReal => lg (head (zg z) s h d) * (a - lg (head (zg z) s h d))) Ideal.ofBits_one_f32

theorem ref_silu (s : Fin 4096) (h : Fin 4) (d : Fin 256) :
    val_main_v43_0 (F := Ideal) z (ix2 s (col h d)) = head (zg z) s h d * lg (head (zg z) s h d) := by
  rw [val_main_v43_0_apply, ref_lg, ref_g]
  rfl

theorem ref_y (s : Fin 4096) (h : Fin 4) (d : Fin 256) : val_main_v81 (F := Ideal) z kv (ix2 s (col h d))
    = (∑ m, vals kv h m d * prob (zq z) kv s h m) * (head (zg z) s h d * lg (head (zg z) s h d)) := by
  rw [val_main_v81_apply, val_main_v44_apply, ref_att, ref_silu]
  rfl

end Cert.AttnC
-- ==== Proof.C.RefBack.lean ====
/- The reference's backward stages, read head by head as the formulas of one row. -/
module

public import proofs.«01_k».proof.Proof.C.Ref

@[expose] public section

set_option maxRecDepth 16384

noncomputable section

namespace Cert.AttnC

open Idealize.ShloMosaic Idealize.ShloMosaic.TcCoe
open Cert.ReferenceIdeal Cert.ReferenceIdeal.Gen Cert.ReferenceIdeal.Read

/-- The cotangent of a row of scores as the reference computes it, from the exponentials and the weights' cotangent. -/
def dscR (e dp : Fin 256 → EReal) (m : Fin 256) : EReal :=
  (Ideal.div (dp m) (∑ x, e x) + -(∑ x, dp x * Ideal.div 1 ((∑ y, e y) * ∑ y, e y) * e x)) * e m * scale

variable (z : Arr 4096 10240) (kv : Arr 256 2048) (dy : Arr 4096 1024)

/-- The cotangent of the ungated output, in the reference. -/
def davR (s : Fin 4096) (h : Fin 4) (d : Fin 256) : EReal := head dy s h d * (head (zg z) s h d * lg (head (zg z) s h d))
/-- The ungated output, in the reference. -/
def attR (s : Fin 4096) (h : Fin 4) (d : Fin 256) : EReal := ∑ m, vals kv h m d * prob (zq z) kv s h m
/-- The exponentials of a row. -/
def expR (s : Fin 4096) (h : Fin 4) : Fin 256 → EReal := expo (score (head (zq z) s h) (keys kv h))
/-- The cotangent of a row of scores, in the reference. -/
def dsR (s : Fin 4096) (h : Fin 4) : Fin 256 → EReal := dscR (expR z kv s h) (dwt (davR z dy s h) (vals kv h))

theorem ref_dy (i : S4096x1024.Idx) : val_main_v45 (F := Ideal) dy i = dy i := rfl

theorem ref_dav (s : Fin 4096) (h : Fin 4) (d : Fin 256) :
    val_main_v50 (F := Ideal) z dy (ix3 h d s) = davR z dy s h d := by
  rw [val_main_v50_apply, val_main_v49_apply]
  refine (congrArg (val_main_v47 (F := Ideal) z dy) (same2 (j := ix2 s (col h d)) ?_ ?_)).trans ?_
  · show ((s.val * 4 + h.val) * 256 + d.val) / 1024 = s.val
    omega
  · show ((s.val * 4 + h.val) * 256 + d.val) % 1024 = 256 * h.val + d.val
    omega
  rw [val_main_v47_apply, ref_silu, ref_dy]
  rfl

theorem ref_dp (s : Fin 4096) (h : Fin 4) (m : Fin 256) :
    val_main_v51 (F := Ideal) z kv dy (ix3 h s m) = dwt (davR z dy s h) (vals kv h) m := by
  rw [val_main_v51_apply]
  refine Finset.sum_congr rfl fun k _ => ?_
  rw [← ref_dav, ← ref_v]
  exact congrArg₂ _ (congrArg _ (same3 rfl rfl rfl)) (congrArg _ (same3 rfl rfl rfl))

theorem ref_dv (m : Fin 256) (h : Fin 4) (d : Fin 256) :
    val_main_v72 (F := Ideal) z kv dy (ix2 m (col h d)) = ∑ s, davR z dy s h d * prob (zq z) kv s h m := by
  rw [val_main_v72_apply, val_main_v53_apply, val_main_v52_apply]
  refine Finset.sum_congr rfl fun k _ => ?_
  rw [← ref_dav, ← ref_soft]
  refine congrArg₂ _ (congrArg _ (same3 ?_ ?_ rfl)) (congrArg _ (same3 ?_ rfl ?_))
  · show (m.val * 1024 + (256 * h.val + d.val)) / 256 % 4 = h.val
    omega
  · show (m.val * 1024 + (256 * h.val + d.val)) % 256 = d.val
    omega
  · show (m.val * 1024 + (256 * h.val + d.val)) / 256 % 4 = h.val
    omega
  · show (m.val * 1024 + (256 * h.val + d.val)) / 1024 = m.val
    omega

theorem ref_inv (s : Fin 4096) (h : Fin 4) :
    val_main_v39 (F := Ideal) z kv (ix3 h s 0) = Ideal.div 1 ((∑ x, expR z kv s h x) * ∑ x, expR z kv s h x) := by
  rw [val_main_v39_apply, val_main_v37_apply, ref_sum, val_main_v38_apply]
  exact congrArg (fun a : EReal => Ideal.div a ((∑ x, expR z kv s h x) * ∑ x, expR z kv s h x)) Ideal.ofBits_one_f32

theorem ref_dot (s : Fin 4096) (h : Fin 4) : val_main_v57 (F := Ideal) z kv dy (ix2 h s)
    = ∑ x, dwt (davR z dy s h) (vals kv h) x * Ideal.div 1 ((∑ y, expR z kv s h y) * ∑ y, expR z kv s h y) * expR z kv s h x := by
  rw [val_main_v57_apply]
  refine (congrArg₂ (· + ·) Ideal.ofBits_zero_f32 (Finset.sum_congr rfl fun k _ => ?_)).trans (zero_add _)
  rw [show idx_main_v57 (ix2 h s) k = ix3 h s k from same3 rfl rfl rfl, val_main_v56_apply, val_main_v55_apply, ref_dp, ref_exp,
    val_main_v54_apply, show idx_main_v54 (ix3 h s k) = ix3 h s 0 from same3 rfl rfl rfl, ref_inv]
  rfl

theorem ref_neg (s : Fin 4096) (h : Fin 4) : val_main_v62 (F := Ideal) z kv dy (ix2 h s)
    = -(∑ x, dwt (davR z dy s h) (vals kv h) x * Ideal.div 1 ((∑ y, expR z kv s h y) * ∑ y, expR z kv s h y) * expR z kv s h x) := by
  rw [val_main_v62_apply]
  refine (congrArg₂ (· + ·) Ideal.ofBits_zero_f32 (Fin.sum_univ_one _)).trans ((zero_add _).trans ?_)
  rw [val_main_v59_apply, val_main_v58_apply, ← ref_dot]
  refine congrArg (fun t : EReal => -t) (congrArg (val_main_v57 (F := Ideal) z kv dy) (same2 (j := ix2 h s) ?_ ?_))
  · show ((h.val * 4096 + s.val) * 1 + 0) / 4096 = h.val
    omega
  · show ((h.val * 4096 + s.val) * 1 + 0) % 4096 = s.val
    omega

theorem ref_ds (s : Fin 4096) (h : Fin 4) (m : Fin 256) : val_main_v67 (F := Ideal) z kv dy (ix3 h s m) = dsR z kv dy s h m := by
  rw [val_main_v67_apply, val_main_v65_apply, val_main_v64_apply, val_main_v63_apply,
    show idx_main_v63 (ix3 h s m) = ix2 h s from same2 rfl rfl, ref_neg, val_main_v61_apply, ref_dp, val_main_v60_apply,
    show idx_main_v60 (ix3 h s m) = ix3 h s 0 from same3 rfl rfl rfl, ref_sum, ref_exp, val_main_v66_apply]
  rfl

theorem ref_dk (m : Fin 256) (h : Fin 4) (d : Fin 256) :
    val_main_v73 (F := Ideal) z kv dy (ix2 m (col h d)) = ∑ s, dsR z kv dy s h m * head (zq z) s h d := by
  rw [val_main_v73_apply, val_main_v69_apply, val_main_v68_apply]
  refine Finset.sum_congr rfl fun k _ => ?_
  rw [← ref_ds, ← ref_q]
  refine congrArg₂ _ (congrArg _ (same3 ?_ rfl ?_)) (congrArg _ (same3 rfl ?_ ?_))
  · show (m.val * 1024 + (256 * h.val + d.val)) / 256 % 4 = h.val
    omega
  · show (m.val * 1024 + (256 * h.val + d.val)) / 1024 = m.val
    omega
  · show (m.val * 1024 + (256 * h.val + d.val)) / 256 % 4 = h.val
    omega
  · show (m.val * 1024 + (256 * h.val + d.val)) % 256 = d.val
    omega

theorem ref_dq (s : Fin 4096) (h : Fin 4) (d : Fin 256) :
    val_main_v74 (F := Ideal) z kv dy (ix2 s (col h d)) = ∑ m, dsR z kv dy s h m * keys kv h m d := by
  rw [val_main_v74_apply, val_main_v71_apply, val_main_v70_apply]
  refine Finset.sum_congr rfl fun k _ => ?_
  rw [← ref_ds, ← ref_k]
  refine congrArg₂ _ (congrArg _ (same3 ?_ ?_ rfl)) (congrArg _ (same3 rfl ?_ ?_))
  · show (s.val * 1024 + (256 * h.val + d.val)) / 256 % 4 = h.val
    omega
  · show (s.val * 1024 + (256 * h.val + d.val)) / 1024 = s.val
    omega
  · show (s.val * 1024 + (256 * h.val + d.val)) / 256 % 4 = h.val
    omega
  · show (s.val * 1024 + (256 * h.val + d.val)) % 256 = d.val
    omega

/-- The cotangent of the gate's argument, in the reference. -/
def dgR (a y g : EReal) : EReal := a * y * lg g + g * (a * y) * (lg g * (1 - lg g))

theorem ref_dg (s : Fin 4096) (h : Fin 4) (d : Fin 256) :
    val_main_v48 (F := Ideal) z kv dy (ix2 s (col h d)) = dgR (attR z kv s h d) (head dy s h d) (head (zg z) s h d) := by
  rw [val_main_v48_apply, val_main_call1_v1_apply, val_main_call1_v2_apply, val_main_call1_v0_apply, val_main_v46_apply, ref_att, ref_g,
    ref_lg, ref_dlg, ref_dy]
  rfl

/-- The keys' half of the last result. -/
theorem ref_dkv_K (m : Fin 256) (h : Fin 4) (d : Fin 256) :
    val_main_v75 (F := Ideal) z kv dy (ix2 m (colK h d)) = ∑ s, dsR z kv dy s h m * head (zq z) s h d := by
  rw [← ref_dk]
  unfold val_main_v75
  exact concatenate_pair_apply_left (t := S256x2048) (s₁ := S256x1024) (s₂ := S256x1024) 1 _ _ _ _ rfl (ix2 m (col h d)) fun b => match b with | ⟨0, _⟩ => rfl | ⟨1, _⟩ => rfl
/-- The values' half of the last result. -/
theorem ref_dkv_V (m : Fin 256) (h : Fin 4) (d : Fin 256) :
    val_main_v75 (F := Ideal) z kv dy (ix2 m (colV h d)) = ∑ s, davR z dy s h d * prob (zq z) kv s h m := by
  rw [← ref_dv]
  unfold val_main_v75
  refine concatenate_pair_apply_right (t := S256x2048) (s₁ := S256x1024) (s₂ := S256x1024) 1 _ _ _ _ rfl rfl (ix2 m (col h d)) (fun b hb => ?_) ?_
  · match b with
    | ⟨0, _⟩ => rfl
    | ⟨1, _⟩ => exact absurd rfl hb
  · show 256 * h.val + d.val + 1024 = 1024 + (256 * h.val + d.val)
    omega

variable (dz : S10x4096x1024.Idx → EReal)

/-- The stack's first eight blocks are as given. -/
theorem ref_dz_low (p : Fin 10) (hp : p.val < 8) (s : Fin 4096) (c : Fin 1024) :
    val_main_v82 (F := Ideal) z kv dy dz (ix3 p s c) = dz (ix3 p s c) := by
  rw [val_main_v82_apply]
  unfold val_main_v80
  refine (concatenate_apply_piece (t := S10x4096x1024) 0 _ _ (ix3 p s c) 0 (by show 0 < 3; decide) S8x4096x1024 (val_main_v77 (F := Ideal) dz) rfl rfl 0 rfl (ix3 (⟨p.val, hp⟩ : Fin 8) s c)
    (fun b hb => ?_) ?_).trans ?_
  · match b with
    | ⟨0, _⟩ => exact absurd rfl hb
    | ⟨1, _⟩ => rfl
    | ⟨2, _⟩ => rfl
  · exact Nat.zero_add _
  rw [val_main_v77_apply, val_main_v76_apply]
  exact congrArg dz (same3 rfl rfl rfl)

theorem ref_dz_8 (s : Fin 4096) (c : Fin 1024) :
    val_main_v82 (F := Ideal) z kv dy dz (ix3 8 s c) = val_main_v74 (F := Ideal) z kv dy (ix2 s c) := by
  rw [val_main_v82_apply]
  unfold val_main_v80
  refine (concatenate_apply_piece (t := S10x4096x1024) 0 _ _ (ix3 8 s c) 1 (by show 1 < 3; decide) S1x4096x1024 (val_main_v78 (F := Ideal) z kv dy) rfl rfl 8 rfl (ix3 (0 : Fin 1) s c)
    (fun b hb => ?_) rfl).trans ?_
  · match b with
    | ⟨0, _⟩ => exact absurd rfl hb
    | ⟨1, _⟩ => rfl
    | ⟨2, _⟩ => rfl
  rw [val_main_v78_apply]
  exact congrArg _ (same2 rfl rfl)

theorem ref_dz_9 (s : Fin 4096) (c : Fin 1024) :
    val_main_v82 (F := Ideal) z kv dy dz (ix3 9 s c) = val_main_v48 (F := Ideal) z kv dy (ix2 s c) := by
  rw [val_main_v82_apply]
  unfold val_main_v80
  refine (concatenate_apply_piece (t := S10x4096x1024) 0 _ _ (ix3 9 s c) 2 (by show 2 < 3; decide) S1x4096x1024 (val_main_v79 (F := Ideal) z kv dy) rfl rfl 9 rfl (ix3 (0 : Fin 1) s c)
    (fun b hb => ?_) rfl).trans ?_
  · match b with
    | ⟨0, _⟩ => exact absurd rfl hb
    | ⟨1, _⟩ => rfl
    | ⟨2, _⟩ => rfl
  rw [val_main_v79_apply]
  exact congrArg _ (same2 rfl rfl)

end Cert.AttnC
-- ==== Proof.C.Equation.lean ====
/- The reference's formulas and the kernel's agree at finite arguments: the softmax's gradient, the gate and its derivative. -/
module

public import proofs.«01_k».proof.Proof.C.RefBack

@[expose] public section

noncomputable section

namespace Cert.AttnC

open Idealize.ShloMosaic

/-- A finite sum of reals is a real. -/
theorem coe_sums {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_div (x : ℝ) {y : ℝ} (h : y ≠ 0) : Ideal.div (x : EReal) (y : EReal) = ((x / y : ℝ) : EReal) := by
  rw [Ideal.div_coe h, ← EReal.coe_mul, mul_one_div]

theorem scale_eq : scale = ((1 / 16 : ℝ) : EReal) := by
  unfold scale
  simp [Ideal.ofBits, Ideal.ieee, -EReal.coe_mul]; norm_num
theorem half_eq : half = ((1 / 2 : ℝ) : EReal) := by
  unfold half
  simp [Ideal.ofBits, Ideal.ieee, -EReal.coe_mul]; norm_num
theorem ninf_eq : ninf = ⊥ := by
  unfold ninf
  simp [Ideal.ofBits, Ideal.ieee]

/-- The maximum of 256 reals is one of them. -/
theorem top_real (s : Fin 256 → ℝ) : ∃ t : ℝ, Finset.univ.fold max ninf (fun m => (s m : EReal)) = t := by
  rw [ninf_eq]
  obtain ⟨i, _, hi⟩ := Finset.exists_mem_eq_sup (Finset.univ : Finset (Fin 256)) ⟨0, Finset.mem_univ _⟩ fun m => (s m : EReal)
  exact ⟨s i, hi⟩

/-- The exponentials of a row of reals are positive reals. -/
theorem expo_real (s : Fin 256 → ℝ) : ∃ e : Fin 256 → ℝ, (∀ m, 0 < e m) ∧ expo (fun m => (s m : EReal)) = fun m => (e m : EReal) := by
  obtain ⟨t, ht⟩ := top_real s
  refine ⟨fun m => Real.exp (s m - t), fun m => Real.exp_pos _, funext fun m => ?_⟩
  unfold expo
  rw [ht, ← EReal.coe_sub, Ideal.exp_coe]

/-- The softmax's gradient: the quotient rule written out is the weights times the centred cotangent. -/
theorem refs_eq (e dp : Fin 256 → ℝ) (he : ∀ m, 0 < e m) (m : Fin 256) :
    dscR (fun m => (e m : EReal)) (fun m => (dp m : EReal)) m
      = dsc (fun m => Ideal.div (e m) (∑ x, (e x : EReal))) (fun m => (dp m : EReal)) m := by
  have hs : (0 : ℝ) < ∑ x, e x := Finset.sum_pos (fun x _ => he x) ⟨0, Finset.mem_univ _⟩
  have h2 : (∑ x, e x) * ∑ x, e x ≠ 0 := (mul_pos hs hs).ne'
  unfold dscR dsc
  rw [scale_eq]
  simp only [coe_sums, coe_div _ hs.ne', ← EReal.coe_mul, ← EReal.coe_one, coe_div _ h2, ← EReal.coe_neg, ← EReal.coe_add, ← EReal.coe_sub]
  refine congrArg _ ?_
  have hsum : ∑ x, dp x * (1 / ((∑ y, e y) * ∑ y, e y)) * e x = (∑ x, e x / (∑ y, e y) * dp x) / ∑ y, e y := by
    rw [Finset.sum_div]
    refine Finset.sum_congr rfl fun x _ => ?_
    field_simp
  rw [hsum]
  field_simp
  ring

/-- The logistic function is its half-angle form. -/
theorem sg_eq (g : ℝ) : sg (g : EReal) = (((1 + Real.exp (-g))⁻¹ : ℝ) : EReal) := by
  unfold sg
  rw [half_eq, ← EReal.coe_mul, Ideal.tanh_coe, ← EReal.coe_mul, ← EReal.coe_add]
  refine congrArg _ ?_
  rw [Real.tanh_eq_sinh_div_cosh, Real.sinh_eq, Real.cosh_eq]
  have h1 : Real.exp (-g) = Real.exp (-(1 / 2 * g)) * Real.exp (-(1 / 2 * g)) := by rw [← Real.exp_add]; congr 1; ring
  have h2 : Real.exp (1 / 2 * g) * Real.exp (-(1 / 2 * g)) = 1 := by rw [← Real.exp_add]; simp
  have p1 := Real.exp_pos (1 / 2 * g)
  have p2 := Real.exp_pos (-(1 / 2 * g))
  rw [h1]
  generalize Real.exp (1 / 2 * g) = a at *
  generalize Real.exp (-(1 / 2 * g)) = b at *
  have hb : b = a⁻¹ := by field_simp; linarith
  subst hb
  field_simp
  ring

theorem lg_eq (g : ℝ) : lg (g : EReal) = sg (g : EReal) := by
  rw [sg_eq, ← Ideal.logistic_coe]
  rfl

/-- The gate's derivative. -/
theorem refg_eq (a y g : ℝ) : dgR (a : EReal) y g = (y : EReal) * dsil g * a := by
  unfold dgR dsil
  rw [lg_eq, sg_eq]
  simp only [← EReal.coe_mul, ← EReal.coe_one, ← EReal.coe_add, ← EReal.coe_sub]
  refine congrArg _ ?_
  ring

theorem sil_real (g : ℝ) : ∃ r : ℝ, sil (g : EReal) = r := by
  unfold sil
  rw [sg_eq, ← EReal.coe_mul]
  exact ⟨_, rfl⟩

variable (z : Arr 4096 10240) (kv : Arr 256 2048) (dy : Arr 4096 1024)
variable (hz : ∃ f : _ → ℝ, z = fun i => (f i : EReal)) (hk : ∃ f : _ → ℝ, kv = fun i => (f i : EReal))
  (hy : ∃ f : _ → ℝ, dy = fun i => (f i : EReal))
include hz

theorem refa_eq (s : Fin 4096) (h : Fin 4) : davR z dy s h = dav (zg z) dy s h := by
  obtain ⟨f, rfl⟩ := hz
  refine funext fun d => ?_
  show _ * (_ * lg _) = _ * (_ * sg _)
  exact congrArg₂ _ rfl (congrArg₂ _ rfl (lg_eq _))

include hk in
theorem exp_real (s : Fin 4096) (h : Fin 4) : ∃ e : Fin 256 → ℝ, (∀ m, 0 < e m) ∧ expR z kv s h = fun m => (e m : EReal) := by
  obtain ⟨f, rfl⟩ := hz
  obtain ⟨g, rfl⟩ := hk
  have : score (head (zq fun i => (f i : EReal)) s h) (keys (fun i => (g i : EReal)) h)
      = fun m => (((∑ d, f (ix2 s ⟨5120 + (col h d).val, by have := (col h d).isLt; omega⟩) * g (ix2 m (colK h d))) * (1 / 16) : ℝ) : EReal) := by
    refine funext fun m => ?_
    rw [EReal.coe_mul, ← coe_sums, ← scale_eq]
    simp only [EReal.coe_mul]
    rfl
  unfold expR
  rw [this]
  exact expo_real _

include hk hy in
theorem dwt_real (s : Fin 4096) (h : Fin 4) : ∃ e : Fin 256 → ℝ, dwt (dav (zg z) dy s h) (vals kv h) = fun m => (e m : EReal) := by
  obtain ⟨f, rfl⟩ := hz
  obtain ⟨g, rfl⟩ := hk
  obtain ⟨y, rfl⟩ := hy
  choose r hr using sil_real
  refine ⟨fun m => ∑ d, (y (ix2 s (col h d)) * r (f (ix2 s ⟨6144 + (col h d).val, by have := (col h d).isLt; omega⟩))) * g (ix2 m (colV h d)),
    funext fun m => ?_⟩
  rw [← coe_sums]
  simp only [EReal.coe_mul, ← hr]
  rfl

include hk hy in
theorem ds_eq (s : Fin 4096) (h : Fin 4) : dsR z kv dy s h = dsc (prob (zq z) kv s h) (dwt (dav (zg z) dy s h) (vals kv h)) := by
  obtain ⟨e, he, h1⟩ := exp_real z kv hz hk s h
  obtain ⟨p, h2⟩ := dwt_real z kv dy hz hk hy s h
  refine funext fun m => ?_
  have h3 : prob (zq z) kv s h = fun m => Ideal.div (e m) (∑ x, (e x : EReal)) := by
    show (fun m => Ideal.div (expR z kv s h m) (∑ x, expR z kv s h x)) = _
    rw [h1]
  unfold dsR
  rw [refa_eq z dy hz, h1, h2, h3]
  exact refs_eq e p he m

include hk in
theorem att_real (s : Fin 4096) (h : Fin 4) (d : Fin 256) : ∃ r : ℝ, avg (prob (zq z) kv s h) (vals kv h) d = r := by
  obtain ⟨e, he, h1⟩ := exp_real z kv hz hk s h
  have hs : (0 : ℝ) < ∑ x, e x := Finset.sum_pos (fun x _ => he x) ⟨0, Finset.mem_univ _⟩
  obtain ⟨g, rfl⟩ := hk
  refine ⟨∑ m, e m / (∑ x, e x) * g (ix2 m (colV h d)), ?_⟩
  rw [← coe_sums]
  refine Finset.sum_congr rfl fun m _ => ?_
  rw [EReal.coe_mul, ← coe_div _ hs.ne', ← coe_sums]
  refine congrArg (· * _) ?_
  show Ideal.div (expR z _ s h m) (∑ x, expR z _ s h x) = _
  rw [h1]

omit hz in
theorem attR_eq (s : Fin 4096) (h : Fin 4) (d : Fin 256) : attR z kv s h d = avg (prob (zq z) kv s h) (vals kv h) d :=
  Finset.sum_congr rfl fun _ _ => mul_comm _ _

/-- The first result. -/
theorem y_eq : Cert.ReferenceIdeal.Read.val_main_v81 (F := Ideal) z kv = byHead (yv (zq z) (zg z) kv) := by
  refine eq_byHead _ _ fun s h d => ?_
  rw [ref_y]
  refine congrArg₂ _ (attR_eq z kv s h d) ?_
  obtain ⟨f, rfl⟩ := hz
  exact congrArg₂ _ rfl (lg_eq _)

include hk hy

/-- The queries' cotangent. -/
theorem refq_eq : Cert.ReferenceIdeal.Read.val_main_v74 (F := Ideal) z kv dy = byHead (dqv (byHead (prob (zq z) kv)) (zg z) kv dy) := by
  refine eq_byHead _ _ fun s h d => ?_
  rw [ref_dq]
  unfold dqv dsv
  rw [ds_eq z kv dy hz hk hy, head_byHead]

/-- The gate's cotangent. -/
theorem dgate_eq : Cert.ReferenceIdeal.Read.val_main_v48 (F := Ideal) z kv dy = byHead (dgv (byHead (prob (zq z) kv)) (zg z) kv dy) := by
  refine eq_byHead _ _ fun s h d => ?_
  rw [ref_dg, attR_eq z kv]
  unfold dgv
  rw [head_byHead]
  obtain ⟨a, ha⟩ := att_real z kv hz hk s h d
  rw [ha]
  obtain ⟨f, rfl⟩ := hz
  obtain ⟨y, rfl⟩ := hy
  exact refg_eq _ _ _

/-- The cotangent of keys and values. -/
theorem dkv_eq : Cert.ReferenceIdeal.Read.val_main_v75 (F := Ideal) z kv dy
    = byHalf (dkv (byHead (prob (zq z) kv)) (zq z) (zg z) kv dy) (dvv (byHead (prob (zq z) kv)) (zg z) dy) := by
  refine eq_byHalf _ _ _ (fun m h d => ?_) fun m h d => ?_
  · rw [ref_dkv_K]
    unfold dkv dsv
    refine Finset.sum_congr rfl fun s _ => ?_
    rw [ds_eq z kv dy hz hk hy, head_byHead]
  · rw [ref_dkv_V]
    unfold dvv
    refine Finset.sum_congr rfl fun s _ => ?_
    rw [refa_eq z dy hz, head_byHead, mul_comm]

end Cert.AttnC
-- ==== Proof.C.Pre.lean ====
/- What the precondition says of the arguments: the projections, the keys and values, and the cotangent are finite. -/
module

public import proofs.«01_k».proof.Pre_finite_c
public import Idealize.ShloMosaic.Lib.ReduceAll
public import Idealize.ShloMosaic.Lib.IdealHost

@[expose] public section

set_option maxRecDepth 16384

noncomputable section

namespace Cert.AttnC

open Idealize.ShloMosaic

/-- The shapes' side conditions. -/
theorem facts : Cert.Pre_finite_c.Facts :=
  ⟨by decide, by decide, by decide, by decide, by decide, by decide, by decide, by decide⟩

theorem inf_word : Ideal.ofBits .f32 0x7F800000#32 = ⊤ := by simp [Ideal.ofBits, Ideal.ieee]

/-- A number whose absolute value is less than ∞ is a real. -/
theorem real_of_lt (x : EReal) (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

instance : Subsingleton Cert.Pre_finite_c.S_.Idx := ⟨fun a b => funext fun x => x.elim0⟩

attribute [local instance] facts

variable (a : FVec Ideal Cert.Pre_finite_c.S4096x10240 .bf16) (b : FVec Ideal Cert.Pre_finite_c.S256x2048 .bf16)
  (c : FVec Ideal Cert.Pre_finite_c.S4096x1024 .bf16) (d : FVec Ideal Cert.Pre_finite_c.S10x4096x1024 .bf16)

theorem pre_real (h : Cert.Pre_finite_c.fn (F := Ideal) a b c d = fun _ => 1#1) :
    (∃ f : _ → ℝ, a = fun i => (f i : EReal)) ∧ (∃ f : _ → ℝ, b = fun i => (f i : EReal)) ∧ ∃ f : _ → ℝ, c = fun i => (f i : EReal) := by
  have h0 := congrFun h fun x => x.elim0
  obtain ⟨h01, h2⟩ := IntOp.andi_eq_one.1 h0
  obtain ⟨ha, hb⟩ := IntOp.andi_eq_one.1 h01
  refine ⟨?_, ?_, ?_⟩
  · choose f hf using fun i => real_of_lt (a i) (Host.reduce_andi_all _ _ _ _ _ ha i)
    exact ⟨f, funext hf⟩
  · choose f hf using fun i => real_of_lt (b i) (Host.reduce_andi_all _ _ _ _ _ hb i)
    exact ⟨f, funext hf⟩
  · choose f hf using fun i => real_of_lt (c i) (Host.reduce_andi_all _ _ _ _ _ h2 i)
    exact ⟨f, funext hf⟩

end Cert.AttnC
-- ==== Proof.C.Claims.lean ====
/- The value claim of the memory attention: the two calls and the reference leave the same three results. -/
module

public import proofs.«01_k».proof.Proof.C.Run
public import proofs.«01_k».proof.Proof.C.Equation
public import proofs.«01_k».proof.Proof.C.Pre
public import proofs.«01_k».proof.Defs

@[expose] public section

set_option maxRecDepth 16384

noncomputable section

namespace Cert.AttnC

open Idealize.ShloMosaic Idealize.ShloMosaic.TcCoe Idealize.SL.Sem
open Cert.ReferenceIdeal.Read

variable (z : Arr 4096 10240) (kv : Arr 256 2048) (dy : Arr 4096 1024)
variable (hz : ∃ f : _ → ℝ, z = fun i => (f i : EReal)) (hk : ∃ f : _ → ℝ, kv = fun i => (f i : EReal))
  (hy : ∃ f : _ → ℝ, dy = fun i => (f i : EReal))

include hz hk hy in
/-- The stack of cotangents. -/
theorem dz_eq (dz : Cert.ReferenceIdeal.S10x4096x1024.Idx → EReal) : val_main_v82 (F := Ideal) z kv dy dz = vDZ z kv dy dz := by
  funext i
  obtain ⟨p, s, c, rfl⟩ := three i
  unfold vDZ lastTwo
  by_cases hp : p.val < 8
  · exact (ref_dz_low z kv dy dz p hp s c).trans (if_neg (show ¬ 8 ≤ p.val by omega)).symm
  refine Eq.trans ?_ (if_pos (show 8 ≤ p.val by omega)).symm
  by_cases h8 : p = 8
  · subst h8
    refine (ref_dz_8 z kv dy dz s c).trans (Eq.trans ?_ (if_pos (show (8 : Fin 10).val = 8 from rfl)).symm)
    rw [refq_eq z kv dy hz hk hy]
    rfl
  · obtain rfl : p = 9 := by omega
    refine (ref_dz_9 z kv dy dz s c).trans (Eq.trans ?_ (if_neg (show ¬ (9 : Fin 10).val = 8 by decide)).symm)
    rw [dgate_eq z kv dy hz hk hy]
    rfl

attribute [local instance] Cert.KernelIdeal.Gen.facts Cert.ReferenceIdeal.Gen.facts facts

theorem algebraic : Cert.algebraic_KernelIdeal_ReferenceIdeal := by
  intro m g m' g' hp ha
  refine ⟨fun c => vY (aZ m c) (aKV m c), fun c => vDZ (aZ m c) (aKV m c) (aDY m c) (aDZ m c), fun c => vDKV (aZ m c) (aKV m c) (aDY m c),
    run m g, ?_⟩
  refine (θ_run Cert.ReferenceIdeal.defs _ _).mono (fun _ h c => ?_) (Cert.ReferenceIdeal.Value.run m' g')
  obtain ⟨h81, h82, h75, hargs⟩ := h c
  obtain ⟨a0, a1, a2, a3⟩ := ha c
  obtain ⟨hz, hk, hy⟩ := pre_real _ _ _ _ (hp c)
  refine ⟨?_, ?_, ?_, hargs⟩
  · rw [h81, val_main_v81_eq, a0, a1]
    exact y_eq _ _ hz
  · rw [h82, val_main_v82_eq, a0, a1, a2, a3]
    exact dz_eq _ _ _ hz hk hy _
  · rw [h75, val_main_v75_eq, a0, a1, a2]
    exact dkv_eq _ _ _ hz hk hy

end Cert.AttnC
-- ==== Proof.T.Norm.lean ====
/- The root-mean-square norm of a row and its gradient, over the extended reals: at any row whatever, infinities included, the
   gradient that the kernel's closed form gives is the one the chain rule gives. -/
module

public import proofs.«01_k».proof.Proof.C.Spec

@[expose] public section

noncomputable section

namespace Cert.Trunk

open Idealize.ShloMosaic

/-- The length of a row. -/
def len : EReal := Ideal.ofBits .f32 0x44800000#32
/-- What is added to the mean square. -/
def eps : EReal := Ideal.ofBits .f32 0x358637BD#32
/-- Minus one half. -/
def mhalf : EReal := Ideal.ofBits .f32 0xBF000000#32
/-- The mean of a row. -/
def mean (x : Fin 1024 → EReal) : EReal := Ideal.div (∑ d, x d) len
/-- The mean square of a row, moved off zero. -/
def var (x : Fin 1024 → EReal) : EReal := mean (fun d => x d * x d) + eps
/-- The scale that norms a row. -/
def rs (x : Fin 1024 → EReal) : EReal := Ideal.rsqrt (var x)
/-- A row's normed element. -/
def normed (x g : Fin 1024 → EReal) (d : Fin 1024) : EReal := x d * rs x * g d
/-- The cotangent of a row's element, from the cotangent `w` of the row before its gain. -/
def back (x w : Fin 1024 → EReal) (d : Fin 1024) : EReal := rs x * w d - x d * (rs x * rs x * rs x) * mean fun d => w d * x d
/-- What the chain rule sends through the mean square. -/
def through (x w : Fin 1024 → EReal) : EReal := Ideal.div ((∑ d, x d * w d) * (mhalf * Ideal.div (rs x) (var x))) len
/-- The same cotangent by the chain rule. -/
def backR (x w : Fin 1024 → EReal) (d : Fin 1024) : EReal := w d * rs x + x d * through x w + through x w * x d

theorem len_eq : len = ((1024 : ℝ) : EReal) := by
  unfold len
  simp [Ideal.ofBits, Ideal.ieee, -EReal.coe_mul]; norm_num
theorem mhalf_eq : mhalf = ((-(1 / 2) : ℝ) : EReal) := by
  unfold mhalf
  simp [Ideal.ofBits, Ideal.ieee, -EReal.coe_mul]; norm_num
theorem eps_eq : ∃ e : ℝ, 0 < e ∧ eps = (e : EReal) := by
  refine ⟨8796093 / 2 ^ 43, by norm_num, ?_⟩
  unfold eps
  simp [Ideal.ofBits, Ideal.ieee, -EReal.coe_mul]; norm_num

theorem square_nonneg (x : EReal) : 0 ≤ x * x := by
  rcases le_total 0 x with h | h
  · exact mul_nonneg h h
  · rw [← neg_mul_neg x x]
    exact mul_nonneg (EReal.neg_nonneg.2 h) (EReal.neg_nonneg.2 h)

/-- A mean square moved off zero is positive. -/
theorem var_pos (x : Fin 1024 → EReal) : 0 < var x := by
  obtain ⟨e, he, ee⟩ := eps_eq
  unfold var mean
  rw [len_eq, Ideal.div_coe (by norm_num), ee]
  have h : (0 : EReal) ≤ (∑ d, x d * x d) * ((1 / 1024 : ℝ) : EReal) :=
    mul_nonneg (Finset.sum_nonneg fun d _ => square_nonneg _) (EReal.coe_nonneg.2 (by norm_num))
  exact lt_of_lt_of_le (EReal.coe_pos.2 he) (le_add_of_nonneg_left h)

/-- The scale and its quotient by the mean square: nothing at an infinite mean square, else real with the cube for quotient. -/
theorem rs_cases (x : Fin 1024 → EReal) :
    (rs x = 0 ∧ Ideal.div (rs x) (var x) = 0) ∨ ∃ r : ℝ, 0 ≤ r ∧ rs x = r ∧ Ideal.div (rs x) (var x) = ((r * r * r : ℝ) : EReal) := by
  have hv := var_pos x
  unfold rs
  induction hx : var x with
  | bot => rw [hx] at hv; exact absurd hv (by simp)
  | top => left; simp [Ideal.div]
  | coe v =>
    rw [hx] at hv
    have hp : 0 < v := EReal.coe_pos.1 hv
    right
    refine ⟨(Real.sqrt v)⁻¹, by positivity, ?_, ?_⟩
    · simp [not_lt.2 hp.le, hp.ne']
    · rw [Ideal.rsqrt_coe, if_neg (not_lt.2 hp.le), if_neg hp.ne', Ideal.div_coe hp.ne', ← EReal.coe_mul]
      refine congrArg _ ?_
      have hs := Real.mul_self_sqrt hp.le
      have h0 := (Real.sqrt_pos.2 hp).ne'
      field_simp
      nlinarith

/-- The chain rule's cotangent is the closed form. -/
theorem back_eq (x w : Fin 1024 → EReal) (d : Fin 1024) : backR x w d = back x w d := by
  unfold backR back through
  have hm : (∑ d, x d * w d) = ∑ d, w d * x d := Finset.sum_congr rfl fun d _ => mul_comm _ _
  rw [hm]
  unfold mean
  generalize (∑ d, w d * x d) = M
  rw [len_eq, Ideal.div_coe (by norm_num), Ideal.div_coe (by norm_num), mhalf_eq]
  rcases rs_cases x with ⟨h, h'⟩ | ⟨r, hr, h, h'⟩
  · rw [h', h]; simp
  rw [h', h, ← EReal.coe_mul, ← EReal.coe_mul, ← EReal.coe_mul, mul_comm (w d), add_assoc, sub_eq_add_neg]
  congr 1
  have e1 : x d * (M * ((-(1 / 2) * (r * r * r) : ℝ) : EReal) * ((1 / 1024 : ℝ) : EReal)) = -((x d * M) * ((r * r * r / 2048 : ℝ) : EReal)) := by
    rw [mul_assoc M, ← EReal.coe_mul, ← mul_assoc, ← mul_neg, ← EReal.coe_neg]
    congr 2; ring
  have e2 : x d * ((r * r * r : ℝ) : EReal) * (M * ((1 / 1024 : ℝ) : EReal)) = (x d * M) * ((r * r * r / 1024 : ℝ) : EReal) := by
    rw [mul_mul_mul_comm, ← EReal.coe_mul]
    congr 2; ring
  rw [mul_comm _ (x d), e1, e2]
  have h0 : (0 : ℝ) ≤ r * r * r / 2048 := by positivity
  have e3 : ((r * r * r / 1024 : ℝ) : EReal) = ((r * r * r / 2048 : ℝ) : EReal) + ((r * r * r / 2048 : ℝ) : EReal) := by
    rw [← EReal.coe_add]; congr 1; ring
  rw [e3, EReal.left_distrib_of_nonneg (EReal.coe_nonneg.2 h0) (EReal.coe_nonneg.2 h0)]
  generalize x d * M * ((r * r * r / 2048 : ℝ) : EReal) = K
  induction K with
  | bot => simp
  | top => simp
  | coe k => rw [← EReal.coe_neg, ← EReal.coe_add, ← EReal.coe_add, ← EReal.coe_neg]; congr 1; ring

end Cert.Trunk

end
-- ==== Proof.T.InRun.lean ====
/- The input projections: the body's runs at the two kinds of points of the grid. -/
module

public import proofs.«01_k».proof.Proof.T.Norm
public import proofs.«01_k».proof.Proof.Gen.InIdeal.Frame
public import proofs.«01_k».proof.Proof.Gen.InIdeal.Skeleton
public import Idealize.ShloMosaic.Lib.Pipeline.ValueKit
public import Idealize.ShloMosaic.Lib.Pipeline.TableIdle

@[expose] public section

set_option maxRecDepth 16384

noncomputable section

namespace Cert.Trunk.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.InIdeal Cert.InIdeal.Gen Cert.AttnC

variable {F : FTy → Type} [FloatOps F]

local notation "𝕄" => MT nD τ sig Unit (Elt F) ℕ (UR sig nD τ) ℕ

/-- At the points whose number four divides the body norms its block of rows. -/
theorem first : ∀ t : Fin cfg0.N, k0_cond1 (grid0.coords t) = 1#1 ↔ t.val % 4 = 0 := by decide +kernel

/-- A whole store of a block, read back. -/
theorem stored {S : Shape} {e : EltTy} {κ : Kind} {sp : Space} (v : View sig κ sp S e) (f : v.ty.Contents (Elt F)) (off : Fin S.rank → Nat)
    (h0 : off = fun _ => 0) (h) (x : Vec F S e) (hL : View.Piece.tiledL [(⟨Rect.unit off S.size h, x⟩ : View.Piece (Elt F) S e)] S.size = true) :
    v.read (Elt F) (v.writes (Elt F) f [⟨Rect.unit off S.size h, x⟩]) = x := by
  rw [View.read_writes_eq_canon _ _ _ (View.cover_of_tiledL _ _ hL)]
  exact View.canon_unit_zero h0 _ _

variable (c : Dev nD) (i : grid0.Coords) (a2 : Memref sig .tc .vmem S1024x1024 .f32) (h2 : a2.IsWhole)
  (a3 : Memref sig .tc .vmem S1x1024 .f32) (h3 : a3.IsWhole) (a4 : Memref sig .tc .vmem S1024x2560 .bf16) (h4 : a4.IsWhole)
  (a5 : Memref sig .tc .vmem S1024x2560 .bf16) (h5 : a5.IsWhole) (a6 : Memref sig .tc .vmem S1024x1024 .bf16) (h6 : a6.IsWhole)
  (a7 : Memref sig .tc .vmem S1024x1024 .bf16) (h7 : a7.IsWhole)
  (x : Vec F S1024x1024 .f32) (g : Vec F S1x1024 .f32) (w : Vec F S1024x2560 .bf16)

/-- At a row block's first point the body norms the rows, keeps them twice, and multiplies them with the weights' block. -/
theorem run_first (hc : k0_cond1 i = 1#1) (E : Set ℕ) (K : PUnit → sProp 𝕄) :
    iprop(owns (c : Thread nD τ) a2 fullShare x ∗ owns (c : Thread nD τ) a3 fullShare g ∗ owns (c : Thread nD τ) a4 fullShare w
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x ∗ owns (c : Thread nD τ) a3 fullShare g ∗ owns (c : Thread nD τ) a4 fullShare w
            ∗ owns (c : Thread nD τ) a5 fullShare (k0_pay3 (k0_pay2 x g) w) ∗ owns (c : Thread nD τ) a6 fullShare (k0_pay1 x g)
            ∗ owns (c : Thread nD τ) a7 fullShare (k0_pay2 x g)) -∗ K ⟨⟩))
      ⊢ wp frame (wpE (defs₀ (F := F)) Variants.none c none) E (cc0_mm_in i a2 h2 a3 h3 a4 h4 a5 h5 a6 h6 a7 h7) K := by
  simp only [cc0_mm_in_eq_skeleton]; unfold cc0_mm_in_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := h2.eq_unread hf2; obtain rfl := h3.eq_unread hf3; obtain rfl := h4.eq_unread hf4
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    sl_unfold_words
    rw [stored (S := S1024x2560) _ _ _ zero2 _ _ (by sl_kernel_rfl)]
    simp only [View.readAt_eq_ld, h2.read_unread, h3.read_unread, h4.read_unread]
    rw [View.readCov_unit_zero (S := S1024x1024) _ zero2, View.ld_unit_zero (S := S1024x2560) zero2, View.ld_unit_zero (S := S1024x1024) zero2,
      View.ld_unit_zero (S := S1x1024) zero2]
  isplitl [H6]
  · iexists _; isplitr
    swap; · iexact H6
    ipureintro
    sl_unfold_words
    rw [stored (S := S1024x1024) _ _ _ zero2 _ _ (by sl_kernel_rfl)]
    simp only [View.readAt_eq_ld, h2.read_unread, h3.read_unread]
    rw [View.ld_unit_zero (S := S1024x1024) zero2, View.ld_unit_zero (S := S1x1024) zero2]
  iexists _; isplitr
  swap; · iexact H7
  ipureintro
  sl_unfold_words
  rw [stored (S := S1024x1024) _ _ _ zero2 _ _ (by sl_kernel_rfl)]
  simp only [View.readAt_eq_ld, h2.read_unread, h3.read_unread]
  rw [View.ld_unit_zero (S := S1024x1024) zero2, View.ld_unit_zero (S := S1x1024) zero2]

/-- At its other points the body multiplies the rows that it kept with the weights' next block. -/
theorem run_next (hc : ¬k0_cond1 i = 1#1) (y s : Vec F S1024x1024 .bf16) (E : Set ℕ) (K : PUnit → sProp 𝕄) :
    iprop(owns (c : Thread nD τ) a2 fullShare x ∗ owns (c : Thread nD τ) a3 fullShare g ∗ owns (c : Thread nD τ) a4 fullShare w
        ∗ (∃ d, owns (c : Thread nD τ) a5 fullShare d) ∗ owns (c : Thread nD τ) a6 fullShare y ∗ owns (c : Thread nD τ) a7 fullShare s
        ∗ (iprop(owns (c : Thread nD τ) a2 fullShare x ∗ owns (c : Thread nD τ) a3 fullShare g ∗ owns (c : Thread nD τ) a4 fullShare w
            ∗ owns (c : Thread nD τ) a5 fullShare (k0_pay3 s w) ∗ owns (c : Thread nD τ) a6 fullShare y
            ∗ owns (c : Thread nD τ) a7 fullShare s) -∗ K ⟨⟩))
      ⊢ wp frame (wpE (defs₀ (F := F)) Variants.none c none) E (cc0_mm_in i a2 h2 a3 h3 a4 h4 a5 h5 a6 h6 a7 h7) K := by
  simp only [cc0_mm_in_eq_skeleton]; unfold cc0_mm_in_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := h2.eq_unread hf2; obtain rfl := h3.eq_unread hf3; obtain rfl := h4.eq_unread hf4
  obtain rfl := h6.eq_unread hf6; obtain rfl := h7.eq_unread hf7
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    sl_unfold_words
    rw [stored (S := S1024x2560) _ _ _ zero2 _ _ (by sl_kernel_rfl)]
    simp only [View.readAt_eq_ld, h7.read_unread, h4.read_unread]
    rw [View.ld_unit_zero (S := S1024x1024) zero2, View.ld_unit_zero (S := S1024x2560) zero2]
  isplitl [H6]
  · iexists _; isplitr; · ipureintro; exact h6.read_unread _
    iexact H6
  iexists _; isplitr; · ipureintro; exact h7.read_unread _
  iexact H7

end Cert.Trunk.In

end
-- ==== Proof.T.InFrame.lean ====
/- The input projections: the proof data of the call's pipeline, its run and its frame. -/
module

public import proofs.«01_k».proof.Proof.T.InRun

@[expose] public section

set_option maxRecDepth 16384

noncomputable section

namespace Cert.Trunk.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.InIdeal Cert.InIdeal.Gen Cert.AttnC

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The normed rows of the row block that point `t` works on, as the scratch keeps them. -/
def kept (t : Fin cfg0.N) : Vec F S1024x1024 .bf16 := k0_pay2 (iblk m c 0 t) (iblk m c 1 t)

/-- The scratch as a memref. -/
abbrev scratch : Memref sig .tc .vmem S1024x1024 .bf16 := Memref.whole cc0_scratch0

/-- Before a point: at the first the scratch holds anything, at the others the rows normed last. -/
def Inv : (n : ℕ) → n ≤ cfg0.N → sProp 𝕄
  | 0, _ => Pipeline.ΦA spec0 c
  | n + 1, hn => iprop(owns (c : Thread nD τ) scratch fullShare (kept m c ⟨n, hn⟩) ∗ (∃ r, prngReg c r))

theorem start : (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

theorem Inv_pos (n : ℕ) (h : n ≤ cfg0.N) (hz : n ≠ 0) :
    Inv m c n h = iprop(owns (c : Thread nD τ) scratch fullShare (kept m c ⟨n - 1, by omega⟩) ∗ (∃ r, prngReg c r)) := by
  cases n with
  | zero => exact absurd rfl hz
  | succ n => rfl

/-- At any point the invariant gives the scratch at some contents. -/
theorem Inv_some (n : ℕ) (h : n ≤ cfg0.N) : Inv m c n h ⊢ iprop((∃ d, owns (c : Thread nD τ) scratch fullShare d) ∗ (∃ r, prngReg c r)) := by
  by_cases hz : n = 0
  · subst hz
    rw [show Inv m c 0 h = Pipeline.ΦA spec0 c from rfl, start]
  · rw [Inv_pos m c n h hz]
    iintro ⟨HS, Hg⟩
    isplitl [HS]
    · iexists _; iexact HS
    iexact Hg

/-- The pipeline's proof data: the inputs' blocks stay; the product's block; the normed rows, carried through a row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t) (iblk m c 2 t)
    | ⟨4, _⟩ => k0_pay1 (iblk m c 0 t) (iblk m c 1 t)
  Φ t := Inv m c t.val (Nat.le_of_lt_succ t.isLt)
  q _ := fullShare
  owed _ := 0

theorem A_eq (w : Fin cfg0.W) : (dats m 0 c).A w = V m c (Pipeline.arrRef spec0 w) := by
  dsimp only [dats]

variable (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = k0_pay3 (kept m c t) (iblk m c 2 t) := by dsimp only [dats]
theorem after_4 : (dats m 0 c).after 4 t = k0_pay1 (iblk m c 0 t) (iblk m c 1 t) := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d

/-- Inside a row block the rows' window stays; -/
theorem stays : ∀ t : Fin cfg0.N, t.val % 4 ≠ 0 → ∀ h : t.val - 1 < cfg0.N,
    (∀ a, win0_0.index t a = win0_0.index ⟨t.val - 1, h⟩ a) ∧ (∀ a, win0_1.index t a = win0_1.index ⟨t.val - 1, h⟩ a) := by decide +kernel

/-- so do the rows and the gain -/
theorem rows (h : t.val % 4 ≠ 0) (h' : t.val - 1 < cfg0.N) : iblk m c 0 t = iblk m c 0 ⟨t.val - 1, h'⟩ :=
  (show iblk m c 0 t = (dats m 0 c).fetched 0 t (iblk m c 0 t) from rfl).trans
    ((dats m 0 c).fetched_congr 0 (funext (stays t h h').1) rfl _)
theorem gain (h : t.val % 4 ≠ 0) (h' : t.val - 1 < cfg0.N) : iblk m c 1 t = iblk m c 1 ⟨t.val - 1, h'⟩ :=
  (show iblk m c 1 t = (dats m 0 c).fetched 1 t (iblk m c 1 t) from rfl).trans
    ((dats m 0 c).fetched_congr 1 (funext (stays t h h').2) rfl _)
/-- and the normed rows. -/
theorem kept_prev (h : t.val % 4 ≠ 0) (h' : t.val - 1 < cfg0.N) : kept m c ⟨t.val - 1, h'⟩ = kept m c t := by
  unfold kept; rw [rows m c t h h', gain m c t h h']

theorem idle : ∀ t : Fin cfg0.N, cfg0.idle 4 (grid0.coords t) = !decide (t.val % 4 = 0) := by decide +kernel
/-- Nothing is stored into the rows' output only at a row block's first point. -/
def empty (n : ℕ) : Bool := decide (n % 4 = 0)
theorem empty_step : ∀ t : Fin cfg0.N, empty (t.val + 1) = ((cfg0.win 4).flush t || (cfg0.idle 4 (cfg0.grid.coords t) && empty t.val)) := by
  decide +kernel
theorem fresh : cfg0.fresh 4 t.val = empty t.val := Pipeline.Cfg.fresh_tab cfg0 4 empty rfl empty_step t.val (Nat.le_of_lt t.isLt)

theorem carried : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have h : t.val % 4 ≠ 0 := by rw [idle] at hi; simpa using hi
  rw [after_4, after_4, ← rows m c t h, ← gain m c t h]

theorem before_4 (h : t.val % 4 ≠ 0) (d) : (dats m 0 c).before 4 t d = k0_pay1 (iblk m c 0 t) (iblk m c 1 t) := by
  rw [Dat.before_out_traj _ 4 rfl (fun _ _ => rfl) (carried m c) t.val t rfl d, if_neg (by rw [fresh]; simpa [empty] using h), after_4,
    ← rows m c t h, ← gain m c t h]

/-- What the body is called with at a point, window by window, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- A live window is left at the proof data's contents. -/
theorem leaves (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- Inside a row block the rows' output is left as it was found, which is what the write-back is to write. -/
theorem leaves_4 (h : t.val % 4 ≠ 0) : owns (c : Thread nD τ) (st0_4 t) fullShare (k0_pay1 (iblk m c 0 t) (iblk m c 1 t)) ⊢ (dats m 0 c).leavesExact 4 t := by
  have hi : cfg0.idle 4 (grid0.coords t) = true := by rw [idle]; simpa using h
  by_cases hf : (cfg0.win 4).flush t = true
  · unfold Dat.leavesExact; rw [hi, hf, after_4]
  · rw [Dat.leavesExact_idle _ 4 t hi (by simpa using hf)]
    iintro H
    iexists (k0_pay1 (iblk m c 0 t) (iblk m c 1 t))
    rw [before_4 m c t h]
    iexact H

set_option maxHeartbeats 4000000 in
/-- The body at any point. -/
theorem sound_body : bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = iprop(owns (c : Thread nD τ) scratch fullShare (kept m c t) ∗ (∃ r, prngReg c r)) from rfl,
    show (dats m 0 c).Φ t.castSucc = Inv m c t.val (Nat.le_of_lt t.isLt) from by dsimp only [dats]; exact Dat.Φ_castSucc (Inv m c) t,
    leaves m c t 0 rfl, leaves m c t 1 rfl, leaves m c t 2 rfl, leaves m c t 3 rfl, after_0, after_1, after_2, after_3]
  by_cases h : t.val % 4 = 0
  · rw [leaves m c t 4 (by rw [idle]; simpa using h), after_4]
    refine (Idealize.SL.BI.Laws.sep_mono_left (Inv_some m c _ _)).trans ?_
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ (iblk m c 0 t) (iblk m c 1 t) (iblk m c 2 t) ((first t).mpr h) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [Inv_pos m c _ _ (by omega), kept_prev m c t h]
    simp only [before_4 m c t h]
    iintro ⟨⟨HS, Hg⟩, Ho, ⟨%d0, H0⟩, ⟨%d1, H1⟩, ⟨%d2, H2⟩, ⟨%d3, H3⟩, ⟨%d4, H4⟩⟩
    iapply (run_next c (grid0.coords t) _ _ _ _ _ _ _ _ _ _ _ _ (iblk m c 0 t) (iblk m c 1 t) (iblk m c 2 t) (fun h' => h ((first t).mp h'))
      (k0_pay1 (iblk m c 0 t) (iblk m c 1 t)) (kept m c t) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t h)
    iexact H4

theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem hin : Pipeline.ΦA spec0 c ⊢ (dats m 0 c).Φ 0 := by
  rw [show (dats m 0 c).Φ 0 = Pipeline.ΦA spec0 c from rfl]

theorem hout : (dats m 0 c).Φ (Fin.last cfg0.N) ⊢ Pipeline.ΦA spec0 c := by
  rw [show (dats m 0 c).Φ (Fin.last cfg0.N) = Inv m c cfg0.N (Nat.le_refl _) from rfl, start]
  exact Inv_some m c _ _

-- the launch theorem's implicit arguments are found by unifying its conclusion with this one
set_option backward.isDefEq.respectTransparency.types false in
/-- The run of the call from any memory: the arrays end at what the proof data say and the semaphores' counters at zero. -/
theorem run_zero : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_zero m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_zero m ρ))

end Cert.Trunk.In

end
-- ==== Proof.T.InMachine.lean ====
/- The input projections: the call as it runs on the machine is the call as it is read at the ideal instance, so that
   the frame of the one is the frame of the other. -/
module

public import proofs.«01_k».proof.Proof.T.InFrame
public import proofs.«01_k».proof.Proof.Gen.In
public import proofs.«01_k».proof.Defs

@[expose] public section

set_option maxRecDepth 65536

noncomputable section

namespace Cert.Trunk.In

open Idealize.ShloMosaic Idealize.ShloMosaic.TcCoe Idealize.SL.Sem

attribute [local instance] Cert.In.Gen.facts Cert.InIdeal.Gen.facts

theorem body_machine : @Cert.In.cc0_mm_in Bits _ _ = @Cert.InIdeal.cc0_mm_in Bits _ _ := rfl

theorem table_machine : @Cert.In.defs₀ Bits _ _ = @Cert.InIdeal.defs₀ Bits _ _ := by
  unfold Cert.In.defs₀ Cert.InIdeal.defs₀
  rw [body_machine]
  refine congrArg Defs.onTc (funext fun l => funext fun x => ?_)
  match l, x with
  | 0, (t, s) => rfl

theorem defs_machine : @Cert.In.defs Bits _ _ = @Cert.InIdeal.defs Bits _ _ := by
  unfold Cert.In.defs Cert.InIdeal.defs
  rw [table_machine]; rfl

/-- The frame of the call on the machine. -/
theorem frame_machine : Cert.quiescent_In := by
  intro m ρ
  have h := frame (F := Bits) m ρ
  rw [← defs_machine] at h
  exact fun _ => h

end Cert.Trunk.In

end
-- ==== Proof.T.Tn.lean ====
/- The weight gradient of the four output products, what the call leaves: for each of the four, the product of the saved
   activations' transpose with the cotangents. -/
module

public import proofs.«01_k».proof.Proof.C.Spec
public import proofs.«01_k».proof.Proof.Gen.TnIdeal.Value
public import proofs.«01_k».proof.Proof.Gen.TnRefIdeal.Read
public import Idealize.ShloMosaic.Lib.Pipeline.ValueKit

@[expose] public section

set_option maxRecDepth 16384

noncomputable section

namespace Cert.Trunk.Tn

open Idealize.ShloMosaic Idealize.ShloMosaic.TcCoe Idealize.ShloMosaic.Tactic Idealize.SL.Sem Idealize.ShloMosaic.Pipeline
open Cert.TnIdeal Cert.TnIdeal.Gen Cert.AttnC

/-- The four products. -/
def dwp (y4 dp4 : S4x4096x1024.Idx → EReal) : S4x1024x1024.Idx → EReal := fun i =>
  ∑ s : Fin 4096, y4 (ix3 (i 0) s (i 1)) * dp4 (ix3 (i 0) s (i 2))

theorem pay (x y : Vec Ideal S1x4096x1024 .bf16) (p : Fin 1) (a b : Fin 1024) :
    k0_pay1 (F := Ideal) x y (ix3 p a b) = ∑ s : Fin 4096, x (ix3 0 s a) * y (ix3 0 s b) := by
  pointwise [k0_pay1]

theorem out_eq (x y : Vec Ideal S1x4096x1024 .bf16) (p : Fin 1) (a b : Fin 1024) :
    out0_2 (F := Ideal) x y (ix3 p a b) = ∑ s : Fin 4096, x (ix3 0 s a) * y (ix3 0 s b) := by
  unfold out0_2
  refine (congrFun (View.canon_unit_zero (S := S1x1024x1024) zero3 _ _) _).trans ?_
  rw [View.ld_unit_zero (S := S1x4096x1024) zero3, View.ld_unit_zero (S := S1x4096x1024) zero3]
  exact pay x y p a b

theorem lt (t : Fin cfg0.N) : t.val < 4 := N_0 ▸ t.isLt
/-- The product of point `t`. -/
def at4 (t : Fin cfg0.N) : Fin 4 := ⟨t.val, lt t⟩

theorem idx_0 : ∀ t, win0_0.index t 0 = t.val ∧ win0_0.index t 1 = 0 ∧ win0_0.index t 2 = 0 := by decide +kernel
theorem idx_1 : ∀ t, win0_1.index t 0 = t.val ∧ win0_1.index t 1 = 0 ∧ win0_1.index t 2 = 0 := by decide +kernel
theorem idx_2 : ∀ t, win0_2.index t 0 = t.val ∧ win0_2.index t 1 = 0 ∧ win0_2.index t 2 = 0 := by decide +kernel

variable (m : (ℓ : Loc nD τ sig) → Buf (Elt Ideal) ℓ) (c : Dev nD)

theorem in_0 (t : Fin cfg0.N) (s : Fin 4096) (d : Fin 1024) : iblk m c 0 t (ix3 0 s d) = m ((c : Thread nD τ).loc main_arg0) (ix3 (at4 t) s d) := by
  unfold iblk
  blk_simp
  rw [← V_main_arg0 m c]
  refine congrArg (V m c main_arg0) (at3 (a := win0_0.index t 0 * 1) (e := (0 : Fin 1).val) (b := win0_0.index t 1 * 4096) (f := s.val)
    (c := win0_0.index t 2 * 1024) (g := d.val) _ _ _ _ (by blk_simp) (by blk_simp) (by blk_simp) ?_ ?_ ?_)
  · rw [(idx_0 t).1]; exact (Nat.mul_one _).symm
  · rw [(idx_0 t).2.1]; omega
  · rw [(idx_0 t).2.2]; omega
theorem in_1 (t : Fin cfg0.N) (s : Fin 4096) (d : Fin 1024) : iblk m c 1 t (ix3 0 s d) = m ((c : Thread nD τ).loc main_arg1) (ix3 (at4 t) s d) := by
  unfold iblk
  blk_simp
  rw [← V_main_arg1 m c]
  refine congrArg (V m c main_arg1) (at3 (a := win0_1.index t 0 * 1) (e := (0 : Fin 1).val) (b := win0_1.index t 1 * 4096) (f := s.val)
    (c := win0_1.index t 2 * 1024) (g := d.val) _ _ _ _ (by blk_simp) (by blk_simp) (by blk_simp) ?_ ?_ ?_)
  · rw [(idx_1 t).1]; exact (Nat.mul_one _).symm
  · rw [(idx_1 t).2.1]; omega
  · rw [(idx_1 t).2.2]; omega
theorem emb (t : Fin cfg0.N) (p : Fin 1) (a b : Fin 1024) : (win0_2.blk t).view.emb (ix3 p a b) = ix3 (at4 t) a b := by
  refine at3 (a := win0_2.index t 0 * 1) (e := p.val) (b := win0_2.index t 1 * 1024) (f := a.val)
    (c := win0_2.index t 2 * 1024) (g := b.val) _ _ _ _ (by blk_simp) (by blk_simp) (by blk_simp) ?_ ?_ ?_
  · rw [(idx_2 t).1]; show t.val = _; omega
  · rw [(idx_2 t).2.1]; omega
  · rw [(idx_2 t).2.2]; omega

/-- What the call leaves. -/
theorem arr : (dats m 0 c).arrAt 2 cfg0.N = dwp (m ((c : Thread nD τ).loc main_arg0)) (m ((c : Thread nD τ).loc main_arg1)) := by
  refine (dats m 0 c).arrAt_eq_of_covers 2 _ (by decide +kernel) fun t hf y => ?_
  obtain ⟨p, a, b, rfl⟩ := three y
  blk_simp
  rw [after0_2, out_eq, emb]
  simp only [in_0, in_1]
  rfl

/-- What the reference leaves. -/
theorem ref (y4 dp4 : S4x4096x1024.Idx → EReal) : Cert.TnRefIdeal.Read.val_main_v6 (F := Ideal) y4 dp4 = dwp y4 dp4 := by
  funext i
  obtain ⟨p, a, b, rfl⟩ := three i
  rw [Cert.TnRefIdeal.Read.val_main_v6_apply, Cert.TnRefIdeal.Read.val_main_v5_apply, Cert.TnRefIdeal.Read.val_main_v4_apply]
  refine Finset.sum_congr rfl fun s _ => (mul_comm _ _).trans ?_
  exact congrArg₂ (· * ·) (congrArg y4 (same3 rfl rfl rfl)) (congrArg dp4 (same3 rfl rfl rfl))

end Cert.Trunk.Tn

end
-- ==== Proof.T.Columns.lean ====
/- The ten projections' cotangents as columns: part `part b` of the stack is column block `b` of the weights. -/
module

public import proofs.«01_k».proof.Proof.C.Spec
public import Idealize.ShloMosaic.Lib.Pipeline.ValueKit

@[expose] public section

set_option maxRecDepth 16384

noncomputable section

namespace Cert.Trunk

open Idealize.ShloMosaic Cert.AttnC

/-- A stack of ten matrices. -/
abbrev Stack : Type := (⟨3, ![10, 4096, 1024]⟩ : Shape).Idx → EReal

/-- The part of the stack that column block `b` holds. -/
def part (b : Fin 10) : Fin 10 := ⟨if b.val < 3 then b.val else if b.val < 7 then b.val + 3 else b.val - 4, by split <;> [skip; split] <;> omega⟩
/-- The column block of a column, and its place there. -/
def cb (d : Fin 10240) : Fin 10 := ⟨d.val / 1024, by omega⟩
def cl (d : Fin 10240) : Fin 1024 := ⟨d.val % 1024, by omega⟩
/-- Column `d` of column block `b`. -/
def wide (b : Fin 10) (d : Fin 1024) : Fin 10240 := ⟨1024 * b.val + d.val, by omega⟩
theorem cb_wide (b : Fin 10) (d : Fin 1024) : cb (wide b d) = b := Fin.ext (by simp only [cb, wide]; omega)
theorem cl_wide (b : Fin 10) (d : Fin 1024) : cl (wide b d) = d := Fin.ext (by simp only [cl, wide]; omega)
theorem wide_cb (d : Fin 10240) : wide (cb d) (cl d) = d := Fin.ext (by simp only [cb, cl, wide]; omega)
/-- The stack's parts side by side. -/
def cols (dz : Stack) : Arr 4096 10240 := fun i => dz (ix3 (part (cb (i 1))) (i 0) (cl (i 1)))
/-- The column block of part `k`. -/
def place (k : Fin 10) : Fin 10 := ⟨if k.val < 3 then k.val else if k.val < 6 then k.val + 4 else k.val - 3, by split <;> [skip; split] <;> omega⟩
theorem part_place : ∀ k, part (place k) = k := by decide
theorem place_part : ∀ b, place (part b) = b := by decide
theorem cols_wide (dz : Stack) (k : Fin 10) (s : Fin 4096) (d : Fin 1024) : cols dz (ix2 s (wide (place k) d)) = dz (ix3 k s d) :=
  congrArg₂ (fun p q => dz (ix3 p s q)) ((congrArg part (cb_wide _ d)).trans (part_place k)) (cl_wide _ d)
/-- A sum over the columns, part by part. -/
theorem sum_wide (f : Fin 10240 → EReal) : ∑ e, f e = ∑ k : Fin 10, ∑ d : Fin 1024, f (wide (place k) d) := by
  rw [← Fintype.sum_prod_type']
  refine (Fintype.sum_bijective (fun q : Fin 10 × Fin 1024 => wide (place q.1) q.2) ⟨fun p q h => ?_, fun e => ?_⟩ _ _ fun _ => rfl).symm
  · have h1 := congrArg (fun e => part (cb e)) h
    have h2 := congrArg cl h
    simp only [cb_wide, cl_wide, part_place] at h1 h2
    exact Prod.ext h1 h2
  · exact ⟨(part (cb e), cl e), (congrArg (wide · (cl e)) (place_part (cb e))).trans (wide_cb e)⟩

/-- One part of a stack, cut out and read as a matrix. -/
theorem cut (p : Nat) (hp : p < 10) (y : Stack) (h) (h') (s : Fin 4096) (d : Fin 1024) :
    shapeCast (α := EReal) ⟨2, ![4096, 1024]⟩ (extractStridedSlice ⟨3, ![1, 4096, 1024]⟩ ![p, 0, 0] y h) h' (ix2 s d) = y (ix3 ⟨p, hp⟩ s d) := by
  refine (shapeCast_apply _ h' (ix2 s d) (ix3 0 s d) ?_).trans ?_
  · rewrite [Shape.rowMajor_val_three, Shape.rowMajor_val_two]
    show (0 * 4096 + s.val) * 1024 + d.val = s.val * 1024 + d.val
    omega
  · refine extractStridedSlice_apply ![p, 0, 0] y h (ix3 0 s d) (ix3 ⟨p, hp⟩ s d) fun a => ?_
    match a with
    | ⟨0, _⟩ => rfl
    | ⟨1, _⟩ => exact (Nat.zero_add _).symm
    | ⟨2, _⟩ => exact (Nat.zero_add _).symm

/-- Ten matrices side by side. -/
theorem cat (f : Fin 10 → Arr 4096 1024) (h) (s : Fin 4096) (b : Fin 10) (d : Fin 1024) :
    concatenate ⟨2, ![4096, 10240]⟩ 1 (List.ofFn fun n : Fin 10 => (⟨⟨2, ![4096, 1024]⟩, f n⟩ : (s : Shape) × (s.Idx → EReal))) h
      (ix2 s (wide b d)) = f b (ix2 s d) := by
  refine concatenate_ofFn_apply 1 f h rfl 1024 rfl (ix2 s (wide b d)) b ?_ (ix2 s d) ?_ fun a ha => ?_
  · show (1024 * b.val + d.val) / 1024 = b.val
    omega
  · show d.val = (1024 * b.val + d.val) % 1024
    omega
  · match a, ha with
    | ⟨0, _⟩, _ => rfl
    | ⟨1, _⟩, ha => exact absurd rfl ha

/-- The parts in the order of their columns, side by side. -/
theorem cat_cut (y : Stack) (h0 h1 h2 h3 h4 h5 h6 h7 h8 h9) (h') (h) :
    concatenate ⟨2, ![4096, 10240]⟩ 1 (List.ofFn fun n : Fin 10 => (⟨⟨2, ![4096, 1024]⟩,
      (![shapeCast ⟨2, ![4096, 1024]⟩ (extractStridedSlice ⟨3, ![1, 4096, 1024]⟩ ![0, 0, 0] y h0) h',
        shapeCast ⟨2, ![4096, 1024]⟩ (extractStridedSlice ⟨3, ![1, 4096, 1024]⟩ ![1, 0, 0] y h1) h',
        shapeCast ⟨2, ![4096, 1024]⟩ (extractStridedSlice ⟨3, ![1, 4096, 1024]⟩ ![2, 0, 0] y h2) h',
        shapeCast ⟨2, ![4096, 1024]⟩ (extractStridedSlice ⟨3, ![1, 4096, 1024]⟩ ![6, 0, 0] y h3) h',
        shapeCast ⟨2, ![4096, 1024]⟩ (extractStridedSlice ⟨3, ![1, 4096, 1024]⟩ ![7, 0, 0] y h4) h',
        shapeCast ⟨2, ![4096, 1024]⟩ (extractStridedSlice ⟨3, ![1, 4096, 1024]⟩ ![8, 0, 0] y h5) h',
        shapeCast ⟨2, ![4096, 1024]⟩ (extractStridedSlice ⟨3, ![1, 4096, 1024]⟩ ![9, 0, 0] y h6) h',
        shapeCast ⟨2, ![4096, 1024]⟩ (extractStridedSlice ⟨3, ![1, 4096, 1024]⟩ ![3, 0, 0] y h7) h',
        shapeCast ⟨2, ![4096, 1024]⟩ (extractStridedSlice ⟨3, ![1, 4096, 1024]⟩ ![4, 0, 0] y h8) h',
        shapeCast ⟨2, ![4096, 1024]⟩ (extractStridedSlice ⟨3, ![1, 4096, 1024]⟩ ![5, 0, 0] y h9) h'] : Fin 10 → Arr 4096 1024) n⟩ :
          (s : Shape) × (s.Idx → EReal))) h = cols y := by
  funext i
  obtain ⟨s, e, rfl⟩ := two i
  obtain ⟨b, d, rfl⟩ : ∃ b d, e = wide b d := ⟨cb e, cl e, (wide_cb e).symm⟩
  refine (cat _ _ s b d).trans (Eq.trans ?_ (congrArg₂ (fun p q => y (ix3 (part p) s q)) (cb_wide b d) (cl_wide b d)).symm)
  fin_cases b
  exacts [cut 0 (by decide) y h0 h' s d, cut 1 (by decide) y h1 h' s d, cut 2 (by decide) y h2 h' s d, cut 6 (by decide) y h3 h' s d,
    cut 7 (by decide) y h4 h' s d, cut 8 (by decide) y h5 h' s d, cut 9 (by decide) y h6 h' s d, cut 3 (by decide) y h7 h' s d,
    cut 4 (by decide) y h8 h' s d, cut 5 (by decide) y h9 h' s d]

end Cert.Trunk

end
-- ==== Proof.T.Dw.lean ====
/- The weight gradient of the ten input projections, what the call leaves: the normed rows' transpose times the
   projections' cotangents, each part of their stack at its column block. -/
module

public import proofs.«01_k».proof.Proof.T.Columns
public import proofs.«01_k».proof.Proof.Gen.DwIdeal.Value
public import proofs.«01_k».proof.Proof.Gen.DwRefIdeal.Read
public import Idealize.ShloMosaic.Lib.StableHlo.RunRead

@[expose] public section

set_option maxRecDepth 16384

noncomputable section

namespace Cert.Trunk.Dw

open Idealize.ShloMosaic Idealize.ShloMosaic.TcCoe Idealize.ShloMosaic.Tactic Idealize.SL.Sem Idealize.ShloMosaic.Pipeline
open Cert.DwIdeal Cert.DwIdeal.Gen Cert.AttnC Cert.DwRefIdeal.Read

/-- The product. -/
def dw (h : Arr 4096 1024) (dz : Stack) : Arr 1024 10240 := fun i => ∑ s : Fin 4096, h (ix2 s (i 0)) * cols dz (ix2 s (i 1))

theorem pay (x : Vec Ideal S4096x1024 .bf16) (y : Vec Ideal S1x4096x1024 .bf16) (a b : Fin 1024) :
    k0_pay1 (F := Ideal) x y (ix2 a b) = ∑ s : Fin 4096, x (ix2 s a) * y (ix3 0 s b) := by
  pointwise [k0_pay1]

theorem out_eq (x : Vec Ideal S4096x1024 .bf16) (y : Vec Ideal S1x4096x1024 .bf16) (a b : Fin 1024) :
    out0_2 (F := Ideal) x y (ix2 a b) = ∑ s : Fin 4096, x (ix2 s a) * y (ix3 0 s b) := by
  unfold out0_2
  refine (congrFun (View.canon_unit_zero (S := S1024x1024) zero2 _ _) _).trans ?_
  rw [View.ld_unit_zero (S := S4096x1024) zero2, View.ld_unit_zero (S := S1x4096x1024) zero3]
  exact pay x y a b

theorem lt (t : Fin cfg0.N) : t.val < 10 := N_0 ▸ t.isLt
/-- The part of point `t`. -/
def at10 (t : Fin cfg0.N) : Fin 10 := ⟨t.val, lt t⟩

theorem idx_0 : ∀ t, win0_0.index t 0 = 0 ∧ win0_0.index t 1 = 0 := by decide +kernel
theorem idx_1 : ∀ t, win0_1.index t 0 = t.val ∧ win0_1.index t 1 = 0 ∧ win0_1.index t 2 = 0 := by decide +kernel
theorem idx_2 : ∀ t : Fin cfg0.N, win0_2.index t 0 = 0 ∧ win0_2.index t 1 = (place (at10 t)).val := by decide +kernel

variable (m : (ℓ : Loc nD τ sig) → Buf (Elt Ideal) ℓ) (c : Dev nD)

/-- The rows the region finds are the reference's normed rows. -/
theorem V_h : V m c main_v12 = val_main_v11 (F := Ideal) (m ((c : Thread nD τ).loc main_arg0)) (m ((c : Thread nD τ).loc main_arg1)) := by
  show StableHlo.after hostOps0 (fun b => m (c, b)) (Proc.devRef .tc main_v12) = _
  after_reads_simp
  rfl

theorem in_0 (t : Fin cfg0.N) (s : Fin 4096) (d : Fin 1024) : iblk m c 0 t (ix2 s d)
    = val_main_v11 (F := Ideal) (m ((c : Thread nD τ).loc main_arg0)) (m ((c : Thread nD τ).loc main_arg1)) (ix2 s d) := by
  unfold iblk
  blk_simp
  rw [← V_h m c]
  refine congrArg (V m c main_v12) (at2 (a := win0_0.index t 0 * 4096) (e := s.val) (b := win0_0.index t 1 * 1024) (f := d.val)
    _ _ _ (by blk_simp) (by blk_simp) ?_ ?_)
  · rw [(idx_0 t).1]; omega
  · rw [(idx_0 t).2]; omega
theorem in_1 (t : Fin cfg0.N) (s : Fin 4096) (d : Fin 1024) : iblk m c 1 t (ix3 0 s d) = m ((c : Thread nD τ).loc main_arg2) (ix3 (at10 t) s d) := by
  unfold iblk
  blk_simp
  rw [← V_main_arg2 m c]
  refine congrArg (V m c main_arg2) (at3 (a := win0_1.index t 0 * 1) (e := (0 : Fin 1).val) (b := win0_1.index t 1 * 4096) (f := s.val)
    (c := win0_1.index t 2 * 1024) (g := d.val) _ _ _ _ (by blk_simp) (by blk_simp) (by blk_simp) ?_ ?_ ?_)
  · rw [(idx_1 t).1]; exact (Nat.mul_one _).symm
  · rw [(idx_1 t).2.1]; omega
  · rw [(idx_1 t).2.2]; omega
theorem emb (t : Fin cfg0.N) (a b : Fin 1024) : (win0_2.blk t).view.emb (ix2 a b) = ix2 a (wide (place (at10 t)) b) := by
  refine at2 (a := win0_2.index t 0 * 1024) (e := a.val) (b := win0_2.index t 1 * 1024) (f := b.val) _ _ _ (by blk_simp) (by blk_simp) ?_ ?_
  · rw [(idx_2 t).1]; omega
  · rw [(idx_2 t).2]; show 1024 * _ + _ = _; omega

/-- What the call leaves. -/
theorem arr : (dats m 0 c).arrAt 2 cfg0.N = dw (val_main_v11 (F := Ideal) (m ((c : Thread nD τ).loc main_arg0)) (m ((c : Thread nD τ).loc main_arg1)))
    (m ((c : Thread nD τ).loc main_arg2)) := by
  refine (dats m 0 c).arrAt_eq_of_covers 2 _ (by decide +kernel) fun t hf y => ?_
  obtain ⟨a, b, rfl⟩ := two y
  blk_simp
  rw [after0_2, out_eq, emb]
  simp only [in_0, in_1, ← cols_wide]
  rfl

theorem ref_cols (dz : Stack) : val_main_v35 (F := Ideal) dz = cols dz :=
  cat_cut dz (by decide) (by decide) (by decide) (by decide) (by decide) (by decide) (by decide) (by decide) (by decide) (by decide) (by decide) _

/-- What the reference leaves. -/
theorem ref (x : Arr 4096 1024) (g : Arr 1 1024) (dz : Stack) : val_main_v38 (F := Ideal) x g dz = dw (val_main_v11 (F := Ideal) x g) dz := by
  funext i
  obtain ⟨a, b, rfl⟩ := two i
  rw [val_main_v38_apply, val_main_v37_apply, val_main_v36_apply, ref_cols]
  refine Finset.sum_congr rfl fun s _ => (mul_comm _ _).trans ?_
  exact congrArg₂ (· * ·) (congrArg (val_main_v11 (F := Ideal) x g) (same2 rfl rfl)) (congrArg (cols dz) (same2 rfl rfl))

end Cert.Trunk.Dw

end
-- ==== Proof.T.DhPoint.lean ====
/- The gradient through the input projections and their norm: what the call holds after each point of its grid. -/
module

public import proofs.«01_k».proof.Proof.T.Norm
public import proofs.«01_k».proof.Proof.Gen.DhIdeal.Frame
public import Idealize.ShloMosaic.Lib.Pipeline.ValueKit

@[expose] public section

set_option maxRecDepth 16384

noncomputable section

namespace Cert.Trunk.Dh

open Idealize.ShloMosaic Idealize.ShloMosaic.TcCoe Idealize.SL.Sem
open Cert.DhIdeal Cert.DhIdeal.Gen Cert.AttnC

/-- A row of a matrix. -/
def row {n : Nat} (x : Arr n 1024) (r : Fin n) (d : Fin 1024) : EReal := x (ix2 r d)
/-- A block's product with a block of the weights. -/
def prod (z : Vec Ideal S1x1024x1024 .bf16) (w : Vec Ideal S1024x1024 .bf16) (r d : Fin 1024) : EReal := ∑ e : Fin 1024, z (ix3 0 r e) * w (ix2 d e)
/-- The rows' cotangent from the normed rows' cotangent `h`. -/
def dxv {n : Nat} (h x : Arr n 1024) (g : Arr 1 1024) (y : Arr n 1024) (r : Fin n) (d : Fin 1024) : EReal :=
  y (ix2 r d) + back (row x r) (fun d => h (ix2 r d) * g (ix2 0 d)) d
/-- The gain's cotangent. -/
def dgv {n : Nat} (h x : Arr n 1024) (d : Fin 1024) : EReal := ∑ r, h (ix2 r d) * x (ix2 r d) * rs (row x r)

theorem pay2 (z) (w) (r d : Fin 1024) : k0_pay2 (F := Ideal) z w (ix2 r d) = prod z w r d := by
  pointwise [k0_pay2, k0_pay1]
  rfl
theorem pay3 (z) (w) (a) (r d : Fin 1024) : k0_pay3 (F := Ideal) z w a (ix2 r d) = a (ix2 r d) + prod z w r d := by
  pointwise [k0_pay3, k0_pay1]
  rfl
theorem pay5 (x) (r : Fin 1024) : k0_pay5 (F := Ideal) x (ix2 r 0) = rs (row x r) := by
  pointwise [k0_pay5]
  rfl
theorem pay6 (h x) (g) (y) (r d : Fin 1024) : k0_pay6 (F := Ideal) h x g y (ix2 r d) = dxv h x g y r d := by
  pointwise [k0_pay6]
  simp only [pay5]
  exact add_assoc _ _ _
theorem pay7 (h x) (d : Fin 1024) : k0_pay7 (F := Ideal) h x (ix2 0 d) = dgv h x d := by
  pointwise [k0_pay7]
  simp only [pay5]
  rfl
theorem pay4 (a b) (d : Fin 1024) : k0_pay4 (F := Ideal) a b (ix2 0 d) = b (ix2 0 d) + a (ix2 0 d) := by
  pointwise [k0_pay4]

variable (m : (ℓ : Loc nD τ sig) → Buf (Elt Ideal) ℓ) (c : Dev nD) (t : Fin cfg0.N)

/-- What the points before left. -/
def prev := outsAt0 m c (t.val - 1) (Nat.lt_of_le_of_lt (Nat.sub_le _ _) t.isLt)
/-- The running product after a point that is not its row block's first. -/
def new : Vec Ideal S1024x1024 .f32 := k0_pay3 (F := Ideal) (iblk m c 0 t) (iblk m c 1 t) (prev m c t).2.2

theorem acc_A (h : t.val % 10 = 0) (r d : Fin 1024) : (outsAt0 m c t.val t.isLt).2.2 (ix2 r d) = prod (iblk m c 0 t) (iblk m c 1 t) r d := by
  have h1 : ¬1 ≤ t.val % 10 := by omega
  have h2 : ¬t.val % 10 = 9 := by omega
  rw [outsAt0_A m c t h h1 h2]
  unfold sout0_A_0
  dsimp only
  rw [View.read_writes_eq_canon _ _ _ (scover0_A_0 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _)]
  unfold kernelRun0_A
  dsimp only
  sl_unfold_words
  simp only [View.readAt_eq_ld, (hs0_0 t).read_unread, (hs0_1 t).read_unread]
  rw [View.canon_unit_zero (S := S1024x1024) zero2, View.ld_unit_zero (S := S1x1024x1024) zero3, View.ld_unit_zero (S := S1024x1024) zero2]
  exact pay2 _ _ r d

theorem acc_B (h : ¬t.val % 10 = 0) (h2 : ¬t.val % 10 = 9) (r d : Fin 1024) :
    (outsAt0 m c t.val t.isLt).2.2 (ix2 r d) = new m c t (ix2 r d) := by
  have h0 : ¬t.val % 10 = 0 := by omega
  have h1 : 1 ≤ t.val % 10 := by omega
  rw [outsAt0_B m c t h0 h1 h2]
  unfold sout0_B_0
  dsimp only
  rw [View.read_writes_eq_canon _ _ _ (scover0_B_0 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_6 t).read_unread, (Memref.isWhole_whole _).read_unread]
  rw [View.canon_unit_zero (S := S1024x1024) zero2]
  simp only [View.ld_unit_zero (S := S1x1024x1024) zero3, View.ld_unit_zero (S := S1024x1024) zero2]
  rfl

theorem acc_C (h2 : t.val % 10 = 9) (h3 : t.val < 10) (r d : Fin 1024) :
    (outsAt0 m c t.val t.isLt).2.2 (ix2 r d) = new m c t (ix2 r d) := by
  have h0 : ¬t.val % 10 = 0 := by omega
  have h1 : 1 ≤ t.val % 10 := by omega
  have h4 : ¬10 ≤ t.val := by omega
  rw [outsAt0_C m c t h0 h1 h2 h3 h4]
  unfold sout0_C_0
  dsimp only
  rw [View.read_writes_eq_canon _ _ _ (scover0_C_0 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_6 t).read_unread, (Memref.isWhole_whole _).read_unread]
  rw [View.canon_unit_zero (S := S1024x1024) zero2]
  simp only [View.ld_unit_zero (S := S1x1024x1024) zero3, View.ld_unit_zero (S := S1024x1024) zero2]
  rfl

theorem acc_D (h2 : t.val % 10 = 9) (h4 : 10 ≤ t.val) (r d : Fin 1024) :
    (outsAt0 m c t.val t.isLt).2.2 (ix2 r d) = new m c t (ix2 r d) := by
  have h0 : ¬t.val % 10 = 0 := by omega
  have h1 : 1 ≤ t.val % 10 := by omega
  have h3 : ¬t.val < 10 := by omega
  rw [outsAt0_D m c t h0 h1 h2 h3 h4]
  unfold sout0_D_0
  dsimp only
  rw [View.read_writes_eq_canon _ _ _ (scover0_D_0 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _ _ _ _ _)]
  unfold kernelRun0_D
  dsimp only
  sl_unfold_words
  simp only [View.readAt_eq_ld, (hs0_0 t).read_unread, (hs0_1 t).read_unread, (hs0_2 t).read_unread, (hs0_3 t).read_unread,
    (hs0_4 t).read_unread, (hs0_6 t).read_unread, (Memref.isWhole_whole _).read_unread]
  rw [View.canon_unit_zero (S := S1024x1024) zero2]
  simp only [View.ld_unit_zero (S := S1x1024x1024) zero3, View.ld_unit_zero (S := S1024x1024) zero2]
  rfl

theorem dx_C (h2 : t.val % 10 = 9) (h3 : t.val < 10) (r d : Fin 1024) :
    (outsAt0 m c t.val t.isLt).1 (ix2 r d) = dxv (new m c t) (iblk m c 2 t) (iblk m c 4 t) (iblk m c 3 t) r d := by
  have h0 : ¬t.val % 10 = 0 := by omega
  have h1 : 1 ≤ t.val % 10 := by omega
  have h4 : ¬10 ≤ t.val := by omega
  rw [outsAt0_C m c t h0 h1 h2 h3 h4]
  unfold out0_C_5
  dsimp only
  rw [View.read_writes_eq_canon _ _ _ (cover0_C_5 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_6 t).read_unread, (Memref.isWhole_whole _).read_unread]
  rw [View.canon_unit_zero (S := S1024x1024) zero2]
  simp only [View.readCov_unit_zero (S := S1024x1024) _ zero2, View.ld_unit_zero (S := S1x1024x1024) zero3, View.ld_unit_zero (S := S1024x1024) zero2, View.ld_unit_zero (S := S1x1024) zero2]
  exact pay6 _ _ _ _ r d

theorem dx_D (h2 : t.val % 10 = 9) (h4 : 10 ≤ t.val) (r d : Fin 1024) :
    (outsAt0 m c t.val t.isLt).1 (ix2 r d) = dxv (new m c t) (iblk m c 2 t) (iblk m c 4 t) (iblk m c 3 t) r d := by
  have h0 : ¬t.val % 10 = 0 := by omega
  have h1 : 1 ≤ t.val % 10 := by omega
  have h3 : ¬t.val < 10 := by omega
  rw [outsAt0_D m c t h0 h1 h2 h3 h4]
  unfold out0_D_5
  dsimp only
  rw [View.read_writes_eq_canon _ _ _ (cover0_D_5 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _ _ _ _ _)]
  unfold kernelRun0_D
  dsimp only
  sl_unfold_words
  simp only [View.readAt_eq_ld, (hs0_0 t).read_unread, (hs0_1 t).read_unread, (hs0_2 t).read_unread, (hs0_3 t).read_unread,
    (hs0_4 t).read_unread, (hs0_6 t).read_unread, (Memref.isWhole_whole _).read_unread]
  rw [View.canon_unit_zero (S := S1024x1024) zero2]
  simp only [View.readCov_unit_zero (S := S1024x1024) _ zero2, View.ld_unit_zero (S := S1x1024x1024) zero3, View.ld_unit_zero (S := S1024x1024) zero2, View.ld_unit_zero (S := S1x1024) zero2]
  exact pay6 _ _ _ _ r d

theorem dg_C (h2 : t.val % 10 = 9) (h3 : t.val < 10) (d : Fin 1024) :
    (outsAt0 m c t.val t.isLt).2.1 (ix2 0 d) = dgv (new m c t) (iblk m c 2 t) d := by
  have h0 : ¬t.val % 10 = 0 := by omega
  have h1 : 1 ≤ t.val % 10 := by omega
  have h4 : ¬10 ≤ t.val := by omega
  rw [outsAt0_C m c t h0 h1 h2 h3 h4]
  unfold out0_C_6
  dsimp only
  rw [View.read_writes_eq_canon _ _ _ (cover0_C_6 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_6 t).read_unread, (Memref.isWhole_whole _).read_unread]
  rw [View.canon_unit_zero (S := S1x1024) zero2]
  simp only [View.readCov_unit_zero (S := S1024x1024) _ zero2, View.ld_unit_zero (S := S1x1024x1024) zero3, View.ld_unit_zero (S := S1024x1024) zero2, View.ld_unit_zero (S := S1x1024) zero2]
  exact pay7 _ _ d

theorem dg_D (h2 : t.val % 10 = 9) (h4 : 10 ≤ t.val) (d : Fin 1024) :
    (outsAt0 m c t.val t.isLt).2.1 (ix2 0 d) = (prev m c t).2.1 (ix2 0 d) + dgv (new m c t) (iblk m c 2 t) d := by
  have h0 : ¬t.val % 10 = 0 := by omega
  have h1 : 1 ≤ t.val % 10 := by omega
  have h3 : ¬t.val < 10 := by omega
  rw [outsAt0_D m c t h0 h1 h2 h3 h4]
  unfold out0_D_6
  dsimp only
  rw [View.read_writes_eq_canon _ _ _ (cover0_D_6 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _ _ _ _ _)]
  unfold kernelRun0_D
  dsimp only
  sl_unfold_words
  simp only [View.readAt_eq_ld, (hs0_0 t).read_unread, (hs0_1 t).read_unread, (hs0_2 t).read_unread, (hs0_3 t).read_unread,
    (hs0_4 t).read_unread, (hs0_6 t).read_unread, (Memref.isWhole_whole _).read_unread]
  rw [View.canon_unit_zero (S := S1x1024) zero2]
  simp only [View.readCov_unit_zero (S := S1024x1024) _ zero2, View.ld_unit_zero (S := S1x1024x1024) zero3, View.ld_unit_zero (S := S1024x1024) zero2, View.ld_unit_zero (S := S1x1024) zero2]
  exact (pay4 _ _ d).trans (congrArg (_ + ·) (pay7 _ _ d))

/-- Between two row blocks' ends the gain's cotangent stays. -/
theorem dg_keep (h2 : ¬t.val % 10 = 9) : (outsAt0 m c t.val t.isLt).2.1 = (prev m c t).2.1 := by
  by_cases h0 : t.val % 10 = 0
  · rw [outsAt0_A m c t h0 (by omega) h2]
    rfl
  · rw [outsAt0_B m c t h0 (by omega) h2]
    rfl

end Cert.Trunk.Dh

end
-- ==== Proof.T.DhArrays.lean ====
/- The gradient through the input projections and their norm: the arrays the call leaves. -/
module

public import proofs.«01_k».proof.Proof.T.Columns
public import proofs.«01_k».proof.Proof.T.DhPoint

@[expose] public section

set_option maxRecDepth 16384

noncomputable section

namespace Cert.Trunk.Dh

open Idealize.ShloMosaic Idealize.ShloMosaic.TcCoe Idealize.SL.Sem Idealize.ShloMosaic.Pipeline
open Cert.DhIdeal Cert.DhIdeal.Gen Cert.AttnC

/-- The normed rows' cotangent: the ten parts times their columns of the weights. -/
def dh (dz : Stack) (w : Arr 1024 10240) : Arr 4096 1024 := fun i => ∑ e : Fin 10240, cols dz (ix2 (i 0) e) * w (ix2 (i 1) e)
/-- Part `k`'s share of it. -/
def share (dz : Stack) (w : Arr 1024 10240) (k : Fin 10) (s : Fin 4096) (d : Fin 1024) : EReal :=
  ∑ e : Fin 1024, dz (ix3 k s e) * w (ix2 d (wide (place k) e))
theorem dh_eq (dz : Stack) (w : Arr 1024 10240) (s : Fin 4096) (d : Fin 1024) : dh dz w (ix2 s d) = ∑ k, share dz w k s d := by
  refine (sum_wide _).trans (Finset.sum_congr rfl fun k _ => Finset.sum_congr rfl fun e _ => ?_)
  exact congrArg (· * _) (cols_wide dz k s e)

theorem lt (t : Fin cfg0.N) : t.val < 40 := N_0 ▸ t.isLt
/-- The part of position `n`, and the row that row `r` of its block is. -/
def pt (n : Nat) : Fin 10 := ⟨n % 10, by omega⟩
def rw4 (i : Nat) (r : Fin 1024) : Fin 4096 := ⟨(1024 * i + r.val) % 4096, by omega⟩
theorem rw4_val (i : Nat) (r : Fin 1024) (h : i < 4) : (rw4 i r).val = 1024 * i + r.val := Nat.mod_eq_of_lt (by omega)

theorem sum_rows (f : Fin 4096 → EReal) : ∑ s, f s = ∑ i ∈ Finset.range 4, ∑ r : Fin 1024, f (rw4 i r) := by
  rw [Finset.sum_range, ← Fintype.sum_prod_type' (f := fun (i : Fin 4) (r : Fin 1024) => f (rw4 i.val r))]
  refine (Fintype.sum_bijective (fun q : Fin 4 × Fin 1024 => rw4 q.1.val q.2) ⟨fun p q h => ?_, fun s => ?_⟩ _ _ fun _ => rfl).symm
  · have h := congrArg Fin.val h
    simp only [rw4_val _ _ p.1.isLt, rw4_val _ _ q.1.isLt] at h
    exact Prod.ext (Fin.ext (by omega)) (Fin.ext (by omega))
  · refine ⟨(⟨s.val / 1024, by omega⟩, ⟨s.val % 1024, by omega⟩), Fin.ext ?_⟩
    rw [rw4_val _ _ (by omega)]
    show 1024 * (s.val / 1024) + s.val % 1024 = s.val
    omega

theorem idx_0 : ∀ t, win0_0.index t 0 = t.val % 10 ∧ win0_0.index t 1 = t.val / 10 ∧ win0_0.index t 2 = 0 := by decide +kernel
theorem idx_1 : ∀ t : Fin cfg0.N, win0_1.index t 0 = 0 ∧ win0_1.index t 1 = (place (pt t.val)).val := by decide +kernel
theorem idx_2 : ∀ t, win0_2.index t 0 = t.val / 10 ∧ win0_2.index t 1 = 0 := by decide +kernel
theorem idx_3 : ∀ t, win0_3.index t 0 = t.val / 10 ∧ win0_3.index t 1 = 0 := by decide +kernel
theorem idx_4 : ∀ t, win0_4.index t 0 = 0 ∧ win0_4.index t 1 = 0 := by decide +kernel
theorem idx_5 : ∀ t, win0_5.index t 0 = t.val / 10 ∧ win0_5.index t 1 = 0 := by decide +kernel
theorem idx_6 : ∀ t, win0_6.index t 0 = 0 ∧ win0_6.index t 1 = 0 := by decide +kernel

variable (m : (ℓ : Loc nD τ sig) → Buf (Elt Ideal) ℓ) (c : Dev nD)

/-- The arguments. -/
abbrev aDz : Stack := m ((c : Thread nD τ).loc main_arg0)
abbrev aW : Arr 1024 10240 := m ((c : Thread nD τ).loc main_arg1)
abbrev aX : Arr 4096 1024 := m ((c : Thread nD τ).loc main_arg2)
abbrev aN : Arr 4096 1024 := m ((c : Thread nD τ).loc main_arg3)
abbrev aG : Arr 1 1024 := m ((c : Thread nD τ).loc main_arg4)

theorem in_0 (t : Fin cfg0.N) (r e : Fin 1024) : iblk m c 0 t (ix3 0 r e) = aDz m c (ix3 (pt t.val) (rw4 (t.val / 10) r) e) := by
  have := lt t
  unfold iblk
  blk_simp
  unfold aDz
  rw [← V_main_arg0 m c]
  refine congrArg (V m c main_arg0) (at3 (a := win0_0.index t 0 * 1) (e := (0 : Fin 1).val) (b := win0_0.index t 1 * 1024) (f := r.val)
    (c := win0_0.index t 2 * 1024) (g := e.val) _ _ _ _ (by blk_simp) (by blk_simp) (by blk_simp) ?_ ?_ ?_)
  · rw [(idx_0 t).1]; exact (Nat.mul_one _).symm
  · rw [(idx_0 t).2.1, rw4_val _ _ (by omega)]; omega
  · rw [(idx_0 t).2.2]; omega
theorem in_1 (t : Fin cfg0.N) (d e : Fin 1024) : iblk m c 1 t (ix2 d e) = aW m c (ix2 d (wide (place (pt t.val)) e)) := by
  unfold iblk
  blk_simp
  unfold aW
  rw [← V_main_arg1 m c]
  refine congrArg (V m c main_arg1) (at2 (a := win0_1.index t 0 * 1024) (e := d.val) (b := win0_1.index t 1 * 1024) (f := e.val)
    _ _ _ (by blk_simp) (by blk_simp) ?_ ?_)
  · rw [(idx_1 t).1]; omega
  · rw [(idx_1 t).2]; show 1024 * _ + _ = _; omega
theorem in_2 (t : Fin cfg0.N) (r d : Fin 1024) : iblk m c 2 t (ix2 r d) = aX m c (ix2 (rw4 (t.val / 10) r) d) := by
  have := lt t
  unfold iblk
  blk_simp
  unfold aX
  rw [← V_main_arg2 m c]
  refine congrArg (V m c main_arg2) (at2 (a := win0_2.index t 0 * 1024) (e := r.val) (b := win0_2.index t 1 * 1024) (f := d.val)
    _ _ _ (by blk_simp) (by blk_simp) ?_ ?_)
  · rw [(idx_2 t).1, rw4_val _ _ (by omega)]; omega
  · rw [(idx_2 t).2]; omega
theorem in_3 (t : Fin cfg0.N) (r d : Fin 1024) : iblk m c 3 t (ix2 r d) = aN m c (ix2 (rw4 (t.val / 10) r) d) := by
  have := lt t
  unfold iblk
  blk_simp
  unfold aN
  rw [← V_main_arg3 m c]
  refine congrArg (V m c main_arg3) (at2 (a := win0_3.index t 0 * 1024) (e := r.val) (b := win0_3.index t 1 * 1024) (f := d.val)
    _ _ _ (by blk_simp) (by blk_simp) ?_ ?_)
  · rw [(idx_3 t).1, rw4_val _ _ (by omega)]; omega
  · rw [(idx_3 t).2]; omega
theorem in_4 (t : Fin cfg0.N) (d : Fin 1024) : iblk m c 4 t (ix2 0 d) = aG m c (ix2 0 d) := by
  unfold iblk
  blk_simp
  unfold aG
  rw [← V_main_arg4 m c]
  refine congrArg (V m c main_arg4) (at2 (a := win0_4.index t 0 * 1) (e := (0 : Fin 1).val) (b := win0_4.index t 1 * 1024) (f := d.val)
    _ _ _ (by blk_simp) (by blk_simp) ?_ ?_)
  · rw [(idx_4 t).1]; rfl
  · rw [(idx_4 t).2]; omega

theorem prod_eq (t : Fin cfg0.N) (r d : Fin 1024) :
    prod (iblk m c 0 t) (iblk m c 1 t) r d = share (aDz m c) (aW m c) (pt t.val) (rw4 (t.val / 10) r) d :=
  Finset.sum_congr rfl fun e _ => congrArg₂ (· * ·) (in_0 m c t r e) (in_1 m c t d e)

theorem new_eq (t : Fin cfg0.N) (r d : Fin 1024) : new m c t (ix2 r d)
    = (prev m c t).2.2 (ix2 r d) + share (aDz m c) (aW m c) (pt t.val) (rw4 (t.val / 10) r) d :=
  (pay3 _ _ _ r d).trans (congrArg (_ + ·) (prod_eq m c t r d))

/-- A point that is not its row block's first adds its part. -/
theorem acc_new (t : Fin cfg0.N) (h : ¬t.val % 10 = 0) (r d : Fin 1024) : (outsAt0 m c t.val t.isLt).2.2 (ix2 r d) = new m c t (ix2 r d) := by
  by_cases h2 : t.val % 10 = 9
  · by_cases h3 : t.val < 10
    · exact acc_C m c t h2 h3 r d
    · exact acc_D m c t h2 (by omega) r d
  · exact acc_B m c t h h2 r d

/-- The running product: the parts so far. -/
theorem acc_at (r d : Fin 1024) : ∀ (n : Nat) (hn : n < cfg0.N), (outsAt0 m c n hn).2.2 (ix2 r d)
    = ∑ k ∈ Finset.range (n % 10 + 1), share (aDz m c) (aW m c) (pt k) (rw4 (n / 10) r) d
  | 0, hn => by
    rw [acc_A m c ⟨0, hn⟩ rfl, prod_eq]
    show _ = ∑ k ∈ Finset.range 1, share (aDz m c) (aW m c) (pt k) (rw4 0 r) d
    rw [Finset.sum_range_one]
    exact congrArg (fun i => share (aDz m c) (aW m c) (pt 0) (rw4 i r) d) (Nat.zero_div 10)
  | n + 1, hn => by
    by_cases h : (n + 1) % 10 = 0
    · rw [acc_A m c ⟨n + 1, hn⟩ h, prod_eq, h, Nat.zero_add, Finset.sum_range_one]
      exact congrArg (share _ _ · _ _) (Fin.ext h)
    · have e1 : (n + 1) % 10 = n % 10 + 1 := by omega
      have e2 : (n + 1) / 10 = n / 10 := by omega
      rw [acc_new m c ⟨n + 1, hn⟩ h, new_eq]
      have ih := acc_at r d n (Nat.lt_of_succ_lt hn)
      rw [e1, Finset.sum_range_succ, e2, ← ih]
      refine congrArg₂ (· + ·) rfl (congrArg₂ (share _ _ · · _) (Fin.ext ?_) rfl)
      show (n + 1) % 10 = (n % 10 + 1) % 10
      omega

/-- At a row block's last point the product is complete. -/
theorem new_last (t : Fin cfg0.N) (h : t.val % 10 = 9) (r d : Fin 1024) :
    new m c t (ix2 r d) = dh (aDz m c) (aW m c) (ix2 (rw4 (t.val / 10) r) d) := by
  rw [← acc_new m c t (by omega), acc_at, dh_eq, h, Finset.sum_range]
  exact Finset.sum_congr rfl fun k _ => congrArg (share _ _ · _ _) (Fin.ext (Nat.mod_eq_of_lt k.isLt))

theorem row_eq (t : Fin cfg0.N) (r : Fin 1024) : row (n := 1024) (iblk m c 2 t) r = row (aX m c) (rw4 (t.val / 10) r) := funext fun d => in_2 m c t r d

/-- The rows' cotangent at a row block's last point. -/
theorem dx_last (t : Fin cfg0.N) (h : t.val % 10 = 9) (r d : Fin 1024) : (outsAt0 m c t.val t.isLt).1 (ix2 r d)
    = dxv (dh (aDz m c) (aW m c)) (aX m c) (aG m c) (aN m c) (rw4 (t.val / 10) r) d := by
  have e : (outsAt0 m c t.val t.isLt).1 (ix2 r d) = dxv (n := 1024) (new m c t) (iblk m c 2 t) (iblk m c 4 t) (iblk m c 3 t) r d := by
    by_cases h3 : t.val < 10
    · exact dx_C m c t h h3 r d
    · exact dx_D m c t h (by omega) r d
  rw [e]
  unfold dxv
  rw [row_eq]
  simp only [new_last m c t h, in_3, in_4]

/-- A row block's share of the gain's cotangent. -/
def dgs (i : Nat) (d : Fin 1024) : EReal :=
  ∑ r : Fin 1024, dh (aDz m c) (aW m c) (ix2 (rw4 i r) d) * aX m c (ix2 (rw4 i r) d) * rs (row (aX m c) (rw4 i r))
theorem dgv_last (t : Fin cfg0.N) (h : t.val % 10 = 9) (d : Fin 1024) : dgv (n := 1024) (new m c t) (iblk m c 2 t) d = dgs m c (t.val / 10) d := by
  unfold dgv dgs
  simp only [row_eq, new_last m c t h, in_2]

/-- The gain's cotangent so far, from the first row block's end on. -/
theorem dg_at (d : Fin 1024) : ∀ (n : Nat) (hn : n < cfg0.N), 9 ≤ n → (outsAt0 m c n hn).2.1 (ix2 0 d) = ∑ i ∈ Finset.range ((n + 1) / 10), dgs m c i d
  | 0, _, h => absurd h (by omega)
  | n + 1, hn, h9 => by
    by_cases h : (n + 1) % 10 = 9
    · by_cases h3 : n + 1 < 10
      · rw [dg_C m c ⟨n + 1, hn⟩ h h3, dgv_last m c ⟨n + 1, hn⟩ h]
        have e1 : (n + 1 + 1) / 10 = 1 := by omega
        have e2 : (n + 1) / 10 = 0 := by omega
        rw [e1, Finset.sum_range_one]
        exact congrArg (dgs m c · d) e2
      · rw [dg_D m c ⟨n + 1, hn⟩ h (by show 10 ≤ n + 1; omega), dgv_last m c ⟨n + 1, hn⟩ h]
        have e1 : (n + 1 + 1) / 10 = (n + 1) / 10 + 1 := by omega
        rw [e1, Finset.sum_range_succ, ← dg_at d n (Nat.lt_of_succ_lt hn) (by omega)]
        rfl
    · rw [dg_keep m c ⟨n + 1, hn⟩ h]
      have e1 : (n + 1 + 1) / 10 = (n + 1) / 10 := by omega
      rw [e1]
      exact dg_at d n (Nat.lt_of_succ_lt hn) (by omega)

/-- The rows' cotangent, and the gain's, whole. -/
def dx (dz : Stack) (w : Arr 1024 10240) (x y : Arr 4096 1024) (g : Arr 1 1024) : Arr 4096 1024 := fun i => dxv (dh dz w) x g y (i 0) (i 1)
def dg (dz : Stack) (w : Arr 1024 10240) (x : Arr 4096 1024) : Arr 1 1024 := fun i => dgv (dh dz w) x (i 1)

/-- What the call leaves. -/
theorem arr5 : (dats m 0 c).arrAt 5 cfg0.N = dx (aDz m c) (aW m c) (aX m c) (aN m c) (aG m c) := by
  refine (dats m 0 c).arrAt_eq_of_covers 5 _ (by decide +kernel) fun t hf y => ?_
  obtain ⟨r, d, rfl⟩ := two y
  blk_simp
  rw [after0_5, dx_last m c t ((flush0_5 t).mp hf)]
  have e : (win0_5.blk t).view.emb (ix2 r d) = ix2 (rw4 (t.val / 10) r) d := by
    have := lt t
    refine at2 (a := win0_5.index t 0 * 1024) (e := r.val) (b := win0_5.index t 1 * 1024) (f := d.val) _ _ _ (by blk_simp) (by blk_simp) ?_ ?_
    · rw [(idx_5 t).1, rw4_val _ _ (by omega)]; omega
    · rw [(idx_5 t).2]; omega
  rw [e]
  rfl

theorem arr6 : (dats m 0 c).arrAt 6 cfg0.N = dg (aDz m c) (aW m c) (aX m c) := by
  refine (dats m 0 c).arrAt_eq_of_covers 6 _ (by decide +kernel) fun t hf y => ?_
  obtain ⟨r, d, rfl⟩ := two y
  have h39 : t.val = 39 := by have := lt t; have := (flush0_6 t).mp hf; omega
  obtain rfl : r = 0 := Subsingleton.elim _ _
  blk_simp
  rw [after0_6, dg_at m c d t.val t.isLt (by omega), h39]
  have e : (win0_6.blk t).view.emb (ix2 0 d) = ix2 0 d := by
    refine at2 (a := win0_6.index t 0 * 1) (e := (0 : Fin 1).val) (b := win0_6.index t 1 * 1024) (f := d.val) _ _ _ (by blk_simp) (by blk_simp) ?_ ?_
    · rw [(idx_6 t).1]; rfl
    · rw [(idx_6 t).2]; omega
  rw [e]
  exact (sum_rows fun s => dh (aDz m c) (aW m c) (ix2 s d) * aX m c (ix2 s d) * rs (row (aX m c) s)).symm

end Cert.Trunk.Dh

end
-- ==== Proof.T.DhRef.lean ====
/- The gradient through the input projections and their norm: what the reference leaves. -/
module

public import proofs.«01_k».proof.Proof.T.DhArrays
public import proofs.«01_k».proof.Proof.Gen.DhRefIdeal.Read

@[expose] public section

set_option maxRecDepth 16384

noncomputable section

namespace Cert.Trunk.Dh

open Idealize.ShloMosaic Idealize.ShloMosaic.TcCoe Idealize.SL.Sem
open Cert.AttnC Cert.DhRefIdeal Cert.DhRefIdeal.Read

variable (dz : Stack) (w : Arr 1024 10240) (x y : Arr 4096 1024) (g : Arr 1 1024) (s : Fin 4096) (d : Fin 1024)

theorem r_var : val_main_v7 (F := Ideal) x (ix2 s 0) = var (row x s) := by
  rw [val_main_v7_apply, val_main_v5_apply, val_main_v6_apply, val_main_v4_apply, val_main_v3_apply, val_main_v2_apply]
  refine congrArg₂ (· + ·) (congrArg₂ Ideal.div ((congrArg (· + _) Ideal.ofBits_zero_f32).trans ((zero_add _).trans ?_)) rfl) rfl
  refine Finset.sum_congr rfl fun k _ => ?_
  rw [val_main_v1_apply]
  exact congrArg₂ (· * ·) (congrArg x (same2 rfl rfl)) (congrArg x (same2 rfl rfl))
theorem r_rs : val_main_v8 (F := Ideal) x (ix2 s 0) = rs (row x s) :=
  (val_main_v8_apply _ _).trans (congrArg Ideal.rsqrt (r_var x s))
theorem r_cols : val_main_v38 (F := Ideal) dz = cols dz :=
  cat_cut dz (by decide) (by decide) (by decide) (by decide) (by decide) (by decide) (by decide) (by decide) (by decide) (by decide) (by decide) _
theorem r_dh : val_main_v39 (F := Ideal) dz w (ix2 s d) = dh dz w (ix2 s d) := by
  rw [val_main_v39_apply, r_cols]
  exact Finset.sum_congr rfl fun e _ => congrArg₂ (· * ·) (congrArg (cols dz) (same2 rfl rfl)) (congrArg w (same2 rfl rfl))

theorem ref_dg : val_main_v42 (F := Ideal) dz w x = dg dz w x := by
  funext i
  obtain ⟨r, d, rfl⟩ := two i
  rw [val_main_v42_apply, val_main_v41_apply]
  refine (congrArg (· + _) Ideal.ofBits_zero_f32).trans ((zero_add _).trans ?_)
  show _ = ∑ s, dh dz w (ix2 s d) * x (ix2 s d) * rs (row x s)
  refine Finset.sum_congr rfl fun s _ => ?_
  have e : idx_main_v41 (idx_main_v42 (ix2 r d)) s = ix2 s d := same2 rfl (by show r.val * 1024 + d.val = d.val; omega)
  rw [e, val_main_v40_apply, val_main_v13_apply, val_main_v12_apply, r_dh]
  have e : idx_main_v12 (ix2 s d) = ix2 s 0 := same2 rfl rfl
  rw [e, r_rs]
  exact (mul_comm _ _).trans (mul_assoc _ _ _).symm

theorem r_w : val_main_v44 (F := Ideal) dz w g (ix2 s d) = dh dz w (ix2 s d) * g (ix2 0 d) := by
  rw [val_main_v44_apply, val_main_v43_apply, r_dh]
  exact congrArg (_ * ·) (congrArg g (same2 rfl rfl))
theorem r_through : val_main_v53 (F := Ideal) dz w x g (ix1 s) = through (row x s) fun d => dh dz w (ix2 s d) * g (ix2 0 d) := by
  rw [val_main_v53_apply]
  refine (congrArg (· + _) Ideal.ofBits_zero_f32).trans ((zero_add _).trans ((Fin.sum_univ_one _).trans ?_))
  have e : idx_main_v53 (ix1 s) 0 = ix2 s 0 := same2 rfl rfl
  rw [e, val_main_v52_apply, val_main_v51_apply, val_main_v50_apply, val_main_v11_apply, val_main_v10_apply, val_main_v9_apply, val_main_v47_apply,
    val_main_v46_apply, r_rs, r_var]
  refine congrArg₂ Ideal.div (congrArg₂ (· * ·) ((congrArg (· + _) Ideal.ofBits_zero_f32).trans ((zero_add _).trans ?_)) rfl) rfl
  refine Finset.sum_congr rfl fun k _ => ?_
  have e : idx_main_v46 (idx_main_v47 (ix2 s 0)) k = ix2 s k := same2 (by show s.val * 1 + 0 = s.val; omega) rfl
  rw [e, val_main_v45_apply, r_w]
  rfl

theorem ref_dx : val_main_v59 (F := Ideal) dz w x y g = dx dz w x y g := by
  funext i
  obtain ⟨s, d, rfl⟩ := two i
  refine Eq.trans ?_ (congrArg (y (ix2 s d) + ·) (back_eq (row x s) (fun d => dh dz w (ix2 s d) * g (ix2 0 d)) d))
  rw [val_main_v59_apply, val_main_v58_apply, val_main_v57_apply, val_main_v56_apply, val_main_v55_apply, val_main_v49_apply, val_main_v48_apply,
    val_main_v54_apply, r_w]
  have e1 : idx_main_v48 (ix2 s d) = ix2 s 0 := same2 rfl rfl
  have e2 : idx_main_v54 (ix2 s d) = ix1 s := by funext a; match a with | ⟨0, _⟩ => rfl
  rw [e1, e2, r_rs, r_through]
  rfl

end Cert.Trunk.Dh

end
-- ==== Proof.T.Mix.lean ====
/- The merge of the three branches and the output projection, at any number of rows: each branch's product, weighed by its gate,
   summed, projected, normed and added to the layer's input. -/
module

public import proofs.«01_k».proof.Proof.T.Norm
public import proofs.«01_k».proof.Proof.C.Equation
public import Idealize.ShloMosaic.Lib.Pipeline.ValueKit

@[expose] public section

noncomputable section

namespace Cert.Trunk

open Idealize.ShloMosaic Idealize.ShloMosaic.Pipeline Cert.AttnC

/-- The logistic function. -/
def sigma (x : EReal) : EReal := Ideal.div 1 (1 + Ideal.exp (-x))

/-- The logistic function is its half-angle form, at the infinities too. -/
theorem sg_sigma (x : EReal) : sg x = sigma x := by
  unfold sigma
  induction x with
  | bot =>
    unfold sg
    rw [half_eq]
    have h : (((1 / 2 : ℝ)) : EReal) * ⊥ = ⊥ := EReal.coe_mul_bot_of_pos (by norm_num)
    rw [h]
    simp only [EReal.neg_bot, Ideal.exp_top]
    have h1 : (1 : EReal) + ⊤ = ⊤ := EReal.coe_add_top 1
    rw [h1]
    show (((1 / 2 : ℝ)) : EReal) * (-1) + ((1 / 2 : ℝ) : EReal) = Ideal.div 1 ⊤
    rw [show (-1 : EReal) = ((-1 : ℝ) : EReal) by simp, ← EReal.coe_mul, ← EReal.coe_add]
    norm_num [Ideal.div]
  | top =>
    unfold sg
    rw [half_eq]
    have h : (((1 / 2 : ℝ)) : EReal) * ⊤ = ⊤ := EReal.coe_mul_top_of_pos (by norm_num)
    rw [h]
    simp only [EReal.neg_top, Ideal.exp_bot, add_zero]
    show (((1 / 2 : ℝ)) : EReal) * 1 + ((1 / 2 : ℝ) : EReal) = Ideal.div 1 1
    rw [mul_one, ← EReal.coe_add, ← EReal.coe_one, Ideal.div_coe (by norm_num), ← EReal.coe_mul]
    norm_num
  | coe r =>
    rw [sg_eq, ← EReal.coe_neg, Ideal.exp_coe, ← EReal.coe_one, ← EReal.coe_add, Ideal.div_coe (by positivity), ← EReal.coe_mul]
    congr 1
    rw [one_mul, one_div]

/-- Four square weights, and four activations of `n` rows. -/
abbrev Weights : Type := (⟨3, ![4, 1024, 1024]⟩ : Shape).Idx → EReal
abbrev Quad (n : Nat) : Type := (⟨3, ![4, n, 1024]⟩ : Shape).Idx → EReal

variable {n : Nat}

/-- Row `s`, column `d` of the activations times weight `k`. -/
def prod (y : Arr n 1024) (wp : Weights) (k : Fin 4) (s : Fin n) (d : Fin 1024) : EReal := ∑ e : Fin 1024, y (ix2 s e) * wp (ix3 k e d)
/-- The three branches' products, each weighed by its gate, summed. -/
def merge (ya yb yc ga gb gc : Arr n 1024) (wp : Weights) : Arr n 1024 := fun i =>
  sg (ga i) * prod ya wp 0 (i 0) (i 1) + sg (gb i) * prod yb wp 1 (i 0) (i 1) + sg (gc i) * prod yc wp 2 (i 0) (i 1)
/-- The layer's output: its input plus the normed projection of `mg`. -/
def next (mg x : Arr n 1024) (wp : Weights) (pg : Arr 1 1024) (s : Fin n) (d : Fin 1024) : EReal :=
  x (ix2 s d) + normed (fun e => prod mg wp 3 s e) (fun e => pg (ix2 0 e)) d
/-- Four activations as one array. -/
def quad (y0 y1 y2 y3 : Arr n 1024) : Quad n := fun i => (![y0, y1, y2, y3] : Fin 4 → Arr n 1024) (i 0) (ix2 (i 1) (i 2))
/-- The argument of branch `k`'s gate: the projections' columns from 7168 on, a thousand and twenty-four each. -/
def gate (z : Arr 4096 10240) (k : Fin 3) : Arr 4096 1024 := fun i =>
  z (ix2 (i 0) ⟨7168 + 1024 * k.val + (i 1).val, by have h0 := k.isLt; have h1 : (i 1).val < 1024 := (i 1).isLt; omega⟩)

/-- Reading a stacked weight. -/
theorem ld_weight (x : Weights) (k : Nat) (inb) (p : Fin 1) (a b : Fin 1024) (j : Fin 4) (h : j.val = k) :
    View.ld (Val := Elt Ideal) (S := ⟨3, ![4, 1024, 1024]⟩) (e' := .bf16) x (Rect.unit ![k, 0, 0] ![1, 1024, 1024] inb) (ix3 p a b) = x (ix3 j a b) :=
  View.ld_unit_apply_of _ _ _ _ _ _ fun a => match a with
    | ⟨0, _⟩ => by show j.val = k + p.val; omega
    | ⟨1, _⟩ => (Nat.zero_add _).symm
    | ⟨2, _⟩ => (Nat.zero_add _).symm

/-- Where a stored part of four lies. -/
theorem emb_quad (k : Nat) (inb) (p : Fin 1) (a : Fin n) (b : Fin 1024) (j : Fin 4) (h : j.val = k) :
    (Rect.unit (s := ⟨3, ![4, n, 1024]⟩) ![k, 0, 0] ![1, n, 1024] inb).emb (ix3 p a b) = ix3 j a b :=
  funext fun x => Fin.ext ((Rect.idx_unit_val _ _ _ _ x).trans (match x with
    | ⟨0, _⟩ => by show k + p.val = j.val; omega
    | ⟨1, _⟩ => Nat.zero_add _
    | ⟨2, _⟩ => Nat.zero_add _))

end Cert.Trunk

end
-- ==== Proof.T.MoPoint.lean ====
/- The merge and the output projection, at one grid point: what the body leaves in each output block. -/
module

public import proofs.«01_k».proof.Proof.T.Mix
public import proofs.«01_k».proof.Proof.Gen.MoIdeal.Value

@[expose] public section

set_option maxRecDepth 16384

noncomputable section

namespace Cert.Trunk.Mo

open Idealize.ShloMosaic Idealize.ShloMosaic.TcCoe Idealize.ShloMosaic.Tactic Idealize.SL.Sem Idealize.ShloMosaic.Pipeline
open Cert.MoIdeal Cert.MoIdeal.Gen Cert.AttnC

section Payloads
variable (y : Vec Ideal S256x1024 .bf16) (w : Vec Ideal S1x1024x1024 .bf16) (a : Fin 256) (b : Fin 1024)

theorem pay6 : k0_pay6 (F := Ideal) y w (ix2 a b) = ∑ e : Fin 1024, y (ix2 a e) * w (ix3 0 e b) := by pointwise [k0_pay6]
theorem pay10 : k0_pay10 (F := Ideal) y w (ix2 a b) = ∑ e : Fin 1024, y (ix2 a e) * w (ix3 0 e b) := by pointwise [k0_pay10]
theorem pay13 : k0_pay13 (F := Ideal) y w (ix2 a b) = ∑ e : Fin 1024, y (ix2 a e) * w (ix3 0 e b) := by pointwise [k0_pay13]
theorem pay2 (y : FVec Ideal S256x1024 .bf16) : k0_pay2 (F := Ideal) y w (ix2 a b) = ∑ e : Fin 1024, y (ix2 a e) * w (ix3 0 e b) := by pointwise [k0_pay2]
theorem pay8 (g : Vec Ideal S256x1024 .bf16) : k0_pay8 (F := Ideal) y w g (ix2 a b) = sg (g (ix2 a b)) * k0_pay6 (F := Ideal) y w (ix2 a b) := by
  pointwise [k0_pay8]; rfl
theorem pay15 (u v : FVec Ideal S256x1024 .f32) (g g' : Vec Ideal S256x1024 .bf16) :
    k0_pay15 (F := Ideal) u v g y w g' (ix2 a b)
      = u (ix2 a b) + sg (g (ix2 a b)) * v (ix2 a b) + sg (g' (ix2 a b)) * k0_pay13 (F := Ideal) y w (ix2 a b) := by
  pointwise [k0_pay15]; rfl
theorem pay4 (y : FVec Ideal S256x1024 .bf16) (x : Vec Ideal S256x1024 .f32) (pg : Vec Ideal S1x1024 .f32) :
    k0_pay4 (F := Ideal) y w x pg (ix2 a b)
      = x (ix2 a b) + normed (fun e => k0_pay2 (F := Ideal) y w (ix2 a e)) (fun e => pg (ix2 0 e)) b := by
  pointwise [k0_pay4]; rfl
theorem pay1 (y : FVec Ideal S256x1024 .bf16) (p : Fin 1) : k0_pay1 (F := Ideal) y (ix3 p a b) = y (ix2 a b) := by pointwise [k0_pay1]
theorem pay5 (p : Fin 1) : k0_pay5 (F := Ideal) y (ix3 p a b) = y (ix2 a b) := by pointwise [k0_pay5]
theorem pay9 (p : Fin 1) : k0_pay9 (F := Ideal) y (ix3 p a b) = y (ix2 a b) := by pointwise [k0_pay9]
theorem pay12 (p : Fin 1) : k0_pay12 (F := Ideal) y (ix3 p a b) = y (ix2 a b) := by pointwise [k0_pay12]

end Payloads

variable (ya yb yc ga gb gc : Vec Ideal S256x1024 .bf16) (wp : Vec Ideal S4x1024x1024 .bf16) (x : Vec Ideal S256x1024 .f32)
  (pg : Vec Ideal S1x1024 .f32) (a : Fin 256) (b : Fin 1024)

theorem out9 : out0_9 (F := Ideal) ya yb yc ga gb gc wp x pg (ix2 a b) = prod ya wp 0 a b := by
  unfold out0_9
  refine (congrFun (View.canon_unit_zero (S := S256x1024) zero2 _ _) _).trans ?_
  rw [View.ld_unit_zero (S := S256x1024) zero2]
  refine (pay6 _ _ a b).trans (Finset.sum_congr rfl fun e _ => congrArg (_ * ·) (ld_weight wp 0 _ 0 e b 0 rfl))
theorem out10 : out0_10 (F := Ideal) ya yb yc ga gb gc wp x pg (ix2 a b) = prod yb wp 1 a b := by
  unfold out0_10
  refine (congrFun (View.canon_unit_zero (S := S256x1024) zero2 _ _) _).trans ?_
  rw [View.ld_unit_zero (S := S256x1024) zero2]
  refine (pay10 _ _ a b).trans (Finset.sum_congr rfl fun e _ => congrArg (_ * ·) (ld_weight wp 1 _ 0 e b 1 rfl))
theorem out11 : out0_11 (F := Ideal) ya yb yc ga gb gc wp x pg (ix2 a b) = prod yc wp 2 a b := by
  unfold out0_11
  refine (congrFun (View.canon_unit_zero (S := S256x1024) zero2 _ _) _).trans ?_
  rw [View.ld_unit_zero (S := S256x1024) zero2]
  refine (pay13 _ _ a b).trans (Finset.sum_congr rfl fun e _ => congrArg (_ * ·) (ld_weight wp 2 _ 0 e b 2 rfl))

theorem merged : k0_pay16 (F := Ideal) ya yb yc ga gb gc wp x pg = merge ya yb yc ga gb gc wp := by
  funext i
  obtain ⟨a, b, rfl⟩ := two i
  unfold k0_pay16
  simp only [View.ld_unit_zero (S := S256x1024) zero2]
  rw [pay15, pay8, pay6, pay10, pay13]
  refine congrArg₂ (· + ·) (congrArg₂ (· + ·) (congrArg (sg (ga (ix2 a b)) * ·) ?_) (congrArg (sg (gb (ix2 a b)) * ·) ?_)) (congrArg (sg (gc (ix2 a b)) * ·) ?_)
  · exact Finset.sum_congr rfl fun e _ => congrArg (_ * ·) (ld_weight wp 0 _ 0 e b 0 rfl)
  · exact Finset.sum_congr rfl fun e _ => congrArg (_ * ·) (ld_weight wp 1 _ 0 e b 1 rfl)
  · exact Finset.sum_congr rfl fun e _ => congrArg (_ * ·) (ld_weight wp 2 _ 0 e b 2 rfl)

theorem projected : k0_pay2 (F := Ideal) (k0_pay16 (F := Ideal) ya yb yc ga gb gc wp x pg) (View.ld wp r0_8) (ix2 a b)
    = prod (merge ya yb yc ga gb gc wp) wp 3 a b := by
  rw [merged]
  exact (pay2 _ a b _).trans (Finset.sum_congr rfl fun e _ => congrArg (_ * ·) (ld_weight wp 3 _ 0 e b 3 rfl))

theorem out13 : out0_13 (F := Ideal) ya yb yc ga gb gc wp x pg (ix2 a b) = prod (merge ya yb yc ga gb gc wp) wp 3 a b := by
  unfold out0_13
  exact (congrFun (View.canon_unit_zero (S := S256x1024) zero2 _ _) _).trans (projected ya yb yc ga gb gc wp x pg a b)
theorem out14 : out0_14 (F := Ideal) ya yb yc ga gb gc wp x pg (ix2 a b) = next (merge ya yb yc ga gb gc wp) x wp pg a b := by
  unfold out0_14
  refine (congrFun (View.canon_unit_zero (S := S256x1024) zero2 _ _) _).trans ?_
  rw [View.ld_unit_zero (S := S256x1024) zero2, View.ld_unit_zero (S := S1x1024) zero2, pay4]
  simp only [projected]
  rfl

theorem out12 (k : Fin 4) : out0_12 (F := Ideal) ya yb yc ga gb gc wp x pg (ix3 k a b) = quad ya yb yc (merge ya yb yc ga gb gc wp) (ix3 k a b) := by
  unfold out0_12
  refine View.canon_apply_of_pieces (Val := Elt Ideal) (e := .bf16) (quad ya yb yc (merge ya yb yc ga gb gc wp)) _ ?_ _ (cover0_12 _ _ _ _ _)
  simp only [View.ld_unit_zero (S := S256x1024) zero2, merged]
  intro p hp
  simp only [List.mem_cons, List.not_mem_nil, or_false] at hp
  rcases hp with rfl | rfl | rfl | rfl <;> intro i <;> obtain ⟨p, r, d, rfl⟩ := three i
  · rw [emb_quad 3 _ p r d 3 rfl]; exact pay1 r d (merge ya yb yc ga gb gc wp) p
  · rw [emb_quad 2 _ p r d 2 rfl]; exact pay12 _ r d p
  · rw [emb_quad 1 _ p r d 1 rfl]; exact pay9 _ r d p
  · rw [emb_quad 0 _ p r d 0 rfl]; exact pay5 _ r d p

end Cert.Trunk.Mo

end
-- ==== Proof.T.MoArrays.lean ====
/- The merge and the output projection: what the call leaves. -/
module

public import proofs.«01_k».proof.Proof.T.MoPoint

@[expose] public section

set_option maxRecDepth 16384

noncomputable section

namespace Cert.Trunk.Mo

open Idealize.ShloMosaic Idealize.ShloMosaic.TcCoe Idealize.ShloMosaic.Tactic Idealize.SL.Sem Idealize.ShloMosaic.Pipeline
open Cert.MoIdeal Cert.MoIdeal.Gen Cert.AttnC

theorem lt (t : Fin cfg0.N) : t.val < 16 := N_0 ▸ t.isLt
/-- The row that row `r` of point `t`'s block is. -/
def rw16 (t : Fin cfg0.N) (r : Fin 256) : Fin 4096 := ⟨256 * t.val + r.val, by have := lt t; omega⟩

theorem idx_row : ∀ t, (win0_0.index t 0 = t.val ∧ win0_0.index t 1 = 0) ∧ (win0_1.index t 0 = t.val ∧ win0_1.index t 1 = 0)
    ∧ (win0_2.index t 0 = t.val ∧ win0_2.index t 1 = 0) ∧ (win0_7.index t 0 = t.val ∧ win0_7.index t 1 = 0) := by decide +kernel
theorem idx_gate : ∀ t, (win0_3.index t 0 = t.val ∧ win0_3.index t 1 = 7) ∧ (win0_4.index t 0 = t.val ∧ win0_4.index t 1 = 8)
    ∧ (win0_5.index t 0 = t.val ∧ win0_5.index t 1 = 9) := by decide +kernel
theorem idx_whole : ∀ t, (win0_6.index t 0 = 0 ∧ win0_6.index t 1 = 0 ∧ win0_6.index t 2 = 0) ∧ (win0_8.index t 0 = 0 ∧ win0_8.index t 1 = 0) := by
  decide +kernel
theorem idx_out : ∀ t, (win0_9.index t 0 = t.val ∧ win0_9.index t 1 = 0) ∧ (win0_10.index t 0 = t.val ∧ win0_10.index t 1 = 0)
    ∧ (win0_11.index t 0 = t.val ∧ win0_11.index t 1 = 0) ∧ (win0_13.index t 0 = t.val ∧ win0_13.index t 1 = 0)
    ∧ (win0_14.index t 0 = t.val ∧ win0_14.index t 1 = 0) := by decide +kernel
theorem idx_12 : ∀ t, win0_12.index t 0 = 0 ∧ win0_12.index t 1 = t.val ∧ win0_12.index t 2 = 0 := by decide +kernel

variable (m : (ℓ : Loc nD τ sig) → Buf (Elt Ideal) ℓ) (c : Dev nD)

abbrev aYa : Arr 4096 1024 := m ((c : Thread nD τ).loc main_arg0)
abbrev aYb : Arr 4096 1024 := m ((c : Thread nD τ).loc main_arg1)
abbrev aYc : Arr 4096 1024 := m ((c : Thread nD τ).loc main_arg2)
abbrev aZ : Arr 4096 10240 := m ((c : Thread nD τ).loc main_arg3)
abbrev aWp : Weights := m ((c : Thread nD τ).loc main_arg4)
abbrev aX : Arr 4096 1024 := m ((c : Thread nD τ).loc main_arg5)
abbrev aPg : Arr 1 1024 := m ((c : Thread nD τ).loc main_arg6)
/-- The merged branches. -/
abbrev mg : Arr 4096 1024 := merge (aYa m c) (aYb m c) (aYc m c) (gate (aZ m c) 0) (gate (aZ m c) 1) (gate (aZ m c) 2) (aWp m c)

theorem in_0 (t : Fin cfg0.N) (r : Fin 256) (d : Fin 1024) : iblk m c 0 t (ix2 r d) = aYa m c (ix2 (rw16 t r) d) := by
  unfold iblk
  blk_simp
  unfold aYa
  rw [← V_main_arg0 m c]
  refine congrArg (V m c main_arg0) (at2 (a := win0_0.index t 0 * 256) (e := r.val) (b := win0_0.index t 1 * 1024) (f := d.val)
    _ _ _ (by blk_simp) (by blk_simp) ?_ ?_)
  · rw [(idx_row t).1.1]; show 256 * t.val + r.val = _; omega
  · rw [(idx_row t).1.2]; omega
theorem in_1 (t : Fin cfg0.N) (r : Fin 256) (d : Fin 1024) : iblk m c 1 t (ix2 r d) = aYb m c (ix2 (rw16 t r) d) := by
  unfold iblk
  blk_simp
  unfold aYb
  rw [← V_main_arg1 m c]
  refine congrArg (V m c main_arg1) (at2 (a := win0_1.index t 0 * 256) (e := r.val) (b := win0_1.index t 1 * 1024) (f := d.val)
    _ _ _ (by blk_simp) (by blk_simp) ?_ ?_)
  · rw [(idx_row t).2.1.1]; show 256 * t.val + r.val = _; omega
  · rw [(idx_row t).2.1.2]; omega
theorem in_2 (t : Fin cfg0.N) (r : Fin 256) (d : Fin 1024) : iblk m c 2 t (ix2 r d) = aYc m c (ix2 (rw16 t r) d) := by
  unfold iblk
  blk_simp
  unfold aYc
  rw [← V_main_arg2 m c]
  refine congrArg (V m c main_arg2) (at2 (a := win0_2.index t 0 * 256) (e := r.val) (b := win0_2.index t 1 * 1024) (f := d.val)
    _ _ _ (by blk_simp) (by blk_simp) ?_ ?_)
  · rw [(idx_row t).2.2.1.1]; show 256 * t.val + r.val = _; omega
  · rw [(idx_row t).2.2.1.2]; omega
theorem in_7 (t : Fin cfg0.N) (r : Fin 256) (d : Fin 1024) : iblk m c 7 t (ix2 r d) = aX m c (ix2 (rw16 t r) d) := by
  unfold iblk
  blk_simp
  unfold aX
  rw [← V_main_arg5 m c]
  refine congrArg (V m c main_arg5) (at2 (a := win0_7.index t 0 * 256) (e := r.val) (b := win0_7.index t 1 * 1024) (f := d.val)
    _ _ _ (by blk_simp) (by blk_simp) ?_ ?_)
  · rw [(idx_row t).2.2.2.1]; show 256 * t.val + r.val = _; omega
  · rw [(idx_row t).2.2.2.2]; omega
theorem in_3 (t : Fin cfg0.N) (r : Fin 256) (d : Fin 1024) : iblk m c 3 t (ix2 r d) = gate (aZ m c) 0 (ix2 (rw16 t r) d) := by
  unfold iblk
  blk_simp
  unfold gate aZ
  rw [← V_main_arg3 m c]
  refine congrArg (V m c main_arg3) (at2 (a := win0_3.index t 0 * 256) (e := r.val) (b := win0_3.index t 1 * 1024) (f := d.val)
    _ _ _ (by blk_simp) (by blk_simp) ?_ ?_)
  · rw [(idx_gate t).1.1]; show 256 * t.val + r.val = _; omega
  · rw [(idx_gate t).1.2]; rfl
theorem in_4 (t : Fin cfg0.N) (r : Fin 256) (d : Fin 1024) : iblk m c 4 t (ix2 r d) = gate (aZ m c) 1 (ix2 (rw16 t r) d) := by
  unfold iblk
  blk_simp
  unfold gate aZ
  rw [← V_main_arg3 m c]
  refine congrArg (V m c main_arg3) (at2 (a := win0_4.index t 0 * 256) (e := r.val) (b := win0_4.index t 1 * 1024) (f := d.val)
    _ _ _ (by blk_simp) (by blk_simp) ?_ ?_)
  · rw [(idx_gate t).2.1.1]; show 256 * t.val + r.val = _; omega
  · rw [(idx_gate t).2.1.2]; rfl
theorem in_5 (t : Fin cfg0.N) (r : Fin 256) (d : Fin 1024) : iblk m c 5 t (ix2 r d) = gate (aZ m c) 2 (ix2 (rw16 t r) d) := by
  unfold iblk
  blk_simp
  unfold gate aZ
  rw [← V_main_arg3 m c]
  refine congrArg (V m c main_arg3) (at2 (a := win0_5.index t 0 * 256) (e := r.val) (b := win0_5.index t 1 * 1024) (f := d.val)
    _ _ _ (by blk_simp) (by blk_simp) ?_ ?_)
  · rw [(idx_gate t).2.2.1]; show 256 * t.val + r.val = _; omega
  · rw [(idx_gate t).2.2.2]; rfl
theorem in_6 (t : Fin cfg0.N) (k : Fin 4) (e d : Fin 1024) : iblk m c 6 t (ix3 k e d) = aWp m c (ix3 k e d) := by
  unfold iblk
  blk_simp
  unfold aWp
  rw [← V_main_arg4 m c]
  refine congrArg (V m c main_arg4) (at3 (a := win0_6.index t 0 * 4) (e := k.val) (b := win0_6.index t 1 * 1024) (f := e.val)
    (c := win0_6.index t 2 * 1024) (g := d.val) _ _ _ _ (by blk_simp) (by blk_simp) (by blk_simp) ?_ ?_ ?_)
  · rw [(idx_whole t).1.1]; omega
  · rw [(idx_whole t).1.2.1]; omega
  · rw [(idx_whole t).1.2.2]; omega
theorem in_8 (t : Fin cfg0.N) (d : Fin 1024) : iblk m c 8 t (ix2 0 d) = aPg m c (ix2 0 d) := by
  unfold iblk
  blk_simp
  unfold aPg
  rw [← V_main_arg6 m c]
  refine congrArg (V m c main_arg6) (at2 (a := win0_8.index t 0 * 1) (e := (0 : Fin 1).val) (b := win0_8.index t 1 * 1024) (f := d.val)
    _ _ _ (by blk_simp) (by blk_simp) ?_ ?_)
  · rw [(idx_whole t).2.1]; rfl
  · rw [(idx_whole t).2.2]; omega

/-- A block's product is its rows of the whole product. -/
theorem prod_blk (t : Fin cfg0.N) (k : Fin 4) (r : Fin 256) (d : Fin 1024) (y : Arr 256 1024) (y' : Arr 4096 1024)
    (h : ∀ e, y (ix2 r e) = y' (ix2 (rw16 t r) e)) : prod y (iblk m c 6 t) k r d = prod y' (aWp m c) k (rw16 t r) d :=
  Finset.sum_congr rfl fun e _ => congrArg₂ (· * ·) (h e) (in_6 m c t k e d)
theorem merge_blk (t : Fin cfg0.N) (r : Fin 256) (d : Fin 1024) :
    merge (iblk m c 0 t) (iblk m c 1 t) (iblk m c 2 t) (iblk m c 3 t) (iblk m c 4 t) (iblk m c 5 t) (iblk m c 6 t) (ix2 r d)
      = mg m c (ix2 (rw16 t r) d) := by
  unfold mg merge
  rw [in_3, in_4, in_5]
  refine congrArg₂ (· + ·) (congrArg₂ (· + ·) (congrArg (sg _ * ·) ?_) (congrArg (sg _ * ·) ?_)) (congrArg (sg _ * ·) ?_)
  · exact prod_blk m c t 0 r d _ _ fun e => in_0 m c t r e
  · exact prod_blk m c t 1 r d _ _ fun e => in_1 m c t r e
  · exact prod_blk m c t 2 r d _ _ fun e => in_2 m c t r e

/-- An array from its elements. -/
def tall (f : Fin 4096 → Fin 1024 → EReal) : Arr 4096 1024 := fun i => f (i 0) (i 1)

theorem emb_9 (t : Fin cfg0.N) (r : Fin 256) (d : Fin 1024) : (win0_9.blk t).view.emb (ix2 r d) = ix2 (rw16 t r) d := by
  refine at2 (a := win0_9.index t 0 * 256) (e := r.val) (b := win0_9.index t 1 * 1024) (f := d.val) _ _ _ (by blk_simp) (by blk_simp) ?_ ?_
  · rw [(idx_out t).1.1]; show 256 * t.val + r.val = _; omega
  · rw [(idx_out t).1.2]; omega
theorem emb_10 (t : Fin cfg0.N) (r : Fin 256) (d : Fin 1024) : (win0_10.blk t).view.emb (ix2 r d) = ix2 (rw16 t r) d := by
  refine at2 (a := win0_10.index t 0 * 256) (e := r.val) (b := win0_10.index t 1 * 1024) (f := d.val) _ _ _ (by blk_simp) (by blk_simp) ?_ ?_
  · rw [(idx_out t).2.1.1]; show 256 * t.val + r.val = _; omega
  · rw [(idx_out t).2.1.2]; omega
theorem emb_11 (t : Fin cfg0.N) (r : Fin 256) (d : Fin 1024) : (win0_11.blk t).view.emb (ix2 r d) = ix2 (rw16 t r) d := by
  refine at2 (a := win0_11.index t 0 * 256) (e := r.val) (b := win0_11.index t 1 * 1024) (f := d.val) _ _ _ (by blk_simp) (by blk_simp) ?_ ?_
  · rw [(idx_out t).2.2.1.1]; show 256 * t.val + r.val = _; omega
  · rw [(idx_out t).2.2.1.2]; omega
theorem emb_13 (t : Fin cfg0.N) (r : Fin 256) (d : Fin 1024) : (win0_13.blk t).view.emb (ix2 r d) = ix2 (rw16 t r) d := by
  refine at2 (a := win0_13.index t 0 * 256) (e := r.val) (b := win0_13.index t 1 * 1024) (f := d.val) _ _ _ (by blk_simp) (by blk_simp) ?_ ?_
  · rw [(idx_out t).2.2.2.1.1]; show 256 * t.val + r.val = _; omega
  · rw [(idx_out t).2.2.2.1.2]; omega
theorem emb_14 (t : Fin cfg0.N) (r : Fin 256) (d : Fin 1024) : (win0_14.blk t).view.emb (ix2 r d) = ix2 (rw16 t r) d := by
  refine at2 (a := win0_14.index t 0 * 256) (e := r.val) (b := win0_14.index t 1 * 1024) (f := d.val) _ _ _ (by blk_simp) (by blk_simp) ?_ ?_
  · rw [(idx_out t).2.2.2.2.1]; show 256 * t.val + r.val = _; omega
  · rw [(idx_out t).2.2.2.2.2]; omega
theorem emb_12 (t : Fin cfg0.N) (k : Fin 4) (r : Fin 256) (d : Fin 1024) : (win0_12.blk t).view.emb (ix3 k r d) = ix3 k (rw16 t r) d := by
  refine at3 (a := win0_12.index t 0 * 4) (e := k.val) (b := win0_12.index t 1 * 256) (f := r.val)
    (c := win0_12.index t 2 * 1024) (g := d.val) _ _ _ _ (by blk_simp) (by blk_simp) (by blk_simp) ?_ ?_ ?_
  · rw [(idx_12 t).1]; omega
  · rw [(idx_12 t).2.1]; show 256 * t.val + r.val = _; omega
  · rw [(idx_12 t).2.2]; omega

theorem arr9 : (dats m 0 c).arrAt 9 cfg0.N = tall (prod (aYa m c) (aWp m c) 0) := by
  refine (dats m 0 c).arrAt_eq_of_covers 9 _ (by decide +kernel) fun t hf y => ?_
  obtain ⟨r, d, rfl⟩ := two y
  blk_simp
  rw [after0_9, out9, emb_9]
  exact prod_blk m c t 0 r d _ _ fun e => in_0 m c t r e
theorem arr10 : (dats m 0 c).arrAt 10 cfg0.N = tall (prod (aYb m c) (aWp m c) 1) := by
  refine (dats m 0 c).arrAt_eq_of_covers 10 _ (by decide +kernel) fun t hf y => ?_
  obtain ⟨r, d, rfl⟩ := two y
  blk_simp
  rw [after0_10, out10, emb_10]
  exact prod_blk m c t 1 r d _ _ fun e => in_1 m c t r e
theorem arr11 : (dats m 0 c).arrAt 11 cfg0.N = tall (prod (aYc m c) (aWp m c) 2) := by
  refine (dats m 0 c).arrAt_eq_of_covers 11 _ (by decide +kernel) fun t hf y => ?_
  obtain ⟨r, d, rfl⟩ := two y
  blk_simp
  rw [after0_11, out11, emb_11]
  exact prod_blk m c t 2 r d _ _ fun e => in_2 m c t r e
theorem arr13 : (dats m 0 c).arrAt 13 cfg0.N = tall (prod (mg m c) (aWp m c) 3) := by
  refine (dats m 0 c).arrAt_eq_of_covers 13 _ (by decide +kernel) fun t hf y => ?_
  obtain ⟨r, d, rfl⟩ := two y
  blk_simp
  rw [after0_13, out13, emb_13]
  exact prod_blk m c t 3 r d _ _ fun e => merge_blk m c t r e
theorem arr14 : (dats m 0 c).arrAt 14 cfg0.N = tall (next (mg m c) (aX m c) (aWp m c) (aPg m c)) := by
  refine (dats m 0 c).arrAt_eq_of_covers 14 _ (by decide +kernel) fun t hf y => ?_
  obtain ⟨r, d, rfl⟩ := two y
  blk_simp
  rw [after0_14, out14, emb_14]
  unfold next
  rw [in_7]
  simp only [in_8, prod_blk m c t 3 r _ _ (mg m c) fun e => merge_blk m c t r e]
  rfl
theorem arr12 : (dats m 0 c).arrAt 12 cfg0.N = quad (aYa m c) (aYb m c) (aYc m c) (mg m c) := by
  refine (dats m 0 c).arrAt_eq_of_covers 12 _ (by decide +kernel) fun t hf y => ?_
  obtain ⟨k, r, d, rfl⟩ := three y
  blk_simp
  rw [after0_12, out12, emb_12]
  fin_cases k
  exacts [in_0 m c t r d, in_1 m c t r d, in_2 m c t r d, merge_blk m c t r d]

end Cert.Trunk.Mo

end
-- ==== Proof.T.MoRef.lean ====
/- The merge and the output projection: what the reference leaves. -/
module

public import proofs.«01_k».proof.Proof.T.MoArrays
public import proofs.«01_k».proof.Proof.Gen.MoRefIdeal.Read

@[expose] public section

set_option maxRecDepth 16384

noncomputable section

namespace Cert.Trunk.Mo

open Idealize.ShloMosaic Idealize.ShloMosaic.TcCoe Idealize.SL.Sem
open Cert.AttnC Cert.MoRefIdeal Cert.MoRefIdeal.Read

variable (ya yb yc : Arr 4096 1024) (z : Arr 4096 10240) (wp : Weights) (x : Arr 4096 1024) (pg : Arr 1 1024) (s : Fin 4096) (d : Fin 1024)

theorem r_w0 (e d : Fin 1024) : val_main_v3 (F := Ideal) wp (ix2 e d) = wp (ix3 0 e d) := by
  rw [val_main_v3_apply, val_main_v2_apply, val_main_v0_apply]
  exact congrArg wp (same3 rfl (by show (e.val * 1024 + d.val) / 1024 % 1024 = e.val; omega) (by show (e.val * 1024 + d.val) % 1024 = d.val; omega))
theorem r_w1 (e d : Fin 1024) : val_main_v7 (F := Ideal) wp (ix2 e d) = wp (ix3 1 e d) := by
  rw [val_main_v7_apply, val_main_v6_apply, val_main_v0_apply]
  exact congrArg wp (same3 rfl (by show (e.val * 1024 + d.val) / 1024 % 1024 = e.val; omega) (by show (e.val * 1024 + d.val) % 1024 = d.val; omega))
theorem r_w2 (e d : Fin 1024) : val_main_v11 (F := Ideal) wp (ix2 e d) = wp (ix3 2 e d) := by
  rw [val_main_v11_apply, val_main_v10_apply, val_main_v0_apply]
  exact congrArg wp (same3 rfl (by show (e.val * 1024 + d.val) / 1024 % 1024 = e.val; omega) (by show (e.val * 1024 + d.val) % 1024 = d.val; omega))
theorem r_w3 (e d : Fin 1024) : val_main_v34 (F := Ideal) wp (ix2 e d) = wp (ix3 3 e d) := by
  rw [val_main_v34_apply, val_main_v33_apply, val_main_v0_apply]
  exact congrArg wp (same3 rfl (by show (e.val * 1024 + d.val) / 1024 % 1024 = e.val; omega) (by show (e.val * 1024 + d.val) % 1024 = d.val; omega))

theorem r_pa : val_main_v4 (F := Ideal) ya wp (ix2 s d) = prod ya wp 0 s d := by
  rw [val_main_v4_apply]
  exact Finset.sum_congr rfl fun e _ => congrArg₂ (· * ·) (congrArg ya (same2 rfl rfl))
    ((congrArg (val_main_v3 (F := Ideal) wp) (same2 rfl rfl)).trans (r_w0 wp e d))
theorem r_pb : val_main_v8 (F := Ideal) yb wp (ix2 s d) = prod yb wp 1 s d := by
  rw [val_main_v8_apply]
  exact Finset.sum_congr rfl fun e _ => congrArg₂ (· * ·) (congrArg yb (same2 rfl rfl))
    ((congrArg (val_main_v7 (F := Ideal) wp) (same2 rfl rfl)).trans (r_w1 wp e d))
theorem r_pc : val_main_v12 (F := Ideal) yc wp (ix2 s d) = prod yc wp 2 s d := by
  rw [val_main_v12_apply]
  exact Finset.sum_congr rfl fun e _ => congrArg₂ (· * ·) (congrArg yc (same2 rfl rfl))
    ((congrArg (val_main_v11 (F := Ideal) wp) (same2 rfl rfl)).trans (r_w2 wp e d))

/-- The logistic function of a gate's argument. -/
theorem r_sigma (i : S4096x3072.Idx) (j : S4096x10240.Idx) (h0 : (i 0).val = (j 0).val) (h1 : 7168 + (i 1).val = (j 1).val) :
    val_main_v20 (F := Ideal) z i = sigma (z j) := by
  rw [val_main_v20_apply, val_main_v19_apply, val_main_v18_apply, val_main_v17_apply, val_main_v16_apply, val_main_v15_apply, val_main_v14_apply,
    val_main_v13_apply]
  have e : idx_main_v14 i = j := same2 h0 h1
  rw [e]
  exact congrArg₂ Ideal.div Ideal.ofBits_one_f32 (congrArg₂ (· + ·) Ideal.ofBits_one_f32 rfl)
theorem r_g0 : val_main_v23 (F := Ideal) z (ix2 s d) = sg (gate z 0 (ix2 s d)) := by
  rw [val_main_v23_apply, val_main_v22_apply, val_main_v21_apply, sg_sigma]
  exact r_sigma z _ _ (by show (((s.val * 1024 + d.val) / 1024 * 3 + 0) * 1024 + (s.val * 1024 + d.val) % 1024) / 3072 = s.val; omega)
    (by show 7168 + (((s.val * 1024 + d.val) / 1024 * 3 + 0) * 1024 + (s.val * 1024 + d.val) % 1024) % 3072 = 7168 + 1024 * 0 + d.val; omega)
theorem r_g1 : val_main_v26 (F := Ideal) z (ix2 s d) = sg (gate z 1 (ix2 s d)) := by
  rw [val_main_v26_apply, val_main_v25_apply, val_main_v21_apply, sg_sigma]
  exact r_sigma z _ _ (by show (((s.val * 1024 + d.val) / 1024 * 3 + (1 + 0)) * 1024 + (s.val * 1024 + d.val) % 1024) / 3072 = s.val; omega)
    (by show 7168 + (((s.val * 1024 + d.val) / 1024 * 3 + (1 + 0)) * 1024 + (s.val * 1024 + d.val) % 1024) % 3072 = 7168 + 1024 * 1 + d.val; omega)
theorem r_g2 : val_main_v30 (F := Ideal) z (ix2 s d) = sg (gate z 2 (ix2 s d)) := by
  rw [val_main_v30_apply, val_main_v29_apply, val_main_v21_apply, sg_sigma]
  exact r_sigma z _ _ (by show (((s.val * 1024 + d.val) / 1024 * 3 + (2 + 0)) * 1024 + (s.val * 1024 + d.val) % 1024) / 3072 = s.val; omega)
    (by show 7168 + (((s.val * 1024 + d.val) / 1024 * 3 + (2 + 0)) * 1024 + (s.val * 1024 + d.val) % 1024) % 3072 = 7168 + 1024 * 2 + d.val; omega)

/-- The merged branches. -/
abbrev mgR : Arr 4096 1024 := merge ya yb yc (gate z 0) (gate z 1) (gate z 2) wp
theorem r_merged : val_main_v32 (F := Ideal) ya yb yc z wp (ix2 s d) = mgR ya yb yc z wp (ix2 s d) := by
  rw [val_main_v32_apply, val_main_v28_apply, val_main_v24_apply, val_main_v27_apply, val_main_v31_apply, r_g0, r_g1, r_g2, r_pa, r_pb, r_pc]
  rfl
theorem r_o : val_main_v35 (F := Ideal) ya yb yc z wp (ix2 s d) = prod (mgR ya yb yc z wp) wp 3 s d := by
  rw [val_main_v35_apply]
  have h (e) : lidx_main_v35 (ix2 s d) e = ix2 s e := same2 rfl rfl
  exact Finset.sum_congr rfl fun e _ => congrArg₂ (· * ·)
    ((congrArg (val_main_v32 (F := Ideal) ya yb yc z wp) (h e)).trans (r_merged ya yb yc z wp s e))
    ((congrArg (val_main_v34 (F := Ideal) wp) (same2 rfl rfl)).trans (r_w3 wp e d))

theorem ref36 : val_main_v36 (F := Ideal) ya wp = tall (prod ya wp 0) := by
  funext i; obtain ⟨s, d, rfl⟩ := two i; exact (val_main_v36_apply _ _ _).trans (r_pa ya wp s d)
theorem ref37 : val_main_v37 (F := Ideal) yb wp = tall (prod yb wp 1) := by
  funext i; obtain ⟨s, d, rfl⟩ := two i; exact (val_main_v37_apply _ _ _).trans (r_pb yb wp s d)
theorem ref38 : val_main_v38 (F := Ideal) yc wp = tall (prod yc wp 2) := by
  funext i; obtain ⟨s, d, rfl⟩ := two i; exact (val_main_v38_apply _ _ _).trans (r_pc yc wp s d)
theorem ref45 : val_main_v45 (F := Ideal) ya yb yc z wp = tall (prod (mgR ya yb yc z wp) wp 3) := by
  funext i; obtain ⟨s, d, rfl⟩ := two i; exact (val_main_v45_apply _ _ _ _ _ _).trans (r_o ya yb yc z wp s d)

theorem r_rs : val_main_v53 (F := Ideal) ya yb yc z wp (ix2 s 0) = rs fun e => prod (mgR ya yb yc z wp) wp 3 s e := by
  rw [val_main_v53_apply, val_main_v52_apply, val_main_v51_apply, val_main_v50_apply, val_main_v49_apply, val_main_v48_apply, val_main_v47_apply]
  refine congrArg Ideal.rsqrt (congrArg₂ (· + ·) (congrArg₂ Ideal.div ((congrArg (· + _) Ideal.ofBits_zero_f32).trans ((zero_add _).trans ?_)) rfl) rfl)
  refine Finset.sum_congr rfl fun e _ => ?_
  have h : idx_main_v47 (idx_main_v48 (ix2 s 0)) e = ix2 s e := same2 rfl rfl
  rw [val_main_v46_apply, h, r_o]
  rfl
theorem ref58 : val_main_v58 (F := Ideal) ya yb yc z wp x pg = tall (next (mgR ya yb yc z wp) x wp pg) := by
  funext i
  obtain ⟨s, d, rfl⟩ := two i
  rw [val_main_v58_apply, val_main_v57_apply, val_main_v56_apply, val_main_v55_apply, val_main_v54_apply, r_o]
  have e1 : idx_main_v54 (ix2 s d) = ix2 s 0 := same2 rfl rfl
  have e2 : idx_main_v56 (ix2 s d) = ix2 0 d := same2 rfl rfl
  rw [e1, e2, r_rs]
  rfl

/-- Four activations joined are the four as one array. -/
theorem joined (y0 y1 y2 y3 : S1x4096x1024.Idx → EReal) (f0 f1 f2 f3 : Arr 4096 1024) (h)
    (h0 : ∀ s d, y0 (ix3 0 s d) = f0 (ix2 s d)) (h1 : ∀ s d, y1 (ix3 0 s d) = f1 (ix2 s d)) (h2 : ∀ s d, y2 (ix3 0 s d) = f2 (ix2 s d))
    (h3 : ∀ s d, y3 (ix3 0 s d) = f3 (ix2 s d)) :
    concatenate S4x4096x1024 0 (List.ofFn fun n : Fin 4 => (⟨S1x4096x1024, (![y0, y1, y2, y3] : Fin 4 → S1x4096x1024.Idx → EReal) n⟩ :
      (s : Shape) × (s.Idx → EReal))) h = quad f0 f1 f2 f3 := by
  funext i
  obtain ⟨k, s, d, rfl⟩ := three i
  refine (concatenate_ofFn_apply 0 _ h rfl 1 rfl (ix3 k s d) k (by show k.val / 1 = k.val; omega) (ix3 0 s d) (by show 0 = k.val % 1; omega) fun a ha => ?_).trans ?_
  · match a, ha with
    | ⟨0, _⟩, ha => exact absurd rfl ha
    | ⟨1, _⟩, _ => rfl
    | ⟨2, _⟩, _ => rfl
  · fin_cases k
    exacts [h0 s d, h1 s d, h2 s d, h3 s d]
theorem ref44 : val_main_v44 (F := Ideal) ya yb yc z wp = quad ya yb yc (mgR ya yb yc z wp) := by
  refine joined (val_main_v40 (F := Ideal) ya) (val_main_v41 (F := Ideal) yb) (val_main_v42 (F := Ideal) yc) (val_main_v43 (F := Ideal) ya yb yc z wp)
    _ _ _ _ _ (fun s d => ?_) (fun s d => ?_) (fun s d => ?_) fun s d => ?_
  · rw [val_main_v40_apply]; exact congrArg ya (same2 rfl rfl)
  · rw [val_main_v41_apply]; exact congrArg yb (same2 rfl rfl)
  · rw [val_main_v42_apply]; exact congrArg yc (same2 rfl rfl)
  · rw [val_main_v43_apply, val_main_v39_apply]
    have h : idx_main_v43 (ix3 0 s d) = ix2 s d := same2 rfl rfl
    exact (congrArg (val_main_v32 (F := Ideal) ya yb yc z wp) h).trans (r_merged ya yb yc z wp s d)

end Cert.Trunk.Mo

end
-- ==== Proof.T.Unmix.lean ====
/- The merge and the output projection backwards, at any number of rows: the cotangents of the projection, of the branches'
   products, of the gates' arguments, of the branches and of the gain. -/
module

public import proofs.«01_k».proof.Proof.T.Mix

@[expose] public section

noncomputable section

namespace Cert.Trunk

open Idealize.ShloMosaic Idealize.ShloMosaic.Pipeline Cert.AttnC

variable {n : Nat}

/-- Row `s`, column `d` of the activations times weight `k` transposed. -/
def prodT (y : Arr n 1024) (wp : Weights) (k : Fin 4) (s : Fin n) (d : Fin 1024) : EReal := ∑ e : Fin 1024, y (ix2 s e) * wp (ix3 k d e)
/-- The projection's cotangent from its normed value's cotangent `dy`. -/
def dproj (dy o : Arr n 1024) (pg : Arr 1 1024) : Arr n 1024 := fun i =>
  back (fun e => o (ix2 (i 0) e)) (fun e => dy (ix2 (i 0) e) * pg (ix2 0 e)) (i 1)
/-- The merged branches' cotangent. -/
def dmerge (dp : Arr n 1024) (wp : Weights) : Arr n 1024 := fun i => prodT dp wp 3 (i 0) (i 1)
/-- The cotangent of a branch's product whose gate's argument is `g`. -/
def dbranch (g dm : Arr n 1024) : Arr n 1024 := fun i => sg (g i) * dm i
/-- The cotangent of a gate's argument `g`, the branch's product being `p`. -/
def dgate (g p dm : Arr n 1024) : Arr n 1024 := fun i => dm i * p i * sg (g i) * (1 - sg (g i))
/-- The gain's cotangent. -/
def dgain (dy o : Arr n 1024) (d : Fin 1024) : EReal := ∑ s, dy (ix2 s d) * o (ix2 s d) * rs fun e => o (ix2 s e)
/-- Three activations as one array. -/
def triple (y0 y1 y2 : Arr n 1024) : (⟨3, ![3, n, 1024]⟩ : Shape).Idx → EReal := fun i =>
  (![y0, y1, y2] : Fin 3 → Arr n 1024) (i 0) (ix2 (i 1) (i 2))

/-- Where a stored part of three lies. -/
theorem emb_triple (k : Nat) (inb) (p : Fin 1) (a : Fin n) (b : Fin 1024) (j : Fin 3) (h : j.val = k) :
    (Rect.unit (s := ⟨3, ![3, n, 1024]⟩) ![k, 0, 0] ![1, n, 1024] inb).emb (ix3 p a b) = ix3 j a b :=
  funext fun x => Fin.ext ((Rect.idx_unit_val _ _ _ _ x).trans (match x with
    | ⟨0, _⟩ => by show k + p.val = j.val; omega
    | ⟨1, _⟩ => Nat.zero_add _
    | ⟨2, _⟩ => Nat.zero_add _))

end Cert.Trunk

end
-- ==== Proof.T.ObPoint.lean ====
/- The merge and the output projection backwards, at one grid point: what the body leaves in each output block. -/
module

public import proofs.«01_k».proof.Proof.T.Unmix
public import proofs.«01_k».proof.Proof.Gen.ObIdeal.Frame

@[expose] public section

set_option maxRecDepth 16384

noncomputable section

namespace Cert.Trunk.Ob

open Idealize.ShloMosaic Idealize.ShloMosaic.TcCoe Idealize.ShloMosaic.Tactic Idealize.SL.Sem Idealize.ShloMosaic.Pipeline
open Cert.ObIdeal Cert.ObIdeal.Gen Cert.AttnC

section Payloads
variable (a : Fin 256) (b : Fin 1024)

theorem pay6 (o) : k0_pay6 (F := Ideal) o (ix2 a b) = o (ix2 a b) := by pointwise [k0_pay6]
theorem pay7 (o) : k0_pay7 (F := Ideal) o (ix2 a 0) = rs fun e => o (ix2 a e) := by
  pointwise [k0_pay7]
  simp only [pay6]
  rfl
theorem pay8 (dy o) : k0_pay8 (F := Ideal) dy o (ix2 0 b) = dgain (n := 256) dy o b := by
  pointwise [k0_pay8]
  simp only [pay7, pay6]
  rfl
theorem pay9 (dy o s) : k0_pay9 (F := Ideal) dy o s (ix2 0 b) = s (ix2 0 b) + dgain (n := 256) dy o b := by
  pointwise [k0_pay9]
  rw [pay8]
theorem pay10 (dy o pg) : k0_pay10 (F := Ideal) dy o pg (ix2 a b) = dproj (n := 256) dy o pg (ix2 a b) := by
  pointwise [k0_pay10]
  simp only [pay7, pay6]
  rfl

variable (dp : FVec Ideal S256x1024 .bf16) (dm : FVec Ideal S256x1024 .f32) (w w' : Vec Ideal S1x1024x1024 .bf16) (g p : Vec Ideal S256x1024 .bf16) (q : Fin 1)

theorem pay12 : k0_pay12 (F := Ideal) dp w (ix2 a b) = ∑ e : Fin 1024, dp (ix2 a e) * w (ix3 0 b e) := by pointwise [k0_pay12]
theorem pay15 : k0_pay15 (F := Ideal) dp w g (ix2 a b) = sg (g (ix2 a b)) * k0_pay12 (F := Ideal) dp w (ix2 a b) := by
  pointwise [k0_pay15, k0_pay13]; rfl
theorem pay17 : k0_pay17 (F := Ideal) dp w (ix2 a b) = ∑ e : Fin 1024, dp (ix2 a e) * w (ix3 0 b e) := by pointwise [k0_pay17]
theorem pay20 : k0_pay20 (F := Ideal) dm g (ix2 a b) = sg (g (ix2 a b)) * dm (ix2 a b) := by
  pointwise [k0_pay20, k0_pay18]; rfl
theorem pay22 : k0_pay22 (F := Ideal) dm g w (ix2 a b) = ∑ e : Fin 1024, k0_pay20 (F := Ideal) dm g (ix2 a e) * w (ix3 0 b e) := by pointwise [k0_pay22]
theorem pay3 : k0_pay3 (F := Ideal) dm g (ix2 a b) = sg (g (ix2 a b)) * dm (ix2 a b) := by
  pointwise [k0_pay3, k0_pay1]; rfl
theorem pay5 : k0_pay5 (F := Ideal) dm g w (ix2 a b) = ∑ e : Fin 1024, k0_pay3 (F := Ideal) dm g (ix2 a e) * w (ix3 0 b e) := by pointwise [k0_pay5]
theorem pay11 : k0_pay11 (F := Ideal) dp (ix3 q a b) = dp (ix2 a b) := by pointwise [k0_pay11]
theorem pay16 : k0_pay16 (F := Ideal) dp w g (ix3 q a b) = k0_pay15 (F := Ideal) dp w g (ix2 a b) := by pointwise [k0_pay16]
theorem pay21 : k0_pay21 (F := Ideal) dm g (ix3 q a b) = k0_pay20 (F := Ideal) dm g (ix2 a b) := by pointwise [k0_pay21]
theorem pay4 : k0_pay4 (F := Ideal) dm g (ix3 q a b) = k0_pay3 (F := Ideal) dm g (ix2 a b) := by pointwise [k0_pay4]
theorem pay14 : k0_pay14 (F := Ideal) dp w g p (ix3 q a b)
    = k0_pay12 (F := Ideal) dp w (ix2 a b) * p (ix2 a b) * sg (g (ix2 a b)) * (1 - sg (g (ix2 a b))) := by
  pointwise [k0_pay14, k0_pay13]; rfl
theorem pay19 : k0_pay19 (F := Ideal) dm g p (ix3 q a b) = dgate (n := 256) g p dm (ix2 a b) := by
  pointwise [k0_pay19, k0_pay18]; rfl
theorem pay2 : k0_pay2 (F := Ideal) dm g p (ix3 q a b) = dgate (n := 256) g p dm (ix2 a b) := by
  pointwise [k0_pay2, k0_pay1]; rfl

end Payloads

section Whole
variable (dy : Vec Ideal S256x1024 .f32) (o : Vec Ideal S256x1024 .bf16) (pg : Vec Ideal S1x1024 .f32) (wp : Vec Ideal S4x1024x1024 .bf16)
  (dp : FVec Ideal S256x1024 .bf16) (dm : FVec Ideal S256x1024 .f32) (g : Vec Ideal S256x1024 .bf16)

theorem whole10 : k0_pay10 (F := Ideal) dy o pg = dproj dy o pg := by
  funext i; obtain ⟨a, b, rfl⟩ := two i; exact pay10 a b dy o pg
theorem whole12 (inb) : k0_pay12 (F := Ideal) dp (View.ld wp (Rect.unit ![3, 0, 0] ![1, 1024, 1024] inb)) = dmerge dp wp := by
  funext i; obtain ⟨a, b, rfl⟩ := two i
  exact (pay12 a b dp _).trans (Finset.sum_congr rfl fun e _ => congrArg (_ * ·) (ld_weight wp 3 _ 0 b e 3 rfl))
theorem whole15 (inb) : k0_pay15 (F := Ideal) dp (View.ld wp (Rect.unit ![3, 0, 0] ![1, 1024, 1024] inb)) g = dbranch g (dmerge dp wp) := by
  funext i; obtain ⟨a, b, rfl⟩ := two i
  rw [pay15, whole12]; rfl
theorem whole20 : k0_pay20 (F := Ideal) dm g = dbranch g dm := by
  funext i; obtain ⟨a, b, rfl⟩ := two i; exact pay20 a b dm g
theorem whole3 : k0_pay3 (F := Ideal) dm g = dbranch g dm := by
  funext i; obtain ⟨a, b, rfl⟩ := two i; exact pay3 a b dm g

end Whole

variable (m : (ℓ : Loc nD τ sig) → Buf (Elt Ideal) ℓ) (c : Dev nD) (t : Fin cfg0.N)

/-- The projection's cotangent in a block, and the merged branches'. -/
def bp : Arr 256 1024 := dproj (iblk m c 0 t) (iblk m c 1 t) (iblk m c 2 t)
def bm : Arr 256 1024 := dmerge (bp m c t) (iblk m c 3 t)

theorem at_cases : (t.val % 16 = 0 ∧ ¬1 ≤ t.val) ∨ (¬t.val % 16 = 0 ∧ 1 ≤ t.val) := by
  have : t.val < 16 := N_0 ▸ t.isLt
  omega

theorem at11 (a : Fin 256) (b : Fin 1024) :
    (outsAt0 m c t.val t.isLt).2.1 (ix2 a b) = prodT (dbranch (iblk m c 4 t) (bm m c t)) (iblk m c 3 t) 0 a b := by
  rcases at_cases t with ⟨h0, h1⟩ | ⟨h0, h1⟩
  · rw [outsAt0_A m c t h0 h1]
    unfold out0_A_11
    dsimp only
    refine (congrFun (View.read_writes_eq_canon (Val := Elt Ideal) _ _ _ fun y => cover0_A_11 ..) _).trans ?_
    unfold kernelRun0_A
    dsimp only
    sl_unfold_words
    simp only [View.readAt_eq_ld, (hs0_0 t).read_unread, (hs0_1 t).read_unread, (hs0_2 t).read_unread, (hs0_3 t).read_unread, (hs0_4 t).read_unread]
    rw [View.canon_unit_zero (S := S256x1024) zero2]
    simp only [View.ld_unit_zero (S := S256x1024) zero2, View.ld_unit_zero (S := S1x1024) zero2]
    rw [whole10, whole15]
    exact (pay17 a b _ _).trans (Finset.sum_congr rfl fun e _ => congrArg (_ * ·) (ld_weight _ 0 _ 0 b e 0 rfl))
  · rw [outsAt0_B m c t h0 h1]
    unfold out0_B_11
    dsimp only
    refine (congrFun (View.read_writes_eq_canon (Val := Elt Ideal) _ _ _ fun y => cover0_B_11 ..) _).trans ?_
    unfold kernelRun0_B
    dsimp only
    sl_unfold_words
    simp only [View.readAt_eq_ld, (hs0_0 t).read_unread, (hs0_1 t).read_unread, (hs0_2 t).read_unread, (hs0_3 t).read_unread, (hs0_4 t).read_unread]
    rw [View.canon_unit_zero (S := S256x1024) zero2]
    simp only [View.ld_unit_zero (S := S256x1024) zero2, View.ld_unit_zero (S := S1x1024) zero2]
    rw [whole10, whole15]
    exact (pay17 a b _ _).trans (Finset.sum_congr rfl fun e _ => congrArg (_ * ·) (ld_weight _ 0 _ 0 b e 0 rfl))

theorem at12 (a : Fin 256) (b : Fin 1024) :
    (outsAt0 m c t.val t.isLt).2.2.1 (ix2 a b) = prodT (dbranch (iblk m c 5 t) (bm m c t)) (iblk m c 3 t) 1 a b := by
  rcases at_cases t with ⟨h0, h1⟩ | ⟨h0, h1⟩
  · rw [outsAt0_A m c t h0 h1]
    unfold out0_A_12
    dsimp only
    refine (congrFun (View.read_writes_eq_canon (Val := Elt Ideal) _ _ _ fun y => cover0_A_12 ..) _).trans ?_
    unfold kernelRun0_A
    dsimp only
    sl_unfold_words
    simp only [View.readAt_eq_ld, (hs0_0 t).read_unread, (hs0_1 t).read_unread, (hs0_2 t).read_unread, (hs0_3 t).read_unread, (hs0_5 t).read_unread]
    rw [View.canon_unit_zero (S := S256x1024) zero2]
    simp only [View.ld_unit_zero (S := S256x1024) zero2, View.ld_unit_zero (S := S1x1024) zero2]
    rw [whole10, whole12, pay22, whole20]
    exact Finset.sum_congr rfl fun e _ => congrArg (_ * ·) (ld_weight _ 1 _ 0 b e 1 rfl)
  · rw [outsAt0_B m c t h0 h1]
    unfold out0_B_12
    dsimp only
    refine (congrFun (View.read_writes_eq_canon (Val := Elt Ideal) _ _ _ fun y => cover0_B_12 ..) _).trans ?_
    unfold kernelRun0_B
    dsimp only
    sl_unfold_words
    simp only [View.readAt_eq_ld, (hs0_0 t).read_unread, (hs0_1 t).read_unread, (hs0_2 t).read_unread, (hs0_3 t).read_unread, (hs0_5 t).read_unread]
    rw [View.canon_unit_zero (S := S256x1024) zero2]
    simp only [View.ld_unit_zero (S := S256x1024) zero2, View.ld_unit_zero (S := S1x1024) zero2]
    rw [whole10, whole12, pay22, whole20]
    exact Finset.sum_congr rfl fun e _ => congrArg (_ * ·) (ld_weight _ 1 _ 0 b e 1 rfl)

theorem at13 (a : Fin 256) (b : Fin 1024) :
    (outsAt0 m c t.val t.isLt).2.2.2.1 (ix2 a b) = prodT (dbranch (iblk m c 6 t) (bm m c t)) (iblk m c 3 t) 2 a b := by
  rcases at_cases t with ⟨h0, h1⟩ | ⟨h0, h1⟩
  · rw [outsAt0_A m c t h0 h1]
    unfold out0_A_13
    dsimp only
    refine (congrFun (View.read_writes_eq_canon (Val := Elt Ideal) _ _ _ fun y => cover0_A_13 ..) _).trans ?_
    unfold kernelRun0_A
    dsimp only
    sl_unfold_words
    simp only [View.readAt_eq_ld, (hs0_0 t).read_unread, (hs0_1 t).read_unread, (hs0_2 t).read_unread, (hs0_3 t).read_unread, (hs0_6 t).read_unread]
    rw [View.canon_unit_zero (S := S256x1024) zero2]
    simp only [View.ld_unit_zero (S := S256x1024) zero2, View.ld_unit_zero (S := S1x1024) zero2]
    rw [whole10, whole12, pay5, whole3]
    exact Finset.sum_congr rfl fun e _ => congrArg (_ * ·) (ld_weight _ 2 _ 0 b e 2 rfl)
  · rw [outsAt0_B m c t h0 h1]
    unfold out0_B_13
    dsimp only
    refine (congrFun (View.read_writes_eq_canon (Val := Elt Ideal) _ _ _ fun y => cover0_B_13 ..) _).trans ?_
    unfold kernelRun0_B
    dsimp only
    sl_unfold_words
    simp only [View.readAt_eq_ld, (hs0_0 t).read_unread, (hs0_1 t).read_unread, (hs0_2 t).read_unread, (hs0_3 t).read_unread, (hs0_6 t).read_unread]
    rw [View.canon_unit_zero (S := S256x1024) zero2]
    simp only [View.ld_unit_zero (S := S256x1024) zero2, View.ld_unit_zero (S := S1x1024) zero2]
    rw [whole10, whole12, pay5, whole3]
    exact Finset.sum_congr rfl fun e _ => congrArg (_ * ·) (ld_weight _ 2 _ 0 b e 2 rfl)

theorem at10 (k : Fin 4) (a : Fin 256) (b : Fin 1024) :
    (outsAt0 m c t.val t.isLt).1 (ix3 k a b) = quad (dbranch (iblk m c 4 t) (bm m c t)) (dbranch (iblk m c 5 t) (bm m c t)) (dbranch (iblk m c 6 t) (bm m c t)) (bp m c t) (ix3 k a b) := by
  rcases at_cases t with ⟨h0, h1⟩ | ⟨h0, h1⟩
  · rw [outsAt0_A m c t h0 h1]
    unfold out0_A_10
    dsimp only
    refine (congrFun (View.read_writes_eq_canon (Val := Elt Ideal) _ _ _ fun y => cover0_A_10 ..) _).trans ?_
    refine View.canon_apply_of_pieces (Val := Elt Ideal) (e := .bf16) (quad (dbranch (iblk m c 4 t) (bm m c t)) (dbranch (iblk m c 5 t) (bm m c t)) (dbranch (iblk m c 6 t) (bm m c t)) (bp m c t)) _ ?_ _ (cover0_A_10 ..)
    unfold kernelRun0_A
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread]
    simp only [View.ld_unit_zero (S := S256x1024) zero2, View.ld_unit_zero (S := S1x1024) zero2, whole10, whole12]
    intro p hp
    simp only [List.mem_cons, List.not_mem_nil, or_false] at hp
    rcases hp with rfl | rfl | rfl | rfl <;> intro i <;> obtain ⟨p, r, d, rfl⟩ := three i
    · rw [emb_quad 2 _ p r d 2 rfl]; exact (pay4 r d _ _ p).trans (pay3 r d _ _)
    · rw [emb_quad 1 _ p r d 1 rfl]; exact (pay21 r d _ _ p).trans (pay20 r d _ _)
    · rw [emb_quad 0 _ p r d 0 rfl]; exact (pay16 r d _ _ _ p).trans (congrFun (whole15 _ _ _ _) _)
    · rw [emb_quad 3 _ p r d 3 rfl]; exact pay11 r d (bp m c t) p
  · rw [outsAt0_B m c t h0 h1]
    unfold out0_B_10
    dsimp only
    refine (congrFun (View.read_writes_eq_canon (Val := Elt Ideal) _ _ _ fun y => cover0_B_10 ..) _).trans ?_
    refine View.canon_apply_of_pieces (Val := Elt Ideal) (e := .bf16) (quad (dbranch (iblk m c 4 t) (bm m c t)) (dbranch (iblk m c 5 t) (bm m c t)) (dbranch (iblk m c 6 t) (bm m c t)) (bp m c t)) _ ?_ _ (cover0_B_10 ..)
    unfold kernelRun0_B
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread]
    simp only [View.ld_unit_zero (S := S256x1024) zero2, View.ld_unit_zero (S := S1x1024) zero2, whole10, whole12]
    intro p hp
    simp only [List.mem_cons, List.not_mem_nil, or_false] at hp
    rcases hp with rfl | rfl | rfl | rfl <;> intro i <;> obtain ⟨p, r, d, rfl⟩ := three i
    · rw [emb_quad 2 _ p r d 2 rfl]; exact (pay4 r d _ _ p).trans (pay3 r d _ _)
    · rw [emb_quad 1 _ p r d 1 rfl]; exact (pay21 r d _ _ p).trans (pay20 r d _ _)
    · rw [emb_quad 0 _ p r d 0 rfl]; exact (pay16 r d _ _ _ p).trans (congrFun (whole15 _ _ _ _) _)
    · rw [emb_quad 3 _ p r d 3 rfl]; exact pay11 r d (bp m c t) p

theorem at14 (k : Fin 3) (a : Fin 256) (b : Fin 1024) :
    (outsAt0 m c t.val t.isLt).2.2.2.2.1 (ix3 k a b) = triple (dgate (iblk m c 4 t) (iblk m c 7 t) (bm m c t)) (dgate (iblk m c 5 t) (iblk m c 8 t) (bm m c t)) (dgate (iblk m c 6 t) (iblk m c 9 t) (bm m c t)) (ix3 k a b) := by
  rcases at_cases t with ⟨h0, h1⟩ | ⟨h0, h1⟩
  · rw [outsAt0_A m c t h0 h1]
    unfold out0_A_14
    dsimp only
    refine (congrFun (View.read_writes_eq_canon (Val := Elt Ideal) _ _ _ fun y => cover0_A_14 ..) _).trans ?_
    refine View.canon_apply_of_pieces (Val := Elt Ideal) (e := .bf16) (triple (dgate (iblk m c 4 t) (iblk m c 7 t) (bm m c t)) (dgate (iblk m c 5 t) (iblk m c 8 t) (bm m c t)) (dgate (iblk m c 6 t) (iblk m c 9 t) (bm m c t))) _ ?_ _ (cover0_A_14 ..)
    unfold kernelRun0_A
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread]
    simp only [View.ld_unit_zero (S := S256x1024) zero2, View.ld_unit_zero (S := S1x1024) zero2, whole10, whole12]
    intro p hp
    simp only [List.mem_cons, List.not_mem_nil, or_false] at hp
    rcases hp with rfl | rfl | rfl <;> intro i <;> obtain ⟨p, r, d, rfl⟩ := three i
    · rw [emb_triple 2 _ p r d 2 rfl]; exact pay2 r d _ _ _ p
    · rw [emb_triple 1 _ p r d 1 rfl]; exact pay19 r d _ _ _ p
    · rw [emb_triple 0 _ p r d 0 rfl]; refine (pay14 r d _ _ _ _ p).trans ?_; rw [whole12]; rfl
  · rw [outsAt0_B m c t h0 h1]
    unfold out0_B_14
    dsimp only
    refine (congrFun (View.read_writes_eq_canon (Val := Elt Ideal) _ _ _ fun y => cover0_B_14 ..) _).trans ?_
    refine View.canon_apply_of_pieces (Val := Elt Ideal) (e := .bf16) (triple (dgate (iblk m c 4 t) (iblk m c 7 t) (bm m c t)) (dgate (iblk m c 5 t) (iblk m c 8 t) (bm m c t)) (dgate (iblk m c 6 t) (iblk m c 9 t) (bm m c t))) _ ?_ _ (cover0_B_14 ..)
    unfold kernelRun0_B
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_9 t).read_unread]
    simp only [View.ld_unit_zero (S := S256x1024) zero2, View.ld_unit_zero (S := S1x1024) zero2, whole10, whole12]
    intro p hp
    simp only [List.mem_cons, List.not_mem_nil, or_false] at hp
    rcases hp with rfl | rfl | rfl <;> intro i <;> obtain ⟨p, r, d, rfl⟩ := three i
    · rw [emb_triple 2 _ p r d 2 rfl]; exact pay2 r d _ _ _ p
    · rw [emb_triple 1 _ p r d 1 rfl]; exact pay19 r d _ _ _ p
    · rw [emb_triple 0 _ p r d 0 rfl]; refine (pay14 r d _ _ _ _ p).trans ?_; rw [whole12]; rfl

theorem at15_A (h0 : t.val % 16 = 0) (h1 : ¬1 ≤ t.val) (b : Fin 1024) :
    (outsAt0 m c t.val t.isLt).2.2.2.2.2 (ix2 0 b) = dgain (n := 256) (iblk m c 0 t) (iblk m c 1 t) b := by
  rw [outsAt0_A m c t h0 h1]
  unfold out0_A_15
  dsimp only
  refine (congrFun (View.read_writes_eq_canon (Val := Elt Ideal) _ _ _ fun y => cover0_A_15 ..) _).trans ?_
  unfold kernelRun0_A
  dsimp only
  sl_unfold_words
  simp only [View.readAt_eq_ld, (hs0_0 t).read_unread, (hs0_1 t).read_unread]
  rw [View.canon_unit_zero (S := S1x1024) zero2]
  simp only [View.ld_unit_zero (S := S256x1024) zero2]
  exact pay8 b _ _
theorem at15_B (h0 : ¬t.val % 16 = 0) (h1 : 1 ≤ t.val) (b : Fin 1024) :
    (outsAt0 m c t.val t.isLt).2.2.2.2.2 (ix2 0 b)
      = (outsAt0 m c (t.val - 1) (Nat.lt_of_le_of_lt (Nat.sub_le _ _) t.isLt)).2.2.2.2.2 (ix2 0 b) + dgain (n := 256) (iblk m c 0 t) (iblk m c 1 t) b := by
  rw [outsAt0_B m c t h0 h1]
  unfold out0_B_15
  dsimp only
  refine (congrFun (View.read_writes_eq_canon (Val := Elt Ideal) _ _ _ fun y => cover0_B_15 ..) _).trans ?_
  unfold kernelRun0_B
  dsimp only
  sl_unfold_words
  simp only [View.readAt_eq_ld, (hs0_0 t).read_unread, (hs0_1 t).read_unread, (hs0_15 t).read_unread]
  rw [View.canon_unit_zero (S := S1x1024) zero2]
  simp only [View.ld_unit_zero (S := S256x1024) zero2, View.ld_unit_zero (S := S1x1024) zero2]
  exact pay9 b _ _ _

end Cert.Trunk.Ob

end
-- ==== Proof.T.ObArrays.lean ====
/- The merge and the output projection backwards: what the call leaves. -/
module

public import proofs.«01_k».proof.Proof.T.ObPoint
public import proofs.«01_k».proof.Proof.T.MoRef
public import Idealize.ShloMosaic.Lib.StableHlo.RunRead

@[expose] public section

set_option maxRecDepth 16384

noncomputable section

namespace Cert.Trunk.Ob

open Idealize.ShloMosaic Idealize.ShloMosaic.TcCoe Idealize.ShloMosaic.Tactic Idealize.SL.Sem Idealize.ShloMosaic.Pipeline
open Cert.ObIdeal Cert.ObIdeal.Gen Cert.AttnC
open Cert.Trunk.Mo (tall mgR ref36 ref37 ref38 ref45)

theorem lt (t : Fin cfg0.N) : t.val < 16 := N_0 ▸ t.isLt
/-- Row `r` of block `n`. -/
def rw16 (n : Nat) (r : Fin 256) : Fin 4096 := ⟨(256 * n + r.val) % 4096, Nat.mod_lt _ (by omega)⟩
theorem rw16_val (n : Nat) (r : Fin 256) (h : n < 16) : (rw16 n r).val = 256 * n + r.val := Nat.mod_eq_of_lt (by omega)
theorem sum_rows (f : Fin 4096 → EReal) : ∑ s, f s = ∑ n ∈ Finset.range 16, ∑ r : Fin 256, f (rw16 n r) := by
  rw [← Fin.sum_univ_eq_sum_range (fun n => ∑ r : Fin 256, f (rw16 n r)), ← Fintype.sum_prod_type', ← Equiv.sum_comp (finProdFinEquiv (m := 16) (n := 256))]
  refine Finset.sum_congr rfl fun x _ => congrArg f (Fin.ext ?_)
  rw [rw16_val _ _ x.1.isLt]
  exact Nat.add_comm _ _

theorem idx_in : ∀ t, (win0_0.index t 0 = t.val ∧ win0_0.index t 1 = 0) ∧ (win0_1.index t 0 = t.val ∧ win0_1.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) := by decide +kernel
theorem idx_gate : ∀ t, (win0_4.index t 0 = t.val ∧ win0_4.index t 1 = 7) ∧ (win0_5.index t 0 = t.val ∧ win0_5.index t 1 = 8)
    ∧ (win0_6.index t 0 = t.val ∧ win0_6.index t 1 = 9) := by decide +kernel
theorem idx_whole : ∀ t, (win0_3.index t 0 = 0 ∧ win0_3.index t 1 = 0 ∧ win0_3.index t 2 = 0) ∧ (win0_2.index t 0 = 0 ∧ win0_2.index t 1 = 0)
    ∧ (win0_15.index t 0 = 0 ∧ win0_15.index t 1 = 0) := by decide +kernel
theorem idx_out : ∀ t, (win0_11.index t 0 = t.val ∧ win0_11.index t 1 = 0) ∧ (win0_12.index t 0 = t.val ∧ win0_12.index t 1 = 0)
    ∧ (win0_13.index t 0 = t.val ∧ win0_13.index t 1 = 0) := by decide +kernel
theorem idx_part : ∀ t, (win0_10.index t 0 = 0 ∧ win0_10.index t 1 = t.val ∧ win0_10.index t 2 = 0)
    ∧ (win0_14.index t 0 = 1 ∧ win0_14.index t 1 = t.val ∧ win0_14.index t 2 = 0) := by decide +kernel

variable (m : (ℓ : Loc nD τ sig) → Buf (Elt Ideal) ℓ) (c : Dev nD)

abbrev aYa : Arr 4096 1024 := m ((c : Thread nD τ).loc main_arg0)
abbrev aYb : Arr 4096 1024 := m ((c : Thread nD τ).loc main_arg1)
abbrev aYc : Arr 4096 1024 := m ((c : Thread nD τ).loc main_arg2)
abbrev aZ : Arr 4096 10240 := m ((c : Thread nD τ).loc main_arg3)
abbrev aWp : Weights := m ((c : Thread nD τ).loc main_arg4)
abbrev aPg : Arr 1 1024 := m ((c : Thread nD τ).loc main_arg5)
abbrev aDy : Arr 4096 1024 := m ((c : Thread nD τ).loc main_arg6)

/-- What the host lines leave for the region: the projection and the branches' products. -/
theorem V_o : V m c main_v36 = tall (prod (mgR (aYa m c) (aYb m c) (aYc m c) (aZ m c) (aWp m c)) (aWp m c) 3) := by
  rw [← ref45]
  show StableHlo.after hostOps0 (fun b => m (c, b)) (Proc.devRef .tc main_v36) = _
  after_reads_simp
  rfl
theorem V_pa : V m c main_v37 = tall (prod (aYa m c) (aWp m c) 0) := by
  rw [← ref36]
  show StableHlo.after hostOps0 (fun b => m (c, b)) (Proc.devRef .tc main_v37) = _
  after_reads_simp
  rfl
theorem V_pb : V m c main_v38 = tall (prod (aYb m c) (aWp m c) 1) := by
  rw [← ref37]
  show StableHlo.after hostOps0 (fun b => m (c, b)) (Proc.devRef .tc main_v38) = _
  after_reads_simp
  rfl
theorem V_pc : V m c main_v39 = tall (prod (aYc m c) (aWp m c) 2) := by
  rw [← ref38]
  show StableHlo.after hostOps0 (fun b => m (c, b)) (Proc.devRef .tc main_v39) = _
  after_reads_simp
  rfl

section Whole
variable (ya yb yc : Arr 4096 1024) (z : Arr 4096 10240) (wp : Weights) (pg : Arr 1 1024) (dy : Arr 4096 1024)
/-- The projection, its cotangent and the merged branches' cotangent. -/
def oR : Arr 4096 1024 := tall (prod (mgR ya yb yc z wp) wp 3)
def dpR : Arr 4096 1024 := dproj dy (oR ya yb yc z wp) pg
def dmR : Arr 4096 1024 := dmerge (dpR ya yb yc z wp pg dy) wp
/-- The cotangent of the product of the branch whose gate is the `k`-th. -/
def dbR (k : Fin 3) : Arr 4096 1024 := dbranch (gate z k) (dmR ya yb yc z wp pg dy)
/-- The results. -/
def dp4R : Quad 4096 := quad (dbR ya yb yc z wp pg dy 0) (dbR ya yb yc z wp pg dy 1) (dbR ya yb yc z wp pg dy 2) (dpR ya yb yc z wp pg dy)
def dzR : (⟨3, ![3, 4096, 1024]⟩ : Shape).Idx → EReal :=
  triple (dgate (gate z 0) (tall (prod ya wp 0)) (dmR ya yb yc z wp pg dy)) (dgate (gate z 1) (tall (prod yb wp 1)) (dmR ya yb yc z wp pg dy))
    (dgate (gate z 2) (tall (prod yc wp 2)) (dmR ya yb yc z wp pg dy))
def dpgR : Arr 1 1024 := fun i => dgain dy (oR ya yb yc z wp) (i 1)
end Whole

variable (t : Fin cfg0.N) (r : Fin 256) (d : Fin 1024)

theorem in_0 : iblk m c 0 t (ix2 r d) = aDy m c (ix2 (rw16 t.val r) d) := by
  unfold iblk
  blk_simp
  unfold aDy
  rw [← V_main_arg6 m c]
  refine congrArg (V m c main_arg6) (at2 (a := win0_0.index t 0 * 256) (e := r.val) (b := win0_0.index t 1 * 1024) (f := d.val)
    _ _ _ (by blk_simp) (by blk_simp) ?_ ?_)
  · rw [(idx_in t).1.1, rw16_val _ _ (lt t)]; omega
  · rw [(idx_in t).1.2]; omega
theorem in_1 : iblk m c 1 t (ix2 r d) = (oR (aYa m c) (aYb m c) (aYc m c) (aZ m c) (aWp m c)) (ix2 (rw16 t.val r) d) := by
  unfold iblk
  blk_simp
  unfold oR
  rw [← V_o m c]
  refine congrArg (V m c main_v36) (at2 (a := win0_1.index t 0 * 256) (e := r.val) (b := win0_1.index t 1 * 1024) (f := d.val)
    _ _ _ (by blk_simp) (by blk_simp) ?_ ?_)
  · rw [(idx_in t).2.1.1, rw16_val _ _ (lt t)]; omega
  · rw [(idx_in t).2.1.2]; omega
theorem in_7 : iblk m c 7 t (ix2 r d) = tall (prod (aYa m c) (aWp m c) 0) (ix2 (rw16 t.val r) d) := by
  unfold iblk
  blk_simp
  rw [← V_pa m c]
  refine congrArg (V m c main_v37) (at2 (a := win0_7.index t 0 * 256) (e := r.val) (b := win0_7.index t 1 * 1024) (f := d.val)
    _ _ _ (by blk_simp) (by blk_simp) ?_ ?_)
  · rw [(idx_in t).2.2.1.1, rw16_val _ _ (lt t)]; omega
  · rw [(idx_in t).2.2.1.2]; omega
theorem in_8 : iblk m c 8 t (ix2 r d) = tall (prod (aYb m c) (aWp m c) 1) (ix2 (rw16 t.val r) d) := by
  unfold iblk
  blk_simp
  rw [← V_pb m c]
  refine congrArg (V m c main_v38) (at2 (a := win0_8.index t 0 * 256) (e := r.val) (b := win0_8.index t 1 * 1024) (f := d.val)
    _ _ _ (by blk_simp) (by blk_simp) ?_ ?_)
  · rw [(idx_in t).2.2.2.1.1, rw16_val _ _ (lt t)]; omega
  · rw [(idx_in t).2.2.2.1.2]; omega
theorem in_9 : iblk m c 9 t (ix2 r d) = tall (prod (aYc m c) (aWp m c) 2) (ix2 (rw16 t.val r) d) := by
  unfold iblk
  blk_simp
  rw [← V_pc m c]
  refine congrArg (V m c main_v39) (at2 (a := win0_9.index t 0 * 256) (e := r.val) (b := win0_9.index t 1 * 1024) (f := d.val)
    _ _ _ (by blk_simp) (by blk_simp) ?_ ?_)
  · rw [(idx_in t).2.2.2.2.1, rw16_val _ _ (lt t)]; omega
  · rw [(idx_in t).2.2.2.2.2]; omega
theorem in_4 : iblk m c 4 t (ix2 r d) = gate (aZ m c) 0 (ix2 (rw16 t.val r) d) := by
  unfold iblk
  blk_simp
  unfold gate aZ
  rw [← V_main_arg3 m c]
  refine congrArg (V m c main_arg3) (at2 (a := win0_4.index t 0 * 256) (e := r.val) (b := win0_4.index t 1 * 1024) (f := d.val)
    _ _ _ (by blk_simp) (by blk_simp) ?_ ?_)
  · rw [(idx_gate t).1.1]; show (rw16 t.val r).val = _; rw [rw16_val _ _ (lt t)]; omega
  · rw [(idx_gate t).1.2]; rfl
theorem in_5 : iblk m c 5 t (ix2 r d) = gate (aZ m c) 1 (ix2 (rw16 t.val r) d) := by
  unfold iblk
  blk_simp
  unfold gate aZ
  rw [← V_main_arg3 m c]
  refine congrArg (V m c main_arg3) (at2 (a := win0_5.index t 0 * 256) (e := r.val) (b := win0_5.index t 1 * 1024) (f := d.val)
    _ _ _ (by blk_simp) (by blk_simp) ?_ ?_)
  · rw [(idx_gate t).2.1.1]; show (rw16 t.val r).val = _; rw [rw16_val _ _ (lt t)]; omega
  · rw [(idx_gate t).2.1.2]; rfl
theorem in_6 : iblk m c 6 t (ix2 r d) = gate (aZ m c) 2 (ix2 (rw16 t.val r) d) := by
  unfold iblk
  blk_simp
  unfold gate aZ
  rw [← V_main_arg3 m c]
  refine congrArg (V m c main_arg3) (at2 (a := win0_6.index t 0 * 256) (e := r.val) (b := win0_6.index t 1 * 1024) (f := d.val)
    _ _ _ (by blk_simp) (by blk_simp) ?_ ?_)
  · rw [(idx_gate t).2.2.1]; show (rw16 t.val r).val = _; rw [rw16_val _ _ (lt t)]; omega
  · rw [(idx_gate t).2.2.2]; rfl
theorem in_3 (k : Fin 4) (e : Fin 1024) : iblk m c 3 t (ix3 k e d) = aWp m c (ix3 k e d) := by
  unfold iblk
  blk_simp
  unfold aWp
  rw [← V_main_arg4 m c]
  refine congrArg (V m c main_arg4) (at3 (a := win0_3.index t 0 * 4) (e := k.val) (b := win0_3.index t 1 * 1024) (f := e.val)
    (c := win0_3.index t 2 * 1024) (g := d.val) _ _ _ _ (by blk_simp) (by blk_simp) (by blk_simp) ?_ ?_ ?_)
  · rw [(idx_whole t).1.1]; omega
  · rw [(idx_whole t).1.2.1]; omega
  · rw [(idx_whole t).1.2.2]; omega
theorem in_2 : iblk m c 2 t (ix2 0 d) = aPg m c (ix2 0 d) := by
  unfold iblk
  blk_simp
  unfold aPg
  rw [← V_main_arg5 m c]
  refine congrArg (V m c main_arg5) (at2 (a := win0_2.index t 0 * 1) (e := (0 : Fin 1).val) (b := win0_2.index t 1 * 1024) (f := d.val)
    _ _ _ (by blk_simp) (by blk_simp) ?_ ?_)
  · rw [(idx_whole t).2.1.1]; rfl
  · rw [(idx_whole t).2.1.2]; omega

theorem dproj_rows {a b : Nat} (r : Fin a) (s : Fin b) (d : Fin 1024) (dy o : Arr a 1024) (dy' o' : Arr b 1024) (pg pg' : Arr 1 1024)
    (h : ∀ e, dy (ix2 r e) = dy' (ix2 s e)) (h' : ∀ e, o (ix2 r e) = o' (ix2 s e)) (h'' : ∀ e, pg (ix2 0 e) = pg' (ix2 0 e)) :
    dproj dy o pg (ix2 r d) = dproj dy' o' pg' (ix2 s d) := by
  show back (fun e => o (ix2 r e)) (fun e => dy (ix2 r e) * pg (ix2 0 e)) d = back (fun e => o' (ix2 s e)) (fun e => dy' (ix2 s e) * pg' (ix2 0 e)) d
  simp only [h, h', h'']
/-- A block's cotangents are its rows of the whole cotangents. -/
theorem bp_blk : bp m c t (ix2 r d) = dpR (aYa m c) (aYb m c) (aYc m c) (aZ m c) (aWp m c) (aPg m c) (aDy m c) (ix2 (rw16 t.val r) d) := by
  exact dproj_rows r (rw16 t.val r) d _ _ _ _ _ _ (fun e => in_0 m c t r e) (fun e => in_1 m c t r e) fun e => in_2 m c t e
theorem prodT_blk (k : Fin 4) (y : Arr 256 1024) (y' : Arr 4096 1024) (h : ∀ e, y (ix2 r e) = y' (ix2 (rw16 t.val r) e)) :
    prodT y (iblk m c 3 t) k r d = prodT y' (aWp m c) k (rw16 t.val r) d :=
  Finset.sum_congr rfl fun e _ => congrArg₂ (· * ·) (h e) (in_3 m c t e k d)
theorem bm_blk : bm m c t (ix2 r d) = dmR (aYa m c) (aYb m c) (aYc m c) (aZ m c) (aWp m c) (aPg m c) (aDy m c) (ix2 (rw16 t.val r) d) :=
  prodT_blk m c t r d 3 _ _ fun e => bp_blk m c t r e
theorem db_blk (k : Fin 3) (g : Arr 256 1024) (h : ∀ e, g (ix2 r e) = gate (aZ m c) k (ix2 (rw16 t.val r) e)) :
    dbranch g (bm m c t) (ix2 r d) = dbR (aYa m c) (aYb m c) (aYc m c) (aZ m c) (aWp m c) (aPg m c) (aDy m c) k (ix2 (rw16 t.val r) d) :=
  congrArg₂ (fun u v => sg u * v) (h d) (bm_blk m c t r d)
theorem dz_blk (g p : Arr 256 1024) (g' p' : Arr 4096 1024) (h : g (ix2 r d) = g' (ix2 (rw16 t.val r) d)) (h' : p (ix2 r d) = p' (ix2 (rw16 t.val r) d)) :
    dgate g p (bm m c t) (ix2 r d) = dgate g' p' (dmR (aYa m c) (aYb m c) (aYc m c) (aZ m c) (aWp m c) (aPg m c) (aDy m c)) (ix2 (rw16 t.val r) d) := by
  unfold dgate
  rw [h, h', bm_blk]

theorem emb_11 : (win0_11.blk t).view.emb (ix2 r d) = ix2 (rw16 t.val r) d := by
  refine at2 (a := win0_11.index t 0 * 256) (e := r.val) (b := win0_11.index t 1 * 1024) (f := d.val) _ _ _ (by blk_simp) (by blk_simp) ?_ ?_
  · rw [(idx_out t).1.1, rw16_val _ _ (lt t)]; omega
  · rw [(idx_out t).1.2]; omega
theorem emb_12 : (win0_12.blk t).view.emb (ix2 r d) = ix2 (rw16 t.val r) d := by
  refine at2 (a := win0_12.index t 0 * 256) (e := r.val) (b := win0_12.index t 1 * 1024) (f := d.val) _ _ _ (by blk_simp) (by blk_simp) ?_ ?_
  · rw [(idx_out t).2.1.1, rw16_val _ _ (lt t)]; omega
  · rw [(idx_out t).2.1.2]; omega
theorem emb_13 : (win0_13.blk t).view.emb (ix2 r d) = ix2 (rw16 t.val r) d := by
  refine at2 (a := win0_13.index t 0 * 256) (e := r.val) (b := win0_13.index t 1 * 1024) (f := d.val) _ _ _ (by blk_simp) (by blk_simp) ?_ ?_
  · rw [(idx_out t).2.2.1, rw16_val _ _ (lt t)]; omega
  · rw [(idx_out t).2.2.2]; omega
theorem emb_10 (k : Fin 4) : (win0_10.blk t).view.emb (ix3 k r d) = ix3 k (rw16 t.val r) d := by
  refine at3 (a := win0_10.index t 0 * 4) (e := k.val) (b := win0_10.index t 1 * 256) (f := r.val)
    (c := win0_10.index t 2 * 1024) (g := d.val) _ _ _ _ (by blk_simp) (by blk_simp) (by blk_simp) ?_ ?_ ?_
  · rw [(idx_part t).1.1]; omega
  · rw [(idx_part t).1.2.1, rw16_val _ _ (lt t)]; omega
  · rw [(idx_part t).1.2.2]; omega
/-- The part of the projections' cotangent that the `k`-th gate's is. -/
def part (k : Fin 3) : Fin 10 := ⟨3 + k.val, by omega⟩
theorem emb_14 (k : Fin 3) (y : (win0_14.xblock (grid0.coords t)).Idx) (hy : win0_14.xinj (grid0.coords t) y = ix3 k r d) :
    (win0_14.blk t).view.emb y = ix3 (part k) (rw16 t.val r) d := by
  have h0 : (y (0 : Fin 3)).val = k.val := congrArg (fun q : S3x256x1024.Idx => (q 0).val) hy
  have h1 : (y (1 : Fin 3)).val = r.val := congrArg (fun q : S3x256x1024.Idx => (q 1).val) hy
  have h2 : (y (2 : Fin 3)).val = d.val := congrArg (fun q : S3x256x1024.Idx => (q 2).val) hy
  refine at3 (a := win0_14.index t 0 * 3) (e := (y (0 : Fin 3)).val) (b := win0_14.index t 1 * 256) (f := (y (1 : Fin 3)).val)
    (c := win0_14.index t 2 * 1024) (g := (y (2 : Fin 3)).val) _ _ _ _ (by blk_simp) (by blk_simp) (by blk_simp) ?_ ?_ ?_
  · rw [(idx_part t).2.1, h0]; show 3 + k.val = _; omega
  · rw [(idx_part t).2.2.1, h1]; show (rw16 t.val r).val = _; rw [rw16_val _ _ (lt t)]; omega
  · rw [(idx_part t).2.2.2, h2]; show d.val = _; omega

theorem arr11 : (dats m 0 c).arrAt 11 cfg0.N = tall (prodT (dbR (aYa m c) (aYb m c) (aYc m c) (aZ m c) (aWp m c) (aPg m c) (aDy m c) 0) (aWp m c) 0) := by
  refine (dats m 0 c).arrAt_eq_of_covers 11 _ (by decide +kernel) fun t hf y => ?_
  obtain ⟨r, d, rfl⟩ := two y
  blk_simp
  rw [after0_11, at11, emb_11]
  exact prodT_blk m c t r d 0 _ _ fun e => db_blk m c t r e 0 _ fun e => in_4 m c t r e
theorem arr12 : (dats m 0 c).arrAt 12 cfg0.N = tall (prodT (dbR (aYa m c) (aYb m c) (aYc m c) (aZ m c) (aWp m c) (aPg m c) (aDy m c) 1) (aWp m c) 1) := by
  refine (dats m 0 c).arrAt_eq_of_covers 12 _ (by decide +kernel) fun t hf y => ?_
  obtain ⟨r, d, rfl⟩ := two y
  blk_simp
  rw [after0_12, at12, emb_12]
  exact prodT_blk m c t r d 1 _ _ fun e => db_blk m c t r e 1 _ fun e => in_5 m c t r e
theorem arr13 : (dats m 0 c).arrAt 13 cfg0.N = tall (prodT (dbR (aYa m c) (aYb m c) (aYc m c) (aZ m c) (aWp m c) (aPg m c) (aDy m c) 2) (aWp m c) 2) := by
  refine (dats m 0 c).arrAt_eq_of_covers 13 _ (by decide +kernel) fun t hf y => ?_
  obtain ⟨r, d, rfl⟩ := two y
  blk_simp
  rw [after0_13, at13, emb_13]
  exact prodT_blk m c t r d 2 _ _ fun e => db_blk m c t r e 2 _ fun e => in_6 m c t r e
theorem arr10 : (dats m 0 c).arrAt 10 cfg0.N = dp4R (aYa m c) (aYb m c) (aYc m c) (aZ m c) (aWp m c) (aPg m c) (aDy m c) := by
  refine (dats m 0 c).arrAt_eq_of_covers 10 _ (by decide +kernel) fun t hf y => ?_
  obtain ⟨k, r, d, rfl⟩ := three y
  blk_simp
  rw [after0_10, at10, emb_10]
  fin_cases k
  exacts [db_blk m c t r d 0 _ fun e => in_4 m c t r e, db_blk m c t r d 1 _ fun e => in_5 m c t r e, db_blk m c t r d 2 _ fun e => in_6 m c t r e,
    bp_blk m c t r d]

/-- The gates' parts of the projections' cotangent, the others not written. -/
theorem arr14 (k : Fin 3) (s : Fin 4096) : (dats m 0 c).arrAt 14 cfg0.N (ix3 (part k) s d) = dzR (aYa m c) (aYb m c) (aYc m c) (aZ m c) (aWp m c) (aPg m c) (aDy m c) (ix3 k s d) := by
  refine ((dats m 0 c).arrAt_emb_eq_of_coversWhere 14
    (fun i : S10x4096x1024.Idx => dzR (aYa m c) (aYb m c) (aYc m c) (aZ m c) (aWp m c) (aPg m c) (aDy m c) (ix3 ⟨(i 0).val % 3, Nat.mod_lt _ (by omega)⟩ (i 1) (i 2)))
    (fun q => q ⟨0, by decide⟩ = 1) (by decide +kernel) (fun t hf y => ?_) (ix3 (part k) s d)).trans ?_
  · obtain ⟨k, r, d, hy⟩ := three (p := 3) (n := 256) (m := 1024) (win0_14.xinj (grid0.coords t) y)
    have he := emb_14 t r d k y hy
    have hv : (dats m 0 c).flushed 14 t y = (outsAt0 m c t.val t.isLt).2.2.2.2.1 (ix3 k r d) := by
      rw [Pipeline.Dat.flushed_apply, after0_14]
      exact congrArg _ hy
    refine (hv.trans (at14 m c t k r d)).trans ?_
    refine Eq.trans ?_ (congrArg (fun i : S10x4096x1024.Idx => dzR (aYa m c) (aYb m c) (aYc m c) (aZ m c) (aWp m c) (aPg m c) (aDy m c) (ix3 ⟨(i 0).val % 3, Nat.mod_lt _ (by omega)⟩ (i 1) (i 2))) he).symm
    have e : (⟨(part k).val % 3, Nat.mod_lt _ (by omega)⟩ : Fin 3) = k := Fin.ext (by show (3 + k.val) % 3 = k.val; omega)
    show _ = dzR (aYa m c) (aYb m c) (aYc m c) (aZ m c) (aWp m c) (aPg m c) (aDy m c) (ix3 ⟨(part k).val % 3, _⟩ (rw16 t.val r) d)
    rw [e]
    fin_cases k
    exacts [dz_blk m c t r d _ _ _ _ (in_4 m c t r d) (in_7 m c t r d), dz_blk m c t r d _ _ _ _ (in_5 m c t r d) (in_8 m c t r d),
      dz_blk m c t r d _ _ _ _ (in_6 m c t r d) (in_9 m c t r d)]
  · have h : (part k).val / 3 = 1 := by show (3 + k.val) / 3 = 1; omega
    have e : (⟨(part k).val % 3, Nat.mod_lt _ (by omega)⟩ : Fin 3) = k := Fin.ext (by show (3 + k.val) % 3 = k.val; omega)
    refine (if_pos h).trans ?_
    exact congrArg (fun j => dzR (aYa m c) (aYb m c) (aYc m c) (aZ m c) (aWp m c) (aPg m c) (aDy m c) (ix3 j s d)) e
theorem dz : Pipeline.afterTail₀ cfgs (dats m) 0 (V0 m) [hostOps1] c main_v41 = dzR (aYa m c) (aYb m c) (aYc m c) (aZ m c) (aWp m c) (aPg m c) (aDy m c) := by
  funext i
  obtain ⟨k, s, d, rfl⟩ := three i
  refine Eq.trans ?_ (arr14 m c d k s)
  rw [← (dats m 0 c).withArrays_arrAt sharedIn0 (V0 m c) (A_eq m c) 14]
  show StableHlo.after hostOps1 _ (Proc.devRef .tc main_v41) _ = _
  after_reads_simp
  exact congrArg (withArrays cfg0.spec c (V0 m c) (fun w => (dats m 0 c).arrAt w cfg0.N) (Proc.devRef .tc main_v40_4)) (same3 rfl (Nat.zero_add _) (Nat.zero_add _))

/-- A block's share of the gain's cotangent. -/
def dgs (n : Nat) : EReal :=
  ∑ r : Fin 256, aDy m c (ix2 (rw16 n r) d) * oR (aYa m c) (aYb m c) (aYc m c) (aZ m c) (aWp m c) (ix2 (rw16 n r) d)
    * rs fun e => oR (aYa m c) (aYb m c) (aYc m c) (aZ m c) (aWp m c) (ix2 (rw16 n r) e)
theorem dgain_blk : dgain (n := 256) (iblk m c 0 t) (iblk m c 1 t) d = dgs m c d t.val := by
  unfold dgain dgs
  simp only [in_0, in_1]
theorem dg_at : ∀ (n : Nat) (hn : n < cfg0.N), (outsAt0 m c n hn).2.2.2.2.2 (ix2 0 d) = ∑ i ∈ Finset.range (n + 1), dgs m c d i
  | 0, hn => by
    rw [Finset.sum_range_one, at15_A m c ⟨0, hn⟩ rfl (by show ¬1 ≤ 0; omega)]
    exact dgain_blk m c ⟨0, hn⟩ d
  | n + 1, hn => by
    have h : n + 1 < 16 := lt ⟨n + 1, hn⟩
    rw [at15_B m c ⟨n + 1, hn⟩ (by show ¬(n + 1) % 16 = 0; omega) (by show 1 ≤ n + 1; omega), dgain_blk, Finset.sum_range_succ,
      ← dg_at n (Nat.lt_of_succ_lt hn)]
    rfl
theorem arr15 : (dats m 0 c).arrAt 15 cfg0.N = dpgR (aYa m c) (aYb m c) (aYc m c) (aZ m c) (aWp m c) (aDy m c) := by
  refine (dats m 0 c).arrAt_eq_of_covers 15 _ (by decide +kernel) fun t hf y => ?_
  obtain ⟨r, d, rfl⟩ := two y
  have h15 : t.val = 15 := by have := lt t; have := (flush0_15 t).mp hf; omega
  obtain rfl : r = 0 := Subsingleton.elim _ _
  blk_simp
  rw [after0_15, dg_at m c d t.val t.isLt, h15]
  have e : (win0_15.blk t).view.emb (ix2 0 d) = ix2 0 d := by
    refine at2 (a := win0_15.index t 0 * 1) (e := (0 : Fin 1).val) (b := win0_15.index t 1 * 1024) (f := d.val) _ _ _ (by blk_simp) (by blk_simp) ?_ ?_
    · rw [(idx_whole t).2.2.1]; rfl
    · rw [(idx_whole t).2.2.2]; omega
  rw [e]
  exact (sum_rows fun s => aDy m c (ix2 s d) * oR (aYa m c) (aYb m c) (aYc m c) (aZ m c) (aWp m c) (ix2 s d)
    * rs fun e => oR (aYa m c) (aYb m c) (aYc m c) (aZ m c) (aWp m c) (ix2 s e)).symm

end Cert.Trunk.Ob

end
-- ==== Proof.T.ObRef.lean ====
/- The merge and the output projection backwards: what the reference leaves. -/
module

public import proofs.«01_k».proof.Proof.T.ObArrays
public import proofs.«01_k».proof.Proof.Gen.ObRefIdeal.Read
public import Idealize.ShloMosaic.Lib.KernelVsHost

@[expose] public section

set_option maxRecDepth 16384

noncomputable section

namespace Cert.Trunk.Ob

open Idealize.ShloMosaic Idealize.ShloMosaic.TcCoe Idealize.SL.Sem
open Cert.AttnC Cert.ObRefIdeal Cert.ObRefIdeal.Read
open Cert.Trunk.Mo (tall mgR)

variable (ya yb yc : Arr 4096 1024) (z : Arr 4096 10240) (wp : Weights) (pg : Arr 1 1024) (dy : Arr 4096 1024) (s : Fin 4096) (d : Fin 1024)

theorem q_pa : val_main_v4 (F := Ideal) ya wp (ix2 s d) = tall (prod ya wp 0) (ix2 s d) := Mo.r_pa ya wp s d
theorem q_pb : val_main_v8 (F := Ideal) yb wp (ix2 s d) = tall (prod yb wp 1) (ix2 s d) := Mo.r_pb yb wp s d
theorem q_pc : val_main_v12 (F := Ideal) yc wp (ix2 s d) = tall (prod yc wp 2) (ix2 s d) := Mo.r_pc yc wp s d
theorem q_g0 : val_main_v26 (F := Ideal) z (ix2 s d) = sg (gate z 0 (ix2 s d)) := Mo.r_g0 z s d
theorem q_g1 : val_main_v29 (F := Ideal) z (ix2 s d) = sg (gate z 1 (ix2 s d)) := Mo.r_g1 z s d
theorem q_g2 : val_main_v33 (F := Ideal) z (ix2 s d) = sg (gate z 2 (ix2 s d)) := Mo.r_g2 z s d
theorem q_o : val_main_v38 (F := Ideal) ya yb yc z wp (ix2 s d) = oR ya yb yc z wp (ix2 s d) := Mo.r_o ya yb yc z wp s d
theorem q_w3 (e d : Fin 1024) : val_main_v37 (F := Ideal) wp (ix2 e d) = wp (ix3 3 e d) := Mo.r_w3 wp e d

/-- A row of the projection, and of its cotangent before the norm. -/
abbrev ro (e : Fin 1024) : EReal := oR ya yb yc z wp (ix2 s e)
abbrev rw (e : Fin 1024) : EReal := dy (ix2 s e) * pg (ix2 0 e)

theorem q_var : val_main_v45 (F := Ideal) ya yb yc z wp (ix2 s 0) = var (ro ya yb yc z wp s) := by
  rw [val_main_v45_apply, val_main_v43_apply, val_main_v44_apply, val_main_v42_apply, val_main_v41_apply, val_main_v40_apply]
  refine congrArg₂ (· + ·) (congrArg₂ Ideal.div ((congrArg (· + _) Ideal.ofBits_zero_f32).trans ((zero_add _).trans ?_)) rfl) rfl
  refine Finset.sum_congr rfl fun k _ => ?_
  have e : idx_main_v40 (idx_main_v41 (ix2 s 0)) k = ix2 s k := same2 rfl rfl
  rw [val_main_v39_apply, e, q_o]
  rfl
theorem q_rs : val_main_v46 (F := Ideal) ya yb yc z wp (ix2 s 0) = rs (ro ya yb yc z wp s) :=
  (val_main_v46_apply _ _ _ _ _ _).trans (congrArg Ideal.rsqrt (q_var ya yb yc z wp s))
theorem q_w : val_main_v58 (F := Ideal) pg dy (ix2 s d) = rw pg dy s d := by
  rw [val_main_v58_apply, val_main_v57_apply]
  exact congrArg (_ * ·) (congrArg pg (same2 rfl rfl))
theorem q_through : val_main_v67 (F := Ideal) ya yb yc z wp pg dy (ix1 s) = through (ro ya yb yc z wp s) (rw pg dy s) := by
  rw [val_main_v67_apply]
  refine (congrArg (· + _) Ideal.ofBits_zero_f32).trans ((zero_add _).trans ((Fin.sum_univ_one _).trans ?_))
  have e : idx_main_v67 (ix1 s) 0 = ix2 s 0 := same2 rfl rfl
  rw [e, val_main_v66_apply, val_main_v65_apply, val_main_v64_apply, val_main_v49_apply, val_main_v48_apply, val_main_v47_apply, val_main_v61_apply,
    val_main_v60_apply, q_rs, q_var]
  refine congrArg₂ Ideal.div (congrArg₂ (· * ·) ((congrArg (· + _) Ideal.ofBits_zero_f32).trans ((zero_add _).trans ?_)) rfl) rfl
  refine Finset.sum_congr rfl fun k _ => ?_
  have e : idx_main_v60 (idx_main_v61 (ix2 s 0)) k = ix2 s k := same2 (by show s.val * 1 + 0 = s.val; omega) rfl
  rw [e, val_main_v59_apply, q_w, q_o]
  rfl

theorem q_dp : val_main_v72 (F := Ideal) ya yb yc z wp pg dy (ix2 s d) = dpR ya yb yc z wp pg dy (ix2 s d) := by
  refine Eq.trans ?_ (back_eq (ro ya yb yc z wp s) (rw pg dy s) d)
  rw [val_main_v72_apply, val_main_v71_apply, val_main_v70_apply, val_main_v69_apply, val_main_v68_apply, val_main_v63_apply, val_main_v62_apply, q_w, q_o]
  have e1 : idx_main_v62 (ix2 s d) = ix2 s 0 := same2 rfl rfl
  have e2 : idx_main_v68 (ix2 s d) = ix1 s := by funext a; match a with | ⟨0, _⟩ => rfl
  rw [e1, e2, q_rs, q_through]
  rfl
theorem q_dm : val_main_v73 (F := Ideal) ya yb yc z wp pg dy (ix2 s d) = dmR ya yb yc z wp pg dy (ix2 s d) := by
  rw [val_main_v73_apply]
  show _ = ∑ e : Fin 1024, dpR ya yb yc z wp pg dy (ix2 s e) * wp (ix3 3 d e)
  have h (e) : lidx_main_v73 (ix2 s d) e = ix2 s e := same2 rfl rfl
  exact Finset.sum_congr rfl fun e _ => congrArg₂ (· * ·)
    ((congrArg (val_main_v72 (F := Ideal) ya yb yc z wp pg dy) (h e)).trans (q_dp ya yb yc z wp pg dy s e))
    ((congrArg (val_main_v37 (F := Ideal) wp) (same2 rfl rfl)).trans (q_w3 wp d e))
theorem q_d0 : val_main_v83 (F := Ideal) ya yb yc z wp pg dy (ix2 s d) = dbR ya yb yc z wp pg dy 0 (ix2 s d) := by
  rw [val_main_v83_apply, q_g0, q_dm]
  rfl
theorem q_d1 : val_main_v78 (F := Ideal) ya yb yc z wp pg dy (ix2 s d) = dbR ya yb yc z wp pg dy 1 (ix2 s d) := by
  rw [val_main_v78_apply, q_g1, q_dm]
  rfl
theorem q_d2 : val_main_v74 (F := Ideal) ya yb yc z wp pg dy (ix2 s d) = dbR ya yb yc z wp pg dy 2 (ix2 s d) := by
  rw [val_main_v74_apply, q_g2, q_dm]
  rfl

theorem ref104 : val_main_v104 (F := Ideal) ya yb yc z wp pg dy = tall (prodT (dbR ya yb yc z wp pg dy 0) wp 0) := by
  funext i
  obtain ⟨s, d, rfl⟩ := two i
  refine (val_main_v104_apply _ _ _ _ _ _ _ _).trans ((val_main_v103_apply _ _ _ _ _ _ _ _).trans ?_)
  show _ = ∑ e : Fin 1024, dbR ya yb yc z wp pg dy 0 (ix2 s e) * wp (ix3 0 d e)
  have h (e) : lidx_main_v103 (ix2 s d) e = ix2 s e := same2 rfl rfl
  exact Finset.sum_congr rfl fun e _ => congrArg₂ (· * ·)
    ((congrArg (val_main_v83 (F := Ideal) ya yb yc z wp pg dy) (h e)).trans (q_d0 ya yb yc z wp pg dy s e))
    ((congrArg (val_main_v3 (F := Ideal) wp) (same2 rfl rfl)).trans (Mo.r_w0 wp d e))
theorem ref106 : val_main_v106 (F := Ideal) ya yb yc z wp pg dy = tall (prodT (dbR ya yb yc z wp pg dy 1) wp 1) := by
  funext i
  obtain ⟨s, d, rfl⟩ := two i
  refine (val_main_v106_apply _ _ _ _ _ _ _ _).trans ((val_main_v105_apply _ _ _ _ _ _ _ _).trans ?_)
  show _ = ∑ e : Fin 1024, dbR ya yb yc z wp pg dy 1 (ix2 s e) * wp (ix3 1 d e)
  have h (e) : lidx_main_v105 (ix2 s d) e = ix2 s e := same2 rfl rfl
  exact Finset.sum_congr rfl fun e _ => congrArg₂ (· * ·)
    ((congrArg (val_main_v78 (F := Ideal) ya yb yc z wp pg dy) (h e)).trans (q_d1 ya yb yc z wp pg dy s e))
    ((congrArg (val_main_v7 (F := Ideal) wp) (same2 rfl rfl)).trans (Mo.r_w1 wp d e))
theorem ref108 : val_main_v108 (F := Ideal) ya yb yc z wp pg dy = tall (prodT (dbR ya yb yc z wp pg dy 2) wp 2) := by
  funext i
  obtain ⟨s, d, rfl⟩ := two i
  refine (val_main_v108_apply _ _ _ _ _ _ _ _).trans ((val_main_v107_apply _ _ _ _ _ _ _ _).trans ?_)
  show _ = ∑ e : Fin 1024, dbR ya yb yc z wp pg dy 2 (ix2 s e) * wp (ix3 2 d e)
  have h (e) : lidx_main_v107 (ix2 s d) e = ix2 s e := same2 rfl rfl
  exact Finset.sum_congr rfl fun e _ => congrArg₂ (· * ·)
    ((congrArg (val_main_v74 (F := Ideal) ya yb yc z wp pg dy) (h e)).trans (q_d2 ya yb yc z wp pg dy s e))
    ((congrArg (val_main_v11 (F := Ideal) wp) (same2 rfl rfl)).trans (Mo.r_w2 wp d e))
theorem ref102 : val_main_v102 (F := Ideal) ya yb yc z wp pg dy = dp4R ya yb yc z wp pg dy := by
  show val_main_v94 (F := Ideal) ya yb yc z wp pg dy = _
  refine Mo.joined (val_main_v90 (F := Ideal) ya yb yc z wp pg dy) (val_main_v91 (F := Ideal) ya yb yc z wp pg dy) (val_main_v92 (F := Ideal) ya yb yc z wp pg dy) (val_main_v93 (F := Ideal) ya yb yc z wp pg dy)
    _ _ _ _ _ (fun s d => ?_) (fun s d => ?_) (fun s d => ?_) fun s d => ?_
  · rw [val_main_v90_apply]
    have h : idx_main_v90 (ix3 0 s d) = ix2 s d := same2 rfl rfl
    exact (congrArg (val_main_v83 (F := Ideal) ya yb yc z wp pg dy) h).trans (q_d0 ya yb yc z wp pg dy s d)
  · rw [val_main_v91_apply]
    have h : idx_main_v91 (ix3 0 s d) = ix2 s d := same2 rfl rfl
    exact (congrArg (val_main_v78 (F := Ideal) ya yb yc z wp pg dy) h).trans (q_d1 ya yb yc z wp pg dy s d)
  · rw [val_main_v92_apply]
    have h : idx_main_v92 (ix3 0 s d) = ix2 s d := same2 rfl rfl
    exact (congrArg (val_main_v74 (F := Ideal) ya yb yc z wp pg dy) h).trans (q_d2 ya yb yc z wp pg dy s d)
  · rw [val_main_v93_apply]
    have h : idx_main_v93 (ix3 0 s d) = ix2 s d := same2 rfl rfl
    exact (congrArg (val_main_v72 (F := Ideal) ya yb yc z wp pg dy) h).trans (q_dp ya yb yc z wp pg dy s d)
theorem ref56 : val_main_v56 (F := Ideal) ya yb yc z wp dy = dpgR ya yb yc z wp dy := by
  funext i
  obtain ⟨r, d, rfl⟩ := two i
  rw [val_main_v56_apply, val_main_v55_apply]
  refine (congrArg (· + _) Ideal.ofBits_zero_f32).trans ((zero_add _).trans ?_)
  show _ = ∑ s, dy (ix2 s d) * oR ya yb yc z wp (ix2 s d) * rs (ro ya yb yc z wp s)
  refine Finset.sum_congr rfl fun s _ => ?_
  have e : idx_main_v55 (idx_main_v56 (ix2 r d)) s = ix2 s d := same2 rfl (by show r.val * 1024 + d.val = d.val; omega)
  rw [e, val_main_v54_apply, val_main_v51_apply, val_main_v50_apply, q_o]
  have e : idx_main_v50 (ix2 s d) = ix2 s 0 := same2 rfl rfl
  rw [e, q_rs]
  exact (mul_comm _ _).trans (mul_assoc _ _ _).symm

/-- One part among three, the others zero. -/
theorem pad_at (k : Nat) (hi : Fin 3 → Nat) (x : S4096x1x1024.Idx → EReal) (v : S_.Idx → EReal) (h : S4096x1x1024.Pads ![0, k, 0] hi ![0, 0, 0] S4096x3x1024)
    (hu : 0 < S_.numel) (hv : v (Shape.Idx.first hu) = 0) (j : Fin 3) :
    pad S4096x3x1024 ![0, k, 0] hi ![0, 0, 0] x v h hu (ix3 s j d) = if j.val = k then x (ix3 s 0 d) else 0 := by
  split
  · rename_i hj
    refine pad_apply_of_inside _ _ _ x v h hu _ (ix3 s 0 d) fun a => ?_
    match a with
    | ⟨0, _⟩ => show s.val = 0 + s.val * (0 + 1); omega
    | ⟨1, _⟩ => show j.val = k + 0 * (0 + 1); omega
    | ⟨2, _⟩ => show d.val = 0 + d.val * (0 + 1); omega
  · rename_i hj
    refine (pad_apply_of_not_inside _ _ _ x v h hu _ (1 : Fin 3) ?_).trans hv
    show ¬(k ≤ j.val ∧ (j.val - k) % (0 + 1) = 0 ∧ (j.val - k) / (0 + 1) < 1)
    omega
/-- The gates' cotangents side by side. -/
theorem q_parts (k : Fin 3) : val_main_v87 (F := Ideal) ya yb yc z wp pg dy (ix3 s k d)
    = dmR ya yb yc z wp pg dy (ix2 s d) * (![tall (prod ya wp 0), tall (prod yb wp 1), tall (prod yc wp 2)] : Fin 3 → Arr 4096 1024) k (ix2 s d) := by
  rw [val_main_v87_apply, val_main_v82_apply]
  refine (congrArg₂ (fun u v : EReal => u + v) (congrArg₂ (fun u v : EReal => u + v) (pad_at s d 2 _ _ _ _ _ Ideal.ofBits_zero_f32 k) (pad_at s d 1 _ _ _ _ _ Ideal.ofBits_zero_f32 k))
    (pad_at s d 0 _ _ _ _ _ Ideal.ofBits_zero_f32 k)).trans ?_
  rw [val_main_v76_apply, val_main_v80_apply, val_main_v85_apply]
  have e1 : idx_main_v76 (ix3 s 0 d) = ix2 s d := same2 rfl rfl
  have e2 : idx_main_v80 (ix3 s 0 d) = ix2 s d := same2 rfl rfl
  have e3 : idx_main_v85 (ix3 s 0 d) = ix2 s d := same2 rfl rfl
  rw [e1, e2, e3, val_main_v75_apply, val_main_v79_apply, val_main_v84_apply, q_dm, q_pa, q_pb, q_pc]
  fin_cases k
  · exact (congrArg₂ (fun u v : EReal => u + v) ((add_zero (0 : EReal))) rfl).trans (zero_add _)
  · exact (add_zero _).trans (zero_add _)
  · exact (add_zero _).trans (add_zero _)
theorem q_slope (k : Fin 3) (i : S4096x3072.Idx) (h0 : (i 0).val = s.val) (h1 : (i 1).val = 1024 * k.val + d.val) :
    val_main_v89 (F := Ideal) ya yb yc z wp pg dy i
      = dgate (gate z k) ((![tall (prod ya wp 0), tall (prod yb wp 1), tall (prod yc wp 2)] : Fin 3 → Arr 4096 1024) k) (dmR ya yb yc z wp pg dy) (ix2 s d) := by
  have e : idx_main_v88 i = ix3 s k d := same3 (by show ((i 0).val * 3072 + (i 1).val) / 3072 = s.val; omega)
    (by show ((i 0).val * 3072 + (i 1).val) / 1024 % 3 = k.val; omega) (by show ((i 0).val * 3072 + (i 1).val) % 1024 = d.val; omega)
  have g : val_main_v20 (F := Ideal) z i = sg (gate z k (ix2 s d)) :=
    (Mo.r_sigma z i _ h0 (by show 7168 + (i 1).val = 7168 + 1024 * k.val + d.val; omega)).trans (sg_sigma _).symm
  rw [val_main_v89_apply, val_main_v88_apply, e, q_parts, val_main_v23_apply, val_main_v22_apply, val_main_v21_apply, g]
  refine (mul_assoc _ _ _).symm.trans (congrArg (_ * ·) (congrArg (· - _) Ideal.ofBits_one_f32))

/-- Three activations joined are the three as one array. -/
theorem joined3 (y0 y1 y2 : S1x4096x1024.Idx → EReal) (f0 f1 f2 : Arr 4096 1024) (h)
    (h0 : ∀ s d, y0 (ix3 0 s d) = f0 (ix2 s d)) (h1 : ∀ s d, y1 (ix3 0 s d) = f1 (ix2 s d)) (h2 : ∀ s d, y2 (ix3 0 s d) = f2 (ix2 s d)) :
    concatenate S3x4096x1024 0 (List.ofFn fun n : Fin 3 => (⟨S1x4096x1024, (![y0, y1, y2] : Fin 3 → S1x4096x1024.Idx → EReal) n⟩ :
      (s : Shape) × (s.Idx → EReal))) h = triple f0 f1 f2 := by
  funext i
  obtain ⟨k, s, d, rfl⟩ := three i
  refine (concatenate_ofFn_apply 0 _ h rfl 1 rfl (ix3 k s d) k (by show k.val / 1 = k.val; omega) (ix3 0 s d) (by show 0 = k.val % 1; omega) fun a ha => ?_).trans ?_
  · match a, ha with
    | ⟨0, _⟩, ha => exact absurd rfl ha
    | ⟨1, _⟩, _ => rfl
    | ⟨2, _⟩, _ => rfl
  · fin_cases k
    exacts [h0 s d, h1 s d, h2 s d]
theorem ref109 : val_main_v109 (F := Ideal) ya yb yc z wp pg dy = dzR ya yb yc z wp pg dy := by
  show val_main_v101 (F := Ideal) ya yb yc z wp pg dy = _
  refine joined3 (val_main_v98 (F := Ideal) ya yb yc z wp pg dy) (val_main_v99 (F := Ideal) ya yb yc z wp pg dy) (val_main_v100 (F := Ideal) ya yb yc z wp pg dy)
    _ _ _ _ (fun s d => ?_) (fun s d => ?_) fun s d => ?_
  · rw [val_main_v98_apply, val_main_v95_apply]
    exact q_slope ya yb yc z wp pg dy s d 0 _ rfl (by show d.val = 1024 * 0 + d.val; omega)
  · rw [val_main_v99_apply, val_main_v96_apply]
    exact q_slope ya yb yc z wp pg dy s d 1 _ rfl rfl
  · rw [val_main_v100_apply, val_main_v97_apply]
    exact q_slope ya yb yc z wp pg dy s d 2 _ rfl rfl

end Cert.Trunk.Ob

end
-- ==== Proof.T.In.lean ====
/- The input projections, what the call and its reference leave: the normed rows, and the normed rows times the ten
   projections' weights. -/
module

public import proofs.«01_k».proof.Proof.T.InFrame
public import proofs.«01_k».proof.Proof.Gen.InRefIdeal.Read

@[expose] public section

set_option maxRecDepth 16384

noncomputable section

namespace Cert.Trunk.In

open Idealize.ShloMosaic Idealize.ShloMosaic.TcCoe Idealize.ShloMosaic.Tactic Idealize.SL.Sem Idealize.ShloMosaic.Pipeline
open Cert.InIdeal Cert.InIdeal.Gen Cert.AttnC Cert.InRefIdeal.Read

/-- The projections of the normed rows. -/
def zs (x : Arr 4096 1024) (g : Arr 1 1024) (w : Arr 1024 10240) : Arr 4096 10240 := fun i =>
  ∑ e : Fin 1024, normed (fun d => x (ix2 (i 0) d)) (fun d => g (ix2 0 d)) e * w (ix2 e (i 1))

/-- The normed rows. -/
def hs (x : Arr 4096 1024) (g : Arr 1 1024) : Arr 4096 1024 := fun i => normed (fun d => x (ix2 (i 0) d)) (fun d => g (ix2 0 d)) (i 1)

theorem pay1 (x : Vec Ideal S1024x1024 .f32) (g : Vec Ideal S1x1024 .f32) (r d : Fin 1024) :
    k0_pay1 (F := Ideal) x g (ix2 r d) = normed (fun e => x (ix2 r e)) (fun e => g (ix2 0 e)) d := by
  pointwise [k0_pay1]; rfl
theorem pay2 (x : Vec Ideal S1024x1024 .f32) (g : Vec Ideal S1x1024 .f32) (r d : Fin 1024) :
    k0_pay2 (F := Ideal) x g (ix2 r d) = normed (fun e => x (ix2 r e)) (fun e => g (ix2 0 e)) d := by
  refine Eq.trans ?_ (pay1 x g r d)
  pointwise [k0_pay2]
theorem pay3 (h : Vec Ideal S1024x1024 .bf16) (w : Vec Ideal S1024x2560 .bf16) (r : Fin 1024) (d : Fin 2560) :
    k0_pay3 (F := Ideal) h w (ix2 r d) = ∑ e : Fin 1024, h (ix2 r e) * w (ix2 e d) := by
  pointwise [k0_pay3]

theorem lt (t : Fin cfg0.N) : t.val < 16 := N_0 ▸ t.isLt
/-- A row of the row block of point `t`. -/
def row (t : Fin cfg0.N) (r : Fin 1024) : Fin 4096 := ⟨1024 * (t.val / 4) + r.val, by have := lt t; omega⟩
/-- A column of the column block of point `t`. -/
def col (t : Fin cfg0.N) (d : Fin 2560) : Fin 10240 := ⟨2560 * (t.val % 4) + d.val, by omega⟩

theorem idx : ∀ t, (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = t.val / 4 ∧ win0_3.index t 1 = t.val % 4)
    ∧ (win0_4.index t 0 = t.val / 4 ∧ win0_4.index t 1 = 0) := by decide +kernel

variable (m : (ℓ : Loc nD τ sig) → Buf (Elt Ideal) ℓ) (c : Dev nD)

abbrev aX : Arr 4096 1024 := m ((c : Thread nD τ).loc main_arg0)
abbrev aG : Arr 1 1024 := m ((c : Thread nD τ).loc main_arg1)
abbrev aW : Arr 1024 10240 := m ((c : Thread nD τ).loc main_arg2)

theorem in_0 (t : Fin cfg0.N) (r d : Fin 1024) : iblk m c 0 t (ix2 r d) = aX m c (ix2 (row t r) d) := by
  unfold iblk
  blk_simp
  unfold aX
  rw [← V_main_arg0 m c]
  refine congrArg (V m c main_arg0) (at2 (a := win0_0.index t 0 * 1024) (e := r.val) (b := win0_0.index t 1 * 1024) (f := d.val)
    _ _ _ (by blk_simp) (by blk_simp) ?_ ?_)
  · rw [(idx t).1.1]; show 1024 * (t.val / 4) + r.val = _; omega
  · rw [(idx t).1.2]; omega
theorem in_1 (t : Fin cfg0.N) (d : Fin 1024) : iblk m c 1 t (ix2 0 d) = aG m c (ix2 0 d) := by
  unfold iblk
  blk_simp
  unfold aG
  rw [← V_main_arg1 m c]
  refine congrArg (V m c main_arg1) (at2 (a := win0_1.index t 0 * 1) (e := (0 : Fin 1).val) (b := win0_1.index t 1 * 1024) (f := d.val)
    _ _ _ (by blk_simp) (by blk_simp) ?_ ?_)
  · rw [(idx t).2.1.1]; rfl
  · rw [(idx t).2.1.2]; omega
theorem in_2 (t : Fin cfg0.N) (e : Fin 1024) (d : Fin 2560) : iblk m c 2 t (ix2 e d) = aW m c (ix2 e (col t d)) := by
  unfold iblk
  blk_simp
  unfold aW
  rw [← V_main_arg2 m c]
  refine congrArg (V m c main_arg2) (at2 (a := win0_2.index t 0 * 1024) (e := e.val) (b := win0_2.index t 1 * 2560) (f := d.val)
    _ _ _ (by blk_simp) (by blk_simp) ?_ ?_)
  · rw [(idx t).2.2.1.1]; omega
  · rw [(idx t).2.2.1.2]; show 2560 * (t.val % 4) + d.val = _; omega
theorem emb (t : Fin cfg0.N) (r : Fin 1024) (d : Fin 2560) : (win0_3.blk t).view.emb (ix2 r d) = ix2 (row t r) (col t d) := by
  refine at2 (a := win0_3.index t 0 * 1024) (e := r.val) (b := win0_3.index t 1 * 2560) (f := d.val) _ _ _ (by blk_simp) (by blk_simp) ?_ ?_
  · rw [(idx t).2.2.2.1.1]; show 1024 * (t.val / 4) + r.val = _; omega
  · rw [(idx t).2.2.2.1.2]; show 2560 * (t.val % 4) + d.val = _; omega

theorem emb_h (t : Fin cfg0.N) (r d : Fin 1024) : (win0_4.blk t).view.emb (ix2 r d) = ix2 (row t r) d := by
  refine at2 (a := win0_4.index t 0 * 1024) (e := r.val) (b := win0_4.index t 1 * 1024) (f := d.val) _ _ _ (by blk_simp) (by blk_simp) ?_ ?_
  · rw [(idx t).2.2.2.2.1]; show 1024 * (t.val / 4) + r.val = _; omega
  · rw [(idx t).2.2.2.2.2]; omega

/-- What the call leaves. -/
theorem arr : (dats m 0 c).arrAt 3 cfg0.N = zs (aX m c) (aG m c) (aW m c) := by
  refine (dats m 0 c).arrAt_eq_of_covers 3 _ (by decide +kernel) fun t hf y => ?_
  obtain ⟨r, d, rfl⟩ := two y
  blk_simp
  rw [after_3, pay3, emb]
  simp only [kept, pay2, in_0, in_1, in_2]
  rfl

theorem arr_h : (dats m 0 c).arrAt 4 cfg0.N = hs (aX m c) (aG m c) := by
  refine (dats m 0 c).arrAt_eq_of_covers 4 _ (by decide +kernel) fun t hf y => ?_
  obtain ⟨r, d, rfl⟩ := two y
  blk_simp
  rw [after_4, pay1, emb_h]
  simp only [in_0, in_1]
  rfl

variable (x : Arr 4096 1024) (g : Arr 1 1024) (w : Arr 1024 10240)

theorem r_rs (s : Fin 4096) : val_main_v8 (F := Ideal) x (ix2 s 0) = rs fun e => x (ix2 s e) := by
  rw [val_main_v8_apply, val_main_v7_apply, val_main_v6_apply, val_main_v5_apply, val_main_v4_apply, val_main_v3_apply, val_main_v2_apply]
  refine congrArg Ideal.rsqrt (congrArg₂ (· + ·) (congrArg₂ Ideal.div ((congrArg (· + _) Ideal.ofBits_zero_f32).trans ((zero_add _).trans ?_)) rfl) rfl)
  refine Finset.sum_congr rfl fun e _ => ?_
  have h : idx_main_v2 (idx_main_v3 (ix2 s 0)) e = ix2 s e := same2 rfl rfl
  rw [val_main_v1_apply, h]
  rfl
theorem r_normed (s : Fin 4096) (d : Fin 1024) :
    val_main_v12 (F := Ideal) x g (ix2 s d) = normed (fun e => x (ix2 s e)) (fun e => g (ix2 0 e)) d := by
  rw [val_main_v12_apply, val_main_v11_apply, val_main_v10_apply, val_main_v9_apply]
  have e1 : idx_main_v9 (ix2 s d) = ix2 s 0 := same2 rfl rfl
  have e2 : idx_main_v11 (ix2 s d) = ix2 0 d := same2 rfl rfl
  rw [e1, e2, r_rs]
  rfl
/-- What the reference leaves. -/
theorem ref : val_main_v14 (F := Ideal) x g w = zs x g w := by
  funext i
  obtain ⟨s, d, rfl⟩ := two i
  rw [val_main_v14_apply]
  refine (val_main_v13_apply _ _ _ _).trans (Finset.sum_congr rfl fun e _ => congrArg₂ (· * ·) ?_ ?_)
  · have h : lidx_main_v13 (ix2 s d) e = ix2 s e := same2 rfl rfl
    rw [h, r_normed]
    rfl
  · rw [val_main_v0_apply]
    exact congrArg w (same2 rfl rfl)
theorem ref_h : val_main_v27 (F := Ideal) x g = hs x g := by
  funext i
  obtain ⟨s, d, rfl⟩ := two i
  exact (val_main_v27_apply _ _ _).trans (r_normed x g s d)

end Cert.Trunk.In

end
-- ==== Proof.T.Kv.lean ====
/- The memory's keys and values: the normed memory times its weights. -/
module

public import proofs.«01_k».proof.Proof.T.Norm
public import proofs.«01_k».proof.Proof.Gen.KvIdeal.Frame
public import proofs.«01_k».proof.Proof.Gen.KvRefIdeal.Read
public import Idealize.ShloMosaic.Lib.Pipeline.ValueKit

@[expose] public section

set_option maxRecDepth 16384

noncomputable section

namespace Cert.Trunk.Kv

open Idealize.ShloMosaic Idealize.ShloMosaic.TcCoe Idealize.ShloMosaic.Tactic Idealize.SL.Sem Idealize.ShloMosaic.Pipeline
open Cert.KvIdeal Cert.KvIdeal.Gen Cert.AttnC Cert.KvRefIdeal.Read

/-- A scaled element, and a normed one. -/
def scaled (x : Arr 256 1024) (s : Fin 256) (d : Fin 1024) : EReal := x (ix2 s d) * rs fun e => x (ix2 s e)
def nrm (x : Arr 256 1024) (g : Arr 1 1024) (s : Fin 256) (d : Fin 1024) : EReal := scaled x s d * g (ix2 0 d)
/-- The keys and values. -/
def kvs (x : Arr 256 1024) (g : Arr 1 1024) (w : Arr 1024 2048) : Arr 256 2048 := fun i => ∑ e : Fin 1024, nrm x g (i 0) e * w (ix2 e (i 1))

theorem pay (x) (g) (w) (s : Fin 256) (d : Fin 2048) : k0_pay1 (F := Ideal) x g w (ix2 s d) = kvs x g w (ix2 s d) := by
  pointwise [k0_pay1]
  rfl
theorem out_eq (x g w) (s : Fin 256) (d : Fin 2048) : out0_3 (F := Ideal) x g w (ix2 s d) = kvs x g w (ix2 s d) := by
  unfold out0_3
  refine (congrFun (View.canon_unit_zero (S := S256x2048) zero2 _ _) _).trans ?_
  rw [View.ld_unit_zero (S := S256x1024) zero2, View.ld_unit_zero (S := S1x1024) zero2, View.ld_unit_zero (S := S1024x2048) zero2]
  exact pay x g w s d

theorem idx_0 : ∀ t, win0_0.index t 0 = 0 ∧ win0_0.index t 1 = 0 := by decide +kernel
theorem idx_1 : ∀ t, win0_1.index t 0 = 0 ∧ win0_1.index t 1 = 0 := by decide +kernel
theorem idx_2 : ∀ t, win0_2.index t 0 = 0 ∧ win0_2.index t 1 = 0 := by decide +kernel
theorem idx_3 : ∀ t, win0_3.index t 0 = 0 ∧ win0_3.index t 1 = 0 := by decide +kernel

variable (m : (ℓ : Loc nD τ sig) → Buf (Elt Ideal) ℓ) (c : Dev nD)

abbrev aX : Arr 256 1024 := m ((c : Thread nD τ).loc main_arg0)
abbrev aG : Arr 1 1024 := m ((c : Thread nD τ).loc main_arg1)
abbrev aW : Arr 1024 2048 := m ((c : Thread nD τ).loc main_arg2)

variable (t : Fin cfg0.N)

theorem in_0 (r : Fin 256) (d : Fin 1024) : iblk m c 0 t (ix2 r d) = aX m c (ix2 r d) := by
  unfold iblk
  blk_simp
  unfold aX
  rw [← V_main_arg0 m c]
  refine congrArg (V m c main_arg0) (at2 (a := win0_0.index t 0 * 256) (e := r.val) (b := win0_0.index t 1 * 1024) (f := d.val)
    _ _ _ (by blk_simp) (by blk_simp) ?_ ?_)
  · rw [(idx_0 t).1]; omega
  · rw [(idx_0 t).2]; omega
theorem whole_0 : iblk m c 0 t = aX m c := by
  funext i; obtain ⟨r, d, rfl⟩ := two i; exact in_0 m c t r d
theorem in_1 (r : Fin 1) (d : Fin 1024) : iblk m c 1 t (ix2 r d) = aG m c (ix2 r d) := by
  unfold iblk
  blk_simp
  unfold aG
  rw [← V_main_arg1 m c]
  refine congrArg (V m c main_arg1) (at2 (a := win0_1.index t 0 * 1) (e := r.val) (b := win0_1.index t 1 * 1024) (f := d.val)
    _ _ _ (by blk_simp) (by blk_simp) ?_ ?_)
  · rw [(idx_1 t).1]; omega
  · rw [(idx_1 t).2]; omega
theorem whole_1 : iblk m c 1 t = aG m c := by
  funext i; obtain ⟨r, d, rfl⟩ := two i; exact in_1 m c t r d
theorem in_2 (r : Fin 1024) (d : Fin 2048) : iblk m c 2 t (ix2 r d) = aW m c (ix2 r d) := by
  unfold iblk
  blk_simp
  unfold aW
  rw [← V_main_arg2 m c]
  refine congrArg (V m c main_arg2) (at2 (a := win0_2.index t 0 * 1024) (e := r.val) (b := win0_2.index t 1 * 2048) (f := d.val)
    _ _ _ (by blk_simp) (by blk_simp) ?_ ?_)
  · rw [(idx_2 t).1]; omega
  · rw [(idx_2 t).2]; omega
theorem whole_2 : iblk m c 2 t = aW m c := by
  funext i; obtain ⟨r, d, rfl⟩ := two i; exact in_2 m c t r d
theorem emb_3 (r : Fin 256) (d : Fin 2048) : (win0_3.blk t).view.emb (ix2 r d) = ix2 r d := by
  refine at2 (a := win0_3.index t 0 * 256) (e := r.val) (b := win0_3.index t 1 * 2048) (f := d.val) _ _ _ (by blk_simp) (by blk_simp) ?_ ?_
  · rw [(idx_3 t).1]; omega
  · rw [(idx_3 t).2]; omega

/-- What the call leaves. -/
theorem arr : (dats m 0 c).arrAt 3 cfg0.N = kvs (aX m c) (aG m c) (aW m c) := by
  refine (dats m 0 c).arrAt_eq_of_covers 3 _ (by decide +kernel) fun t hf y => ?_
  obtain ⟨s, d, rfl⟩ := two y
  blk_simp
  rw [after0_3, out_eq, emb_3, whole_0, whole_1, whole_2]

/-- What the reference leaves. -/
theorem ref (x : Arr 256 1024) (g : Arr 1 1024) (w : Arr 1024 2048) : val_main_v14 (F := Ideal) x g w = kvs x g w := by
  funext i
  obtain ⟨s, d, rfl⟩ := two i
  refine (val_main_v14_apply _ _ _ _).trans ((val_main_v13_apply _ _ _ _).trans ?_)
  show _ = ∑ e : Fin 1024, nrm x g s e * w (ix2 e d)
  have rw (e : Fin 1024) : val_main_v12 (F := Ideal) x g (ix2 s e) = nrm x g s e := by
    rw [val_main_v12_apply, val_main_v11_apply, val_main_v10_apply, val_main_v9_apply, val_main_v8_apply, val_main_v7_apply, val_main_v6_apply,
      val_main_v5_apply, val_main_v4_apply, val_main_v3_apply, val_main_v2_apply]
    refine congrArg₂ (· * ·) (congrArg (x (ix2 s e) * ·) (congrArg Ideal.rsqrt (congrArg₂ (· + ·) (congrArg₂ Ideal.div
      ((congrArg (· + _) Ideal.ofBits_zero_f32).trans ((zero_add _).trans ?_)) rfl) rfl))) (congrArg g (same2 rfl rfl))
    refine Finset.sum_congr rfl fun k _ => ?_
    rw [val_main_v1_apply]
    exact congrArg₂ (· * ·) (congrArg x (same2 rfl rfl)) (congrArg x (same2 rfl rfl))
  have h (e) : lidx_main_v13 (ix2 s d) e = ix2 s e := same2 rfl rfl
  exact Finset.sum_congr rfl fun e _ => congrArg₂ (· * ·) ((congrArg (val_main_v12 (F := Ideal) x g) (h e)).trans (rw e))
    (congrArg w (same2 rfl rfl))

end Cert.Trunk.Kv

end
-- ==== Proof.T.Mb.lean ====
/- The memory's projection and norm backwards: the gradients of the weights and of the gain. -/
module

public import proofs.«01_k».proof.Proof.T.Kv
public import proofs.«01_k».proof.Proof.Gen.MbIdeal.Frame
public import proofs.«01_k».proof.Proof.Gen.MbRefIdeal.Read

@[expose] public section

set_option maxRecDepth 16384

noncomputable section

namespace Cert.Trunk.Mb

open Idealize.ShloMosaic Idealize.ShloMosaic.TcCoe Idealize.ShloMosaic.Tactic Idealize.SL.Sem Idealize.ShloMosaic.Pipeline
open Cert.MbIdeal Cert.MbIdeal.Gen Cert.AttnC Cert.MbRefIdeal.Read
open Cert.Trunk.Kv (scaled nrm)

/-- The weights' gradient, and the gain's added to what there was. -/
def dwR (x : Arr 256 1024) (g : Arr 1 1024) (k : Arr 256 2048) : Arr 1024 2048 := fun i => ∑ s : Fin 256, nrm x g s (i 0) * k (ix2 s (i 1))
def dgR (x : Arr 256 1024) (w : Arr 1024 2048) (k : Arr 256 2048) (a : Arr 1 1024) : Arr 1 1024 := fun i =>
  a (ix2 0 (i 1)) + ∑ s : Fin 256, (∑ e : Fin 2048, k (ix2 s e) * w (ix2 (i 1) e)) * scaled x s (i 1)

theorem pay1 (x) (s : Fin 256) (d : Fin 1024) : k0_pay1 (F := Ideal) x (ix2 s d) = scaled x s d := by
  pointwise [k0_pay1]
  rfl
theorem pay3 (x) (g) (k) (a : Fin 1024) (d : Fin 2048) : k0_pay3 (F := Ideal) x g k (ix2 a d) = dwR x g k (ix2 a d) := by
  pointwise [k0_pay3, k0_pay2]
  simp only [pay1]
  rfl
theorem pay4 (x) (k) (a) (w) (d : Fin 1024) : k0_pay4 (F := Ideal) x k a w (ix2 0 d) = dgR x w k a (ix2 0 d) := by
  pointwise [k0_pay4, k0_pay2]
  simp only [pay1]
  rfl
theorem out_5 (x g w k b) (a : Fin 1024) (d : Fin 2048) : out0_5 (F := Ideal) x g w k b (ix2 a d) = dwR x g k (ix2 a d) := by
  unfold out0_5
  refine (congrFun (View.canon_unit_zero (S := S1024x2048) zero2 _ _) _).trans ?_
  rw [View.ld_unit_zero (S := S256x1024) zero2, View.ld_unit_zero (S := S1x1024) zero2, View.ld_unit_zero (S := S256x2048) zero2]
  exact pay3 x g k a d
theorem out_6 (x g w k b) (d : Fin 1024) : out0_6 (F := Ideal) x g w k b (ix2 0 d) = dgR x w k b (ix2 0 d) := by
  unfold out0_6
  refine (congrFun (View.canon_unit_zero (S := S1x1024) zero2 _ _) _).trans ?_
  rw [View.ld_unit_zero (S := S256x1024) zero2, View.ld_unit_zero (S := S1x1024) zero2, View.ld_unit_zero (S := S256x2048) zero2,
    View.ld_unit_zero (S := S1024x2048) zero2]
  exact pay4 x k b w d

theorem idx_0 : ∀ t, win0_0.index t 0 = 0 ∧ win0_0.index t 1 = 0 := by decide +kernel
theorem idx_1 : ∀ t, win0_1.index t 0 = 0 ∧ win0_1.index t 1 = 0 := by decide +kernel
theorem idx_2 : ∀ t, win0_2.index t 0 = 0 ∧ win0_2.index t 1 = 0 := by decide +kernel
theorem idx_3 : ∀ t, win0_3.index t 0 = 0 ∧ win0_3.index t 1 = 0 := by decide +kernel
theorem idx_4 : ∀ t, win0_4.index t 0 = 0 ∧ win0_4.index t 1 = 0 := by decide +kernel
theorem idx_5 : ∀ t, win0_5.index t 0 = 0 ∧ win0_5.index t 1 = 0 := by decide +kernel
theorem idx_6 : ∀ t, win0_6.index t 0 = 0 ∧ win0_6.index t 1 = 0 := by decide +kernel

variable (m : (ℓ : Loc nD τ sig) → Buf (Elt Ideal) ℓ) (c : Dev nD)

abbrev aX : Arr 256 1024 := m ((c : Thread nD τ).loc main_arg0)
abbrev aG : Arr 1 1024 := m ((c : Thread nD τ).loc main_arg1)
abbrev aW : Arr 1024 2048 := m ((c : Thread nD τ).loc main_arg2)
abbrev aK : Arr 256 2048 := m ((c : Thread nD τ).loc main_arg3)
abbrev aA : Arr 1 1024 := m ((c : Thread nD τ).loc main_arg4)

variable (t : Fin cfg0.N)

theorem in_0 (r : Fin 256) (d : Fin 1024) : iblk m c 0 t (ix2 r d) = aX m c (ix2 r d) := by
  unfold iblk
  blk_simp
  unfold aX
  rw [← V_main_arg0 m c]
  refine congrArg (V m c main_arg0) (at2 (a := win0_0.index t 0 * 256) (e := r.val) (b := win0_0.index t 1 * 1024) (f := d.val)
    _ _ _ (by blk_simp) (by blk_simp) ?_ ?_)
  · rw [(idx_0 t).1]; omega
  · rw [(idx_0 t).2]; omega
theorem whole_0 : iblk m c 0 t = aX m c := by
  funext i; obtain ⟨r, d, rfl⟩ := two i; exact in_0 m c t r d
theorem in_1 (r : Fin 1) (d : Fin 1024) : iblk m c 1 t (ix2 r d) = aG m c (ix2 r d) := by
  unfold iblk
  blk_simp
  unfold aG
  rw [← V_main_arg1 m c]
  refine congrArg (V m c main_arg1) (at2 (a := win0_1.index t 0 * 1) (e := r.val) (b := win0_1.index t 1 * 1024) (f := d.val)
    _ _ _ (by blk_simp) (by blk_simp) ?_ ?_)
  · rw [(idx_1 t).1]; omega
  · rw [(idx_1 t).2]; omega
theorem whole_1 : iblk m c 1 t = aG m c := by
  funext i; obtain ⟨r, d, rfl⟩ := two i; exact in_1 m c t r d
theorem in_2 (r : Fin 1024) (d : Fin 2048) : iblk m c 2 t (ix2 r d) = aW m c (ix2 r d) := by
  unfold iblk
  blk_simp
  unfold aW
  rw [← V_main_arg2 m c]
  refine congrArg (V m c main_arg2) (at2 (a := win0_2.index t 0 * 1024) (e := r.val) (b := win0_2.index t 1 * 2048) (f := d.val)
    _ _ _ (by blk_simp) (by blk_simp) ?_ ?_)
  · rw [(idx_2 t).1]; omega
  · rw [(idx_2 t).2]; omega
theorem whole_2 : iblk m c 2 t = aW m c := by
  funext i; obtain ⟨r, d, rfl⟩ := two i; exact in_2 m c t r d
theorem in_3 (r : Fin 256) (d : Fin 2048) : iblk m c 3 t (ix2 r d) = aK m c (ix2 r d) := by
  unfold iblk
  blk_simp
  unfold aK
  rw [← V_main_arg3 m c]
  refine congrArg (V m c main_arg3) (at2 (a := win0_3.index t 0 * 256) (e := r.val) (b := win0_3.index t 1 * 2048) (f := d.val)
    _ _ _ (by blk_simp) (by blk_simp) ?_ ?_)
  · rw [(idx_3 t).1]; omega
  · rw [(idx_3 t).2]; omega
theorem whole_3 : iblk m c 3 t = aK m c := by
  funext i; obtain ⟨r, d, rfl⟩ := two i; exact in_3 m c t r d
theorem in_4 (r : Fin 1) (d : Fin 1024) : iblk m c 4 t (ix2 r d) = aA m c (ix2 r d) := by
  unfold iblk
  blk_simp
  unfold aA
  rw [← V_main_arg4 m c]
  refine congrArg (V m c main_arg4) (at2 (a := win0_4.index t 0 * 1) (e := r.val) (b := win0_4.index t 1 * 1024) (f := d.val)
    _ _ _ (by blk_simp) (by blk_simp) ?_ ?_)
  · rw [(idx_4 t).1]; omega
  · rw [(idx_4 t).2]; omega
theorem whole_4 : iblk m c 4 t = aA m c := by
  funext i; obtain ⟨r, d, rfl⟩ := two i; exact in_4 m c t r d
theorem emb_5 (r : Fin 1024) (d : Fin 2048) : (win0_5.blk t).view.emb (ix2 r d) = ix2 r d := by
  refine at2 (a := win0_5.index t 0 * 1024) (e := r.val) (b := win0_5.index t 1 * 2048) (f := d.val) _ _ _ (by blk_simp) (by blk_simp) ?_ ?_
  · rw [(idx_5 t).1]; omega
  · rw [(idx_5 t).2]; omega
theorem emb_6 (r : Fin 1) (d : Fin 1024) : (win0_6.blk t).view.emb (ix2 r d) = ix2 r d := by
  refine at2 (a := win0_6.index t 0 * 1) (e := r.val) (b := win0_6.index t 1 * 1024) (f := d.val) _ _ _ (by blk_simp) (by blk_simp) ?_ ?_
  · rw [(idx_6 t).1]; omega
  · rw [(idx_6 t).2]; omega

/-- What the call leaves. -/
theorem arr_w : (dats m 0 c).arrAt 5 cfg0.N = dwR (aX m c) (aG m c) (aK m c) := by
  refine (dats m 0 c).arrAt_eq_of_covers 5 _ (by decide +kernel) fun t hf y => ?_
  obtain ⟨a, d, rfl⟩ := two y
  blk_simp
  rw [after0_5, out_5, emb_5, whole_0, whole_1, whole_3]
theorem arr_g : (dats m 0 c).arrAt 6 cfg0.N = dgR (aX m c) (aW m c) (aK m c) (aA m c) := by
  refine (dats m 0 c).arrAt_eq_of_covers 6 _ (by decide +kernel) fun t hf y => ?_
  obtain ⟨a, d, rfl⟩ := two y
  obtain rfl : a = 0 := Subsingleton.elim _ _
  blk_simp
  rw [after0_6, out_6, emb_6, whole_0, whole_2, whole_3, whole_4]

section Reference
variable (x : Arr 256 1024) (g : Arr 1 1024) (w : Arr 1024 2048) (k : Arr 256 2048) (a : Arr 1 1024) (s : Fin 256) (e : Fin 1024)
theorem r_scaled : val_main_v10 (F := Ideal) x (ix2 s e) = scaled x s e := by
  rw [val_main_v10_apply, val_main_v9_apply, val_main_v8_apply, val_main_v7_apply, val_main_v6_apply, val_main_v5_apply, val_main_v4_apply,
    val_main_v3_apply, val_main_v2_apply]
  refine congrArg (x (ix2 s e) * ·) (congrArg Ideal.rsqrt (congrArg₂ (· + ·) (congrArg₂ Ideal.div
    ((congrArg (· + _) Ideal.ofBits_zero_f32).trans ((zero_add _).trans ?_)) rfl) rfl))
  refine Finset.sum_congr rfl fun k _ => ?_
  rw [val_main_v1_apply]
  exact congrArg₂ (· * ·) (congrArg x (same2 rfl rfl)) (congrArg x (same2 rfl rfl))
theorem r_nrm : val_main_v12 (F := Ideal) x g (ix2 s e) = nrm x g s e := by
  rw [val_main_v12_apply, val_main_v11_apply, r_scaled]
  exact congrArg (scaled x s e * ·) (congrArg g (same2 rfl rfl))
/-- What the reference leaves. -/
theorem ref_w : val_main_v20 (F := Ideal) x g k = dwR x g k := by
  funext i
  obtain ⟨b, d, rfl⟩ := two i
  refine (val_main_v20_apply _ _ _ _).trans ((val_main_v15_apply _ _ _ _).trans ((val_main_v14_apply _ _ _ _).trans ?_))
  show _ = ∑ s : Fin 256, nrm x g s b * k (ix2 s d)
  have h (s) : ridx_main_v14 (idx_main_v15 (ix2 b d)) s = ix2 s b := same2 rfl rfl
  exact Finset.sum_congr rfl fun s _ => (mul_comm _ _).trans (congrArg₂ (· * ·) ((congrArg (val_main_v12 (F := Ideal) x g) (h s)).trans (r_nrm x g s b))
    (congrArg k (same2 rfl rfl)))
theorem ref_g : val_main_v21 (F := Ideal) x w k a = dgR x w k a := by
  funext i
  obtain ⟨b, d, rfl⟩ := two i
  obtain rfl : b = 0 := Subsingleton.elim _ _
  rw [val_main_v21_apply, val_main_v19_apply, val_main_v18_apply]
  refine congrArg (a (ix2 0 d) + ·) ((congrArg (· + _) Ideal.ofBits_zero_f32).trans ((zero_add _).trans ?_))
  refine Finset.sum_congr rfl fun s _ => ?_
  have h : idx_main_v18 (idx_main_v19 (ix2 0 d)) s = ix2 s d := same2 rfl (by show 0 * 1024 + d.val = d.val; omega)
  rw [h, val_main_v17_apply, r_scaled, val_main_v16_apply]
  refine (mul_comm _ _).trans (congrArg (· * scaled x s d) (Finset.sum_congr rfl fun e _ => ?_))
  exact congrArg₂ (· * ·) (congrArg k (same2 rfl rfl)) (congrArg w (same2 rfl rfl))
end Reference

end Cert.Trunk.Mb

end
-- ==== Proof.T.LhPoint.lean ====
/- The loss head at one grid point: what the body leaves in each output block. -/
module

public import proofs.«01_k».proof.Proof.T.Norm
public import proofs.«01_k».proof.Proof.Gen.LhIdeal.Frame
public import Idealize.ShloMosaic.Lib.Pipeline.ValueKit

@[expose] public section

set_option maxRecDepth 16384

noncomputable section

namespace Cert.Trunk.Lh

open Idealize.ShloMosaic Idealize.ShloMosaic.TcCoe Idealize.ShloMosaic.Tactic Idealize.SL.Sem Idealize.ShloMosaic.Pipeline
open Cert.LhIdeal Cert.LhIdeal.Gen Cert.AttnC

/-- One over the length of a row, and one half. -/
def milli : EReal := Ideal.ofBits .f32 0x3A800000#32
def half : EReal := Ideal.ofBits .f32 0x3F000000#32
/-- The error at an element, a row's sum of squares, and a block's part of the loss. -/
def err {n : Nat} (y t : Arr n 1024) (s : Fin n) (d : Fin 1024) : EReal := y (ix2 s d) - t (ix2 s d)
def sq {n : Nat} (y t : Arr n 1024) (s : Fin n) : EReal := ∑ d, err y t s d * err y t s d
def part (y t : Arr 512 1024) : EReal := half * ∑ r, sq y t r * milli

theorem pay1 (i) : k0_pay1 (F := Ideal) i = 0 := by
  obtain ⟨a, b, rfl⟩ := two i
  pointwise [k0_pay1]
theorem pay3 (y t) (r : Fin 512) (d : Fin 1024) : k0_pay3 (F := Ideal) y t (ix2 r d) = err (n := 512) y t r d * milli := by
  pointwise [k0_pay3, k0_pay2]
  rfl
theorem pay4 (y t a) : k0_pay4 (F := Ideal) y t a (ix2 0 0) = a (ix2 0 0) + part y t := by
  pointwise [k0_pay4, k0_pay2]
  rfl

variable (m : (ℓ : Loc nD τ sig) → Buf (Elt Ideal) ℓ) (c : Dev nD) (t : Fin cfg0.N)

theorem at3 (r : Fin 512) (d : Fin 1024) : (outsAt0 m c t.val t.isLt).2 (ix2 r d) = err (n := 512) (iblk m c 0 t) (iblk m c 1 t) r d * milli := by
  by_cases h0 : t.val % 8 = 0
  · rw [outsAt0_A m c t h0]
    unfold out0_A_3
    dsimp only
    refine (congrFun (View.read_writes_eq_canon (Val := Elt Ideal) _ _ _ fun y => cover0_A_3 ..) _).trans ?_
    unfold kernelRun0_A
    dsimp only
    sl_unfold_words
    simp only [View.readAt_eq_ld, (hs0_0 t).read_unread, (hs0_1 t).read_unread]
    rw [View.canon_unit_zero (S := S512x1024) zero2]
    simp only [View.ld_unit_zero (S := S512x1024) zero2]
    exact pay3 _ _ r d
  · rw [outsAt0_B m c t h0]
    unfold out0_B_3
    dsimp only
    refine (congrFun (View.read_writes_eq_canon (Val := Elt Ideal) _ _ _ fun y => cover0_B_3 ..) _).trans ?_
    unfold kernelRun0_B
    dsimp only
    sl_unfold_words
    simp only [View.readAt_eq_ld, (hs0_0 t).read_unread, (hs0_1 t).read_unread]
    rw [View.canon_unit_zero (S := S512x1024) zero2]
    simp only [View.ld_unit_zero (S := S512x1024) zero2]
    exact pay3 _ _ r d
theorem at2_A (h0 : t.val % 8 = 0) : (outsAt0 m c t.val t.isLt).1 (ix2 0 0) = part (iblk m c 0 t) (iblk m c 1 t) := by
  rw [outsAt0_A m c t h0]
  unfold out0_A_2
  dsimp only
  refine (congrFun (View.read_writes_eq_canon (Val := Elt Ideal) _ _ _ fun y => cover0_A_2 ..) _).trans ?_
  unfold kernelRun0_A
  dsimp only
  sl_unfold_words
  simp only [View.readAt_eq_ld, (hs0_0 t).read_unread, (hs0_1 t).read_unread]
  rw [View.canon_cons_unit_zero (S := S1x1) zero2]
  simp only [View.ld_unit_zero (S := S512x1024) zero2, View.readCov_unit_zero (S := S1x1) _ zero2]
  rw [pay4]
  exact (congrArg (· + _) (pay1 _)).trans (zero_add _)
theorem at2_B (h0 : ¬t.val % 8 = 0) :
    (outsAt0 m c t.val t.isLt).1 (ix2 0 0) = (outsAt0 m c (t.val - 1) (Nat.lt_of_le_of_lt (Nat.sub_le _ _) t.isLt)).1 (ix2 0 0)
      + part (iblk m c 0 t) (iblk m c 1 t) := by
  rw [outsAt0_B m c t h0]
  unfold out0_B_2
  dsimp only
  refine (congrFun (View.read_writes_eq_canon (Val := Elt Ideal) _ _ _ fun y => cover0_B_2 ..) _).trans ?_
  unfold kernelRun0_B
  dsimp only
  sl_unfold_words
  simp only [View.readAt_eq_ld, (hs0_0 t).read_unread, (hs0_1 t).read_unread, (hs0_2 t).read_unread]
  rw [View.canon_unit_zero (S := S1x1) zero2]
  simp only [View.ld_unit_zero (S := S512x1024) zero2, View.ld_unit_zero (S := S1x1) zero2]
  exact pay4 _ _ _

end Cert.Trunk.Lh

end
-- ==== Proof.T.Lh.lean ====
/- The loss head: one device's part of the loss, and the loss's gradient at the trunk's output. -/
module

public import proofs.«01_k».proof.Proof.T.LhPoint
public import proofs.«01_k».proof.Proof.Gen.LhRefIdeal.Read
public import Idealize.ShloMosaic.Lib.ValueIdxRank1

@[expose] public section

set_option maxRecDepth 16384

noncomputable section

namespace Cert.Trunk.Lh

open Idealize.ShloMosaic Idealize.ShloMosaic.TcCoe Idealize.ShloMosaic.Tactic Idealize.SL.Sem Idealize.ShloMosaic.Pipeline
open Cert.LhIdeal Cert.LhIdeal.Gen Cert.AttnC Cert.LhRefIdeal.Read

/-- The loss's part, and the gradient. -/
def lossR (y t : Arr 4096 1024) : Arr 1 1 := fun _ => half * ∑ s, sq y t s * milli
def dyR (y t : Arr 4096 1024) : Arr 4096 1024 := fun i => err y t (i 0) (i 1) * milli

theorem milli_eq : milli = ((1 / 1024 : ℝ) : EReal) := by
  unfold milli
  simp [Ideal.ofBits, Ideal.ieee, -EReal.coe_mul]; norm_num
theorem half_eq : half = ((1 / 2 : ℝ) : EReal) := by
  unfold half
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
/-- To divide by the length is to multiply by one over it. -/
theorem div_len (x : EReal) : Ideal.div x len = x * milli := by
  rw [len_eq, Ideal.div_coe (by norm_num), milli_eq]
theorem term_nonneg {n : Nat} (y t : Arr n 1024) (s : Fin n) : 0 ≤ sq y t s * milli :=
  mul_nonneg (Finset.sum_nonneg fun _ _ => square_nonneg _) (by rw [milli_eq]; exact EReal.coe_nonneg.2 (by norm_num))
/-- A factor goes into a sum of terms none negative. -/
theorem mul_sum_nonneg {ι : Type} (S : Finset ι) (k : EReal) (f : ι → EReal) (h : ∀ i, 0 ≤ f i) : k * ∑ i ∈ S, f i = ∑ i ∈ S, k * f i := by
  classical
  induction S using Finset.induction_on with
  | empty => simp
  | insert a S ha ih => rw [Finset.sum_insert ha, Finset.sum_insert ha, EReal.left_distrib_of_nonneg (h a) (Finset.sum_nonneg fun i _ => h i), ih]

/-- Row `r` of block `n`. -/
def rw8 (n : Nat) (r : Fin 512) : Fin 4096 := ⟨(512 * n + r.val) % 4096, Nat.mod_lt _ (by omega)⟩
theorem rw8_val (n : Nat) (r : Fin 512) (h : n < 8) : (rw8 n r).val = 512 * n + r.val := Nat.mod_eq_of_lt (by omega)
theorem sum_blocks (f : Fin 4096 → EReal) : ∑ s, f s = ∑ n ∈ Finset.range 8, ∑ r : Fin 512, f (rw8 n r) := by
  rw [← Fin.sum_univ_eq_sum_range (fun n => ∑ r : Fin 512, f (rw8 n r)), ← Fintype.sum_prod_type', ← Equiv.sum_comp (finProdFinEquiv (m := 8) (n := 512))]
  refine Finset.sum_congr rfl fun x _ => congrArg f (Fin.ext ?_)
  rw [rw8_val _ _ x.1.isLt]
  exact Nat.add_comm _ _

theorem idx_rows : ∀ t, (win0_0.index t 0 = t.val ∧ win0_0.index t 1 = 0) ∧ (win0_1.index t 0 = t.val ∧ win0_1.index t 1 = 0)
    ∧ (win0_3.index t 0 = t.val ∧ win0_3.index t 1 = 0) := by decide +kernel
theorem lt (t : Fin cfg0.N) : t.val < 8 := t.isLt

variable (m : (ℓ : Loc nD τ sig) → Buf (Elt Ideal) ℓ) (c : Dev nD)

abbrev aY : Arr 4096 1024 := m ((c : Thread nD τ).loc main_arg0)
abbrev aT : Arr 4096 1024 := m ((c : Thread nD τ).loc main_arg1)

section Point
variable (t : Fin cfg0.N) (r : Fin 512) (d : Fin 1024)
theorem in_0 : iblk m c 0 t (ix2 r d) = aY m c (ix2 (rw8 t.val r) d) := by
  unfold iblk
  blk_simp
  unfold aY
  rw [← V_main_arg0 m c]
  refine congrArg (V m c main_arg0) (at2 (a := win0_0.index t 0 * 512) (e := r.val) (b := win0_0.index t 1 * 1024) (f := d.val)
    _ _ _ (by blk_simp) (by blk_simp) ?_ ?_)
  · rw [(idx_rows t).1.1, rw8_val _ _ (lt t)]; omega
  · rw [(idx_rows t).1.2]; omega
theorem in_1 : iblk m c 1 t (ix2 r d) = aT m c (ix2 (rw8 t.val r) d) := by
  unfold iblk
  blk_simp
  unfold aT
  rw [← V_main_arg1 m c]
  refine congrArg (V m c main_arg1) (at2 (a := win0_1.index t 0 * 512) (e := r.val) (b := win0_1.index t 1 * 1024) (f := d.val)
    _ _ _ (by blk_simp) (by blk_simp) ?_ ?_)
  · rw [(idx_rows t).2.1.1, rw8_val _ _ (lt t)]; omega
  · rw [(idx_rows t).2.1.2]; omega
theorem emb_3 : (win0_3.blk t).view.emb (ix2 r d) = ix2 (rw8 t.val r) d := by
  refine at2 (a := win0_3.index t 0 * 512) (e := r.val) (b := win0_3.index t 1 * 1024) (f := d.val) _ _ _ (by blk_simp) (by blk_simp) ?_ ?_
  · rw [(idx_rows t).2.2.1]; show (rw8 t.val r).val = _; rw [rw8_val _ _ (lt t)]; omega
  · rw [(idx_rows t).2.2.2]; omega
theorem err_blk : err (n := 512) (iblk m c 0 t) (iblk m c 1 t) r d = err (aY m c) (aT m c) (rw8 t.val r) d := by
  unfold err
  rw [in_0, in_1]
end Point

/-- A block's part, of the whole arrays. -/
def parts (n : Nat) : EReal := half * ∑ r, sq (aY m c) (aT m c) (rw8 n r) * milli
theorem part_blk (t : Fin cfg0.N) : part (iblk m c 0 t) (iblk m c 1 t) = parts m c t.val := by
  unfold part parts sq
  simp only [err_blk]
theorem loss_at : ∀ (n : Nat) (hn : n < cfg0.N), (outsAt0 m c n hn).1 (ix2 0 0) = ∑ i ∈ Finset.range (n + 1), parts m c i
  | 0, hn => by
    rw [Finset.sum_range_one, at2_A m c ⟨0, hn⟩ rfl]
    exact part_blk m c ⟨0, hn⟩
  | n + 1, hn => by
    have h : n + 1 < 8 := lt ⟨n + 1, hn⟩
    rw [at2_B m c ⟨n + 1, hn⟩ (by show ¬(n + 1) % 8 = 0; omega), part_blk, Finset.sum_range_succ, ← loss_at n (Nat.lt_of_succ_lt hn)]
    rfl

/-- What the call leaves. -/
theorem arr_loss : (dats m 0 c).arrAt 2 cfg0.N = lossR (aY m c) (aT m c) := by
  refine (dats m 0 c).arrAt_eq_of_covers 2 _ (by decide +kernel) fun t hf y => ?_
  obtain ⟨r, d, rfl⟩ := two y
  have h7 : t.val = 7 := by have := lt t; have := (flush0_2 t).mp hf; omega
  obtain rfl : r = 0 := Subsingleton.elim _ _
  obtain rfl : d = 0 := Subsingleton.elim _ _
  blk_simp
  rw [after0_2, loss_at m c t.val t.isLt, h7]
  unfold lossR
  rw [sum_blocks, mul_sum_nonneg _ _ _ fun n => Finset.sum_nonneg fun r _ => term_nonneg _ _ _]
  rfl
theorem arr_dy : (dats m 0 c).arrAt 3 cfg0.N = dyR (aY m c) (aT m c) := by
  refine (dats m 0 c).arrAt_eq_of_covers 3 _ (by decide +kernel) fun t hf y => ?_
  obtain ⟨r, d, rfl⟩ := two y
  blk_simp
  rw [after0_3, at3, err_blk, emb_3]
  rfl

/-- What the reference leaves. -/
theorem ref_loss (y t : Arr 4096 1024) : val_main_v9 (F := Ideal) y t = lossR y t := by
  funext i
  unfold val_main_v9 shapeCast
  rw [val_main_v8_apply, val_main_v7_apply]
  refine congrArg (half * ·) ((congrArg (· + _) Ideal.ofBits_zero_f32).trans ((zero_add _).trans ?_))
  rw [← Equiv.sum_comp (ValueIdx.idxEquiv1 (n := 4096)).symm]
  refine Finset.sum_congr rfl fun s _ => ?_
  rw [val_main_v6_apply, val_main_v5_apply, val_main_v4_apply]
  refine (div_len _).trans (congrArg (· * milli) ((congrArg (· + _) Ideal.ofBits_zero_f32).trans ((zero_add _).trans ?_)))
  refine Finset.sum_congr rfl fun d _ => ?_
  have h : idx_main_v4 ((ValueIdx.idxEquiv1 (n := 4096)).symm s) d = ix2 s d := same2 rfl rfl
  rw [h, val_main_v1_apply, val_main_v0_apply]
  rfl
theorem ref_dy (y t : Arr 4096 1024) : val_main_v15 (F := Ideal) y t = dyR y t := by
  funext i
  obtain ⟨s, d, rfl⟩ := two i
  rw [val_main_v15_apply, val_main_v14_apply, val_main_v13_apply, val_main_v12_apply, val_main_v11_apply, val_main_v10_apply, val_main_v3_apply,
    val_main_v2_apply, val_main_v0_apply]
  show Ideal.div (half * Ideal.ofBits .f32 0x3F800000#32) len * (Ideal.ofBits .f32 0x40000000#32 * err y t s d) = err y t s d * milli
  rw [div_len, Ideal.ofBits_one_f32, mul_one, half_eq, milli_eq, two_eq, ← EReal.coe_mul, ← mul_assoc, ← EReal.coe_mul, mul_comm]
  congr 2
  norm_num

end Cert.Trunk.Lh

end
-- ==== Proof.T.BaPoint.lean ====
/- The spatial gating branch at one grid point: what the body leaves in the output block. -/
module

public import proofs.«01_k».proof.Proof.T.Norm
public import proofs.«01_k».proof.Proof.Gen.BaIdeal.Frame
public import Idealize.ShloMosaic.Lib.Pipeline.ValueKit

@[expose] public section

set_option maxRecDepth 16384

noncomputable section

namespace Cert.Trunk.Ba

open Idealize.ShloMosaic Idealize.ShloMosaic.TcCoe Idealize.ShloMosaic.Tactic Idealize.SL.Sem Idealize.ShloMosaic.Pipeline
open Cert.BaIdeal Cert.BaIdeal.Gen Cert.AttnC

/-- Arrays of three axes, of the spatial weights' shape. -/
abbrev Spatial : Type := (⟨3, ![8, 128, 128]⟩ : Shape).Idx → EReal
/-- Whether position `i` of a block sees position `e`. -/
def bit (i e : Fin 128) : BitVec 1 := BitVec.ofBool (decide (64 ≤ i.val ∨ e.val < 64))
/-- The weight with which it does. -/
def seen (ws : Spatial) (g : Fin 8) (i e : Fin 128) : EReal := Scalar.select (bit i e) (ws (ix3 g i e)) (Ideal.ofBits .f32 0x00000000#32)
/-- The group of a column, the position of a row or column in its block or group, and the row at position `e` of a row's block. -/
def grp (d : Fin 1024) : Fin 8 := ⟨d.val / 128, by omega⟩
def pos {n : Nat} (s : Fin n) : Fin 128 := ⟨s.val % 128, Nat.mod_lt _ (by omega)⟩
def peer {n : Nat} (s : Fin n) (e : Fin 128) : Fin n := ⟨(s.val / 128 * 128 + e.val) % n, Nat.mod_lt _ (Nat.zero_lt_of_lt s.isLt)⟩
/-- A row of the normed values. -/
def vn {n : Nat} (v : Arr n 1024) (lg lb : Arr 1 1024) (s : Fin n) (d : Fin 1024) : EReal :=
  normed (fun e => v (ix2 s e) - mean fun k => v (ix2 s k)) (fun e => lg (ix2 0 e)) d + lb (ix2 0 d)
/-- The values mixed over their block, times `t`. -/
def mixed {n : Nat} (t v : Fin n → Fin 1024 → EReal) (ws : Spatial) (b : Fin 8 → Fin 128 → Fin 128 → EReal) : Arr n 1024 := fun y =>
  t (y 0) (y 1) * (∑ e, seen ws (grp (y 1)) (pos (y 0)) e * v (peer (y 0) e) (y 1) + b (grp (y 1)) (pos (y 0)) (pos (y 1)))

theorem word_ge : ∀ i : Fin 128, IntOp.cmpi .sge (BitVec.ofNat 32 i.val) 64#32 = BitVec.ofBool (decide (64 ≤ i.val)) := by decide +kernel
theorem word_lt : ∀ i : Fin 128, IntOp.cmpi .slt (BitVec.ofNat 32 i.val) 64#32 = BitVec.ofBool (decide (i.val < 64)) := by decide +kernel
theorem mask (x0 x1 x2 x3 x4 x5 x6) (i e : Fin 128) : k0_pay54 (F := Ideal) x0 x1 x2 x3 x4 x5 x6 (ix2 i e) = bit i e := by
  unfold k0_pay54 k0_pay50 k0_pay51
  pointwise [k0_pay3]
  rw [word_ge, word_lt]
  unfold bit
  by_cases h : 64 ≤ i.val <;> by_cases h' : e.val < 64 <;> simp [h, h', IntOp.ori]
theorem pay1 (v lg lb) (s : Fin 512) (d : Fin 1024) : k0_pay1 (F := Ideal) v lg lb (ix2 s d) = vn (n := 512) v lg lb s d := by
  pointwise [k0_pay1]
  rfl
theorem pay2 (g u) (s : Fin 512) (d : Fin 1024) : k0_pay2 (F := Ideal) g u (ix2 s d) = u (ix2 s d) * sil (g (ix2 s d)) := by
  pointwise [k0_pay2]
  rfl
/-- Reading one group of the spatial weights or biases. -/
theorem ld_group (x : Spatial) (k : Nat) (inb) (p : Fin 1) (a b : Fin 128) (j : Fin 8) (h : j.val = k) :
    View.ld (Val := Elt Ideal) (S := S8x128x128) (e' := .f32) x (Rect.unit ![k, 0, 0] S1x128x128.size inb) (ix3 p a b) = x (ix3 j a b) :=
  View.ld_unit_apply_of _ _ _ _ _ _ fun a => match a with
    | ⟨0, _⟩ => by show j.val = k + p.val; omega
    | ⟨1, _⟩ => (Nat.zero_add _).symm
    | ⟨2, _⟩ => (Nat.zero_add _).symm
/-- A group's masked weights. -/
theorem weights (M : IVec S128x128 1) (hM : ∀ i e, M (ix2 i e) = bit i e) (x : Spatial) (w : Vec Ideal S1x128x128 .f32) (g : Fin 8) (hw : ∀ i e, w (ix3 0 i e) = x (ix3 g i e)) (i e : Fin 128) :
    truncf .bf16 (select M (shapeCast S128x128 w shapeCasts_S1x128x128_S128x128) (broadcast S128x128 (Scalar.ofBits (F := Ideal) .f32 0x00000000#32))) bitsLt_bf16_f32 (ix2 i e)
      = seen x g i e := by
  pointwise []
  rw [hM, hw]
  exact congrArg (Scalar.select (bit i e) (x (ix3 g i e))) Ideal.ofBits_zero_f32.symm
/-- The mixing at one entry. -/
theorem mixed_at {n : Nat} (t v : Fin n → Fin 1024 → EReal) (ws : Spatial) (b : Fin 8 → Fin 128 → Fin 128 → EReal) (s : Fin n) (d : Fin 1024) :
    mixed t v ws b (ix2 s d) = t s d * (∑ e, seen ws (grp d) (pos s) e * v (peer s e) d + b (grp d) (pos s) (pos d)) := rfl
/-- One group of one block: what is stored, where it is stored. -/
theorem tile (v : FVec Ideal S512x1024 .bf16) (t : FVec Ideal S512x1024 .f32) (p q : Nat) (hp : 128 ∣ p) (hq : 128 ∣ q) (hs : S512x1024.Slices ![p, q] S128x128) (inb)
    (w : FVec Ideal S128x128 .bf16) (b : Vec Ideal S1x128x128 .f32) (ws bs : Spatial)
    (hw : ∀ g : Fin 8, g.val = q / 128 → ∀ i e, w (ix2 i e) = seen ws g i e) (hb : ∀ g : Fin 8, g.val = q / 128 → ∀ i j, b (ix3 0 i j) = bs (ix3 g i j)) (i j : Fin 128) :
    truncf .bf16 (mulf (extractStridedSlice S128x128 ![p, q] t hs) (addf (matmul dot_S128x128_S128x128_S128x128_1_0_0_1_n_n none w
      (extractStridedSlice S128x128 ![p, q] v hs) (constant S128x128 .f32 0x00000000#32)) (shapeCast S128x128 b shapeCasts_S1x128x128_S128x128))) bitsLt_bf16_f32 (ix2 i j)
      = mixed (fun s d => t (ix2 s d)) (fun s d => v (ix2 s d)) ws (fun g i j => bs (ix3 g i j)) ((Rect.unit (s := S512x1024) ![p, q] S128x128.size inb).emb (ix2 i j)) := by
  have h0 := inb 0
  have h1 := inb 1
  change p + 128 ≤ 512 at h0
  change q + 128 ≤ 1024 at h1
  obtain ⟨n, rfl⟩ := hp
  obtain ⟨k, rfl⟩ := hq
  have he : (Rect.unit (s := S512x1024) ![128 * n, 128 * k] S128x128.size inb).emb (ix2 i j) = ix2 ⟨128 * n + i.val, by omega⟩ ⟨128 * k + j.val, by omega⟩ :=
    funext fun x => Fin.ext ((Rect.idx_unit_val _ _ _ _ x).trans (match x with
      | ⟨0, _⟩ => rfl
      | ⟨1, _⟩ => rfl))
  rw [he, mixed_at]
  have hg : (grp ⟨128 * k + j.val, by omega⟩).val = 128 * k / 128 := by show (128 * k + j.val) / 128 = 128 * k / 128; omega
  have e1 : pos (⟨128 * n + i.val, by omega⟩ : Fin 512) = i := Fin.ext (by show (128 * n + i.val) % 128 = i.val; omega)
  have e2 : pos (⟨128 * k + j.val, by omega⟩ : Fin 1024) = j := Fin.ext (by show (128 * k + j.val) % 128 = j.val; omega)
  have e3 (e : Fin 128) : peer (⟨128 * n + i.val, by omega⟩ : Fin 512) e = ⟨128 * n + e.val, by omega⟩ :=
    Fin.ext (by show ((128 * n + i.val) / 128 * 128 + e.val) % 512 = 128 * n + e.val; omega)
  pointwise []
  simp only [e1, e2, e3, hw _ hg, hb _ hg]

theorem whole52 (x0 x1 x2 x3 x4 x5 x6) (s : Fin 512) (d : Fin 1024) : k0_pay52 (F := Ideal) x0 x1 x2 x3 x4 x5 x6 (ix2 s d) = vn (n := 512) x1 x3 x4 s d := by
  unfold k0_pay52
  rw [View.ld_unit_zero (S := S512x1024) zero2, View.ld_unit_zero (S := S1x1024) zero2, View.ld_unit_zero (S := S1x1024) zero2]
  exact pay1 _ _ _ s d
theorem whole53 (x0 x1 x2 x3 x4 x5 x6) (s : Fin 512) (d : Fin 1024) : k0_pay53 (F := Ideal) x0 x1 x2 x3 x4 x5 x6 (ix2 s d) = x0 (ix2 s d) * sil (x2 (ix2 s d)) := by
  unfold k0_pay53
  rw [View.ld_unit_zero (S := S512x1024) zero2, View.ld_unit_zero (S := S512x1024) zero2]
  exact pay2 _ _ s d

/-- What the body leaves. -/
theorem out_eq (x0 x1 x2 x3 x4 x5 x6) (y : S512x1024.Idx) : out0_7 (F := Ideal) x0 x1 x2 x3 x4 x5 x6 y
    = mixed (n := 512) (fun s d => x0 (ix2 s d) * sil (x2 (ix2 s d))) (vn (n := 512) x1 x3 x4) x5 (fun g i j => x6 (ix3 g i j)) y := by
  have hv : (fun s d => k0_pay52 (F := Ideal) x0 x1 x2 x3 x4 x5 x6 (ix2 s d)) = vn (n := 512) x1 x3 x4 := funext fun s => funext fun d => whole52 x0 x1 x2 x3 x4 x5 x6 s d
  have ht : (fun s d => k0_pay53 (F := Ideal) x0 x1 x2 x3 x4 x5 x6 (ix2 s d)) = fun s d => x0 (ix2 s d) * sil (x2 (ix2 s d)) :=
    funext fun s => funext fun d => whole53 x0 x1 x2 x3 x4 x5 x6 s d
  rw [← hv, ← ht]
  unfold out0_7
  refine View.canon_apply_of_pieces (Val := Elt Ideal) (e := .bf16) _ _ ?_ _ (cover0_7 ..)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl
    | rfl | rfl | rfl | rfl | rfl | rfl | rfl | rfl | rfl | rfl <;> intro i <;> obtain ⟨i, j, rfl⟩ := two i <;>
  refine tile (k0_pay52 x0 x1 x2 x3 x4 x5 x6) (k0_pay53 x0 x1 x2 x3 x4 x5 x6) _ _ (by decide) (by decide) _ (by decide) _ _ x5 x6
    (fun g hg => weights (k0_pay54 x0 x1 x2 x3 x4 x5 x6) (mask x0 x1 x2 x3 x4 x5 x6) x5 _ g fun i e => ?_) (fun g hg i j => ?_) i j <;>
  exact ld_group _ _ _ 0 _ _ g hg

end Cert.Trunk.Ba

end
-- ==== Proof.T.Ba.lean ====
/- The gating branch: what the call and the reference leave. -/
module

public import proofs.«01_k».proof.Proof.T.BaPoint
public import proofs.«01_k».proof.Proof.T.Mix
public import proofs.«01_k».proof.Proof.Gen.BaRefIdeal.Read
public import Idealize.ShloMosaic.Lib.StableHlo.RunRead

@[expose] public section

set_option maxRecDepth 16384

noncomputable section

namespace Cert.Trunk.Ba

open Idealize.ShloMosaic Idealize.ShloMosaic.TcCoe Idealize.ShloMosaic.Tactic Idealize.SL.Sem Idealize.ShloMosaic.Pipeline
open Cert.BaIdeal Cert.BaIdeal.Gen Cert.AttnC Cert.BaRefIdeal.Read

/-- A thousand and twenty-four columns of the projections. -/
def cols (z : Arr 4096 10240) (k : Fin 3) : Arr 4096 1024 := fun i =>
  z (ix2 (i 0) ⟨1024 * k.val + (i 1).val, by have h0 := k.isLt; have h1 : (i 1).val < 1024 := (i 1).isLt; omega⟩)
/-- The branch. -/
def branch (z : Arr 4096 10240) (lg lb : Arr 1 1024) (ws : Spatial) (bs : Arr 8 128) : Arr 4096 1024 :=
  mixed (n := 4096) (fun s d => cols z 0 (ix2 s d) * sil (cols z 2 (ix2 s d))) (vn (n := 4096) (cols z 1) lg lb) ws (fun g i _ => bs (ix2 g i))

theorem lt (t : Fin cfg0.N) : t.val < 8 := N_0 ▸ t.isLt
/-- The row that row `r` of point `t`'s block is. -/
def rw8 (t : Fin cfg0.N) (r : Fin 512) : Fin 4096 := ⟨512 * t.val + r.val, by have := lt t; omega⟩

theorem idx_row : ∀ t, (win0_0.index t 0 = t.val ∧ win0_0.index t 1 = 0) ∧ (win0_1.index t 0 = t.val ∧ win0_1.index t 1 = 1)
    ∧ (win0_2.index t 0 = t.val ∧ win0_2.index t 1 = 2) ∧ (win0_7.index t 0 = t.val ∧ win0_7.index t 1 = 0) := by decide +kernel
theorem idx_whole : ∀ t, (win0_3.index t 0 = 0 ∧ win0_3.index t 1 = 0) ∧ (win0_4.index t 0 = 0 ∧ win0_4.index t 1 = 0)
    ∧ (win0_5.index t 0 = 0 ∧ win0_5.index t 1 = 0 ∧ win0_5.index t 2 = 0) ∧ (win0_6.index t 0 = 0 ∧ win0_6.index t 1 = 0 ∧ win0_6.index t 2 = 0) := by
  decide +kernel

variable (m : (ℓ : Loc nD τ sig) → Buf (Elt Ideal) ℓ) (c : Dev nD)

abbrev aZ : Arr 4096 10240 := m ((c : Thread nD τ).loc main_arg0)
abbrev aLg : Arr 1 1024 := m ((c : Thread nD τ).loc main_arg1)
abbrev aLb : Arr 1 1024 := m ((c : Thread nD τ).loc main_arg2)
abbrev aWs : Spatial := m ((c : Thread nD τ).loc main_arg3)
abbrev aBs : Arr 8 128 := m ((c : Thread nD τ).loc main_arg4)

/-- The biases as the host lines leave them: each along its group's columns. -/
theorem V_b (g : Fin 8) (i j : Fin 128) : V m c main_v1 (ix3 g i j) = aBs m c (ix2 g i) := by
  have h : V m c main_v1 = broadcastInDim S8x128x128 ![0, 1, 2] bcast_S8x128x1_S8x128x128_0_1_2
      (broadcastInDim S8x128x1 ![0, 1] bcast_S8x128_S8x128x1_0_1 (aBs m c)) := by
    show StableHlo.after hostOps0 (fun b => m (c, b)) (Proc.devRef .tc main_v1) = _
    after_reads_simp
  rw [h]
  refine (broadcastInDim_apply _ _ _ _ (ix3 g i 0 : S8x128x1.Idx) fun a => match a with
    | ⟨0, _⟩ => rfl
    | ⟨1, _⟩ => rfl
    | ⟨2, _⟩ => rfl).trans ?_
  exact broadcastInDim_apply _ _ _ _ (ix2 g i) fun a => match a with
    | ⟨0, _⟩ => rfl
    | ⟨1, _⟩ => rfl

variable (t : Fin cfg0.N)

theorem in_0 (r : Fin 512) (d : Fin 1024) : iblk m c 0 t (ix2 r d) = cols (aZ m c) 0 (ix2 (rw8 t r) d) := by
  unfold iblk
  blk_simp
  unfold cols aZ
  rw [← V_main_arg0 m c]
  refine congrArg (V m c main_arg0) (at2 (a := win0_0.index t 0 * 512) (e := r.val) (b := win0_0.index t 1 * 1024) (f := d.val)
    _ _ _ (by blk_simp) (by blk_simp) ?_ ?_)
  · rw [(idx_row t).1.1]; show 512 * t.val + r.val = _; omega
  · rw [(idx_row t).1.2]; rfl
theorem in_1 (r : Fin 512) (d : Fin 1024) : iblk m c 1 t (ix2 r d) = cols (aZ m c) 1 (ix2 (rw8 t r) d) := by
  unfold iblk
  blk_simp
  unfold cols aZ
  rw [← V_main_arg0 m c]
  refine congrArg (V m c main_arg0) (at2 (a := win0_1.index t 0 * 512) (e := r.val) (b := win0_1.index t 1 * 1024) (f := d.val)
    _ _ _ (by blk_simp) (by blk_simp) ?_ ?_)
  · rw [(idx_row t).2.1.1]; show 512 * t.val + r.val = _; omega
  · rw [(idx_row t).2.1.2]; rfl
theorem in_2 (r : Fin 512) (d : Fin 1024) : iblk m c 2 t (ix2 r d) = cols (aZ m c) 2 (ix2 (rw8 t r) d) := by
  unfold iblk
  blk_simp
  unfold cols aZ
  rw [← V_main_arg0 m c]
  refine congrArg (V m c main_arg0) (at2 (a := win0_2.index t 0 * 512) (e := r.val) (b := win0_2.index t 1 * 1024) (f := d.val)
    _ _ _ (by blk_simp) (by blk_simp) ?_ ?_)
  · rw [(idx_row t).2.2.1.1]; show 512 * t.val + r.val = _; omega
  · rw [(idx_row t).2.2.1.2]; rfl
theorem in_3 (r : Fin 1) (d : Fin 1024) : iblk m c 3 t (ix2 r d) = aLg m c (ix2 r d) := by
  unfold iblk
  blk_simp
  unfold aLg
  rw [← V_main_arg1 m c]
  refine congrArg (V m c main_arg1) (at2 (a := win0_3.index t 0 * 1) (e := r.val) (b := win0_3.index t 1 * 1024) (f := d.val)
    _ _ _ (by blk_simp) (by blk_simp) ?_ ?_)
  · rw [(idx_whole t).1.1]; omega
  · rw [(idx_whole t).1.2]; omega
theorem whole_3 : iblk m c 3 t = aLg m c := by
  funext i; obtain ⟨r, d, rfl⟩ := two i; exact in_3 m c t r d
theorem in_4 (r : Fin 1) (d : Fin 1024) : iblk m c 4 t (ix2 r d) = aLb m c (ix2 r d) := by
  unfold iblk
  blk_simp
  unfold aLb
  rw [← V_main_arg2 m c]
  refine congrArg (V m c main_arg2) (at2 (a := win0_4.index t 0 * 1) (e := r.val) (b := win0_4.index t 1 * 1024) (f := d.val)
    _ _ _ (by blk_simp) (by blk_simp) ?_ ?_)
  · rw [(idx_whole t).2.1.1]; omega
  · rw [(idx_whole t).2.1.2]; omega
theorem whole_4 : iblk m c 4 t = aLb m c := by
  funext i; obtain ⟨r, d, rfl⟩ := two i; exact in_4 m c t r d
theorem in_5 (g : Fin 8) (i e : Fin 128) : iblk m c 5 t (ix3 g i e) = aWs m c (ix3 g i e) := by
  unfold iblk
  blk_simp
  unfold aWs
  rw [← V_main_arg3 m c]
  refine congrArg (V m c main_arg3) (at3 (a := win0_5.index t 0 * 8) (e := g.val) (b := win0_5.index t 1 * 128) (f := i.val)
    (c := win0_5.index t 2 * 128) (g := e.val) _ _ _ _ (by blk_simp) (by blk_simp) (by blk_simp) ?_ ?_ ?_)
  · rw [(idx_whole t).2.2.1.1]; omega
  · rw [(idx_whole t).2.2.1.2.1]; omega
  · rw [(idx_whole t).2.2.1.2.2]; omega
theorem whole_5 : iblk m c 5 t = aWs m c := by
  funext i; obtain ⟨g, r, d, rfl⟩ := three i; exact in_5 m c t g r d
theorem in_6 (g : Fin 8) (i j : Fin 128) : iblk m c 6 t (ix3 g i j) = aBs m c (ix2 g i) := by
  unfold iblk
  blk_simp
  rw [← V_b m c g i j]
  refine congrArg (V m c main_v1) (at3 (a := win0_6.index t 0 * 8) (e := g.val) (b := win0_6.index t 1 * 128) (f := i.val)
    (c := win0_6.index t 2 * 128) (g := j.val) _ _ _ _ (by blk_simp) (by blk_simp) (by blk_simp) ?_ ?_ ?_)
  · rw [(idx_whole t).2.2.2.1]; omega
  · rw [(idx_whole t).2.2.2.2.1]; omega
  · rw [(idx_whole t).2.2.2.2.2]; omega
theorem emb_7 (r : Fin 512) (d : Fin 1024) : (win0_7.blk t).view.emb (ix2 r d) = ix2 (rw8 t r) d := by
  refine at2 (a := win0_7.index t 0 * 512) (e := r.val) (b := win0_7.index t 1 * 1024) (f := d.val) _ _ _ (by blk_simp) (by blk_simp) ?_ ?_
  · rw [(idx_row t).2.2.2.1]; show 512 * t.val + r.val = _; omega
  · rw [(idx_row t).2.2.2.2]; omega

/-- A block's normed values are its rows of the whole's. -/
theorem vn_blk (r : Fin 512) (d : Fin 1024) : vn (n := 512) (iblk m c 1 t) (aLg m c) (aLb m c) r d = vn (n := 4096) (cols (aZ m c) 1) (aLg m c) (aLb m c) (rw8 t r) d := by
  unfold vn
  have h (e : Fin 1024) := in_1 m c t r e
  simp only [h]

/-- What the call leaves. -/
theorem arr : (dats m 0 c).arrAt 7 cfg0.N = branch (aZ m c) (aLg m c) (aLb m c) (aWs m c) (aBs m c) := by
  refine (dats m 0 c).arrAt_eq_of_covers 7 _ (by decide +kernel) fun t hf y => ?_
  obtain ⟨r, d, rfl⟩ := two y
  blk_simp
  rw [after0_7, emb_7, out_eq, whole_3, whole_4, whole_5]
  unfold branch
  rw [mixed_at, mixed_at, in_0, in_2, in_6]
  have e1 : pos (rw8 t r) = pos r := Fin.ext (by show (512 * t.val + r.val) % 128 = r.val % 128; omega)
  have e2 (e : Fin 128) : peer (rw8 t r) e = rw8 t (peer r e) := Fin.ext (by
    have := lt t
    show ((512 * t.val + r.val) / 128 * 128 + e.val) % 4096 = 512 * t.val + (r.val / 128 * 128 + e.val) % 512
    omega)
  rw [e1]
  refine congrArg (cols (aZ m c) 0 (ix2 (rw8 t r) d) * sil (cols (aZ m c) 2 (ix2 (rw8 t r) d)) * ·) (congrArg (· + _) (Finset.sum_congr rfl fun e _ => ?_))
  rw [e2, vn_blk]

end Cert.Trunk.Ba

end
-- ==== Proof.T.BaRef.lean ====
/- The gating branch: what the reference leaves. -/
module

public import proofs.«01_k».proof.Proof.T.Ba

@[expose] public section

set_option maxRecDepth 16384

noncomputable section

namespace Cert.Trunk.Ba

open Idealize.ShloMosaic Idealize.ShloMosaic.Pipeline
open Cert.AttnC Cert.BaRefIdeal Cert.BaRefIdeal.Read

/-- A position in a block, as an index. -/
def at1 (a : Fin 128) : S128.Idx := fun x => match x with | ⟨0, _⟩ => a
/-- The half of its block that a position is in. -/
theorem half_of : ∀ a : Fin 128, val_main_v27 (F := Ideal) (at1 a) = BitVec.ofNat 32 (a.val / 64) := by decide +kernel
theorem half_le : ∀ p q : Fin 2, IntOp.cmpi .sge (BitVec.ofNat 32 p.val) (BitVec.ofNat 32 q.val) = BitVec.ofBool (decide (q.val ≤ p.val)) := by decide +kernel
theorem r_mask (i e : Fin 128) : val_main_v32 (F := Ideal) (ix2 i e) = bit i e := by
  rw [val_main_v32_apply, val_main_v30_apply, val_main_v28_apply, val_main_v31_apply, val_main_v29_apply]
  have hi : idx_main_v28 (idx_main_v30 (ix2 i e)) = at1 i := funext fun a => match a with | ⟨0, _⟩ => rfl
  have he : idx_main_v29 (idx_main_v31 (ix2 i e)) = at1 e := funext fun a => match a with | ⟨0, _⟩ => rfl
  rw [hi, he, half_of, half_of]
  refine (half_le ⟨i.val / 64, by omega⟩ ⟨e.val / 64, by omega⟩).trans ?_
  unfold bit
  refine congrArg BitVec.ofBool (decide_eq_decide.mpr ?_)
  show e.val / 64 ≤ i.val / 64 ↔ _
  omega

variable (z : Arr 4096 10240) (lg lb : Arr 1 1024) (ws : Spatial) (bs : Arr 8 128) (s : Fin 4096) (d : Fin 1024)

theorem r_w (g : Fin 8) (i e : Fin 128) : val_main_v35 (F := Ideal) ws (ix3 g i e) = seen ws g i e := by
  rw [val_main_v35_apply, val_main_call1_v0_apply, val_main_v33_apply, val_main_v34_apply]
  have h : idx_main_v33 (idx_main_call1_v0 (ix3 g i e)) = ix2 i e := same2 rfl rfl
  rw [h, r_mask]
  rfl
theorem r_u : val_main_v1 (F := Ideal) z (ix2 s d) = cols z 0 (ix2 s d) := by
  rw [val_main_v1_apply, val_main_v0_apply]
  exact congrArg z (same2 rfl (by show d.val = 1024 * 0 + d.val; omega))
theorem r_v : val_main_v2 (F := Ideal) z (ix2 s d) = cols z 1 (ix2 s d) := by
  rw [val_main_v2_apply, val_main_v0_apply]
  exact congrArg z (same2 rfl rfl)
theorem r_g : val_main_v44 (F := Ideal) z (ix2 s d) = cols z 2 (ix2 s d) := by
  rw [val_main_v44_apply, val_main_v0_apply]
  exact congrArg z (same2 rfl rfl)
theorem r_silu : val_main_v45 (F := Ideal) z (ix2 s d) = sil (cols z 2 (ix2 s d)) := by
  unfold sil
  rw [val_main_v45_apply, val_main_call2_v5_apply, val_main_call2_v4_apply, val_main_call2_cst_0_apply, val_main_call2_v3_apply, val_main_call2_v2_apply,
    val_main_call2_cst_apply, val_main_call2_v1_apply, val_main_call2_v0_apply, r_g, sg_sigma]
  exact congrArg (cols z 2 (ix2 s d) * ·) (congrArg₂ Ideal.div Ideal.ofBits_one_f32 (congrArg₂ (· + ·) Ideal.ofBits_one_f32 rfl))
theorem r_mean (i : S4096x1.Idx) (h : (i 0).val = s.val) : val_main_v6 (F := Ideal) z i = mean fun k => cols z 1 (ix2 s k) := by
  rw [val_main_v6_apply, val_main_v5_apply, val_main_cst_0_apply, val_main_v4_apply, val_main_v3_apply]
  refine congrArg₂ Ideal.div ((congrArg (· + _) Ideal.ofBits_zero_f32).trans ((zero_add _).trans ?_)) rfl
  refine Finset.sum_congr rfl fun k _ => ?_
  refine Eq.trans ?_ (r_v z s k)
  exact congrArg (val_main_v2 (F := Ideal) z) (same2 h rfl)
/-- An element's distance from its row's mean. -/
def off (k : Fin 1024) : EReal := cols z 1 (ix2 s k) - mean fun k => cols z 1 (ix2 s k)
theorem r_off : val_main_v8 (F := Ideal) z (ix2 s d) = off z s d := by
  rw [val_main_v8_apply, val_main_v7_apply, r_mean z s _ rfl, r_v]
  rfl
theorem r_off' : val_main_v15 (F := Ideal) z (ix2 s d) = off z s d := by
  rw [val_main_v15_apply, val_main_v14_apply, r_mean z s _ rfl, r_v]
  rfl
theorem r_rs (i : S4096x1.Idx) (h : (i 0).val = s.val) : val_main_v18 (F := Ideal) z i = rs (off z s) := by
  rw [val_main_v18_apply, val_main_v17_apply, val_main_v16_apply, val_main_cst_3_apply, val_main_v13_apply, val_main_v12_apply, val_main_cst_2_apply,
    val_main_v11_apply, val_main_v10_apply]
  refine congrArg Ideal.rsqrt (congrArg₂ (· + ·) (congrArg₂ Ideal.div ((congrArg (· + _) Ideal.ofBits_zero_f32).trans ((zero_add _).trans ?_)) rfl) rfl)
  refine Finset.sum_congr rfl fun k _ => ?_
  rw [val_main_v9_apply]
  have e : idx_main_v10 (idx_main_v11 i) k = ix2 s k := same2 h rfl
  rw [e, r_off]
  rfl
theorem r_vn : val_main_v24 (F := Ideal) z lg lb (ix2 s d) = vn (n := 4096) (cols z 1) lg lb s d := by
  rw [val_main_v24_apply, val_main_v23_apply, val_main_v22_apply, val_main_v21_apply, val_main_v20_apply, val_main_v19_apply, r_rs z s _ rfl, r_off']
  exact congrArg₂ (· + ·) (congrArg (off z s d * rs (off z s) * ·) (congrArg lg (same2 rfl rfl))) (congrArg lb (same2 rfl rfl))

/-- The values mixed over their block. -/
theorem r_mix : val_main_v42 (F := Ideal) z lg lb ws bs (ix2 s d)
    = ∑ e, seen ws (grp d) (pos s) e * vn (n := 4096) (cols z 1) lg lb (peer s e) d + bs (ix2 (grp d) (pos s)) := by
  have h1 : (s.val * 1024 + d.val) / 1024 % 128 = s.val % 128 := by omega
  have h2 : (s.val * 1024 + d.val) / 128 % 8 = d.val / 128 := by omega
  have h3 : (s.val * 1024 + d.val) % 128 = d.val % 128 := by omega
  have h0 : (s.val * 1024 + d.val) / 131072 = s.val / 128 := by omega
  rw [val_main_v42_apply, val_main_v41_apply, val_main_v40_apply, val_main_v39_apply, val_main_v38_apply, val_main_v37_apply, val_main_v36_apply]
  refine congrArg₂ (· + ·) (Finset.sum_congr rfl fun e _ => ?_) (congrArg bs (same2 h2 h1))
  rw [val_main_v25_apply]
  refine (mul_comm _ _).trans (congrArg₂ (· * ·) ?_ ?_)
  · rw [← r_w]
    exact congrArg (val_main_v35 (F := Ideal) ws) (same3 h2 h1 rfl)
  · rw [← r_vn]
    refine congrArg (val_main_v24 (F := Ideal) z lg lb) (same2 ?_ ?_)
    · show ((((s.val * 1024 + d.val) / 131072 * 128 + e.val) * 8 + (s.val * 1024 + d.val) / 128 % 8) * 128 + (s.val * 1024 + d.val) % 128) / 1024
        = (s.val / 128 * 128 + e.val) % 4096
      rw [h0, h2, h3]; omega
    · show ((((s.val * 1024 + d.val) / 131072 * 128 + e.val) * 8 + (s.val * 1024 + d.val) / 128 % 8) * 128 + (s.val * 1024 + d.val) % 128) % 1024 = d.val
      rw [h0, h2, h3]; omega

/-- What the reference leaves. -/
theorem ref : val_main_v47 (F := Ideal) z lg lb ws bs = branch z lg lb ws bs := by
  funext i
  obtain ⟨s, d, rfl⟩ := two i
  unfold branch
  rw [mixed_at, val_main_v47_apply, val_main_v46_apply, val_main_v43_apply, r_u, r_silu, r_mix]
  exact mul_right_comm _ _ _

end Cert.Trunk.Ba

end
-- ==== Proof.T.Af.lean ====
/- One AdamW step of the packed small weights. -/
module

public import proofs.«01_k».proof.Proof.T.Norm
public import proofs.«01_k».proof.Proof.Gen.AfIdeal.Frame
public import proofs.«01_k».proof.Proof.Gen.AfRefIdeal.Read
public import Idealize.ShloMosaic.Lib.Pipeline.ValueKit

@[expose] public section

set_option maxRecDepth 16384

noncomputable section

namespace Cert.Trunk.Af

open Idealize.ShloMosaic Idealize.ShloMosaic.TcCoe Idealize.ShloMosaic.Tactic Idealize.SL.Sem Idealize.ShloMosaic.Pipeline
open Cert.AfIdeal Cert.AfIdeal.Gen Cert.AttnC Cert.AfRefIdeal.Read

/-- The moments after the step, from those before it and the gradient, and what is added to the weight. -/
def first {n : Nat} (m g : Arr n 128) : Arr n 128 := fun i => Ideal.ofBits .f32 0x3F666666#32 * m i + Ideal.ofBits .f32 0x3DCCCCCD#32 * g i
def second {n : Nat} (v g : Arr n 128) : Arr n 128 := fun i => Ideal.ofBits .f32 0x3F7FBE77#32 * v i + Ideal.ofBits .f32 0x3A83126F#32 * (g i * g i)
def delta {n : Nat} (w m v g : Arr n 128) : Arr n 128 := fun i => Ideal.ofBits .f32 0xBA83126F#32 *
  (Ideal.div (Ideal.div (first m g i) (Ideal.ofBits .f32 0x3F26BD02#32))
    (Ideal.sqrt (Ideal.div (second v g i) (Ideal.ofBits .f32 0x3C231ACC#32)) + Ideal.ofBits .f32 0x322BCC77#32)
  + Ideal.ofBits .f32 0x3C23D70A#32 * w i)

theorem out_delta (w m v g) : out0_4 (F := Ideal) w m v g = delta (n := 2560) w m v g := by
  funext i
  obtain ⟨s, d, rfl⟩ := two i
  unfold out0_4
  refine (congrFun (View.canon_unit_zero (S := S2560x128) zero2 _ _) _).trans ?_
  simp only [View.ld_unit_zero (S := S2560x128) zero2]
  pointwise [k0_pay3, k0_pay1, k0_pay2]
  rfl
theorem out_first (w m v g) : out0_5 (F := Ideal) w m v g = first (n := 2560) m g := by
  funext i
  obtain ⟨s, d, rfl⟩ := two i
  unfold out0_5
  refine (congrFun (View.canon_unit_zero (S := S2560x128) zero2 _ _) _).trans ?_
  simp only [View.ld_unit_zero (S := S2560x128) zero2]
  pointwise [k0_pay1]
  rfl
theorem out_second (w m v g) : out0_6 (F := Ideal) w m v g = second (n := 2560) v g := by
  funext i
  obtain ⟨s, d, rfl⟩ := two i
  unfold out0_6
  refine (congrFun (View.canon_unit_zero (S := S2560x128) zero2 _ _) _).trans ?_
  simp only [View.ld_unit_zero (S := S2560x128) zero2]
  pointwise [k0_pay2]
  rfl

theorem lt (t : Fin cfg0.N) : t.val < 5 := N_0 ▸ t.isLt
/-- The row that row `r` of point `t`'s block is. -/
def rw5 (t : Fin cfg0.N) (r : Fin 2560) : Fin 12800 := ⟨2560 * t.val + r.val, by have := lt t; omega⟩
theorem idx_in : ∀ t, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) := by decide +kernel
theorem idx_out : ∀ t, (win0_4.index t 0 = t.val ∧ win0_4.index t 1 = 0) ∧ (win0_5.index t 0 = t.val ∧ win0_5.index t 1 = 0)
    ∧ (win0_6.index t 0 = t.val ∧ win0_6.index t 1 = 0) := by decide +kernel

variable (m : (ℓ : Loc nD τ sig) → Buf (Elt Ideal) ℓ) (c : Dev nD)

abbrev aW : Arr 12800 128 := m ((c : Thread nD τ).loc main_arg0)
abbrev aM : Arr 12800 128 := m ((c : Thread nD τ).loc main_arg1)
abbrev aV : Arr 12800 128 := m ((c : Thread nD τ).loc main_arg2)
abbrev aG : Arr 12800 128 := m ((c : Thread nD τ).loc main_arg3)

variable (t : Fin cfg0.N) (r : Fin 2560) (d : Fin 128)

theorem in_0 : iblk m c 0 t (ix2 r d) = aW m c (ix2 (rw5 t r) d) := by
  unfold iblk
  blk_simp
  unfold aW
  rw [← V_main_arg0 m c]
  refine congrArg (V m c main_arg0) (at2 (a := win0_0.index t 0 * 2560) (e := r.val) (b := win0_0.index t 1 * 128) (f := d.val)
    _ _ _ (by blk_simp) (by blk_simp) ?_ ?_)
  · rw [(idx_in t).1.1]; show 2560 * t.val + r.val = _; omega
  · rw [(idx_in t).1.2]; omega
theorem in_1 : iblk m c 1 t (ix2 r d) = aM m c (ix2 (rw5 t r) d) := by
  unfold iblk
  blk_simp
  unfold aM
  rw [← V_main_arg1 m c]
  refine congrArg (V m c main_arg1) (at2 (a := win0_1.index t 0 * 2560) (e := r.val) (b := win0_1.index t 1 * 128) (f := d.val)
    _ _ _ (by blk_simp) (by blk_simp) ?_ ?_)
  · rw [(idx_in t).2.1.1]; show 2560 * t.val + r.val = _; omega
  · rw [(idx_in t).2.1.2]; omega
theorem in_2 : iblk m c 2 t (ix2 r d) = aV m c (ix2 (rw5 t r) d) := by
  unfold iblk
  blk_simp
  unfold aV
  rw [← V_main_arg2 m c]
  refine congrArg (V m c main_arg2) (at2 (a := win0_2.index t 0 * 2560) (e := r.val) (b := win0_2.index t 1 * 128) (f := d.val)
    _ _ _ (by blk_simp) (by blk_simp) ?_ ?_)
  · rw [(idx_in t).2.2.1.1]; show 2560 * t.val + r.val = _; omega
  · rw [(idx_in t).2.2.1.2]; omega
theorem in_3 : iblk m c 3 t (ix2 r d) = aG m c (ix2 (rw5 t r) d) := by
  unfold iblk
  blk_simp
  unfold aG
  rw [← V_main_arg3 m c]
  refine congrArg (V m c main_arg3) (at2 (a := win0_3.index t 0 * 2560) (e := r.val) (b := win0_3.index t 1 * 128) (f := d.val)
    _ _ _ (by blk_simp) (by blk_simp) ?_ ?_)
  · rw [(idx_in t).2.2.2.1]; show 2560 * t.val + r.val = _; omega
  · rw [(idx_in t).2.2.2.2]; omega
theorem emb_4 : (win0_4.blk t).view.emb (ix2 r d) = ix2 (rw5 t r) d := by
  refine at2 (a := win0_4.index t 0 * 2560) (e := r.val) (b := win0_4.index t 1 * 128) (f := d.val) _ _ _ (by blk_simp) (by blk_simp) ?_ ?_
  · rw [(idx_out t).1.1]; show 2560 * t.val + r.val = _; omega
  · rw [(idx_out t).1.2]; omega
theorem emb_5 : (win0_5.blk t).view.emb (ix2 r d) = ix2 (rw5 t r) d := by
  refine at2 (a := win0_5.index t 0 * 2560) (e := r.val) (b := win0_5.index t 1 * 128) (f := d.val) _ _ _ (by blk_simp) (by blk_simp) ?_ ?_
  · rw [(idx_out t).2.1.1]; show 2560 * t.val + r.val = _; omega
  · rw [(idx_out t).2.1.2]; omega
theorem emb_6 : (win0_6.blk t).view.emb (ix2 r d) = ix2 (rw5 t r) d := by
  refine at2 (a := win0_6.index t 0 * 2560) (e := r.val) (b := win0_6.index t 1 * 128) (f := d.val) _ _ _ (by blk_simp) (by blk_simp) ?_ ?_
  · rw [(idx_out t).2.2.1]; show 2560 * t.val + r.val = _; omega
  · rw [(idx_out t).2.2.2]; omega
omit t r d in
/-- What the call leaves. -/
theorem arr_delta : (dats m 0 c).arrAt 4 cfg0.N = delta (aW m c) (aM m c) (aV m c) (aG m c) := by
  refine (dats m 0 c).arrAt_eq_of_covers 4 _ (by decide +kernel) fun t hf y => ?_
  obtain ⟨r, d, rfl⟩ := two y
  blk_simp
  rw [after0_4, out_delta, emb_4]
  unfold delta first second
  rw [in_0, in_1, in_2, in_3]
omit t r d in
theorem arr_first : (dats m 0 c).arrAt 5 cfg0.N = first (aM m c) (aG m c) := by
  refine (dats m 0 c).arrAt_eq_of_covers 5 _ (by decide +kernel) fun t hf y => ?_
  obtain ⟨r, d, rfl⟩ := two y
  blk_simp
  rw [after0_5, out_first, emb_5]
  unfold first
  rw [in_1, in_3]
omit t r d in
theorem arr_second : (dats m 0 c).arrAt 6 cfg0.N = second (aV m c) (aG m c) := by
  refine (dats m 0 c).arrAt_eq_of_covers 6 _ (by decide +kernel) fun t hf y => ?_
  obtain ⟨r, d, rfl⟩ := two y
  blk_simp
  rw [after0_6, out_second, emb_6]
  unfold second
  rw [in_2, in_3]

/-- What the reference leaves. -/
theorem ref_first (m g : Arr 12800 128) : val_main_v4 (F := Ideal) m g = first m g := by
  funext i
  rw [val_main_v4_apply, val_main_v3_apply, val_main_v2_apply, val_main_v1_apply, val_main_v0_apply]
  rfl
theorem ref_second (v g : Arr 12800 128) : val_main_v10 (F := Ideal) v g = second v g := by
  funext i
  rw [val_main_v10_apply, val_main_v9_apply, val_main_v8_apply, val_main_v7_apply, val_main_v6_apply, val_main_v5_apply]
  rfl
theorem ref_delta (w m v g : Arr 12800 128) : val_main_v23 (F := Ideal) w m v g = delta w m v g := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, ref_first, ref_second]
  rfl

end Cert.Trunk.Af

end
-- ==== Proof.T.Claims.lean ====
/- The trunk's calls and their references leave the same arrays. -/
module

public import proofs.«01_k».proof.Defs
public import proofs.«01_k».proof.Proof.T.Tn
public import proofs.«01_k».proof.Proof.T.Dw
public import proofs.«01_k».proof.Proof.T.DhRef
public import proofs.«01_k».proof.Proof.T.MoRef
public import proofs.«01_k».proof.Proof.T.ObRef
public import proofs.«01_k».proof.Proof.T.In
public import proofs.«01_k».proof.Proof.T.Mb
public import proofs.«01_k».proof.Proof.T.Lh
public import proofs.«01_k».proof.Proof.T.BaRef
public import proofs.«01_k».proof.Proof.T.Af
public import proofs.«01_k».proof.Proof.Gen.TnRefIdeal.Run
public import proofs.«01_k».proof.Proof.Gen.DwRefIdeal.Run
public import proofs.«01_k».proof.Proof.Gen.DhRefIdeal.Run
public import proofs.«01_k».proof.Proof.Gen.MoRefIdeal.Run
public import proofs.«01_k».proof.Proof.Gen.InRefIdeal.Run
public import proofs.«01_k».proof.Proof.Gen.ObRefIdeal.Run
public import proofs.«01_k».proof.Proof.Gen.LhRefIdeal.Run
public import proofs.«01_k».proof.Proof.Gen.MbRefIdeal.Run
public import proofs.«01_k».proof.Proof.Gen.KvRefIdeal.Run
public import proofs.«01_k».proof.Proof.Gen.AfRefIdeal.Run
public import proofs.«01_k».proof.Proof.Gen.BaRefIdeal.Run

@[expose] public section

noncomputable section

namespace Cert.Trunk

open Idealize.ShloMosaic Idealize.ShloMosaic.TcCoe Idealize.SL.Sem Cert.AttnC

namespace Tn
open Cert.TnIdeal Cert.TnIdeal.Gen

attribute [local instance] Cert.TnIdeal.Gen.facts Cert.TnRefIdeal.Gen.facts

theorem algebraic : Cert.algebraic_TnIdeal_TnRefIdeal := by
  intro m g m' g' _ ha
  refine ⟨fun c => dwp (m ((c : Thread nD τ).loc main_arg0)) (m ((c : Thread nD τ).loc main_arg1)), ?_, ?_⟩
  · refine (θ_run Cert.TnIdeal.defs _ _).mono (fun _ h c => ?_) (Cert.TnIdeal.Value.run_blocks m g)
    obtain ⟨h, hargs⟩ := h c
    exact ⟨h.trans (arr m c), hargs⟩
  · refine (θ_run Cert.TnRefIdeal.defs _ _).mono (fun _ h c => ?_) (Cert.TnRefIdeal.Value.run m' g')
    obtain ⟨h, hargs⟩ := h c
    obtain ⟨a0, a1⟩ := ha c
    refine ⟨?_, hargs⟩
    rw [h, Cert.TnRefIdeal.Read.val_main_v6_eq, a0, a1]
    exact ref _ _

end Tn

namespace Dw
open Cert.DwIdeal Cert.DwIdeal.Gen

attribute [local instance] Cert.DwIdeal.Gen.facts Cert.DwRefIdeal.Gen.facts

theorem algebraic : Cert.algebraic_DwIdeal_DwRefIdeal := by
  intro m g m' g' _ ha
  refine ⟨fun c => dw (Cert.DwRefIdeal.Read.val_main_v11 (F := Ideal) (m ((c : Thread nD τ).loc main_arg0)) (m ((c : Thread nD τ).loc main_arg1)))
    (m ((c : Thread nD τ).loc main_arg2)), ?_, ?_⟩
  · refine (θ_run Cert.DwIdeal.defs _ _).mono (fun _ h c => ?_) (Cert.DwIdeal.Value.run_blocks m g)
    obtain ⟨h, hargs⟩ := h c
    exact ⟨h.trans (arr m c), hargs⟩
  · refine (θ_run Cert.DwRefIdeal.defs _ _).mono (fun _ h c => ?_) (Cert.DwRefIdeal.Value.run m' g')
    obtain ⟨h, hargs⟩ := h c
    obtain ⟨a0, a1, a2⟩ := ha c
    refine ⟨?_, hargs⟩
    rw [h, Cert.DwRefIdeal.Read.val_main_v38_eq, a0, a1, a2]
    exact ref _ _ _

end Dw

namespace Dh
open Cert.DhIdeal Cert.DhIdeal.Gen

attribute [local instance] Cert.DhIdeal.Gen.facts Cert.DhRefIdeal.Gen.facts

theorem algebraic : Cert.algebraic_DhIdeal_DhRefIdeal := by
  intro m g m' g' _ ha
  refine ⟨fun c => dx (aDz m c) (aW m c) (aX m c) (aN m c) (aG m c), fun c => dg (aDz m c) (aW m c) (aX m c), ?_, ?_⟩
  · refine (θ_run Cert.DhIdeal.defs _ _).mono (fun _ h c => ?_)
      (θ_run_and (Cert.DhIdeal.Gen.run_main m g) (Cert.DhIdeal.Gen.unchanged m g))
    exact ⟨((h.1 c).1 5).trans (arr5 m c), ((h.1 c).1 6).trans (arr6 m c), h.2 c⟩
  · refine (θ_run Cert.DhRefIdeal.defs _ _).mono (fun _ h c => ?_) (Cert.DhRefIdeal.Value.run m' g')
    obtain ⟨h59, h42, hargs⟩ := h c
    obtain ⟨a0, a1, a2, a3, a4⟩ := ha c
    refine ⟨?_, ?_, hargs⟩
    · rw [h59, Cert.DhRefIdeal.Read.val_main_v59_eq, a0, a1, a2, a3, a4]
      exact ref_dx _ _ _ _ _
    · rw [h42, Cert.DhRefIdeal.Read.val_main_v42_eq, a0, a1, a2]
      exact ref_dg _ _ _

end Dh

namespace In
open Cert.InIdeal Cert.InIdeal.Gen

attribute [local instance] Cert.InIdeal.Gen.facts Cert.InRefIdeal.Gen.facts

theorem algebraic : Cert.algebraic_InIdeal_InRefIdeal := by
  intro m g m' g' _ ha
  refine ⟨fun c => zs (aX m c) (aG m c) (aW m c), fun c => hs (aX m c) (aG m c), ?_, ?_⟩
  · refine (θ_run Cert.InIdeal.defs _ _).mono (fun _ h c => ?_) (θ_run_and (run_main m g) (unchanged m g))
    exact ⟨((h.1 c).1 3).trans (arr m c), ((h.1 c).1 4).trans (arr_h m c), h.2 c⟩
  · refine (θ_run Cert.InRefIdeal.defs _ _).mono (fun _ h c => ?_) (Cert.InRefIdeal.Value.run m' g')
    obtain ⟨hz, hh, hargs⟩ := h c
    obtain ⟨a0, a1, a2⟩ := ha c
    refine ⟨?_, ?_, hargs⟩
    · rw [hz, Cert.InRefIdeal.Read.val_main_v14_eq, a0, a1, a2]
      exact ref _ _ _
    · rw [hh, Cert.InRefIdeal.Read.val_main_v27_eq, a0, a1]
      exact ref_h _ _

end In

namespace Mo
open Cert.MoIdeal Cert.MoIdeal.Gen

attribute [local instance] Cert.MoIdeal.Gen.facts Cert.MoRefIdeal.Gen.facts

theorem algebraic : Cert.algebraic_MoIdeal_MoRefIdeal := by
  intro m g m' g' _ ha
  refine ⟨fun c => tall (prod (aYa m c) (aWp m c) 0), fun c => tall (prod (aYb m c) (aWp m c) 1), fun c => tall (prod (aYc m c) (aWp m c) 2),
    fun c => quad (aYa m c) (aYb m c) (aYc m c) (mg m c), fun c => tall (prod (mg m c) (aWp m c) 3),
    fun c => tall (next (mg m c) (aX m c) (aWp m c) (aPg m c)), ?_, ?_⟩
  · refine (θ_run Cert.MoIdeal.defs _ _).mono (fun _ h c => ?_) (Cert.MoIdeal.Value.run_blocks m g)
    obtain ⟨h0, h1, h2, h3, h4, h5, hargs⟩ := h c
    exact ⟨h0.trans (arr9 m c), h1.trans (arr10 m c), h2.trans (arr11 m c), h3.trans (arr12 m c), h4.trans (arr13 m c), h5.trans (arr14 m c), hargs⟩
  · refine (θ_run Cert.MoRefIdeal.defs _ _).mono (fun _ h c => ?_) (Cert.MoRefIdeal.Value.run m' g')
    obtain ⟨h36, h37, h38, h44, h45, h58, hargs⟩ := h c
    obtain ⟨a0, a1, a2, a3, a4, a5, a6⟩ := ha c
    refine ⟨?_, ?_, ?_, ?_, ?_, ?_, hargs⟩
    · rw [h36, Cert.MoRefIdeal.Read.val_main_v36_eq, a0, a4]; exact ref36 _ _
    · rw [h37, Cert.MoRefIdeal.Read.val_main_v37_eq, a1, a4]; exact ref37 _ _
    · rw [h38, Cert.MoRefIdeal.Read.val_main_v38_eq, a2, a4]; exact ref38 _ _
    · rw [h44, Cert.MoRefIdeal.Read.val_main_v44_eq, a0, a1, a2, a3, a4]; exact ref44 _ _ _ _ _
    · rw [h45, Cert.MoRefIdeal.Read.val_main_v45_eq, a0, a1, a2, a3, a4]; exact ref45 _ _ _ _ _
    · rw [h58, Cert.MoRefIdeal.Read.val_main_v58_eq, a0, a1, a2, a3, a4, a5, a6]; exact ref58 _ _ _ _ _ _ _

end Mo

namespace Ob
open Cert.ObIdeal Cert.ObIdeal.Gen
open Cert.Trunk.Mo (tall)

attribute [local instance] Cert.ObIdeal.Gen.facts Cert.ObRefIdeal.Gen.facts

theorem algebraic : Cert.algebraic_ObIdeal_ObRefIdeal := by
  intro m g m' g' _ ha
  refine ⟨fun c => dp4R (aYa m c) (aYb m c) (aYc m c) (aZ m c) (aWp m c) (aPg m c) (aDy m c), fun c => tall (prodT (dbR (aYa m c) (aYb m c) (aYc m c) (aZ m c) (aWp m c) (aPg m c) (aDy m c) 0) (aWp m c) 0),
    fun c => tall (prodT (dbR (aYa m c) (aYb m c) (aYc m c) (aZ m c) (aWp m c) (aPg m c) (aDy m c) 1) (aWp m c) 1), fun c => tall (prodT (dbR (aYa m c) (aYb m c) (aYc m c) (aZ m c) (aWp m c) (aPg m c) (aDy m c) 2) (aWp m c) 2),
    fun c => dzR (aYa m c) (aYb m c) (aYc m c) (aZ m c) (aWp m c) (aPg m c) (aDy m c), fun c => dpgR (aYa m c) (aYb m c) (aYc m c) (aZ m c) (aWp m c) (aDy m c), ?_, ?_⟩
  · refine (θ_run Cert.ObIdeal.defs _ _).mono (fun _ h c => ?_) (θ_run_and (run_main m g) (unchanged m g))
    exact ⟨((h.1 c).1 10).trans (arr10 m c), ((h.1 c).1 11).trans (arr11 m c), ((h.1 c).1 12).trans (arr12 m c),
      ((h.1 c).1 13).trans (arr13 m c), ((h.1 c).2 main_v41 (by decide)).trans (dz m c), ((h.1 c).1 15).trans (arr15 m c), h.2 c⟩
  · refine (θ_run Cert.ObRefIdeal.defs _ _).mono (fun _ h c => ?_) (Cert.ObRefIdeal.Value.run m' g')
    obtain ⟨h102, h104, h106, h108, h109, h56, hargs⟩ := h c
    obtain ⟨a0, a1, a2, a3, a4, a5, a6⟩ := ha c
    refine ⟨?_, ?_, ?_, ?_, ?_, ?_, hargs⟩
    · refine (h102.trans (Cert.ObRefIdeal.Read.val_main_v102_eq _)).trans ((ref102 _ _ _ _ _ _ _).trans ?_)
      unfold aYa aYb aYc aZ aWp aPg aDy
      dsimp only
      rw [← a0, ← a1, ← a2, ← a3, ← a4, ← a5, ← a6]
    · refine (h104.trans (Cert.ObRefIdeal.Read.val_main_v104_eq _)).trans ((ref104 _ _ _ _ _ _ _).trans ?_)
      unfold aYa aYb aYc aZ aWp aPg aDy
      dsimp only
      rw [← a0, ← a1, ← a2, ← a3, ← a4, ← a5, ← a6]
    · refine (h106.trans (Cert.ObRefIdeal.Read.val_main_v106_eq _)).trans ((ref106 _ _ _ _ _ _ _).trans ?_)
      unfold aYa aYb aYc aZ aWp aPg aDy
      dsimp only
      rw [← a0, ← a1, ← a2, ← a3, ← a4, ← a5, ← a6]
    · refine (h108.trans (Cert.ObRefIdeal.Read.val_main_v108_eq _)).trans ((ref108 _ _ _ _ _ _ _).trans ?_)
      unfold aYa aYb aYc aZ aWp aPg aDy
      dsimp only
      rw [← a0, ← a1, ← a2, ← a3, ← a4, ← a5, ← a6]
    · refine (h109.trans (Cert.ObRefIdeal.Read.val_main_v109_eq _)).trans ((ref109 _ _ _ _ _ _ _).trans ?_)
      unfold aYa aYb aYc aZ aWp aPg aDy
      dsimp only
      rw [← a0, ← a1, ← a2, ← a3, ← a4, ← a5, ← a6]
    · refine (h56.trans (Cert.ObRefIdeal.Read.val_main_v56_eq _)).trans ((ref56 _ _ _ _ _ _).trans ?_)
      unfold aYa aYb aYc aZ aWp aDy
      dsimp only
      rw [← a0, ← a1, ← a2, ← a3, ← a4, ← a6]

end Ob

namespace Kv
open Cert.KvIdeal Cert.KvIdeal.Gen

attribute [local instance] Cert.KvIdeal.Gen.facts Cert.KvRefIdeal.Gen.facts

theorem algebraic : Cert.algebraic_KvIdeal_KvRefIdeal := by
  intro m g m' g' _ ha
  refine ⟨fun c => kvs (aX m c) (aG m c) (aW m c), ?_, ?_⟩
  · refine (θ_run Cert.KvIdeal.defs _ _).mono (fun _ h c => ?_) (θ_run_and (run_main m g) (unchanged m g))
    exact ⟨((h.1 c).1 3).trans (arr m c), h.2 c⟩
  · refine (θ_run Cert.KvRefIdeal.defs _ _).mono (fun _ h c => ?_) (Cert.KvRefIdeal.Value.run m' g')
    obtain ⟨h14, hargs⟩ := h c
    obtain ⟨a0, a1, a2⟩ := ha c
    refine ⟨?_, hargs⟩
    · refine (h14.trans (Cert.KvRefIdeal.Read.val_main_v14_eq _ _ _)).trans ((ref _ _ _).trans ?_)
      unfold aX aG aW
      dsimp only
      rw [← a0, ← a1, ← a2]

end Kv

namespace Mb
open Cert.MbIdeal Cert.MbIdeal.Gen

attribute [local instance] Cert.MbIdeal.Gen.facts Cert.MbRefIdeal.Gen.facts

theorem algebraic : Cert.algebraic_MbIdeal_MbRefIdeal := by
  intro m g m' g' _ ha
  refine ⟨fun c => dwR (aX m c) (aG m c) (aK m c),
    fun c => dgR (aX m c) (aW m c) (aK m c) (aA m c), ?_, ?_⟩
  · refine (θ_run Cert.MbIdeal.defs _ _).mono (fun _ h c => ?_) (θ_run_and (run_main m g) (unchanged m g))
    exact ⟨((h.1 c).1 5).trans (arr_w m c), ((h.1 c).1 6).trans (arr_g m c), h.2 c⟩
  · refine (θ_run Cert.MbRefIdeal.defs _ _).mono (fun _ h c => ?_) (Cert.MbRefIdeal.Value.run m' g')
    obtain ⟨h20, h21, hargs⟩ := h c
    obtain ⟨a0, a1, a2, a3, a4⟩ := ha c
    refine ⟨?_, ?_, hargs⟩
    · refine (h20.trans (Cert.MbRefIdeal.Read.val_main_v20_eq _ _ _)).trans ((ref_w _ _ _).trans ?_)
      unfold aX aG aK
      dsimp only
      rw [← a0, ← a1, ← a3]
    · refine (h21.trans (Cert.MbRefIdeal.Read.val_main_v21_eq _ _ _ _)).trans ((ref_g _ _ _ _).trans ?_)
      unfold aX aW aK aA
      dsimp only
      rw [← a0, ← a2, ← a3, ← a4]

end Mb

namespace Lh
open Cert.LhIdeal Cert.LhIdeal.Gen

attribute [local instance] Cert.LhIdeal.Gen.facts Cert.LhRefIdeal.Gen.facts

theorem algebraic : Cert.algebraic_LhIdeal_LhRefIdeal := by
  intro m g m' g' _ ha
  refine ⟨fun c => lossR (aY m c) (aT m c),
    fun c => dyR (aY m c) (aT m c), ?_, ?_⟩
  · refine (θ_run Cert.LhIdeal.defs _ _).mono (fun _ h c => ?_) (θ_run_and (run_main m g) (unchanged m g))
    exact ⟨((h.1 c).1 2).trans (arr_loss m c), ((h.1 c).1 3).trans (arr_dy m c), h.2 c⟩
  · refine (θ_run Cert.LhRefIdeal.defs _ _).mono (fun _ h c => ?_) (Cert.LhRefIdeal.Value.run m' g')
    obtain ⟨h9, h15, hargs⟩ := h c
    obtain ⟨a0, a1⟩ := ha c
    refine ⟨?_, ?_, hargs⟩
    · refine (h9.trans (Cert.LhRefIdeal.Read.val_main_v9_eq _ _)).trans ((ref_loss _ _).trans ?_)
      unfold aY aT
      dsimp only
      rw [← a0, ← a1]
    · refine (h15.trans (Cert.LhRefIdeal.Read.val_main_v15_eq _ _)).trans ((ref_dy _ _).trans ?_)
      unfold aY aT
      dsimp only
      rw [← a0, ← a1]

end Lh

namespace Ba
open Cert.BaIdeal Cert.BaIdeal.Gen

attribute [local instance] Cert.BaIdeal.Gen.facts Cert.BaRefIdeal.Gen.facts

theorem algebraic : Cert.algebraic_BaIdeal_BaRefIdeal := by
  intro m g m' g' _ ha
  refine ⟨fun c => branch (aZ m c) (aLg m c) (aLb m c) (aWs m c) (aBs m c), ?_, ?_⟩
  · refine (θ_run Cert.BaIdeal.defs _ _).mono (fun _ h c => ?_) (θ_run_and (run_main m g) (unchanged m g))
    exact ⟨((h.1 c).1 7).trans (arr m c), h.2 c⟩
  · refine (θ_run Cert.BaRefIdeal.defs _ _).mono (fun _ h c => ?_) (Cert.BaRefIdeal.Value.run m' g')
    obtain ⟨h47, hargs⟩ := h c
    obtain ⟨a0, a1, a2, a3, a4⟩ := ha c
    refine ⟨?_, hargs⟩
    · refine (h47.trans (Cert.BaRefIdeal.Read.val_main_v47_eq ..)).trans ((ref _ _ _ _ _).trans ?_)
      unfold aZ aLg aLb aWs aBs
      dsimp only
      rw [← a0, ← a1, ← a2, ← a3, ← a4]

end Ba

namespace Af
open Cert.AfIdeal Cert.AfIdeal.Gen

attribute [local instance] Cert.AfIdeal.Gen.facts Cert.AfRefIdeal.Gen.facts

theorem algebraic : Cert.algebraic_AfIdeal_AfRefIdeal := by
  intro m g m' g' _ ha
  refine ⟨fun c => delta (aW m c) (aM m c) (aV m c) (aG m c), fun c => first (aM m c) (aG m c), fun c => second (aV m c) (aG m c), ?_, ?_⟩
  · refine (θ_run Cert.AfIdeal.defs _ _).mono (fun _ h c => ?_) (θ_run_and (run_main m g) (unchanged m g))
    exact ⟨((h.1 c).1 4).trans (arr_delta m c), ((h.1 c).1 5).trans (arr_first m c), ((h.1 c).1 6).trans (arr_second m c), h.2 c⟩
  · refine (θ_run Cert.AfRefIdeal.defs _ _).mono (fun _ h c => ?_) (Cert.AfRefIdeal.Value.run m' g')
    obtain ⟨h23, h4, h10, hargs⟩ := h c
    obtain ⟨a0, a1, a2, a3⟩ := ha c
    refine ⟨?_, ?_, ?_, hargs⟩
    · refine (h23.trans (Cert.AfRefIdeal.Read.val_main_v23_eq ..)).trans ((ref_delta _ _ _ _).trans ?_)
      unfold aW aM aV aG
      dsimp only
      rw [← a0, ← a1, ← a2, ← a3]
    · refine (h4.trans (Cert.AfRefIdeal.Read.val_main_v4_eq ..)).trans ((ref_first _ _).trans ?_)
      unfold aM aG
      dsimp only
      rw [← a1, ← a3]
    · refine (h10.trans (Cert.AfRefIdeal.Read.val_main_v10_eq ..)).trans ((ref_second _ _).trans ?_)
      unfold aV aG
      dsimp only
      rw [← a2, ← a3]

end Af

end Cert.Trunk

end
-- ==== Proof.lean ====
module

public import proofs.«01_k».proof.Proof.Gen.ReferenceIdeal.Read
public import proofs.«01_k».proof.Defs
public import proofs.«01_k».proof.Proof.C.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.DhRefIdeal.Read
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Read
public import proofs.«01_k».proof.Proof.T.InMachine
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Read
public import proofs.«01_k».proof.Proof.Gen.Ob
public import proofs.«01_k».proof.Proof.Gen.Ob.Skeleton
public import proofs.«01_k».proof.Proof.Gen.Ob.Launch
public import proofs.«01_k».proof.Proof.Gen.Ob.Points
public import proofs.«01_k».proof.Proof.Gen.Ob.Frame
public import proofs.«01_k».proof.Proof.Gen.ObIdeal
public import proofs.«01_k».proof.Proof.Gen.ObIdeal.Skeleton
public import proofs.«01_k».proof.Proof.Gen.ObIdeal.Launch
public import proofs.«01_k».proof.Proof.Gen.ObIdeal.Points
public import proofs.«01_k».proof.Proof.Gen.ObIdeal.Frame
public import proofs.«01_k».proof.Proof.Gen.ObRefIdeal
public import proofs.«01_k».proof.Proof.Gen.ObRefIdeal.Read
public import proofs.«01_k».proof.Proof.Gen.LhRefIdeal
public import proofs.«01_k».proof.Proof.Gen.LhRefIdeal.Read
public import proofs.«01_k».proof.Proof.Gen.LhIdeal
public import proofs.«01_k».proof.Proof.Gen.LhIdeal.Skeleton
public import proofs.«01_k».proof.Proof.Gen.LhIdeal.Launch
public import proofs.«01_k».proof.Proof.Gen.LhIdeal.Points
public import proofs.«01_k».proof.Proof.Gen.LhIdeal.Frame
public import proofs.«01_k».proof.Proof.Gen.Lh
public import proofs.«01_k».proof.Proof.Gen.Lh.Skeleton
public import proofs.«01_k».proof.Proof.Gen.Lh.Launch
public import proofs.«01_k».proof.Proof.Gen.Lh.Points
public import proofs.«01_k».proof.Proof.Gen.Lh.Frame
public import proofs.«01_k».proof.Proof.Gen.AfRefIdeal
public import proofs.«01_k».proof.Proof.Gen.AfRefIdeal.Read
public import proofs.«01_k».proof.Proof.Gen.AfIdeal
public import proofs.«01_k».proof.Proof.Gen.AfIdeal.Skeleton
public import proofs.«01_k».proof.Proof.Gen.AfIdeal.Launch
public import proofs.«01_k».proof.Proof.Gen.AfIdeal.Points
public import proofs.«01_k».proof.Proof.Gen.AfIdeal.Frame
public import proofs.«01_k».proof.Proof.Gen.Af
public import proofs.«01_k».proof.Proof.Gen.Af.Skeleton
public import proofs.«01_k».proof.Proof.Gen.Af.Launch
public import proofs.«01_k».proof.Proof.Gen.Af.Points
public import proofs.«01_k».proof.Proof.Gen.Af.Frame
public import proofs.«01_k».proof.Proof.Gen.BaRefIdeal
public import proofs.«01_k».proof.Proof.Gen.BaRefIdeal.Read
public import proofs.«01_k».proof.Proof.Gen.BaIdeal
public import proofs.«01_k».proof.Proof.Gen.BaIdeal.Skeleton
public import proofs.«01_k».proof.Proof.Gen.BaIdeal.Launch
public import proofs.«01_k».proof.Proof.Gen.BaIdeal.Points
public import proofs.«01_k».proof.Proof.Gen.BaIdeal.Frame
public import proofs.«01_k».proof.Proof.Gen.Ba
public import proofs.«01_k».proof.Proof.Gen.Ba.Skeleton
public import proofs.«01_k».proof.Proof.Gen.Ba.Launch
public import proofs.«01_k».proof.Proof.Gen.Ba.Points
public import proofs.«01_k».proof.Proof.Gen.Ba.Frame
public import proofs.«01_k».proof.Proof.Gen.MbRefIdeal
public import proofs.«01_k».proof.Proof.Gen.MbRefIdeal.Read
public import proofs.«01_k».proof.Proof.Gen.MbIdeal
public import proofs.«01_k».proof.Proof.Gen.MbIdeal.Skeleton
public import proofs.«01_k».proof.Proof.Gen.MbIdeal.Launch
public import proofs.«01_k».proof.Proof.Gen.MbIdeal.Points
public import proofs.«01_k».proof.Proof.Gen.MbIdeal.Frame
public import proofs.«01_k».proof.Proof.Gen.Mb
public import proofs.«01_k».proof.Proof.Gen.Mb.Skeleton
public import proofs.«01_k».proof.Proof.Gen.Mb.Launch
public import proofs.«01_k».proof.Proof.Gen.Mb.Points
public import proofs.«01_k».proof.Proof.Gen.Mb.Frame
public import proofs.«01_k».proof.Proof.Gen.KvRefIdeal
public import proofs.«01_k».proof.Proof.Gen.KvRefIdeal.Read
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.Mo
public import proofs.«01_k».proof.Proof.Gen.Mo.Skeleton
public import proofs.«01_k».proof.Proof.Gen.Mo.Launch
public import proofs.«01_k».proof.Proof.Gen.Mo.Points
public import proofs.«01_k».proof.Proof.Gen.Mo.Frame
public import proofs.«01_k».proof.Proof.Gen.MoIdeal
public import proofs.«01_k».proof.Proof.Gen.MoIdeal.Skeleton
public import proofs.«01_k».proof.Proof.Gen.MoIdeal.Launch
public import proofs.«01_k».proof.Proof.Gen.MoIdeal.Points
public import proofs.«01_k».proof.Proof.Gen.MoIdeal.Frame
public import proofs.«01_k».proof.Proof.Gen.MoIdeal.Value
public import proofs.«01_k».proof.Proof.Gen.MoRefIdeal
public import proofs.«01_k».proof.Proof.Gen.MoRefIdeal.Read
public import proofs.«01_k».proof.Proof.Gen.Tn
public import proofs.«01_k».proof.Proof.Gen.Tn.Skeleton
public import proofs.«01_k».proof.Proof.Gen.Tn.Launch
public import proofs.«01_k».proof.Proof.Gen.Tn.Points
public import proofs.«01_k».proof.Proof.Gen.Tn.Frame
public import proofs.«01_k».proof.Proof.Gen.TnIdeal
public import proofs.«01_k».proof.Proof.Gen.TnIdeal.Skeleton
public import proofs.«01_k».proof.Proof.Gen.TnIdeal.Launch
public import proofs.«01_k».proof.Proof.Gen.TnIdeal.Points
public import proofs.«01_k».proof.Proof.Gen.TnIdeal.Frame
public import proofs.«01_k».proof.Proof.Gen.TnIdeal.Value
public import proofs.«01_k».proof.Proof.Gen.TnRefIdeal
public import proofs.«01_k».proof.Proof.Gen.TnRefIdeal.Read
public import proofs.«01_k».proof.Proof.T.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Dh.Gen.facts, Cert.DhIdeal.Gen.facts, Cert.DhRefIdeal.Gen.facts,
  Cert.Dw.Gen.facts, Cert.DwIdeal.Gen.facts, Cert.DwRefIdeal.Gen.facts,
  Cert.In.Gen.facts, Cert.InIdeal.Gen.facts, Cert.InRefIdeal.Gen.facts,
  Cert.Ob.Gen.facts, Cert.ObIdeal.Gen.facts, Cert.ObRefIdeal.Gen.facts,
  Cert.Mo.Gen.facts, Cert.MoIdeal.Gen.facts, Cert.MoRefIdeal.Gen.facts,
  Cert.Tn.Gen.facts, Cert.TnIdeal.Gen.facts, Cert.TnRefIdeal.Gen.facts,
  Cert.Kv.Gen.facts, Cert.KvIdeal.Gen.facts, Cert.KvRefIdeal.Gen.facts,
  Cert.Mb.Gen.facts, Cert.MbIdeal.Gen.facts, Cert.MbRefIdeal.Gen.facts,
  Cert.Lh.Gen.facts, Cert.LhIdeal.Gen.facts, Cert.LhRefIdeal.Gen.facts,
  Cert.Ba.Gen.facts, Cert.BaIdeal.Gen.facts, Cert.BaRefIdeal.Gen.facts,
  Cert.Af.Gen.facts, Cert.AfIdeal.Gen.facts, Cert.AfRefIdeal.Gen.facts, Cert.AttnC.facts,
  fun m ρ _ => Cert.Kernel.Gen.frame m ρ, fun m ρ _ => Cert.KernelIdeal.Gen.frame m ρ,
  fun m ρ _ => (θ_run Cert.ReferenceIdeal.defs _ _).mono (fun _ h => ⟨fun c => (h c).2.2.2, sem_eq_zero_of_no_sems (by decide) _⟩)
    (Cert.ReferenceIdeal.Value.run m ρ),
  fun m ρ _ => Cert.Dh.Gen.frame m ρ, fun m ρ _ => Cert.DhIdeal.Gen.frame m ρ,
  fun m ρ _ => (θ_run Cert.DhRefIdeal.defs _ _).mono (fun _ h => ⟨fun c => (h c).2.2, sem_eq_zero_of_no_sems (by decide) _⟩)
    (Cert.DhRefIdeal.Value.run m ρ),
  fun m ρ _ => Cert.Dw.Gen.frame m ρ, fun m ρ _ => Cert.DwIdeal.Gen.frame m ρ,
  fun m ρ _ => (θ_run Cert.DwRefIdeal.defs _ _).mono (fun _ h => ⟨fun c => (h c).2, sem_eq_zero_of_no_sems (by decide) _⟩)
    (Cert.DwRefIdeal.Value.run m ρ),
  Cert.Trunk.In.frame_machine, fun m ρ _ => Cert.Trunk.In.frame m ρ,
  fun m ρ _ => (θ_run Cert.InRefIdeal.defs _ _).mono (fun _ h => ⟨fun c => (h c).2.2, sem_eq_zero_of_no_sems (by decide) _⟩)
    (Cert.InRefIdeal.Value.run m ρ),
  fun m ρ _ => Cert.Ob.Gen.frame m ρ, fun m ρ _ => Cert.ObIdeal.Gen.frame m ρ,
  fun m ρ _ => (θ_run Cert.ObRefIdeal.defs _ _).mono (fun _ h => ⟨fun c => (h c).2.2.2.2.2.2, sem_eq_zero_of_no_sems (by decide) _⟩)
    (Cert.ObRefIdeal.Value.run m ρ),
  fun m ρ _ => Cert.Mo.Gen.frame m ρ, fun m ρ _ => Cert.MoIdeal.Gen.frame m ρ,
  fun m ρ _ => (θ_run Cert.MoRefIdeal.defs _ _).mono (fun _ h => ⟨fun c => (h c).2.2.2.2.2.2, sem_eq_zero_of_no_sems (by decide) _⟩)
    (Cert.MoRefIdeal.Value.run m ρ),
  fun m ρ _ => Cert.Tn.Gen.frame m ρ, fun m ρ _ => Cert.TnIdeal.Gen.frame m ρ,
  fun m ρ _ => (θ_run Cert.TnRefIdeal.defs _ _).mono (fun _ h => ⟨fun c => (h c).2, sem_eq_zero_of_no_sems (by decide) _⟩)
    (Cert.TnRefIdeal.Value.run m ρ),
  fun m ρ _ => Cert.Kv.Gen.frame m ρ, fun m ρ _ => Cert.KvIdeal.Gen.frame m ρ,
  fun m ρ _ => (θ_run Cert.KvRefIdeal.defs _ _).mono (fun _ h => ⟨fun c => (h c).2, sem_eq_zero_of_no_sems (by decide) _⟩)
    (Cert.KvRefIdeal.Value.run m ρ),
  fun m ρ _ => Cert.Mb.Gen.frame m ρ, fun m ρ _ => Cert.MbIdeal.Gen.frame m ρ,
  fun m ρ _ => (θ_run Cert.MbRefIdeal.defs _ _).mono (fun _ h => ⟨fun c => (h c).2.2, sem_eq_zero_of_no_sems (by decide) _⟩)
    (Cert.MbRefIdeal.Value.run m ρ),
  fun m ρ _ => Cert.Lh.Gen.frame m ρ, fun m ρ _ => Cert.LhIdeal.Gen.frame m ρ,
  fun m ρ _ => (θ_run Cert.LhRefIdeal.defs _ _).mono (fun _ h => ⟨fun c => (h c).2.2, sem_eq_zero_of_no_sems (by decide) _⟩)
    (Cert.LhRefIdeal.Value.run m ρ),
  fun m ρ _ => Cert.Ba.Gen.frame m ρ, fun m ρ _ => Cert.BaIdeal.Gen.frame m ρ,
  fun m ρ _ => (θ_run Cert.BaRefIdeal.defs _ _).mono (fun _ h => ⟨fun c => (h c).2, sem_eq_zero_of_no_sems (by decide) _⟩)
    (Cert.BaRefIdeal.Value.run m ρ),
  fun m ρ _ => Cert.Af.Gen.frame m ρ, fun m ρ _ => Cert.AfIdeal.Gen.frame m ρ,
  fun m ρ _ => (θ_run Cert.AfRefIdeal.defs _ _).mono (fun _ h => ⟨fun c => (h c).2.2.2, sem_eq_zero_of_no_sems (by decide) _⟩)
    (Cert.AfRefIdeal.Value.run m ρ),
  trivial, Cert.AttnC.algebraic, trivial, Cert.Trunk.Dh.algebraic, trivial, Cert.Trunk.Dw.algebraic, trivial, Cert.Trunk.In.algebraic,
  trivial, Cert.Trunk.Ob.algebraic, trivial, Cert.Trunk.Mo.algebraic, trivial, Cert.Trunk.Tn.algebraic,
  trivial, Cert.Trunk.Kv.algebraic, trivial, Cert.Trunk.Mb.algebraic, trivial, Cert.Trunk.Lh.algebraic, trivial, Cert.Trunk.Ba.algebraic,
  trivial, Cert.Trunk.Af.algebraic⟩

end Cert.Proof

end
